-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "far" .f32 0x7149F2CA#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v181_0)) (v1 : (c : Dev Cert.KernelIdeal.nD) → Buf (Elt Ideal) ((c.tc : Thread Cert.KernelIdeal.nD Cert.KernelIdeal.τ).loc Cert.KernelIdeal.main_v181_1)) (v2 : (c : Dev Cert.KernelIdeal.nD) → Buf (Elt Ideal) ((c.tc : Thread Cert.KernelIdeal.nD Cert.KernelIdeal.τ).loc Cert.KernelIdeal.main_v181_2)) (v3 : (c : Dev Cert.KernelIdeal.nD) → Buf (Elt Ideal) ((c.tc : Thread Cert.KernelIdeal.nD Cert.KernelIdeal.τ).loc Cert.KernelIdeal.main_v181_3)) (v4 : (c : Dev Cert.KernelIdeal.nD) → Buf (Elt Ideal) ((c.tc : Thread Cert.KernelIdeal.nD Cert.KernelIdeal.τ).loc Cert.KernelIdeal.main_v181_4)) (v5 : (c : Dev Cert.KernelIdeal.nD) → Buf (Elt Ideal) ((c.tc : Thread Cert.KernelIdeal.nD Cert.KernelIdeal.τ).loc Cert.KernelIdeal.main_v181_5)) (v6 : (c : Dev Cert.KernelIdeal.nD) → Buf (Elt Ideal) ((c.tc : Thread Cert.KernelIdeal.nD Cert.KernelIdeal.τ).loc Cert.KernelIdeal.main_v181_6)) (v7 : (c : Dev Cert.KernelIdeal.nD) → Buf (Elt Ideal) ((c.tc : Thread Cert.KernelIdeal.nD Cert.KernelIdeal.τ).loc Cert.KernelIdeal.main_v181_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v181_0) = v0 c
          ∧ r.2.mem ((c.tc : Thread Cert.KernelIdeal.nD Cert.KernelIdeal.τ).loc Cert.KernelIdeal.main_v181_1) = v1 c
          ∧ r.2.mem ((c.tc : Thread Cert.KernelIdeal.nD Cert.KernelIdeal.τ).loc Cert.KernelIdeal.main_v181_2) = v2 c
          ∧ r.2.mem ((c.tc : Thread Cert.KernelIdeal.nD Cert.KernelIdeal.τ).loc Cert.KernelIdeal.main_v181_3) = v3 c
          ∧ r.2.mem ((c.tc : Thread Cert.KernelIdeal.nD Cert.KernelIdeal.τ).loc Cert.KernelIdeal.main_v181_4) = v4 c
          ∧ r.2.mem ((c.tc : Thread Cert.KernelIdeal.nD Cert.KernelIdeal.τ).loc Cert.KernelIdeal.main_v181_5) = v5 c
          ∧ r.2.mem ((c.tc : Thread Cert.KernelIdeal.nD Cert.KernelIdeal.τ).loc Cert.KernelIdeal.main_v181_6) = v6 c
          ∧ r.2.mem ((c.tc : Thread Cert.KernelIdeal.nD Cert.KernelIdeal.τ).loc Cert.KernelIdeal.main_v181_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v899) = v0 c
          ∧ r.2.mem ((c.tc : Thread Cert.ReferenceIdeal.nD Cert.ReferenceIdeal.τ).loc Cert.ReferenceIdeal.main_v900) = v1 c
          ∧ r.2.mem ((c.tc : Thread Cert.ReferenceIdeal.nD Cert.ReferenceIdeal.τ).loc Cert.ReferenceIdeal.main_v145) = v2 c
          ∧ r.2.mem ((c.tc : Thread Cert.ReferenceIdeal.nD Cert.ReferenceIdeal.τ).loc Cert.ReferenceIdeal.main_v303) = v3 c
          ∧ r.2.mem ((c.tc : Thread Cert.ReferenceIdeal.nD Cert.ReferenceIdeal.τ).loc Cert.ReferenceIdeal.main_v461) = v4 c
          ∧ r.2.mem ((c.tc : Thread Cert.ReferenceIdeal.nD Cert.ReferenceIdeal.τ).loc Cert.ReferenceIdeal.main_v619) = v5 c
          ∧ r.2.mem ((c.tc : Thread Cert.ReferenceIdeal.nD Cert.ReferenceIdeal.τ).loc Cert.ReferenceIdeal.main_v777) = v6 c
          ∧ r.2.mem ((c.tc : Thread Cert.ReferenceIdeal.nD Cert.ReferenceIdeal.τ).loc Cert.ReferenceIdeal.main_v883) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x32x32x32 : Shape := ⟨4, ![8, 32, 32, 32]⟩
abbrev S8192x32 : Shape := ⟨2, ![8192, 32]⟩
abbrev S32x32x3x3 : Shape := ⟨4, ![32, 32, 3, 3]⟩
abbrev S32 : Shape := ⟨1, ![32]⟩
abbrev S_ : Shape := ⟨0, ![]⟩

class Facts : Prop where
  bcast_S_S8x32x32x32 : S_.BroadcastsInDim S8x32x32x32 (![] : Fin 0 → Fin S8x32x32x32.rank)
  reducesTo_S8x32x32x32_S_d0_1_2_3 : S8x32x32x32.ReducesTo [0, 1, 2, 3] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S32x32x3x3 : S_.BroadcastsInDim S32x32x3x3 (![] : Fin 0 → Fin S32x32x3x3.rank)
  reducesTo_S32x32x3x3_S_d0_1_2_3 : S32x32x3x3.ReducesTo [0, 1, 2, 3] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_arg8 : FVec F S32 .f32) (main_arg9 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg4 : FVec F S32x32x3x3 .f32) (main_arg5 : FVec F S32x32x3x3 .f32) (main_arg6 : FVec F S32 .f32) (main_arg7 : FVec F S32 .f32) (main_arg8 : FVec F S32 .f32) (main_arg9 : FVec F S32 .f32) (main_v13 : IVec S_ 1) (main_v16 : IVec S32x32x3x3 1) : IVec S_ 1 :=
  let main_c_5 : IVec S_ 1 := constantI S_ 1 1#1
  let main_v17 : IVec S_ 1 := (fun x v => Host.reduce IntOp.andi x v reducesTo_S32x32x3x3_S_d0_1_2_3 h_S_) main_v16 main_c_5
  let main_v18 : IVec S_ 1 := andi main_v13 main_v17
  let main_v19 : FVec F S32x32x3x3 .f32 := Host.absf main_arg4
  let main_cst_6 : FVec F S_ .f32 := constant S_ .f32 0x7F800000#32
  let main_v20 : FVec F S32x32x3x3 .f32 := broadcastInDim S32x32x3x3 ![] bcast_S_S32x32x3x3 main_cst_6
  let main_v21 : IVec S32x32x3x3 1 := cmpf .olt main_v19 main_v20
  let main_c_7 : IVec S_ 1 := constantI S_ 1 1#1
  let main_v22 : IVec S_ 1 := (fun x v => Host.reduce IntOp.andi x v reducesTo_S32x32x3x3_S_d0_1_2_3 h_S_) main_v21 main_c_7
  let main_v23 : IVec S_ 1 := andi main_v18 main_v22
  let main_v24 : FVec F S32x32x3x3 .f32 := Host.absf main_arg5
  let main_cst_8 : FVec F S_ .f32 := constant S_ .f32 0x7F800000#32
  let main_v25 : FVec F S32x32x3x3 .f32 := broadcastInDim S32x32x3x3 ![] bcast_S_S32x32x3x3 main_cst_8
  let main_v26 : IVec S32x32x3x3 1 := cmpf .olt main_v24 main_v25
  let main_c_9 : IVec S_ 1 := constantI S_ 1 1#1
  let main_v27 : IVec S_ 1 := (fun x v => Host.reduce IntOp.andi x v reducesTo_S32x32x3x3_S_d0_1_2_3 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_v33

def fn {F : FTy → Type} [FloatOps F] (main_arg0 : FVec F S8x32x32x32 .f32) (main_arg1 : FVec F S8192x32 .f32) (main_arg2 : FVec F S32x32x3x3 .f32) (main_arg3 : FVec F S32x32x3x3 .f32) (main_arg4 : FVec F S32x32x3x3 .f32) (main_arg5 : FVec F S32x32x3x3 .f32) (main_arg6 : FVec F S32 .f32) (main_arg7 : FVec F S32 .f32) (main_arg8 : FVec F S32 .f32) (main_arg9 : FVec F S32 .f32) : IVec S_ 1 :=
  let main_v0 : FVec F S8x32x32x32 .f32 := Host.absf main_arg0
  let main_cst : FVec F S_ .f32 := constant S_ .f32 0x7F800000#32
  let main_v1 : FVec F S8x32x32x32 .f32 := broadcastInDim S8x32x32x32 ![] bcast_S_S8x32x32x32 main_cst
  let main_v2 : IVec S8x32x32x32 1 := cmpf .olt main_v0 main_v1
  let main_c : IVec S_ 1 := constantI S_ 1 1#1
  let main_v3 : IVec S_ 1 := (fun x v => Host.reduce IntOp.andi x v reducesTo_S8x32x32x32_S_d0_1_2_3 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S32x32x3x3 .f32 := Host.absf main_arg2
  let main_cst_2 : FVec F S_ .f32 := constant S_ .f32 0x7F800000#32
  let main_v10 : FVec F S32x32x3x3 .f32 := broadcastInDim S32x32x3x3 ![] bcast_S_S32x32x3x3 main_cst_2
  let main_v11 : IVec S32x32x3x3 1 := cmpf .olt main_v9 main_v10
  let main_c_3 : IVec S_ 1 := constantI S_ 1 1#1
  let main_v12 : IVec S_ 1 := (fun x v => Host.reduce IntOp.andi x v reducesTo_S32x32x3x3_S_d0_1_2_3 h_S_) main_v11 main_c_3
  let main_v13 : IVec S_ 1 := andi main_v8 main_v12
  let main_v14 : FVec F S32x32x3x3 .f32 := Host.absf main_arg3
  let main_cst_4 : FVec F S_ .f32 := constant S_ .f32 0x7F800000#32
  let main_v15 : FVec F S32x32x3x3 .f32 := broadcastInDim S32x32x3x3 ![] bcast_S_S32x32x3x3 main_cst_4
  let main_v16 : IVec S32x32x3x3 1 := cmpf .olt main_v14 main_v15
  fn_part1 (F := F) main_arg4 main_arg5 main_arg6 main_arg7 main_arg8 main_arg9 main_v13 main_v16
-- ==== Kernel.lean ====
abbrev S8x32x32x32 : Shape := ⟨4, ![8, 32, 32, 32]⟩
abbrev S8192x32 : Shape := ⟨2, ![8192, 32]⟩
abbrev S32x32x3x3 : Shape := ⟨4, ![32, 32, 3, 3]⟩
abbrev S32 : Shape := ⟨1, ![32]⟩
abbrev S5 : Shape := ⟨1, ![5]⟩
abbrev S32x8x32x32 : Shape := ⟨4, ![32, 8, 32, 32]⟩
abbrev S32x8192 : Shape := ⟨2, ![32, 8192]⟩
abbrev S3x3x32x32 : Shape := ⟨4, ![3, 3, 32, 32]⟩
abbrev S288x32 : Shape := ⟨2, ![288, 32]⟩
abbrev S32x288 : Shape := ⟨2, ![32, 288]⟩
abbrev S32x1 : Shape := ⟨2, ![32, 1]⟩
abbrev S2x2 : Shape := ⟨2, ![2, 2]⟩
abbrev S_ : Shape := ⟨0, ![]⟩
abbrev S4x4 : Shape := ⟨2, ![4, 4]⟩
abbrev S8x8 : Shape := ⟨2, ![8, 8]⟩
abbrev S16x16 : Shape := ⟨2, ![16, 16]⟩
abbrev S32x32 : Shape := ⟨2, ![32, 32]⟩
abbrev S1024x1 : Shape := ⟨2, ![1024, 1]⟩
abbrev S8x1x8x1 : Shape := ⟨4, ![8, 1, 8, 1]⟩
abbrev S1x1024x1x1 : Shape := ⟨4, ![1, 1024, 1, 1]⟩
abbrev S8x1024x8x1 : Shape := ⟨4, ![8, 1024, 8, 1]⟩
abbrev S8192x8 : Shape := ⟨2, ![8192, 8]⟩
abbrev S2x1x2 : Shape := ⟨3, ![2, 1, 2]⟩
abbrev S2x16x2 : Shape := ⟨3, ![2, 16, 2]⟩
abbrev S32x2 : Shape := ⟨2, ![32, 2]⟩
abbrev S32x1x2x1 : Shape := ⟨4, ![32, 1, 2, 1]⟩
abbrev S1x32x1x2 : Shape := ⟨4, ![1, 32, 1, 2]⟩
abbrev S32x32x2x2 : Shape := ⟨4, ![32, 32, 2, 2]⟩
abbrev S1024x4 : Shape := ⟨2, ![1024, 4]⟩
abbrev S1x1024x1x4 : Shape := ⟨4, ![1, 1024, 1, 4]⟩
abbrev S8x1024x8x4 : Shape := ⟨4, ![8, 1024, 8, 4]⟩
abbrev S4x1x4 : Shape := ⟨3, ![4, 1, 4]⟩
abbrev S4x8x4 : Shape := ⟨3, ![4, 8, 4]⟩
abbrev S32x4 : Shape := ⟨2, ![32, 4]⟩
abbrev S32x1x4x1 : Shape := ⟨4, ![32, 1, 4, 1]⟩
abbrev S1x32x1x4 : Shape := ⟨4, ![1, 32, 1, 4]⟩
abbrev S32x32x4x4 : Shape := ⟨4, ![32, 32, 4, 4]⟩
abbrev S1024x16 : Shape := ⟨2, ![1024, 16]⟩
abbrev S8x1x8 : Shape := ⟨3, ![8, 1, 8]⟩
abbrev S8x4x8 : Shape := ⟨3, ![8, 4, 8]⟩
abbrev S32x8 : Shape := ⟨2, ![32, 8]⟩
abbrev S32x1x8x1 : Shape := ⟨4, ![32, 1, 8, 1]⟩
abbrev S1x32x1x8 : Shape := ⟨4, ![1, 32, 1, 8]⟩
abbrev S32x32x8x8 : Shape := ⟨4, ![32, 32, 8, 8]⟩
abbrev S1024x64 : Shape := ⟨2, ![1024, 64]⟩
abbrev S16x1x16 : Shape := ⟨3, ![16, 1, 16]⟩
abbrev S16x2x16 : Shape := ⟨3, ![16, 2, 16]⟩
abbrev S32x16 : Shape := ⟨2, ![32, 16]⟩
abbrev S32x1x16x1 : Shape := ⟨4, ![32, 1, 16, 1]⟩
abbrev S1x32x1x16 : Shape := ⟨4, ![1, 32, 1, 16]⟩
abbrev S32x32x16x16 : Shape := ⟨4, ![32, 32, 16, 16]⟩
abbrev S1024x256 : Shape := ⟨2, ![1024, 256]⟩
abbrev S1x32 : Shape := ⟨2, ![1, 32]⟩
abbrev S5x1 : Shape := ⟨2, ![5, 1]⟩
abbrev S5x32 : Shape := ⟨2, ![5, 32]⟩
abbrev S16 : Shape := ⟨1, ![16]⟩
abbrev S5x1x32 : Shape := ⟨3, ![5, 1, 32]⟩
abbrev S1x16x1 : Shape := ⟨3, ![1, 16, 1]⟩
abbrev S5x16x32 : Shape := ⟨3, ![5, 16, 32]⟩
abbrev S1x1x32 : Shape := ⟨3, ![1, 1, 32]⟩
abbrev S1x2x32 : Shape := ⟨3, ![1, 2, 32]⟩
abbrev S2x32 : Shape := ⟨2, ![2, 32]⟩
abbrev S1x4x32 : Shape := ⟨3, ![1, 4, 32]⟩
abbrev S4x32 : Shape := ⟨2, ![4, 32]⟩
abbrev S1x8x32 : Shape := ⟨3, ![1, 8, 32]⟩
abbrev S8x32 : Shape := ⟨2, ![8, 32]⟩
abbrev S1x16x32 : Shape := ⟨3, ![1, 16, 32]⟩
abbrev S16x32 : Shape := ⟨2, ![16, 32]⟩
abbrev S1x2x1x2 : Shape := ⟨4, ![1, 2, 1, 2]⟩
abbrev S32x2x2x2 : Shape := ⟨4, ![32, 2, 2, 2]⟩
abbrev S64x4 : Shape := ⟨2, ![64, 4]⟩
abbrev S4x64 : Shape := ⟨2, ![4, 64]⟩
abbrev S32x1x32x1 : Shape := ⟨4, ![32, 1, 32, 1]⟩
abbrev S32x32x32x2 : Shape := ⟨4, ![32, 32, 32, 2]⟩
abbrev S64x1024 : Shape := ⟨2, ![64, 1024]⟩
abbrev S1x4x1x4 : Shape := ⟨4, ![1, 4, 1, 4]⟩
abbrev S32x4x4x4 : Shape := ⟨4, ![32, 4, 4, 4]⟩
abbrev S128x16 : Shape := ⟨2, ![128, 16]⟩
abbrev S16x128 : Shape := ⟨2, ![16, 128]⟩
abbrev S32x32x32x4 : Shape := ⟨4, ![32, 32, 32, 4]⟩
abbrev S1024x128 : Shape := ⟨2, ![1024, 128]⟩
abbrev S128x1024 : Shape := ⟨2, ![128, 1024]⟩
abbrev S1x8x1x8 : Shape := ⟨4, ![1, 8, 1, 8]⟩
abbrev S32x8x8x8 : Shape := ⟨4, ![32, 8, 8, 8]⟩
abbrev S256x64 : Shape := ⟨2, ![256, 64]⟩
abbrev S64x256 : Shape := ⟨2, ![64, 256]⟩
abbrev S32x32x32x8 : Shape := ⟨4, ![32, 32, 32, 8]⟩
abbrev S256x1024 : Shape := ⟨2, ![256, 1024]⟩
abbrev S1x16x1x16 : Shape := ⟨4, ![1, 16, 1, 16]⟩
abbrev S32x16x16x16 : Shape := ⟨4, ![32, 16, 16, 16]⟩
abbrev S512x256 : Shape := ⟨2, ![512, 256]⟩
abbrev S256x512 : Shape := ⟨2, ![256, 512]⟩
abbrev S32x32x32x16 : Shape := ⟨4, ![32, 32, 32, 16]⟩
abbrev S1024x512 : Shape := ⟨2, ![1024, 512]⟩
abbrev S512x1024 : Shape := ⟨2, ![512, 1024]⟩
abbrev S32x1x1x1 : Shape := ⟨4, ![32, 1, 1, 1]⟩
abbrev S1x32x1x1 : Shape := ⟨4, ![1, 32, 1, 1]⟩
abbrev S32x32x1x1 : Shape := ⟨4, ![32, 32, 1, 1]⟩
abbrev S1x1024 : Shape := ⟨2, ![1, 1024]⟩
abbrev S1x1x1x1024 : Shape := ⟨4, ![1, 1, 1, 1024]⟩
abbrev S8x1x8x1024 : Shape := ⟨4, ![8, 1, 8, 1024]⟩
abbrev S8x8192 : Shape := ⟨2, ![8, 8192]⟩
abbrev S1x1 : Shape := ⟨2, ![1, 1]⟩
abbrev S8x1 : Shape := ⟨2, ![8, 1]⟩
abbrev S128x1 : Shape := ⟨2, ![128, 1]⟩
abbrev S512x1 : Shape := ⟨2, ![512, 1]⟩
abbrev S2048x1 : Shape := ⟨2, ![2048, 1]⟩
abbrev S8192x1 : Shape := ⟨2, ![8192, 1]⟩
abbrev S1x8192 : Shape := ⟨2, ![1, 8192]⟩
abbrev S8 : Shape := ⟨1, ![8]⟩
abbrev S128x32 : Shape := ⟨2, ![128, 32]⟩
abbrev S32x128 : Shape := ⟨2, ![32, 128]⟩
abbrev S128 : Shape := ⟨1, ![128]⟩
abbrev S1x128 : Shape := ⟨2, ![1, 128]⟩
abbrev S8x128 : Shape := ⟨2, ![8, 128]⟩
abbrev S32x33 : Shape := ⟨2, ![32, 33]⟩
abbrev S32x8159 : Shape := ⟨2, ![32, 8159]⟩
abbrev S32x8160 : Shape := ⟨2, ![32, 8160]⟩
abbrev S32x31 : Shape := ⟨2, ![32, 31]⟩
abbrev S32x8161 : Shape := ⟨2, ![32, 8161]⟩
abbrev S32x8191 : Shape := ⟨2, ![32, 8191]⟩
abbrev S288x8192 : Shape := ⟨2, ![288, 8192]⟩
abbrev S1x32x8192 : Shape := ⟨3, ![1, 32, 8192]⟩
abbrev S1 : Shape := ⟨1, ![1]⟩
abbrev S1x1x1 : Shape := ⟨3, ![1, 1, 1]⟩
abbrev S32x64 : Shape := ⟨2, ![32, 64]⟩
abbrev S32x1024 : Shape := ⟨2, ![32, 1024]⟩
abbrev S128x128 : Shape := ⟨2, ![128, 128]⟩
abbrev S32x512 : Shape := ⟨2, ![32, 512]⟩
abbrev S512x32 : Shape := ⟨2, ![512, 32]⟩
abbrev S512 : Shape := ⟨1, ![512]⟩
abbrev S512x128 : Shape := ⟨2, ![512, 128]⟩
abbrev S32x256 : Shape := ⟨2, ![32, 256]⟩
abbrev S32x2048 : Shape := ⟨2, ![32, 2048]⟩
abbrev S2048x32 : Shape := ⟨2, ![2048, 32]⟩
abbrev S2048 : Shape := ⟨1, ![2048]⟩
abbrev S2048x128 : Shape := ⟨2, ![2048, 128]⟩
abbrev S32x4096 : Shape := ⟨2, ![32, 4096]⟩
abbrev S4096x32 : Shape := ⟨2, ![4096, 32]⟩
abbrev S4096 : Shape := ⟨1, ![4096]⟩
abbrev S4096x1 : Shape := ⟨2, ![4096, 1]⟩
abbrev S4096x128 : Shape := ⟨2, ![4096, 128]⟩

abbrev nBuf : Space → Nat
  | .hbm => 325
  | .vmem => 33
  | .smem => 0
  | _ => 0

abbrev hbmTy0_0 (i : Nat) : BufTy := match i % 128 with
  | 0 => ⟨S8x32x32x32, .f32⟩
  | 1 => ⟨S8192x32, .f32⟩
  | 2 => ⟨S32x32x3x3, .f32⟩
  | 3 => ⟨S32x32x3x3, .f32⟩
  | 4 => ⟨S32x32x3x3, .f32⟩
  | 5 => ⟨S32x32x3x3, .f32⟩
  | 6 => ⟨S32, .f32⟩
  | 7 => ⟨S32, .f32⟩
  | 8 => ⟨S32, .f32⟩
  | 9 => ⟨S32, .f32⟩
  | 10 => ⟨S5, .f32⟩
  | 11 => ⟨S32x8x32x32, .f32⟩
  | 12 => ⟨S32x8192, .f32⟩
  | 13 => ⟨S32x8192, .f32⟩
  | 14 => ⟨S3x3x32x32, .f32⟩
  | 15 => ⟨S288x32, .f32⟩
  | 16 => ⟨S32x288, .f32⟩
  | 17 => ⟨S32x288, .bf16⟩
  | 18 => ⟨S3x3x32x32, .f32⟩
  | 19 => ⟨S288x32, .f32⟩
  | 20 => ⟨S32x288, .f32⟩
  | 21 => ⟨S32x288, .bf16⟩
  | 22 => ⟨S3x3x32x32, .f32⟩
  | 23 => ⟨S288x32, .f32⟩
  | 24 => ⟨S32x288, .f32⟩
  | 25 => ⟨S32x288, .bf16⟩
  | 26 => ⟨S3x3x32x32, .f32⟩
  | 27 => ⟨S288x32, .f32⟩
  | 28 => ⟨S32x288, .f32⟩
  | 29 => ⟨S32x288, .bf16⟩
  | 30 => ⟨S32x1, .f32⟩
  | 31 => ⟨S32x1, .f32⟩
  | 32 => ⟨S32x1, .f32⟩
  | 33 => ⟨S32x1, .f32⟩
  | 34 => ⟨S2x2, .i32⟩
  | 35 => ⟨S2x2, .i32⟩
  | 36 => ⟨S_, .i32⟩
  | 37 => ⟨S2x2, .i32⟩
  | 38 => ⟨S2x2, .i32⟩
  | 39 => ⟨S2x2, .i1⟩
  | 40 => ⟨S2x2, .f32⟩
  | 41 => ⟨S4x4, .i32⟩
  | 42 => ⟨S4x4, .i32⟩
  | 43 => ⟨S_, .i32⟩
  | 44 => ⟨S4x4, .i32⟩
  | 45 => ⟨S4x4, .i32⟩
  | 46 => ⟨S4x4, .i1⟩
  | 47 => ⟨S4x4, .f32⟩
  | 48 => ⟨S8x8, .i32⟩
  | 49 => ⟨S8x8, .i32⟩
  | 50 => ⟨S_, .i32⟩
  | 51 => ⟨S8x8, .i32⟩
  | 52 => ⟨S8x8, .i32⟩
  | 53 => ⟨S8x8, .i1⟩
  | 54 => ⟨S8x8, .f32⟩
  | 55 => ⟨S16x16, .i32⟩
  | 56 => ⟨S16x16, .i32⟩
  | 57 => ⟨S_, .i32⟩
  | 58 => ⟨S16x16, .i32⟩
  | 59 => ⟨S16x16, .i32⟩
  | 60 => ⟨S16x16, .i1⟩
  | 61 => ⟨S16x16, .f32⟩
  | 62 => ⟨S32x32, .i32⟩
  | 63 => ⟨S32x32, .i32⟩
  | 64 => ⟨S_, .i32⟩
  | 65 => ⟨S32x32, .i32⟩
  | 66 => ⟨S32x32, .i32⟩
  | 67 => ⟨S32x32, .i1⟩
  | 68 => ⟨S32x32, .f32⟩
  | 69 => ⟨S_, .f32⟩
  | 70 => ⟨S1024x1, .f32⟩
  | 71 => ⟨S8x1x8x1, .f32⟩
  | 72 => ⟨S1x1024x1x1, .f32⟩
  | 73 => ⟨S8x1024x8x1, .f32⟩
  | 74 => ⟨S8x1024x8x1, .f32⟩
  | 75 => ⟨S8x1024x8x1, .f32⟩
  | 76 => ⟨S8192x8, .f32⟩
  | 77 => ⟨S2x1x2, .f32⟩
  | 78 => ⟨S2x16x2, .f32⟩
  | 79 => ⟨S32x2, .f32⟩
  | 80 => ⟨S32x1x2x1, .f32⟩
  | 81 => ⟨S1x32x1x2, .f32⟩
  | 82 => ⟨S32x32x2x2, .f32⟩
  | 83 => ⟨S32x32x2x2, .f32⟩
  | 84 => ⟨S32x32x2x2, .f32⟩
  | 85 => ⟨S1024x4, .f32⟩
  | 86 => ⟨S8x1x8x1, .f32⟩
  | 87 => ⟨S1x1024x1x4, .f32⟩
  | 88 => ⟨S8x1024x8x4, .f32⟩
  | 89 => ⟨S8x1024x8x4, .f32⟩
  | 90 => ⟨S8x1024x8x4, .f32⟩
  | 91 => ⟨S8192x32, .f32⟩
  | 92 => ⟨S4x1x4, .f32⟩
  | 93 => ⟨S4x8x4, .f32⟩
  | 94 => ⟨S32x4, .f32⟩
  | 95 => ⟨S32x1x4x1, .f32⟩
  | 96 => ⟨S1x32x1x4, .f32⟩
  | 97 => ⟨S32x32x4x4, .f32⟩
  | 98 => ⟨S32x32x4x4, .f32⟩
  | 99 => ⟨S32x32x4x4, .f32⟩
  | 100 => ⟨S1024x16, .f32⟩
  | 101 => ⟨S8x1x8, .f32⟩
  | 102 => ⟨S8x4x8, .f32⟩
  | 103 => ⟨S32x8, .f32⟩
  | 104 => ⟨S32x1x8x1, .f32⟩
  | 105 => ⟨S1x32x1x8, .f32⟩
  | 106 => ⟨S32x32x8x8, .f32⟩
  | 107 => ⟨S32x32x8x8, .f32⟩
  | 108 => ⟨S32x32x8x8, .f32⟩
  | 109 => ⟨S1024x64, .f32⟩
  | 110 => ⟨S16x1x16, .f32⟩
  | 111 => ⟨S16x2x16, .f32⟩
  | 112 => ⟨S32x16, .f32⟩
  | 113 => ⟨S32x1x16x1, .f32⟩
  | 114 => ⟨S1x32x1x16, .f32⟩
  | 115 => ⟨S32x32x16x16, .f32⟩
  | 116 => ⟨S32x32x16x16, .f32⟩
  | 117 => ⟨S32x32x16x16, .f32⟩
  | 118 => ⟨S1024x256, .f32⟩
  | 119 => ⟨S32, .f32⟩
  | 120 => ⟨S_, .f32⟩
  | 121 => ⟨S32, .f32⟩
  | 122 => ⟨S32, .f32⟩
  | 123 => ⟨S1x32, .f32⟩
  | 124 => ⟨S5x1, .f32⟩
  | 125 => ⟨S5x32, .f32⟩
  | 126 => ⟨S5x32, .f32⟩
  | 127 => ⟨S5x32, .f32⟩
  | _ => ⟨S8x32x32x32, .f32⟩

abbrev hbmTy0_1 (i : Nat) : BufTy := match i % 128 with
  | 0 => ⟨S_, .f32⟩
  | 1 => ⟨S5x32, .f32⟩
  | 2 => ⟨S5x32, .f32⟩
  | 3 => ⟨S16, .f32⟩
  | 4 => ⟨S5x1x32, .f32⟩
  | 5 => ⟨S1x16x1, .f32⟩
  | 6 => ⟨S5x16x32, .f32⟩
  | 7 => ⟨S5x16x32, .f32⟩
  | 8 => ⟨S5x16x32, .f32⟩
  | 9 => ⟨S5x16x32, .f32⟩
  | 10 => ⟨S_, .f32⟩
  | 11 => ⟨S5x16x32, .f32⟩
  | 12 => ⟨S5x16x32, .f32⟩
  | 13 => ⟨S_, .f32⟩
  | 14 => ⟨S5x16x32, .f32⟩
  | 15 => ⟨S5x16x32, .f32⟩
  | 16 => ⟨S5x16x32, .f32⟩
  | 17 => ⟨S5x16x32, .f32⟩
  | 18 => ⟨S_, .f32⟩
  | 19 => ⟨S5x16x32, .f32⟩
  | 20 => ⟨S5x16x32, .f32⟩
  | 21 => ⟨S_, .f32⟩
  | 22 => ⟨S5x16x32, .f32⟩
  | 23 => ⟨S5x16x32, .i1⟩
  | 24 => ⟨S_, .f32⟩
  | 25 => ⟨S5x16x32, .f32⟩
  | 26 => ⟨S5x16x32, .f32⟩
  | 27 => ⟨S_, .f32⟩
  | 28 => ⟨S5x16x32, .f32⟩
  | 29 => ⟨S5x16x32, .f32⟩
  | 30 => ⟨S5x16x32, .f32⟩
  | 31 => ⟨S_, .f32⟩
  | 32 => ⟨S5x16x32, .f32⟩
  | 33 => ⟨S5x16x32, .f32⟩
  | 34 => ⟨S5x16x32, .f32⟩
  | 35 => ⟨S_, .f32⟩
  | 36 => ⟨S5x16x32, .f32⟩
  | 37 => ⟨S5x16x32, .f32⟩
  | 38 => ⟨S5x16x32, .f32⟩
  | 39 => ⟨S_, .f32⟩
  | 40 => ⟨S5x16x32, .f32⟩
  | 41 => ⟨S5x16x32, .i1⟩
  | 42 => ⟨S_, .f32⟩
  | 43 => ⟨S_, .f32⟩
  | 44 => ⟨S5x16x32, .f32⟩
  | 45 => ⟨S5x16x32, .f32⟩
  | 46 => ⟨S1x1x32, .f32⟩
  | 47 => ⟨S1x32, .f32⟩
  | 48 => ⟨S_, .f32⟩
  | 49 => ⟨S32, .f32⟩
  | 50 => ⟨S1x32, .f32⟩
  | 51 => ⟨S_, .f32⟩
  | 52 => ⟨S1x32, .f32⟩
  | 53 => ⟨S1x32, .i1⟩
  | 54 => ⟨S_, .i32⟩
  | 55 => ⟨S_, .f32⟩
  | 56 => ⟨S1x32, .f32⟩
  | 57 => ⟨S1x32, .f32⟩
  | 58 => ⟨S1x32, .f32⟩
  | 59 => ⟨S32x1, .f32⟩
  | 60 => ⟨S1x2x32, .f32⟩
  | 61 => ⟨S2x32, .f32⟩
  | 62 => ⟨S_, .f32⟩
  | 63 => ⟨S32, .f32⟩
  | 64 => ⟨S1x32, .f32⟩
  | 65 => ⟨S_, .f32⟩
  | 66 => ⟨S1x32, .f32⟩
  | 67 => ⟨S1x32, .i1⟩
  | 68 => ⟨S_, .i32⟩
  | 69 => ⟨S_, .f32⟩
  | 70 => ⟨S1x32, .f32⟩
  | 71 => ⟨S1x32, .f32⟩
  | 72 => ⟨S2x32, .f32⟩
  | 73 => ⟨S2x32, .f32⟩
  | 74 => ⟨S32x2, .f32⟩
  | 75 => ⟨S1x4x32, .f32⟩
  | 76 => ⟨S4x32, .f32⟩
  | 77 => ⟨S_, .f32⟩
  | 78 => ⟨S32, .f32⟩
  | 79 => ⟨S1x32, .f32⟩
  | 80 => ⟨S_, .f32⟩
  | 81 => ⟨S1x32, .f32⟩
  | 82 => ⟨S1x32, .i1⟩
  | 83 => ⟨S_, .i32⟩
  | 84 => ⟨S_, .f32⟩
  | 85 => ⟨S1x32, .f32⟩
  | 86 => ⟨S1x32, .f32⟩
  | 87 => ⟨S4x32, .f32⟩
  | 88 => ⟨S4x32, .f32⟩
  | 89 => ⟨S32x4, .f32⟩
  | 90 => ⟨S1x8x32, .f32⟩
  | 91 => ⟨S8x32, .f32⟩
  | 92 => ⟨S_, .f32⟩
  | 93 => ⟨S32, .f32⟩
  | 94 => ⟨S1x32, .f32⟩
  | 95 => ⟨S_, .f32⟩
  | 96 => ⟨S1x32, .f32⟩
  | 97 => ⟨S1x32, .i1⟩
  | 98 => ⟨S_, .i32⟩
  | 99 => ⟨S_, .f32⟩
  | 100 => ⟨S1x32, .f32⟩
  | 101 => ⟨S1x32, .f32⟩
  | 102 => ⟨S8x32, .f32⟩
  | 103 => ⟨S8x32, .f32⟩
  | 104 => ⟨S32x8, .f32⟩
  | 105 => ⟨S1x16x32, .f32⟩
  | 106 => ⟨S16x32, .f32⟩
  | 107 => ⟨S_, .f32⟩
  | 108 => ⟨S32, .f32⟩
  | 109 => ⟨S1x32, .f32⟩
  | 110 => ⟨S_, .f32⟩
  | 111 => ⟨S1x32, .f32⟩
  | 112 => ⟨S1x32, .i1⟩
  | 113 => ⟨S_, .i32⟩
  | 114 => ⟨S_, .f32⟩
  | 115 => ⟨S1x32, .f32⟩
  | 116 => ⟨S1x32, .f32⟩
  | 117 => ⟨S16x32, .f32⟩
  | 118 => ⟨S16x32, .f32⟩
  | 119 => ⟨S32x16, .f32⟩
  | 120 => ⟨S32x1x2x1, .f32⟩
  | 121 => ⟨S1x2x1x2, .f32⟩
  | 122 => ⟨S32x2x2x2, .f32⟩
  | 123 => ⟨S32x2x2x2, .f32⟩
  | 124 => ⟨S32x2x2x2, .f32⟩
  | 125 => ⟨S64x4, .f32⟩
  | 126 => ⟨S4x64, .f32⟩
  | 127 => ⟨S32x1x32x1, .f32⟩
  | _ => ⟨S8x32x32x32, .f32⟩

abbrev hbmTy0_2 (i : Nat) : BufTy := match i % 128 with
  | 0 => ⟨S1x32x1x2, .f32⟩
  | 1 => ⟨S32x32x32x2, .f32⟩
  | 2 => ⟨S32x32x32x2, .f32⟩
  | 3 => ⟨S32x32x32x2, .f32⟩
  | 4 => ⟨S1024x64, .f32⟩
  | 5 => ⟨S64x1024, .f32⟩
  | 6 => ⟨S32x1x4x1, .f32⟩
  | 7 => ⟨S1x4x1x4, .f32⟩
  | 8 => ⟨S32x4x4x4, .f32⟩
  | 9 => ⟨S32x4x4x4, .f32⟩
  | 10 => ⟨S32x4x4x4, .f32⟩
  | 11 => ⟨S128x16, .f32⟩
  | 12 => ⟨S16x128, .f32⟩
  | 13 => ⟨S32x1x32x1, .f32⟩
  | 14 => ⟨S1x32x1x4, .f32⟩
  | 15 => ⟨S32x32x32x4, .f32⟩
  | 16 => ⟨S32x32x32x4, .f32⟩
  | 17 => ⟨S32x32x32x4, .f32⟩
  | 18 => ⟨S1024x128, .f32⟩
  | 19 => ⟨S128x1024, .f32⟩
  | 20 => ⟨S32x1x8x1, .f32⟩
  | 21 => ⟨S1x8x1x8, .f32⟩
  | 22 => ⟨S32x8x8x8, .f32⟩
  | 23 => ⟨S32x8x8x8, .f32⟩
  | 24 => ⟨S32x8x8x8, .f32⟩
  | 25 => ⟨S256x64, .f32⟩
  | 26 => ⟨S64x256, .f32⟩
  | 27 => ⟨S32x1x32x1, .f32⟩
  | 28 => ⟨S1x32x1x8, .f32⟩
  | 29 => ⟨S32x32x32x8, .f32⟩
  | 30 => ⟨S32x32x32x8, .f32⟩
  | 31 => ⟨S32x32x32x8, .f32⟩
  | 32 => ⟨S1024x256, .f32⟩
  | 33 => ⟨S256x1024, .f32⟩
  | 34 => ⟨S32x1x16x1, .f32⟩
  | 35 => ⟨S1x16x1x16, .f32⟩
  | 36 => ⟨S32x16x16x16, .f32⟩
  | 37 => ⟨S32x16x16x16, .f32⟩
  | 38 => ⟨S32x16x16x16, .f32⟩
  | 39 => ⟨S512x256, .f32⟩
  | 40 => ⟨S256x512, .f32⟩
  | 41 => ⟨S32x1x32x1, .f32⟩
  | 42 => ⟨S1x32x1x16, .f32⟩
  | 43 => ⟨S32x32x32x16, .f32⟩
  | 44 => ⟨S32x32x32x16, .f32⟩
  | 45 => ⟨S32x32x32x16, .f32⟩
  | 46 => ⟨S1024x512, .f32⟩
  | 47 => ⟨S512x1024, .f32⟩
  | 48 => ⟨S32x1x1x1, .f32⟩
  | 49 => ⟨S1x32x1x1, .f32⟩
  | 50 => ⟨S32x32x1x1, .f32⟩
  | 51 => ⟨S32x32x1x1, .f32⟩
  | 52 => ⟨S32x32x1x1, .f32⟩
  | 53 => ⟨S1024x1, .f32⟩
  | 54 => ⟨S1x1024, .f32⟩
  | 55 => ⟨S8x1x8x1, .f32⟩
  | 56 => ⟨S1x1x1x1024, .f32⟩
  | 57 => ⟨S8x1x8x1024, .f32⟩
  | 58 => ⟨S8x1x8x1024, .f32⟩
  | 59 => ⟨S8x1x8x1024, .f32⟩
  | 60 => ⟨S8x8192, .f32⟩
  | 61 => ⟨S32x8192, .f32⟩
  | 62 => ⟨S1x1, .f32⟩
  | 63 => ⟨S8x1, .i32⟩
  | 64 => ⟨S32x1, .i32⟩
  | 65 => ⟨S128x1, .i32⟩
  | 66 => ⟨S512x1, .i32⟩
  | 67 => ⟨S2048x1, .i32⟩
  | 68 => ⟨S8192x1, .i32⟩
  | _ => ⟨S8x32x32x32, .f32⟩

abbrev hbmTy (i : Nat) : BufTy := match i / 128 with
  | 0 => hbmTy0_0 i
  | 1 => hbmTy0_1 i
  | 2 => hbmTy0_2 i
  | _ => ⟨S8x32x32x32, .f32⟩

abbrev bufTy : (tb : Table) → Fin (tcTables nBuf tb) → BufTy
  | .hbm, ⟨i, _⟩ => hbmTy i
  | .local _ .vmem, ⟨0, _⟩ => ⟨S32x8192, .f32⟩
  | .local _ .vmem, ⟨1, _⟩ => ⟨S8192x32, .f32⟩
  | .local _ .vmem, ⟨2, _⟩ => ⟨S32x8192, .f32⟩
  | .local _ .vmem, ⟨3, _⟩ => ⟨S32x288, .bf16⟩
  | .local _ .vmem, ⟨4, _⟩ => ⟨S32x288, .bf16⟩
  | .local _ .vmem, ⟨5, _⟩ => ⟨S32x288, .bf16⟩
  | .local _ .vmem, ⟨6, _⟩ => ⟨S32x288, .bf16⟩
  | .local _ .vmem, ⟨7, _⟩ => ⟨S32x1, .f32⟩
  | .local _ .vmem, ⟨8, _⟩ => ⟨S32x1, .f32⟩
  | .local _ .vmem, ⟨9, _⟩ => ⟨S32x1, .f32⟩
  | .local _ .vmem, ⟨10, _⟩ => ⟨S32x1, .f32⟩
  | .local _ .vmem, ⟨11, _⟩ => ⟨S8192x8, .f32⟩
  | .local _ .vmem, ⟨12, _⟩ => ⟨S8192x32, .f32⟩
  | .local _ .vmem, ⟨13, _⟩ => ⟨S1024x16, .f32⟩
  | .local _ .vmem, ⟨14, _⟩ => ⟨S1024x64, .f32⟩
  | .local _ .vmem, ⟨15, _⟩ => ⟨S1024x256, .f32⟩
  | .local _ .vmem, ⟨16, _⟩ => ⟨S4x64, .f32⟩
  | .local _ .vmem, ⟨17, _⟩ => ⟨S16x128, .f32⟩
  | .local _ .vmem, ⟨18, _⟩ => ⟨S64x256, .f32⟩
  | .local _ .vmem, ⟨19, _⟩ => ⟨S256x512, .f32⟩
  | .local _ .vmem, ⟨20, _⟩ => ⟨S64x1024, .f32⟩
  | .local _ .vmem, ⟨21, _⟩ => ⟨S128x1024, .f32⟩
  | .local _ .vmem, ⟨22, _⟩ => ⟨S256x1024, .f32⟩
  | .local _ .vmem, ⟨23, _⟩ => ⟨S512x1024, .f32⟩
  | .local _ .vmem, ⟨24, _⟩ => ⟨S8x8192, .f32⟩
  | .local _ .vmem, ⟨25, _⟩ => ⟨S32x8192, .f32⟩
  | .local _ .vmem, ⟨26, _⟩ => ⟨S1x1, .f32⟩
  | .local _ .vmem, ⟨27, _⟩ => ⟨S8x1, .i32⟩
  | .local _ .vmem, ⟨28, _⟩ => ⟨S32x1, .i32⟩
  | .local _ .vmem, ⟨29, _⟩ => ⟨S128x1, .i32⟩
  | .local _ .vmem, ⟨30, _⟩ => ⟨S512x1, .i32⟩
  | .local _ .vmem, ⟨31, _⟩ => ⟨S2048x1, .i32⟩
  | .local _ .vmem, ⟨32, _⟩ => ⟨S8192x1, .i32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_1 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_2 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_3 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_4 : Ref sig .tc := ⟨.hbm, 69, rfl⟩
abbrev main_v53 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v58 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_v71 : Ref sig .tc := ⟨.hbm, 118, rfl⟩
abbrev main_v72 : Ref sig .tc := ⟨.hbm, 119, rfl⟩
abbrev main_cst_5 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst_6 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_7 : Ref sig .tc := ⟨.hbm, 138, rfl⟩
abbrev main_v89 : Ref sig .tc := ⟨.hbm, 139, rfl⟩
abbrev main_v90 : Ref sig .tc := ⟨.hbm, 140, rfl⟩
abbrev main_cst_8 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_9 : Ref sig .tc := ⟨.hbm, 146, rfl⟩
abbrev main_v95 : Ref sig .tc := ⟨.hbm, 147, rfl⟩
abbrev main_v96 : Ref sig .tc := ⟨.hbm, 148, rfl⟩
abbrev main_cst_10 : Ref sig .tc := ⟨.hbm, 149, rfl⟩
abbrev main_v97 : Ref sig .tc := ⟨.hbm, 150, rfl⟩
abbrev main_v98 : Ref sig .tc := ⟨.hbm, 151, rfl⟩
abbrev main_cst_11 : Ref sig .tc := ⟨.hbm, 152, rfl⟩
abbrev main_v99 : Ref sig .tc := ⟨.hbm, 153, rfl⟩
abbrev main_v100 : Ref sig .tc := ⟨.hbm, 154, rfl⟩
abbrev main_cst_12 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_13 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_14 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_cst_15 : Ref sig .tc := ⟨.hbm, 167, rfl⟩
abbrev main_v110 : Ref sig .tc := ⟨.hbm, 168, rfl⟩
abbrev main_v111 : Ref sig .tc := ⟨.hbm, 169, rfl⟩
abbrev main_cst_16 : Ref sig .tc := ⟨.hbm, 170, rfl⟩
abbrev main_call7_v0 : Ref sig .tc := ⟨.hbm, 171, rfl⟩
abbrev main_call7_v1 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_cst_17 : Ref sig .tc := ⟨.hbm, 176, rfl⟩
abbrev main_v115 : Ref sig .tc := ⟨.hbm, 177, rfl⟩
abbrev main_v116 : Ref sig .tc := ⟨.hbm, 178, rfl⟩
abbrev main_cst_18 : Ref sig .tc := ⟨.hbm, 179, rfl⟩
abbrev main_v117 : Ref sig .tc := ⟨.hbm, 180, rfl⟩
abbrev main_v118 : Ref sig .tc := ⟨.hbm, 181, rfl⟩
abbrev main_c_19 : Ref sig .tc := ⟨.hbm, 182, rfl⟩
abbrev main_call8_v0 : Ref sig .tc := ⟨.hbm, 183, rfl⟩
abbrev main_call8_v1 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_cst_20 : Ref sig .tc := ⟨.hbm, 190, rfl⟩
abbrev main_v124 : Ref sig .tc := ⟨.hbm, 191, rfl⟩
abbrev main_v125 : Ref sig .tc := ⟨.hbm, 192, rfl⟩
abbrev main_cst_21 : Ref sig .tc := ⟨.hbm, 193, rfl⟩
abbrev main_v126 : Ref sig .tc := ⟨.hbm, 194, rfl⟩
abbrev main_v127 : Ref sig .tc := ⟨.hbm, 195, rfl⟩
abbrev main_c_22 : Ref sig .tc := ⟨.hbm, 196, rfl⟩
abbrev main_call9_v0 : Ref sig .tc := ⟨.hbm, 197, rfl⟩
abbrev main_call9_v1 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_cst_23 : Ref sig .tc := ⟨.hbm, 205, rfl⟩
abbrev main_v134 : Ref sig .tc := ⟨.hbm, 206, rfl⟩
abbrev main_v135 : Ref sig .tc := ⟨.hbm, 207, rfl⟩
abbrev main_cst_24 : Ref sig .tc := ⟨.hbm, 208, rfl⟩
abbrev main_v136 : Ref sig .tc := ⟨.hbm, 209, rfl⟩
abbrev main_v137 : Ref sig .tc := ⟨.hbm, 210, rfl⟩
abbrev main_c_25 : Ref sig .tc := ⟨.hbm, 211, rfl⟩
abbrev main_call10_v0 : Ref sig .tc := ⟨.hbm, 212, rfl⟩
abbrev main_call10_v1 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_cst_26 : Ref sig .tc := ⟨.hbm, 220, rfl⟩
abbrev main_v144 : Ref sig .tc := ⟨.hbm, 221, rfl⟩
abbrev main_v145 : Ref sig .tc := ⟨.hbm, 222, rfl⟩
abbrev main_cst_27 : Ref sig .tc := ⟨.hbm, 223, rfl⟩
abbrev main_v146 : Ref sig .tc := ⟨.hbm, 224, rfl⟩
abbrev main_v147 : Ref sig .tc := ⟨.hbm, 225, rfl⟩
abbrev main_c_28 : Ref sig .tc := ⟨.hbm, 226, rfl⟩
abbrev main_call11_v0 : Ref sig .tc := ⟨.hbm, 227, rfl⟩
abbrev main_call11_v1 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_cst_29 : Ref sig .tc := ⟨.hbm, 235, rfl⟩
abbrev main_v154 : Ref sig .tc := ⟨.hbm, 236, rfl⟩
abbrev main_v155 : Ref sig .tc := ⟨.hbm, 237, rfl⟩
abbrev main_cst_30 : Ref sig .tc := ⟨.hbm, 238, rfl⟩
abbrev main_v156 : Ref sig .tc := ⟨.hbm, 239, rfl⟩
abbrev main_v157 : Ref sig .tc := ⟨.hbm, 240, rfl⟩
abbrev main_c_31 : Ref sig .tc := ⟨.hbm, 241, rfl⟩
abbrev main_call12_v0 : Ref sig .tc := ⟨.hbm, 242, rfl⟩
abbrev main_call12_v1 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_call13_v0 : Ref sig .tc := ⟨.hbm, 248, rfl⟩
abbrev main_call13_v1 : Ref sig .tc := ⟨.hbm, 249, rfl⟩
abbrev main_call13_v2 : Ref sig .tc := ⟨.hbm, 250, rfl⟩
abbrev main_call13_v3 : Ref sig .tc := ⟨.hbm, 251, rfl⟩
abbrev main_call13_v4 : Ref sig .tc := ⟨.hbm, 252, rfl⟩
abbrev main_v162 : Ref sig .tc := ⟨.hbm, 253, rfl⟩
abbrev main_v163 : Ref sig .tc := ⟨.hbm, 254, rfl⟩
abbrev main_call14_v0 : Ref sig .tc := ⟨.hbm, 255, rfl⟩
abbrev main_call14_v1 : Ref sig .tc := ⟨.hbm, 256, rfl⟩
abbrev main_call14_v2 : Ref sig .tc := ⟨.hbm, 257, rfl⟩
abbrev main_call14_v3 : Ref sig .tc := ⟨.hbm, 258, rfl⟩
abbrev main_call14_v4 : Ref sig .tc := ⟨.hbm, 259, rfl⟩
abbrev main_v164 : Ref sig .tc := ⟨.hbm, 260, rfl⟩
abbrev main_v165 : Ref sig .tc := ⟨.hbm, 261, rfl⟩
abbrev main_call15_v0 : Ref sig .tc := ⟨.hbm, 262, rfl⟩
abbrev main_call15_v1 : Ref sig .tc := ⟨.hbm, 263, rfl⟩
abbrev main_call15_v2 : Ref sig .tc := ⟨.hbm, 264, rfl⟩
abbrev main_call15_v3 : Ref sig .tc := ⟨.hbm, 265, rfl⟩
abbrev main_call15_v4 : Ref sig .tc := ⟨.hbm, 266, rfl⟩
abbrev main_v166 : Ref sig .tc := ⟨.hbm, 267, rfl⟩
abbrev main_v167 : Ref sig .tc := ⟨.hbm, 268, rfl⟩
abbrev main_call16_v0 : Ref sig .tc := ⟨.hbm, 269, rfl⟩
abbrev main_call16_v1 : Ref sig .tc := ⟨.hbm, 270, rfl⟩
abbrev main_call16_v2 : Ref sig .tc := ⟨.hbm, 271, rfl⟩
abbrev main_call16_v3 : Ref sig .tc := ⟨.hbm, 272, rfl⟩
abbrev main_call16_v4 : Ref sig .tc := ⟨.hbm, 273, rfl⟩
abbrev main_v168 : Ref sig .tc := ⟨.hbm, 274, rfl⟩
abbrev main_v169 : Ref sig .tc := ⟨.hbm, 275, rfl⟩
abbrev main_call17_v0 : Ref sig .tc := ⟨.hbm, 276, rfl⟩
abbrev main_call17_v1 : Ref sig .tc := ⟨.hbm, 277, rfl⟩
abbrev main_call17_v2 : Ref sig .tc := ⟨.hbm, 278, rfl⟩
abbrev main_call17_v3 : Ref sig .tc := ⟨.hbm, 279, rfl⟩
abbrev main_call17_v4 : Ref sig .tc := ⟨.hbm, 280, rfl⟩
abbrev main_v170 : Ref sig .tc := ⟨.hbm, 281, rfl⟩
abbrev main_v171 : Ref sig .tc := ⟨.hbm, 282, rfl⟩
abbrev main_call18_v0 : Ref sig .tc := ⟨.hbm, 283, rfl⟩
abbrev main_call18_v1 : Ref sig .tc := ⟨.hbm, 284, rfl⟩
abbrev main_call18_v2 : Ref sig .tc := ⟨.hbm, 285, rfl⟩
abbrev main_call18_v3 : Ref sig .tc := ⟨.hbm, 286, rfl⟩
abbrev main_call18_v4 : Ref sig .tc := ⟨.hbm, 287, rfl⟩
abbrev main_v172 : Ref sig .tc := ⟨.hbm, 288, rfl⟩
abbrev main_v173 : Ref sig .tc := ⟨.hbm, 289, rfl⟩
abbrev main_call19_v0 : Ref sig .tc := ⟨.hbm, 290, rfl⟩
abbrev main_call19_v1 : Ref sig .tc := ⟨.hbm, 291, rfl⟩
abbrev main_call19_v2 : Ref sig .tc := ⟨.hbm, 292, rfl⟩
abbrev main_call19_v3 : Ref sig .tc := ⟨.hbm, 293, rfl⟩
abbrev main_call19_v4 : Ref sig .tc := ⟨.hbm, 294, rfl⟩
abbrev main_v174 : Ref sig .tc := ⟨.hbm, 295, rfl⟩
abbrev main_v175 : Ref sig .tc := ⟨.hbm, 296, rfl⟩
abbrev main_call20_v0 : Ref sig .tc := ⟨.hbm, 297, rfl⟩
abbrev main_call20_v1 : Ref sig .tc := ⟨.hbm, 298, rfl⟩
abbrev main_call20_v2 : Ref sig .tc := ⟨.hbm, 299, rfl⟩
abbrev main_call20_v3 : Ref sig .tc := ⟨.hbm, 300, rfl⟩
abbrev main_call20_v4 : Ref sig .tc := ⟨.hbm, 301, rfl⟩
abbrev main_v176 : Ref sig .tc := ⟨.hbm, 302, rfl⟩
abbrev main_v177 : Ref sig .tc := ⟨.hbm, 303, rfl⟩
abbrev main_call21_v0 : Ref sig .tc := ⟨.hbm, 304, rfl⟩
abbrev main_call21_v1 : Ref sig .tc := ⟨.hbm, 305, rfl⟩
abbrev main_call21_v2 : Ref sig .tc := ⟨.hbm, 306, rfl⟩
abbrev main_call21_v3 : Ref sig .tc := ⟨.hbm, 307, rfl⟩
abbrev main_call21_v4 : Ref sig .tc := ⟨.hbm, 308, rfl⟩
abbrev main_v178 : Ref sig .tc := ⟨.hbm, 309, rfl⟩
abbrev main_v179 : Ref sig .tc := ⟨.hbm, 310, rfl⟩
abbrev main_call22_v0 : Ref sig .tc := ⟨.hbm, 311, rfl⟩
abbrev main_call22_v1 : Ref sig .tc := ⟨.hbm, 312, rfl⟩
abbrev main_call22_v2 : Ref sig .tc := ⟨.hbm, 313, rfl⟩
abbrev main_call22_v3 : Ref sig .tc := ⟨.hbm, 314, rfl⟩
abbrev main_call22_v4 : Ref sig .tc := ⟨.hbm, 315, rfl⟩
abbrev main_v180 : Ref sig .tc := ⟨.hbm, 316, rfl⟩
abbrev main_v181_0 : Ref sig .tc := ⟨.hbm, 317, rfl⟩
abbrev main_v181_1 : Ref sig .tc := ⟨.hbm, 318, rfl⟩
abbrev main_v181_2 : Ref sig .tc := ⟨.hbm, 319, rfl⟩
abbrev main_v181_3 : Ref sig .tc := ⟨.hbm, 320, rfl⟩
abbrev main_v181_4 : Ref sig .tc := ⟨.hbm, 321, rfl⟩
abbrev main_v181_5 : Ref sig .tc := ⟨.hbm, 322, rfl⟩
abbrev main_v181_6 : Ref sig .tc := ⟨.hbm, 323, rfl⟩
abbrev main_v181_7 : Ref sig .tc := ⟨.hbm, 324, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32

abbrev nD : Nat := 1
abbrev τ : Topo := Topo.v7x

variable {F : FTy → Type} [FloatOps F]

abbrev grid0 : Pipeline.Grid := .none

@[reducible] def k0_t1_loop : Scf.Loop 32 :=
  let c0_i32_38 : BitVec 32 := 0#32
  let c64_i32 : BitVec 32 := 64#32
  let v121 : BitVec 32 := Scalar.addi c0_i32_38 c64_i32
  let c1_i32_39 : BitVec 32 := 1#32
  ⟨c0_i32_38, v121, c1_i32_39⟩
def k0_off1 (k0_t1 : Fin k0_t1_loop.trips) : Fin 2 → Nat :=
  let c0_i32_38 : BitVec 32 := 0#32
  let c1_i32_39 : BitVec 32 := 1#32
  let arg33 : BitVec 32 := Scf.iv c0_i32_38 c1_i32_39 k0_t1
  let c128_i32 : BitVec 32 := 128#32
  let v828 : BitVec 32 := Scalar.muli arg33 c128_i32
  let v829 : Index := Scalar.indexCast v828
  let c0_328 : Index := 0#32
  ![v829.toNat, 0]
def k0_off2 (k0_t1 : Fin k0_t1_loop.trips) : Fin 2 → Nat :=
  let c0_330 : Index := 0#32
  let c0_i32_38 : BitVec 32 := 0#32
  let c1_i32_39 : BitVec 32 := 1#32
  let arg33 : BitVec 32 := Scf.iv c0_i32_38 c1_i32_39 k0_t1
  let c128_i32_329 : BitVec 32 := 128#32
  let v831 : BitVec 32 := Scalar.muli arg33 c128_i32_329
  let v832 : Index := Scalar.indexCast v831
  ![0, v832.toNat]
@[reducible] def k0_t2_loop : Scf.Loop 32 :=
  let c0_i32_71 : BitVec 32 := 0#32
  let c64_i32_72 : BitVec 32 := 64#32
  let v214 : BitVec 32 := Scalar.addi c0_i32_71 c64_i32_72
  let c1_i32_73 : BitVec 32 := 1#32
  ⟨c0_i32_71, v214, c1_i32_73⟩
def k0_off3 (k0_t2 : Fin k0_t2_loop.trips) : Fin 2 → Nat :=
  let c0_i32_71 : BitVec 32 := 0#32
  let c1_i32_73 : BitVec 32 := 1#32
  let arg33 : BitVec 32 := Scf.iv c0_i32_71 c1_i32_73 k0_t2
  let c128_i32 : BitVec 32 := 128#32
  let v828 : BitVec 32 := Scalar.muli arg33 c128_i32
  let v829 : Index := Scalar.indexCast v828
  let c0_328 : Index := 0#32
  ![v829.toNat, 0]
def k0_off4 (k0_t2 : Fin k0_t2_loop.trips) : Fin 2 → Nat :=
  let c0_330 : Index := 0#32
  let c0_i32_71 : BitVec 32 := 0#32
  let c1_i32_73 : BitVec 32 := 1#32
  let arg33 : BitVec 32 := Scf.iv c0_i32_71 c1_i32_73 k0_t2
  let c128_i32_329 : BitVec 32 := 128#32
  let v831 : BitVec 32 := Scalar.muli arg33 c128_i32_329
  let v832 : Index := Scalar.indexCast v831
  ![0, v832.toNat]
@[reducible] def k0_t3_loop : Scf.Loop 32 :=
  let c0_i32_129 : BitVec 32 := 0#32
  let c64_i32_130 : BitVec 32 := 64#32
  let v349 : BitVec 32 := Scalar.addi c0_i32_129 c64_i32_130
  let c1_i32_131 : BitVec 32 := 1#32
  ⟨c0_i32_129, v349, c1_i32_131⟩
def k0_off5 (k0_t3 : Fin k0_t3_loop.trips) : Fin 2 → Nat :=
  let c0_i32_129 : BitVec 32 := 0#32
  let c1_i32_131 : BitVec 32 := 1#32
  let arg33 : BitVec 32 := Scf.iv c0_i32_129 c1_i32_131 k0_t3
  let c128_i32 : BitVec 32 := 128#32
  let v828 : BitVec 32 := Scalar.muli arg33 c128_i32
  let v829 : Index := Scalar.indexCast v828
  let c0_328 : Index := 0#32
  ![v829.toNat, 0]
def k0_off6 (k0_t3 : Fin k0_t3_loop.trips) : Fin 2 → Nat :=
  let c0_330 : Index := 0#32
  let c0_i32_129 : BitVec 32 := 0#32
  let c1_i32_131 : BitVec 32 := 1#32
  let arg33 : BitVec 32 := Scf.iv c0_i32_129 c1_i32_131 k0_t3
  let c128_i32_329 : BitVec 32 := 128#32
  let v831 : BitVec 32 := Scalar.muli arg33 c128_i32_329
  let v832 : Index := Scalar.indexCast v831
  ![0, v832.toNat]
@[reducible] def k0_t4_loop : Scf.Loop 32 :=
  let c0_i32_187 : BitVec 32 := 0#32
  let c64_i32_188 : BitVec 32 := 64#32
  let v484 : BitVec 32 := Scalar.addi c0_i32_187 c64_i32_188
  let c1_i32_189 : BitVec 32 := 1#32
  ⟨c0_i32_187, v484, c1_i32_189⟩
def k0_off7 (k0_t4 : Fin k0_t4_loop.trips) : Fin 2 → Nat :=
  let c0_i32_187 : BitVec 32 := 0#32
  let c1_i32_189 : BitVec 32 := 1#32
  let arg33 : BitVec 32 := Scf.iv c0_i32_187 c1_i32_189 k0_t4
  let c128_i32 : BitVec 32 := 128#32
  let v828 : BitVec 32 := Scalar.muli arg33 c128_i32
  let v829 : Index := Scalar.indexCast v828
  let c0_328 : Index := 0#32
  ![v829.toNat, 0]
def k0_off8 (k0_t4 : Fin k0_t4_loop.trips) : Fin 2 → Nat :=
  let c0_330 : Index := 0#32
  let c0_i32_187 : BitVec 32 := 0#32
  let c1_i32_189 : BitVec 32 := 1#32
  let arg33 : BitVec 32 := Scf.iv c0_i32_187 c1_i32_189 k0_t4
  let c128_i32_329 : BitVec 32 := 128#32
  let v831 : BitVec 32 := Scalar.muli arg33 c128_i32_329
  let v832 : Index := Scalar.indexCast v831
  ![0, v832.toNat]
@[reducible] def k0_t5_loop : Scf.Loop 32 :=
  let c0_i32_245 : BitVec 32 := 0#32
  let c64_i32_246 : BitVec 32 := 64#32
  let v619 : BitVec 32 := Scalar.addi c0_i32_245 c64_i32_246
  let c1_i32_247 : BitVec 32 := 1#32
  ⟨c0_i32_245, v619, c1_i32_247⟩
def k0_off9 (k0_t5 : Fin k0_t5_loop.trips) : Fin 2 → Nat :=
  let c0_i32_245 : BitVec 32 := 0#32
  let c1_i32_247 : BitVec 32 := 1#32
  let arg33 : BitVec 32 := Scf.iv c0_i32_245 c1_i32_247 k0_t5
  let c128_i32 : BitVec 32 := 128#32
  let v828 : BitVec 32 := Scalar.muli arg33 c128_i32
  let v829 : Index := Scalar.indexCast v828
  let c0_328 : Index := 0#32
  ![v829.toNat, 0]
def k0_off10 (k0_t5 : Fin k0_t5_loop.trips) : Fin 2 → Nat :=
  let c0_330 : Index := 0#32
  let c0_i32_245 : BitVec 32 := 0#32
  let c1_i32_247 : BitVec 32 := 1#32
  let arg33 : BitVec 32 := Scf.iv c0_i32_245 c1_i32_247 k0_t5
  let c128_i32_329 : BitVec 32 := 128#32
  let v831 : BitVec 32 := Scalar.muli arg33 c128_i32_329
  let v832 : Index := Scalar.indexCast v831
  ![0, v832.toNat]
@[reducible] def k0_t6_loop : Scf.Loop 32 :=
  let c0_i32_292 : BitVec 32 := 0#32
  let c64_i32_293 : BitVec 32 := 64#32
  let v734 : BitVec 32 := Scalar.addi c0_i32_292 c64_i32_293
  let c1_i32_294 : BitVec 32 := 1#32
  ⟨c0_i32_292, v734, c1_i32_294⟩
def k0_off11 (k0_t6 : Fin k0_t6_loop.trips) : Fin 2 → Nat :=
  let c0_i32_292 : BitVec 32 := 0#32
  let c1_i32_294 : BitVec 32 := 1#32
  let arg33 : BitVec 32 := Scf.iv c0_i32_292 c1_i32_294 k0_t6
  let c128_i32 : BitVec 32 := 128#32
  let v828 : BitVec 32 := Scalar.muli arg33 c128_i32
  let v829 : Index := Scalar.indexCast v828
  let c0_328 : Index := 0#32
  ![v829.toNat, 0]
def k0_off12 (k0_t6 : Fin k0_t6_loop.trips) : Fin 2 → Nat :=
  let c0_330 : Index := 0#32
  let c0_i32_292 : BitVec 32 := 0#32
  let c1_i32_294 : BitVec 32 := 1#32
  let arg33 : BitVec 32 := Scf.iv c0_i32_292 c1_i32_294 k0_t6
  let c128_i32_329 : BitVec 32 := 128#32
  let v831 : BitVec 32 := Scalar.muli arg33 c128_i32_329
  let v832 : Index := Scalar.indexCast v831
  ![0, v832.toNat]
@[reducible] def k0_t7_loop : Scf.Loop 32 :=
  let c0_i32_300 : BitVec 32 := 0#32
  let c64_i32_301 : BitVec 32 := 64#32
  let v745 : BitVec 32 := Scalar.addi c0_i32_300 c64_i32_301
  let c1_i32_302 : BitVec 32 := 1#32
  ⟨c0_i32_300, v745, c1_i32_302⟩
def k0_off13 (k0_t7 : Fin k0_t7_loop.trips) : Fin 2 → Nat :=
  let c0_i32_300 : BitVec 32 := 0#32
  let c1_i32_302 : BitVec 32 := 1#32
  let arg33 : BitVec 32 := Scf.iv c0_i32_300 c1_i32_302 k0_t7
  let c128_i32 : BitVec 32 := 128#32
  let v828 : BitVec 32 := Scalar.muli arg33 c128_i32
  let v829 : Index := Scalar.indexCast v828
  let c0_328 : Index := 0#32
  ![v829.toNat, 0]
def k0_off14 (k0_t7 : Fin k0_t7_loop.trips) : Fin 2 → Nat :=
  let c0_330 : Index := 0#32
  let c0_i32_300 : BitVec 32 := 0#32
  let c1_i32_302 : BitVec 32 := 1#32
  let arg33 : BitVec 32 := Scf.iv c0_i32_300 c1_i32_302 k0_t7
  let c128_i32_329 : BitVec 32 := 128#32
  let v831 : BitVec 32 := Scalar.muli arg33 c128_i32_329
  let v832 : Index := Scalar.indexCast v831
  ![0, v832.toNat]
abbrev stage0_0 : Fin 1 → Memref sig .tc .vmem S32x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x288 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x288 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x288 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x288 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S64x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S64x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S256x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S512x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S8x8192 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S32x8192 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S8x1 .i32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S32x1 .i32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S128x1 .i32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S512x1 .i32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S2048x1 .i32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S8192x1 .i32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
-- ==== KernelIdeal.lean ====
variable {F : FTy → Type} [FloatOps F] [Named F]
def κ : String → Option EReal := fun
  | "far" => some ⊤
  | _ => none
-- ==== ReferenceIdeal.lean ====
abbrev S8x32x32x32 : Shape := ⟨4, ![8, 32, 32, 32]⟩
abbrev S8192x32 : Shape := ⟨2, ![8192, 32]⟩
abbrev S32x32x3x3 : Shape := ⟨4, ![32, 32, 3, 3]⟩
abbrev S32 : Shape := ⟨1, ![32]⟩
abbrev S_ : Shape := ⟨0, ![]⟩
abbrev S8x32x1x32x1x32 : Shape := ⟨6, ![8, 32, 1, 32, 1, 32]⟩
abbrev S8x32x1x1 : Shape := ⟨4, ![8, 32, 1, 1]⟩
abbrev S8x1x1x32 : Shape := ⟨4, ![8, 1, 1, 32]⟩
abbrev S8x32 : Shape := ⟨2, ![8, 32]⟩
abbrev S8 : Shape := ⟨1, ![8]⟩
abbrev S8x1 : Shape := ⟨2, ![8, 1]⟩
abbrev S8192 : Shape := ⟨1, ![8192]⟩
abbrev S1x8192 : Shape := ⟨2, ![1, 8192]⟩
abbrev S8x8192 : Shape := ⟨2, ![8, 8192]⟩
abbrev S32x8192 : Shape := ⟨2, ![32, 8192]⟩
abbrev S8x1x1 : Shape := ⟨3, ![8, 1, 1]⟩
abbrev S8x1x1x1 : Shape := ⟨4, ![8, 1, 1, 1]⟩
abbrev S1 : Shape := ⟨1, ![1]⟩
abbrev S1x1x1x1 : Shape := ⟨4, ![1, 1, 1, 1]⟩
abbrev S1x32 : Shape := ⟨2, ![1, 32]⟩
abbrev S1x1 : Shape := ⟨2, ![1, 1]⟩
abbrev S32x8x32x1 : Shape := ⟨4, ![32, 8, 32, 1]⟩
abbrev S8x32x32x1 : Shape := ⟨4, ![8, 32, 32, 1]⟩
abbrev S8x32x34x34 : Shape := ⟨4, ![8, 32, 34, 34]⟩
abbrev S32x32x1x1 : Shape := ⟨4, ![32, 32, 1, 1]⟩
abbrev S32x32 : Shape := ⟨2, ![32, 32]⟩
abbrev S1x32x1x1 : Shape := ⟨4, ![1, 32, 1, 1]⟩
abbrev S8x32x2x16x2x16 : Shape := ⟨6, ![8, 32, 2, 16, 2, 16]⟩
abbrev S8x32x2x2 : Shape := ⟨4, ![8, 32, 2, 2]⟩
abbrev S8x2x2x32 : Shape := ⟨4, ![8, 2, 2, 32]⟩
abbrev S32x1 : Shape := ⟨2, ![32, 1]⟩
abbrev S8x2x2 : Shape := ⟨3, ![8, 2, 2]⟩
abbrev S8x2x2x1 : Shape := ⟨4, ![8, 2, 2, 1]⟩
abbrev S2 : Shape := ⟨1, ![2]⟩
abbrev S2x1 : Shape := ⟨2, ![2, 1]⟩
abbrev S2x32 : Shape := ⟨2, ![2, 32]⟩
abbrev S32x8x32x2 : Shape := ⟨4, ![32, 8, 32, 2]⟩
abbrev S8x32x32x2 : Shape := ⟨4, ![8, 32, 32, 2]⟩
abbrev S8x32x4x8x4x8 : Shape := ⟨6, ![8, 32, 4, 8, 4, 8]⟩
abbrev S8x32x4x4 : Shape := ⟨4, ![8, 32, 4, 4]⟩
abbrev S8x4x4x32 : Shape := ⟨4, ![8, 4, 4, 32]⟩
abbrev S128x32 : Shape := ⟨2, ![128, 32]⟩
abbrev S128 : Shape := ⟨1, ![128]⟩
abbrev S128x1 : Shape := ⟨2, ![128, 1]⟩
abbrev S128x8192 : Shape := ⟨2, ![128, 8192]⟩
abbrev S8x4x4 : Shape := ⟨3, ![8, 4, 4]⟩
abbrev S8x4x4x1 : Shape := ⟨4, ![8, 4, 4, 1]⟩
abbrev S4 : Shape := ⟨1, ![4]⟩
abbrev S4x1 : Shape := ⟨2, ![4, 1]⟩
abbrev S4x32 : Shape := ⟨2, ![4, 32]⟩
abbrev S32x8x32x4 : Shape := ⟨4, ![32, 8, 32, 4]⟩
abbrev S8x32x32x4 : Shape := ⟨4, ![8, 32, 32, 4]⟩
abbrev S8x32x8x4x8x4 : Shape := ⟨6, ![8, 32, 8, 4, 8, 4]⟩
abbrev S8x32x8x8 : Shape := ⟨4, ![8, 32, 8, 8]⟩
abbrev S8x8x8x32 : Shape := ⟨4, ![8, 8, 8, 32]⟩
abbrev S512x32 : Shape := ⟨2, ![512, 32]⟩
abbrev S512 : Shape := ⟨1, ![512]⟩
abbrev S512x1 : Shape := ⟨2, ![512, 1]⟩
abbrev S512x8192 : Shape := ⟨2, ![512, 8192]⟩
abbrev S8x8x8 : Shape := ⟨3, ![8, 8, 8]⟩
abbrev S8x8x8x1 : Shape := ⟨4, ![8, 8, 8, 1]⟩
abbrev S32x8x32x8 : Shape := ⟨4, ![32, 8, 32, 8]⟩
abbrev S8x32x32x8 : Shape := ⟨4, ![8, 32, 32, 8]⟩
abbrev S8x32x16x2x16x2 : Shape := ⟨6, ![8, 32, 16, 2, 16, 2]⟩
abbrev S8x32x16x16 : Shape := ⟨4, ![8, 32, 16, 16]⟩
abbrev S8x16x16x32 : Shape := ⟨4, ![8, 16, 16, 32]⟩
abbrev S2048x32 : Shape := ⟨2, ![2048, 32]⟩
abbrev S2048 : Shape := ⟨1, ![2048]⟩
abbrev S2048x1 : Shape := ⟨2, ![2048, 1]⟩
abbrev S2048x8192 : Shape := ⟨2, ![2048, 8192]⟩
abbrev S8x16x16 : Shape := ⟨3, ![8, 16, 16]⟩
abbrev S8x16x16x1 : Shape := ⟨4, ![8, 16, 16, 1]⟩
abbrev S16 : Shape := ⟨1, ![16]⟩
abbrev S16x1 : Shape := ⟨2, ![16, 1]⟩
abbrev S16x32 : Shape := ⟨2, ![16, 32]⟩
abbrev S32x8x32x16 : Shape := ⟨4, ![32, 8, 32, 16]⟩
abbrev S8x32x32x16 : Shape := ⟨4, ![8, 32, 32, 16]⟩
abbrev S8192x1 : Shape := ⟨2, ![8192, 1]⟩
abbrev S8192x8192 : Shape := ⟨2, ![8192, 8192]⟩
abbrev S8x32x32 : Shape := ⟨3, ![8, 32, 32]⟩
abbrev S32x8x32x32 : Shape := ⟨4, ![32, 8, 32, 32]⟩

abbrev nBuf : Space → Nat
  | .hbm => 1276
  | .vmem => 0
  | .smem => 0
  | _ => 0

abbrev hbmTy0_0 (i : Nat) : BufTy := match i % 128 with
  | 0 => ⟨S8x32x32x32, .f32⟩
  | 1 => ⟨S8192x32, .f32⟩
  | 2 => ⟨S32x32x3x3, .f32⟩
  | 3 => ⟨S32x32x3x3, .f32⟩
  | 4 => ⟨S32x32x3x3, .f32⟩
  | 5 => ⟨S32x32x3x3, .f32⟩
  | 6 => ⟨S32, .f32⟩
  | 7 => ⟨S32, .f32⟩
  | 8 => ⟨S32, .f32⟩
  | 9 => ⟨S32, .f32⟩
  | 10 => ⟨S_, .f32⟩
  | 11 => ⟨S8x32x32x32, .f32⟩
  | 12 => ⟨S8x32x1x32x1x32, .f32⟩
  | 13 => ⟨S_, .f32⟩
  | 14 => ⟨S8x32x1x1, .f32⟩
  | 15 => ⟨S_, .f32⟩
  | 16 => ⟨S8x32x1x1, .f32⟩
  | 17 => ⟨S8x32x1x1, .f32⟩
  | 18 => ⟨S8x1x1x32, .f32⟩
  | 19 => ⟨S8x32, .f32⟩
  | 20 => ⟨S8x32, .f32⟩
  | 21 => ⟨S_, .f32⟩
  | 22 => ⟨S8, .f32⟩
  | 23 => ⟨S8x1, .f32⟩
  | 24 => ⟨S8192x32, .f32⟩
  | 25 => ⟨S_, .f32⟩
  | 26 => ⟨S8192, .f32⟩
  | 27 => ⟨S1x8192, .f32⟩
  | 28 => ⟨S8x8192, .f32⟩
  | 29 => ⟨S8x8192, .f32⟩
  | 30 => ⟨S8x8192, .f32⟩
  | 31 => ⟨S32x8192, .f32⟩
  | 32 => ⟨S8x8192, .f32⟩
  | 33 => ⟨S_, .f32⟩
  | 34 => ⟨S8x8192, .f32⟩
  | 35 => ⟨S8x8192, .f32⟩
  | 36 => ⟨S8x8192, .f32⟩
  | 37 => ⟨S_, .f32⟩
  | 38 => ⟨S_, .f32⟩
  | 39 => ⟨S8x8192, .f32⟩
  | 40 => ⟨S8x8192, .f32⟩
  | 41 => ⟨S8x8192, .f32⟩
  | 42 => ⟨S_, .f32⟩
  | 43 => ⟨S8, .f32⟩
  | 44 => ⟨S8x1, .f32⟩
  | 45 => ⟨S8x8192, .i32⟩
  | 46 => ⟨S8x8192, .f32⟩
  | 47 => ⟨S8x8192, .i1⟩
  | 48 => ⟨S_, .i32⟩
  | 49 => ⟨S8x8192, .i32⟩
  | 50 => ⟨S8x8192, .i32⟩
  | 51 => ⟨S_, .i32⟩
  | 52 => ⟨S8, .i32⟩
  | 53 => ⟨S8x1x1, .i32⟩
  | 54 => ⟨S_, .i32⟩
  | 55 => ⟨S8x1x1, .i32⟩
  | 56 => ⟨S8x1x1, .i1⟩
  | 57 => ⟨S_, .i32⟩
  | 58 => ⟨S8x1x1, .i32⟩
  | 59 => ⟨S8x1x1, .i32⟩
  | 60 => ⟨S8x1x1, .i32⟩
  | 61 => ⟨S8x1x1x1, .i32⟩
  | 62 => ⟨S1, .i32⟩
  | 63 => ⟨S_, .i32⟩
  | 64 => ⟨S8x1x1x1, .i32⟩
  | 65 => ⟨S8x1x1x1, .i1⟩
  | 66 => ⟨S1x1x1x1, .i32⟩
  | 67 => ⟨S8x1x1x1, .i32⟩
  | 68 => ⟨S8x1x1x1, .i1⟩
  | 69 => ⟨S8x1x1x1, .i1⟩
  | 70 => ⟨S_, .i1⟩
  | 71 => ⟨S8x1x1, .i1⟩
  | 72 => ⟨S8x1x1x32, .f32⟩
  | 73 => ⟨S8x1x1x32, .i1⟩
  | 74 => ⟨S_, .f32⟩
  | 75 => ⟨S8x1x1x32, .f32⟩
  | 76 => ⟨S8x1x1x32, .f32⟩
  | 77 => ⟨S8x32x1x1, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S_, .f32⟩
  | 86 => ⟨S32, .f32⟩
  | 87 => ⟨S32, .f32⟩
  | 88 => ⟨S1x32, .f32⟩
  | 89 => ⟨S1, .f32⟩
  | 90 => ⟨S1x1, .f32⟩
  | 91 => ⟨S1x32, .f32⟩
  | 92 => ⟨S1x32, .f32⟩
  | 93 => ⟨S1x32, .f32⟩
  | 94 => ⟨S_, .f32⟩
  | 95 => ⟨S1x32, .f32⟩
  | 96 => ⟨S1x32, .f32⟩
  | 97 => ⟨S_, .f32⟩
  | 98 => ⟨S1x32, .f32⟩
  | 99 => ⟨S1x32, .f32⟩
  | 100 => ⟨S1x32, .f32⟩
  | 101 => ⟨S1x32, .f32⟩
  | 102 => ⟨S_, .f32⟩
  | 103 => ⟨S1x32, .f32⟩
  | 104 => ⟨S1x32, .f32⟩
  | 105 => ⟨S_, .f32⟩
  | 106 => ⟨S1x32, .f32⟩
  | 107 => ⟨S1x32, .f32⟩
  | 108 => ⟨S_, .f32⟩
  | 109 => ⟨S1x32, .f32⟩
  | 110 => ⟨S1x32, .f32⟩
  | 111 => ⟨S1x32, .f32⟩
  | 112 => ⟨S_, .f32⟩
  | 113 => ⟨S1x32, .f32⟩
  | 114 => ⟨S1x32, .f32⟩
  | 115 => ⟨S1x32, .f32⟩
  | 116 => ⟨S_, .f32⟩
  | 117 => ⟨S1x32, .f32⟩
  | 118 => ⟨S1x32, .f32⟩
  | 119 => ⟨S_, .f32⟩
  | 120 => ⟨S1x32, .f32⟩
  | 121 => ⟨S1x32, .i1⟩
  | 122 => ⟨S_, .f32⟩
  | 123 => ⟨S1x32, .f32⟩
  | 124 => ⟨S1x32, .i1⟩
  | 125 => ⟨S1x32, .f32⟩
  | 126 => ⟨S_, .f32⟩
  | 127 => ⟨S_, .f32⟩
  | _ => ⟨S8x32x32x32, .f32⟩

abbrev hbmTy0_1 (i : Nat) : BufTy := match i % 128 with
  | 0 => ⟨S1x32, .f32⟩
  | 1 => ⟨S1x32, .f32⟩
  | 2 => ⟨S_, .f32⟩
  | 3 => ⟨S32, .f32⟩
  | 4 => ⟨S1x32, .f32⟩
  | 5 => ⟨S_, .f32⟩
  | 6 => ⟨S1x32, .f32⟩
  | 7 => ⟨S1x32, .i1⟩
  | 8 => ⟨S_, .i32⟩
  | 9 => ⟨S_, .f32⟩
  | 10 => ⟨S1x32, .f32⟩
  | 11 => ⟨S1x32, .f32⟩
  | 12 => ⟨S1x32, .f32⟩
  | 13 => ⟨S32x8x32x1, .f32⟩
  | 14 => ⟨S8x32x32x1, .f32⟩
  | 15 => ⟨S8x32x32x32, .f32⟩
  | 16 => ⟨S_, .f32⟩
  | 17 => ⟨S8x32x32x32, .f32⟩
  | 18 => ⟨S8x32x32x32, .f32⟩
  | 19 => ⟨S_, .i32⟩
  | 20 => ⟨S_, .f32⟩
  | 21 => ⟨S8x32x34x34, .f32⟩
  | 22 => ⟨S_, .f32⟩
  | 23 => ⟨S8x32x32x32, .f32⟩
  | 24 => ⟨S32x32x1x1, .f32⟩
  | 25 => ⟨S32x32, .f32⟩
  | 26 => ⟨S8x32x32x32, .f32⟩
  | 27 => ⟨S8x32x32x32, .f32⟩
  | 28 => ⟨S8x32x32x32, .f32⟩
  | 29 => ⟨S8x32x32x32, .f32⟩
  | 30 => ⟨S32x32x1x1, .f32⟩
  | 31 => ⟨S32x32, .f32⟩
  | 32 => ⟨S8x32x32x32, .f32⟩
  | 33 => ⟨S8x32x32x32, .f32⟩
  | 34 => ⟨S8x32x32x32, .f32⟩
  | 35 => ⟨S8x32x32x32, .f32⟩
  | 36 => ⟨S32x32x1x1, .f32⟩
  | 37 => ⟨S32x32, .f32⟩
  | 38 => ⟨S8x32x32x32, .f32⟩
  | 39 => ⟨S8x32x32x32, .f32⟩
  | 40 => ⟨S8x32x32x32, .f32⟩
  | 41 => ⟨S8x32x32x32, .f32⟩
  | 42 => ⟨S32x32x1x1, .f32⟩
  | 43 => ⟨S32x32, .f32⟩
  | 44 => ⟨S8x32x32x32, .f32⟩
  | 45 => ⟨S8x32x32x32, .f32⟩
  | 46 => ⟨S8x32x32x32, .f32⟩
  | 47 => ⟨S8x32x32x32, .f32⟩
  | 48 => ⟨S32x32x1x1, .f32⟩
  | 49 => ⟨S32x32, .f32⟩
  | 50 => ⟨S8x32x32x32, .f32⟩
  | 51 => ⟨S8x32x32x32, .f32⟩
  | 52 => ⟨S8x32x32x32, .f32⟩
  | 53 => ⟨S8x32x32x32, .f32⟩
  | 54 => ⟨S32x32x1x1, .f32⟩
  | 55 => ⟨S32x32, .f32⟩
  | 56 => ⟨S8x32x32x32, .f32⟩
  | 57 => ⟨S8x32x32x32, .f32⟩
  | 58 => ⟨S8x32x32x32, .f32⟩
  | 59 => ⟨S8x32x32x32, .f32⟩
  | 60 => ⟨S32x32x1x1, .f32⟩
  | 61 => ⟨S32x32, .f32⟩
  | 62 => ⟨S8x32x32x32, .f32⟩
  | 63 => ⟨S8x32x32x32, .f32⟩
  | 64 => ⟨S8x32x32x32, .f32⟩
  | 65 => ⟨S8x32x32x32, .f32⟩
  | 66 => ⟨S32x32x1x1, .f32⟩
  | 67 => ⟨S32x32, .f32⟩
  | 68 => ⟨S8x32x32x32, .f32⟩
  | 69 => ⟨S8x32x32x32, .f32⟩
  | 70 => ⟨S8x32x32x32, .f32⟩
  | 71 => ⟨S8x32x32x32, .f32⟩
  | 72 => ⟨S32x32x1x1, .f32⟩
  | 73 => ⟨S32x32, .f32⟩
  | 74 => ⟨S8x32x32x32, .f32⟩
  | 75 => ⟨S8x32x32x32, .f32⟩
  | 76 => ⟨S8x32x32x32, .f32⟩
  | 77 => ⟨S8x32x32x32, .f32⟩
  | 78 => ⟨S1x32x1x1, .f32⟩
  | 79 => ⟨S8x32x32x32, .f32⟩
  | 80 => ⟨S8x32x32x32, .f32⟩
  | 81 => ⟨S_, .f32⟩
  | 82 => ⟨S8x32x32x32, .f32⟩
  | 83 => ⟨S8x32x32x32, .f32⟩
  | 84 => ⟨S8x32x32x32, .f32⟩
  | 85 => ⟨S8x32x32x32, .f32⟩
  | 86 => ⟨S8x32x32x32, .f32⟩
  | 87 => ⟨S8x1, .i32⟩
  | 88 => ⟨S8x32x32x32, .f32⟩
  | 89 => ⟨S8x32x32x32, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S8x32x32x32, .f32⟩
  | 99 => ⟨S8x32x32x32, .f32⟩
  | 100 => ⟨S_, .f32⟩
  | 101 => ⟨S_, .f32⟩
  | 102 => ⟨S_, .f32⟩
  | 103 => ⟨S_, .f32⟩
  | 104 => ⟨S_, .f32⟩
  | 105 => ⟨S8x32x2x16x2x16, .f32⟩
  | 106 => ⟨S_, .f32⟩
  | 107 => ⟨S8x32x2x2, .f32⟩
  | 108 => ⟨S_, .f32⟩
  | 109 => ⟨S8x32x2x2, .f32⟩
  | 110 => ⟨S8x32x2x2, .f32⟩
  | 111 => ⟨S8x2x2x32, .f32⟩
  | 112 => ⟨S32x32, .f32⟩
  | 113 => ⟨S32x32, .f32⟩
  | 114 => ⟨S_, .f32⟩
  | 115 => ⟨S32, .f32⟩
  | 116 => ⟨S32x1, .f32⟩
  | 117 => ⟨S8192x32, .f32⟩
  | 118 => ⟨S_, .f32⟩
  | 119 => ⟨S8192, .f32⟩
  | 120 => ⟨S1x8192, .f32⟩
  | 121 => ⟨S32x8192, .f32⟩
  | 122 => ⟨S32x8192, .f32⟩
  | 123 => ⟨S32x8192, .f32⟩
  | 124 => ⟨S32x8192, .f32⟩
  | 125 => ⟨S32x8192, .f32⟩
  | 126 => ⟨S_, .f32⟩
  | 127 => ⟨S32x8192, .f32⟩
  | _ => ⟨S8x32x32x32, .f32⟩

abbrev hbmTy0_2 (i : Nat) : BufTy := match i % 128 with
  | 0 => ⟨S32x8192, .f32⟩
  | 1 => ⟨S32x8192, .f32⟩
  | 2 => ⟨S_, .f32⟩
  | 3 => ⟨S_, .f32⟩
  | 4 => ⟨S32x8192, .f32⟩
  | 5 => ⟨S32x8192, .f32⟩
  | 6 => ⟨S32x8192, .f32⟩
  | 7 => ⟨S_, .f32⟩
  | 8 => ⟨S32, .f32⟩
  | 9 => ⟨S32x1, .f32⟩
  | 10 => ⟨S32x8192, .i32⟩
  | 11 => ⟨S32x8192, .f32⟩
  | 12 => ⟨S32x8192, .i1⟩
  | 13 => ⟨S_, .i32⟩
  | 14 => ⟨S32x8192, .i32⟩
  | 15 => ⟨S32x8192, .i32⟩
  | 16 => ⟨S_, .i32⟩
  | 17 => ⟨S32, .i32⟩
  | 18 => ⟨S8x2x2, .i32⟩
  | 19 => ⟨S_, .i32⟩
  | 20 => ⟨S8x2x2, .i32⟩
  | 21 => ⟨S8x2x2, .i1⟩
  | 22 => ⟨S_, .i32⟩
  | 23 => ⟨S8x2x2, .i32⟩
  | 24 => ⟨S8x2x2, .i32⟩
  | 25 => ⟨S8x2x2, .i32⟩
  | 26 => ⟨S8x2x2x1, .i32⟩
  | 27 => ⟨S1, .i32⟩
  | 28 => ⟨S_, .i32⟩
  | 29 => ⟨S8x2x2x1, .i32⟩
  | 30 => ⟨S8x2x2x1, .i1⟩
  | 31 => ⟨S1x1x1x1, .i32⟩
  | 32 => ⟨S8x2x2x1, .i32⟩
  | 33 => ⟨S8x2x2x1, .i1⟩
  | 34 => ⟨S8x2x2x1, .i1⟩
  | 35 => ⟨S_, .i1⟩
  | 36 => ⟨S8x2x2, .i1⟩
  | 37 => ⟨S8x2x2x32, .f32⟩
  | 38 => ⟨S8x2x2x32, .i1⟩
  | 39 => ⟨S_, .f32⟩
  | 40 => ⟨S8x2x2x32, .f32⟩
  | 41 => ⟨S8x2x2x32, .f32⟩
  | 42 => ⟨S8x32x2x2, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S1x32, .f32⟩
  | 54 => ⟨S2, .f32⟩
  | 55 => ⟨S2x1, .f32⟩
  | 56 => ⟨S2x32, .f32⟩
  | 57 => ⟨S2x32, .f32⟩
  | 58 => ⟨S2x32, .f32⟩
  | 59 => ⟨S2x32, .f32⟩
  | 60 => ⟨S_, .f32⟩
  | 61 => ⟨S2x32, .f32⟩
  | 62 => ⟨S2x32, .f32⟩
  | 63 => ⟨S_, .f32⟩
  | 64 => ⟨S2x32, .f32⟩
  | 65 => ⟨S2x32, .f32⟩
  | 66 => ⟨S2x32, .f32⟩
  | 67 => ⟨S2x32, .f32⟩
  | 68 => ⟨S_, .f32⟩
  | 69 => ⟨S2x32, .f32⟩
  | 70 => ⟨S2x32, .f32⟩
  | 71 => ⟨S_, .f32⟩
  | 72 => ⟨S2x32, .f32⟩
  | 73 => ⟨S2x32, .f32⟩
  | 74 => ⟨S_, .f32⟩
  | 75 => ⟨S2x32, .f32⟩
  | 76 => ⟨S2x32, .f32⟩
  | 77 => ⟨S2x32, .f32⟩
  | 78 => ⟨S_, .f32⟩
  | 79 => ⟨S2x32, .f32⟩
  | 80 => ⟨S2x32, .f32⟩
  | 81 => ⟨S2x32, .f32⟩
  | 82 => ⟨S_, .f32⟩
  | 83 => ⟨S2x32, .f32⟩
  | 84 => ⟨S2x32, .f32⟩
  | 85 => ⟨S_, .f32⟩
  | 86 => ⟨S2x32, .f32⟩
  | 87 => ⟨S2x32, .i1⟩
  | 88 => ⟨S_, .f32⟩
  | 89 => ⟨S2x32, .f32⟩
  | 90 => ⟨S2x32, .i1⟩
  | 91 => ⟨S2x32, .f32⟩
  | 92 => ⟨S_, .f32⟩
  | 93 => ⟨S_, .f32⟩
  | 94 => ⟨S2x32, .f32⟩
  | 95 => ⟨S2x32, .f32⟩
  | 96 => ⟨S_, .f32⟩
  | 97 => ⟨S32, .f32⟩
  | 98 => ⟨S1x32, .f32⟩
  | 99 => ⟨S_, .f32⟩
  | 100 => ⟨S1x32, .f32⟩
  | 101 => ⟨S1x32, .i1⟩
  | 102 => ⟨S_, .i32⟩
  | 103 => ⟨S_, .f32⟩
  | 104 => ⟨S1x32, .f32⟩
  | 105 => ⟨S1x32, .f32⟩
  | 106 => ⟨S2x32, .f32⟩
  | 107 => ⟨S2x32, .f32⟩
  | 108 => ⟨S32x8x32x2, .f32⟩
  | 109 => ⟨S8x32x32x2, .f32⟩
  | 110 => ⟨S8x32x32x32, .f32⟩
  | 111 => ⟨S_, .f32⟩
  | 112 => ⟨S8x32x32x32, .f32⟩
  | 113 => ⟨S8x32x32x32, .f32⟩
  | 114 => ⟨S_, .i32⟩
  | 115 => ⟨S_, .f32⟩
  | 116 => ⟨S8x32x34x34, .f32⟩
  | 117 => ⟨S_, .f32⟩
  | 118 => ⟨S8x32x32x32, .f32⟩
  | 119 => ⟨S32x32x1x1, .f32⟩
  | 120 => ⟨S32x32, .f32⟩
  | 121 => ⟨S8x32x32x32, .f32⟩
  | 122 => ⟨S8x32x32x32, .f32⟩
  | 123 => ⟨S8x32x32x32, .f32⟩
  | 124 => ⟨S8x32x32x32, .f32⟩
  | 125 => ⟨S32x32x1x1, .f32⟩
  | 126 => ⟨S32x32, .f32⟩
  | 127 => ⟨S8x32x32x32, .f32⟩
  | _ => ⟨S8x32x32x32, .f32⟩

abbrev hbmTy0_3 (i : Nat) : BufTy := match i % 128 with
  | 0 => ⟨S8x32x32x32, .f32⟩
  | 1 => ⟨S8x32x32x32, .f32⟩
  | 2 => ⟨S8x32x32x32, .f32⟩
  | 3 => ⟨S32x32x1x1, .f32⟩
  | 4 => ⟨S32x32, .f32⟩
  | 5 => ⟨S8x32x32x32, .f32⟩
  | 6 => ⟨S8x32x32x32, .f32⟩
  | 7 => ⟨S8x32x32x32, .f32⟩
  | 8 => ⟨S8x32x32x32, .f32⟩
  | 9 => ⟨S32x32x1x1, .f32⟩
  | 10 => ⟨S32x32, .f32⟩
  | 11 => ⟨S8x32x32x32, .f32⟩
  | 12 => ⟨S8x32x32x32, .f32⟩
  | 13 => ⟨S8x32x32x32, .f32⟩
  | 14 => ⟨S8x32x32x32, .f32⟩
  | 15 => ⟨S32x32x1x1, .f32⟩
  | 16 => ⟨S32x32, .f32⟩
  | 17 => ⟨S8x32x32x32, .f32⟩
  | 18 => ⟨S8x32x32x32, .f32⟩
  | 19 => ⟨S8x32x32x32, .f32⟩
  | 20 => ⟨S8x32x32x32, .f32⟩
  | 21 => ⟨S32x32x1x1, .f32⟩
  | 22 => ⟨S32x32, .f32⟩
  | 23 => ⟨S8x32x32x32, .f32⟩
  | 24 => ⟨S8x32x32x32, .f32⟩
  | 25 => ⟨S8x32x32x32, .f32⟩
  | 26 => ⟨S8x32x32x32, .f32⟩
  | 27 => ⟨S32x32x1x1, .f32⟩
  | 28 => ⟨S32x32, .f32⟩
  | 29 => ⟨S8x32x32x32, .f32⟩
  | 30 => ⟨S8x32x32x32, .f32⟩
  | 31 => ⟨S8x32x32x32, .f32⟩
  | 32 => ⟨S8x32x32x32, .f32⟩
  | 33 => ⟨S32x32x1x1, .f32⟩
  | 34 => ⟨S32x32, .f32⟩
  | 35 => ⟨S8x32x32x32, .f32⟩
  | 36 => ⟨S8x32x32x32, .f32⟩
  | 37 => ⟨S8x32x32x32, .f32⟩
  | 38 => ⟨S8x32x32x32, .f32⟩
  | 39 => ⟨S32x32x1x1, .f32⟩
  | 40 => ⟨S32x32, .f32⟩
  | 41 => ⟨S8x32x32x32, .f32⟩
  | 42 => ⟨S8x32x32x32, .f32⟩
  | 43 => ⟨S8x32x32x32, .f32⟩
  | 44 => ⟨S8x32x32x32, .f32⟩
  | 45 => ⟨S1x32x1x1, .f32⟩
  | 46 => ⟨S8x32x32x32, .f32⟩
  | 47 => ⟨S8x32x32x32, .f32⟩
  | 48 => ⟨S_, .f32⟩
  | 49 => ⟨S8x32x32x32, .f32⟩
  | 50 => ⟨S8x32x32x32, .f32⟩
  | 51 => ⟨S8x32x32x32, .f32⟩
  | 52 => ⟨S8x32x32x32, .f32⟩
  | 53 => ⟨S8x32x32x32, .f32⟩
  | 54 => ⟨S32x1, .i32⟩
  | 55 => ⟨S8x32x32x32, .f32⟩
  | 56 => ⟨S8x32x32x32, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S8x32x32x32, .f32⟩
  | 65 => ⟨S8x32x32x32, .f32⟩
  | 66 => ⟨S_, .f32⟩
  | 67 => ⟨S_, .f32⟩
  | 68 => ⟨S_, .f32⟩
  | 69 => ⟨S_, .f32⟩
  | 70 => ⟨S_, .f32⟩
  | 71 => ⟨S8x32x4x8x4x8, .f32⟩
  | 72 => ⟨S_, .f32⟩
  | 73 => ⟨S8x32x4x4, .f32⟩
  | 74 => ⟨S_, .f32⟩
  | 75 => ⟨S8x32x4x4, .f32⟩
  | 76 => ⟨S8x32x4x4, .f32⟩
  | 77 => ⟨S8x4x4x32, .f32⟩
  | 78 => ⟨S128x32, .f32⟩
  | 79 => ⟨S128x32, .f32⟩
  | 80 => ⟨S_, .f32⟩
  | 81 => ⟨S128, .f32⟩
  | 82 => ⟨S128x1, .f32⟩
  | 83 => ⟨S8192x32, .f32⟩
  | 84 => ⟨S_, .f32⟩
  | 85 => ⟨S8192, .f32⟩
  | 86 => ⟨S1x8192, .f32⟩
  | 87 => ⟨S128x8192, .f32⟩
  | 88 => ⟨S128x8192, .f32⟩
  | 89 => ⟨S128x8192, .f32⟩
  | 90 => ⟨S32x8192, .f32⟩
  | 91 => ⟨S128x8192, .f32⟩
  | 92 => ⟨S_, .f32⟩
  | 93 => ⟨S128x8192, .f32⟩
  | 94 => ⟨S128x8192, .f32⟩
  | 95 => ⟨S128x8192, .f32⟩
  | 96 => ⟨S_, .f32⟩
  | 97 => ⟨S_, .f32⟩
  | 98 => ⟨S128x8192, .f32⟩
  | 99 => ⟨S128x8192, .f32⟩
  | 100 => ⟨S128x8192, .f32⟩
  | 101 => ⟨S_, .f32⟩
  | 102 => ⟨S128, .f32⟩
  | 103 => ⟨S128x1, .f32⟩
  | 104 => ⟨S128x8192, .i32⟩
  | 105 => ⟨S128x8192, .f32⟩
  | 106 => ⟨S128x8192, .i1⟩
  | 107 => ⟨S_, .i32⟩
  | 108 => ⟨S128x8192, .i32⟩
  | 109 => ⟨S128x8192, .i32⟩
  | 110 => ⟨S_, .i32⟩
  | 111 => ⟨S128, .i32⟩
  | 112 => ⟨S8x4x4, .i32⟩
  | 113 => ⟨S_, .i32⟩
  | 114 => ⟨S8x4x4, .i32⟩
  | 115 => ⟨S8x4x4, .i1⟩
  | 116 => ⟨S_, .i32⟩
  | 117 => ⟨S8x4x4, .i32⟩
  | 118 => ⟨S8x4x4, .i32⟩
  | 119 => ⟨S8x4x4, .i32⟩
  | 120 => ⟨S8x4x4x1, .i32⟩
  | 121 => ⟨S1, .i32⟩
  | 122 => ⟨S_, .i32⟩
  | 123 => ⟨S8x4x4x1, .i32⟩
  | 124 => ⟨S8x4x4x1, .i1⟩
  | 125 => ⟨S1x1x1x1, .i32⟩
  | 126 => ⟨S8x4x4x1, .i32⟩
  | 127 => ⟨S8x4x4x1, .i1⟩
  | _ => ⟨S8x32x32x32, .f32⟩

abbrev hbmTy0_4 (i : Nat) : BufTy := match i % 128 with
  | 0 => ⟨S8x4x4x1, .i1⟩
  | 1 => ⟨S_, .i1⟩
  | 2 => ⟨S8x4x4, .i1⟩
  | 3 => ⟨S8x4x4x32, .f32⟩
  | 4 => ⟨S8x4x4x32, .i1⟩
  | 5 => ⟨S_, .f32⟩
  | 6 => ⟨S8x4x4x32, .f32⟩
  | 7 => ⟨S8x4x4x32, .f32⟩
  | 8 => ⟨S8x32x4x4, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S1x32, .f32⟩
  | 20 => ⟨S4, .f32⟩
  | 21 => ⟨S4x1, .f32⟩
  | 22 => ⟨S4x32, .f32⟩
  | 23 => ⟨S4x32, .f32⟩
  | 24 => ⟨S4x32, .f32⟩
  | 25 => ⟨S4x32, .f32⟩
  | 26 => ⟨S_, .f32⟩
  | 27 => ⟨S4x32, .f32⟩
  | 28 => ⟨S4x32, .f32⟩
  | 29 => ⟨S_, .f32⟩
  | 30 => ⟨S4x32, .f32⟩
  | 31 => ⟨S4x32, .f32⟩
  | 32 => ⟨S4x32, .f32⟩
  | 33 => ⟨S4x32, .f32⟩
  | 34 => ⟨S_, .f32⟩
  | 35 => ⟨S4x32, .f32⟩
  | 36 => ⟨S4x32, .f32⟩
  | 37 => ⟨S_, .f32⟩
  | 38 => ⟨S4x32, .f32⟩
  | 39 => ⟨S4x32, .f32⟩
  | 40 => ⟨S_, .f32⟩
  | 41 => ⟨S4x32, .f32⟩
  | 42 => ⟨S4x32, .f32⟩
  | 43 => ⟨S4x32, .f32⟩
  | 44 => ⟨S_, .f32⟩
  | 45 => ⟨S4x32, .f32⟩
  | 46 => ⟨S4x32, .f32⟩
  | 47 => ⟨S4x32, .f32⟩
  | 48 => ⟨S_, .f32⟩
  | 49 => ⟨S4x32, .f32⟩
  | 50 => ⟨S4x32, .f32⟩
  | 51 => ⟨S_, .f32⟩
  | 52 => ⟨S4x32, .f32⟩
  | 53 => ⟨S4x32, .i1⟩
  | 54 => ⟨S_, .f32⟩
  | 55 => ⟨S4x32, .f32⟩
  | 56 => ⟨S4x32, .i1⟩
  | 57 => ⟨S4x32, .f32⟩
  | 58 => ⟨S_, .f32⟩
  | 59 => ⟨S_, .f32⟩
  | 60 => ⟨S4x32, .f32⟩
  | 61 => ⟨S4x32, .f32⟩
  | 62 => ⟨S_, .f32⟩
  | 63 => ⟨S32, .f32⟩
  | 64 => ⟨S1x32, .f32⟩
  | 65 => ⟨S_, .f32⟩
  | 66 => ⟨S1x32, .f32⟩
  | 67 => ⟨S1x32, .i1⟩
  | 68 => ⟨S_, .i32⟩
  | 69 => ⟨S_, .f32⟩
  | 70 => ⟨S1x32, .f32⟩
  | 71 => ⟨S1x32, .f32⟩
  | 72 => ⟨S4x32, .f32⟩
  | 73 => ⟨S4x32, .f32⟩
  | 74 => ⟨S32x8x32x4, .f32⟩
  | 75 => ⟨S8x32x32x4, .f32⟩
  | 76 => ⟨S8x32x32x32, .f32⟩
  | 77 => ⟨S_, .f32⟩
  | 78 => ⟨S8x32x32x32, .f32⟩
  | 79 => ⟨S8x32x32x32, .f32⟩
  | 80 => ⟨S_, .i32⟩
  | 81 => ⟨S_, .f32⟩
  | 82 => ⟨S8x32x34x34, .f32⟩
  | 83 => ⟨S_, .f32⟩
  | 84 => ⟨S8x32x32x32, .f32⟩
  | 85 => ⟨S32x32x1x1, .f32⟩
  | 86 => ⟨S32x32, .f32⟩
  | 87 => ⟨S8x32x32x32, .f32⟩
  | 88 => ⟨S8x32x32x32, .f32⟩
  | 89 => ⟨S8x32x32x32, .f32⟩
  | 90 => ⟨S8x32x32x32, .f32⟩
  | 91 => ⟨S32x32x1x1, .f32⟩
  | 92 => ⟨S32x32, .f32⟩
  | 93 => ⟨S8x32x32x32, .f32⟩
  | 94 => ⟨S8x32x32x32, .f32⟩
  | 95 => ⟨S8x32x32x32, .f32⟩
  | 96 => ⟨S8x32x32x32, .f32⟩
  | 97 => ⟨S32x32x1x1, .f32⟩
  | 98 => ⟨S32x32, .f32⟩
  | 99 => ⟨S8x32x32x32, .f32⟩
  | 100 => ⟨S8x32x32x32, .f32⟩
  | 101 => ⟨S8x32x32x32, .f32⟩
  | 102 => ⟨S8x32x32x32, .f32⟩
  | 103 => ⟨S32x32x1x1, .f32⟩
  | 104 => ⟨S32x32, .f32⟩
  | 105 => ⟨S8x32x32x32, .f32⟩
  | 106 => ⟨S8x32x32x32, .f32⟩
  | 107 => ⟨S8x32x32x32, .f32⟩
  | 108 => ⟨S8x32x32x32, .f32⟩
  | 109 => ⟨S32x32x1x1, .f32⟩
  | 110 => ⟨S32x32, .f32⟩
  | 111 => ⟨S8x32x32x32, .f32⟩
  | 112 => ⟨S8x32x32x32, .f32⟩
  | 113 => ⟨S8x32x32x32, .f32⟩
  | 114 => ⟨S8x32x32x32, .f32⟩
  | 115 => ⟨S32x32x1x1, .f32⟩
  | 116 => ⟨S32x32, .f32⟩
  | 117 => ⟨S8x32x32x32, .f32⟩
  | 118 => ⟨S8x32x32x32, .f32⟩
  | 119 => ⟨S8x32x32x32, .f32⟩
  | 120 => ⟨S8x32x32x32, .f32⟩
  | 121 => ⟨S32x32x1x1, .f32⟩
  | 122 => ⟨S32x32, .f32⟩
  | 123 => ⟨S8x32x32x32, .f32⟩
  | 124 => ⟨S8x32x32x32, .f32⟩
  | 125 => ⟨S8x32x32x32, .f32⟩
  | 126 => ⟨S8x32x32x32, .f32⟩
  | 127 => ⟨S32x32x1x1, .f32⟩
  | _ => ⟨S8x32x32x32, .f32⟩

abbrev hbmTy0_5 (i : Nat) : BufTy := match i % 128 with
  | 0 => ⟨S32x32, .f32⟩
  | 1 => ⟨S8x32x32x32, .f32⟩
  | 2 => ⟨S8x32x32x32, .f32⟩
  | 3 => ⟨S8x32x32x32, .f32⟩
  | 4 => ⟨S8x32x32x32, .f32⟩
  | 5 => ⟨S32x32x1x1, .f32⟩
  | 6 => ⟨S32x32, .f32⟩
  | 7 => ⟨S8x32x32x32, .f32⟩
  | 8 => ⟨S8x32x32x32, .f32⟩
  | 9 => ⟨S8x32x32x32, .f32⟩
  | 10 => ⟨S8x32x32x32, .f32⟩
  | 11 => ⟨S1x32x1x1, .f32⟩
  | 12 => ⟨S8x32x32x32, .f32⟩
  | 13 => ⟨S8x32x32x32, .f32⟩
  | 14 => ⟨S_, .f32⟩
  | 15 => ⟨S8x32x32x32, .f32⟩
  | 16 => ⟨S8x32x32x32, .f32⟩
  | 17 => ⟨S8x32x32x32, .f32⟩
  | 18 => ⟨S8x32x32x32, .f32⟩
  | 19 => ⟨S8x32x32x32, .f32⟩
  | 20 => ⟨S128x1, .i32⟩
  | 21 => ⟨S8x32x32x32, .f32⟩
  | 22 => ⟨S8x32x32x32, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S8x32x32x32, .f32⟩
  | 31 => ⟨S8x32x32x32, .f32⟩
  | 32 => ⟨S_, .f32⟩
  | 33 => ⟨S_, .f32⟩
  | 34 => ⟨S_, .f32⟩
  | 35 => ⟨S_, .f32⟩
  | 36 => ⟨S_, .f32⟩
  | 37 => ⟨S8x32x8x4x8x4, .f32⟩
  | 38 => ⟨S_, .f32⟩
  | 39 => ⟨S8x32x8x8, .f32⟩
  | 40 => ⟨S_, .f32⟩
  | 41 => ⟨S8x32x8x8, .f32⟩
  | 42 => ⟨S8x32x8x8, .f32⟩
  | 43 => ⟨S8x8x8x32, .f32⟩
  | 44 => ⟨S512x32, .f32⟩
  | 45 => ⟨S512x32, .f32⟩
  | 46 => ⟨S_, .f32⟩
  | 47 => ⟨S512, .f32⟩
  | 48 => ⟨S512x1, .f32⟩
  | 49 => ⟨S8192x32, .f32⟩
  | 50 => ⟨S_, .f32⟩
  | 51 => ⟨S8192, .f32⟩
  | 52 => ⟨S1x8192, .f32⟩
  | 53 => ⟨S512x8192, .f32⟩
  | 54 => ⟨S512x8192, .f32⟩
  | 55 => ⟨S512x8192, .f32⟩
  | 56 => ⟨S32x8192, .f32⟩
  | 57 => ⟨S512x8192, .f32⟩
  | 58 => ⟨S_, .f32⟩
  | 59 => ⟨S512x8192, .f32⟩
  | 60 => ⟨S512x8192, .f32⟩
  | 61 => ⟨S512x8192, .f32⟩
  | 62 => ⟨S_, .f32⟩
  | 63 => ⟨S_, .f32⟩
  | 64 => ⟨S512x8192, .f32⟩
  | 65 => ⟨S512x8192, .f32⟩
  | 66 => ⟨S512x8192, .f32⟩
  | 67 => ⟨S_, .f32⟩
  | 68 => ⟨S512, .f32⟩
  | 69 => ⟨S512x1, .f32⟩
  | 70 => ⟨S512x8192, .i32⟩
  | 71 => ⟨S512x8192, .f32⟩
  | 72 => ⟨S512x8192, .i1⟩
  | 73 => ⟨S_, .i32⟩
  | 74 => ⟨S512x8192, .i32⟩
  | 75 => ⟨S512x8192, .i32⟩
  | 76 => ⟨S_, .i32⟩
  | 77 => ⟨S512, .i32⟩
  | 78 => ⟨S8x8x8, .i32⟩
  | 79 => ⟨S_, .i32⟩
  | 80 => ⟨S8x8x8, .i32⟩
  | 81 => ⟨S8x8x8, .i1⟩
  | 82 => ⟨S_, .i32⟩
  | 83 => ⟨S8x8x8, .i32⟩
  | 84 => ⟨S8x8x8, .i32⟩
  | 85 => ⟨S8x8x8, .i32⟩
  | 86 => ⟨S8x8x8x1, .i32⟩
  | 87 => ⟨S1, .i32⟩
  | 88 => ⟨S_, .i32⟩
  | 89 => ⟨S8x8x8x1, .i32⟩
  | 90 => ⟨S8x8x8x1, .i1⟩
  | 91 => ⟨S1x1x1x1, .i32⟩
  | 92 => ⟨S8x8x8x1, .i32⟩
  | 93 => ⟨S8x8x8x1, .i1⟩
  | 94 => ⟨S8x8x8x1, .i1⟩
  | 95 => ⟨S_, .i1⟩
  | 96 => ⟨S8x8x8, .i1⟩
  | 97 => ⟨S8x8x8x32, .f32⟩
  | 98 => ⟨S8x8x8x32, .i1⟩
  | 99 => ⟨S_, .f32⟩
  | 100 => ⟨S8x8x8x32, .f32⟩
  | 101 => ⟨S8x8x8x32, .f32⟩
  | 102 => ⟨S8x32x8x8, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S1x32, .f32⟩
  | 114 => ⟨S8, .f32⟩
  | 115 => ⟨S8x1, .f32⟩
  | 116 => ⟨S8x32, .f32⟩
  | 117 => ⟨S8x32, .f32⟩
  | 118 => ⟨S8x32, .f32⟩
  | 119 => ⟨S8x32, .f32⟩
  | 120 => ⟨S_, .f32⟩
  | 121 => ⟨S8x32, .f32⟩
  | 122 => ⟨S8x32, .f32⟩
  | 123 => ⟨S_, .f32⟩
  | 124 => ⟨S8x32, .f32⟩
  | 125 => ⟨S8x32, .f32⟩
  | 126 => ⟨S8x32, .f32⟩
  | 127 => ⟨S8x32, .f32⟩
  | _ => ⟨S8x32x32x32, .f32⟩

abbrev hbmTy0_6 (i : Nat) : BufTy := match i % 128 with
  | 0 => ⟨S_, .f32⟩
  | 1 => ⟨S8x32, .f32⟩
  | 2 => ⟨S8x32, .f32⟩
  | 3 => ⟨S_, .f32⟩
  | 4 => ⟨S8x32, .f32⟩
  | 5 => ⟨S8x32, .f32⟩
  | 6 => ⟨S_, .f32⟩
  | 7 => ⟨S8x32, .f32⟩
  | 8 => ⟨S8x32, .f32⟩
  | 9 => ⟨S8x32, .f32⟩
  | 10 => ⟨S_, .f32⟩
  | 11 => ⟨S8x32, .f32⟩
  | 12 => ⟨S8x32, .f32⟩
  | 13 => ⟨S8x32, .f32⟩
  | 14 => ⟨S_, .f32⟩
  | 15 => ⟨S8x32, .f32⟩
  | 16 => ⟨S8x32, .f32⟩
  | 17 => ⟨S_, .f32⟩
  | 18 => ⟨S8x32, .f32⟩
  | 19 => ⟨S8x32, .i1⟩
  | 20 => ⟨S_, .f32⟩
  | 21 => ⟨S8x32, .f32⟩
  | 22 => ⟨S8x32, .i1⟩
  | 23 => ⟨S8x32, .f32⟩
  | 24 => ⟨S_, .f32⟩
  | 25 => ⟨S_, .f32⟩
  | 26 => ⟨S8x32, .f32⟩
  | 27 => ⟨S8x32, .f32⟩
  | 28 => ⟨S_, .f32⟩
  | 29 => ⟨S32, .f32⟩
  | 30 => ⟨S1x32, .f32⟩
  | 31 => ⟨S_, .f32⟩
  | 32 => ⟨S1x32, .f32⟩
  | 33 => ⟨S1x32, .i1⟩
  | 34 => ⟨S_, .i32⟩
  | 35 => ⟨S_, .f32⟩
  | 36 => ⟨S1x32, .f32⟩
  | 37 => ⟨S1x32, .f32⟩
  | 38 => ⟨S8x32, .f32⟩
  | 39 => ⟨S8x32, .f32⟩
  | 40 => ⟨S32x8x32x8, .f32⟩
  | 41 => ⟨S8x32x32x8, .f32⟩
  | 42 => ⟨S8x32x32x32, .f32⟩
  | 43 => ⟨S_, .f32⟩
  | 44 => ⟨S8x32x32x32, .f32⟩
  | 45 => ⟨S8x32x32x32, .f32⟩
  | 46 => ⟨S_, .i32⟩
  | 47 => ⟨S_, .f32⟩
  | 48 => ⟨S8x32x34x34, .f32⟩
  | 49 => ⟨S_, .f32⟩
  | 50 => ⟨S8x32x32x32, .f32⟩
  | 51 => ⟨S32x32x1x1, .f32⟩
  | 52 => ⟨S32x32, .f32⟩
  | 53 => ⟨S8x32x32x32, .f32⟩
  | 54 => ⟨S8x32x32x32, .f32⟩
  | 55 => ⟨S8x32x32x32, .f32⟩
  | 56 => ⟨S8x32x32x32, .f32⟩
  | 57 => ⟨S32x32x1x1, .f32⟩
  | 58 => ⟨S32x32, .f32⟩
  | 59 => ⟨S8x32x32x32, .f32⟩
  | 60 => ⟨S8x32x32x32, .f32⟩
  | 61 => ⟨S8x32x32x32, .f32⟩
  | 62 => ⟨S8x32x32x32, .f32⟩
  | 63 => ⟨S32x32x1x1, .f32⟩
  | 64 => ⟨S32x32, .f32⟩
  | 65 => ⟨S8x32x32x32, .f32⟩
  | 66 => ⟨S8x32x32x32, .f32⟩
  | 67 => ⟨S8x32x32x32, .f32⟩
  | 68 => ⟨S8x32x32x32, .f32⟩
  | 69 => ⟨S32x32x1x1, .f32⟩
  | 70 => ⟨S32x32, .f32⟩
  | 71 => ⟨S8x32x32x32, .f32⟩
  | 72 => ⟨S8x32x32x32, .f32⟩
  | 73 => ⟨S8x32x32x32, .f32⟩
  | 74 => ⟨S8x32x32x32, .f32⟩
  | 75 => ⟨S32x32x1x1, .f32⟩
  | 76 => ⟨S32x32, .f32⟩
  | 77 => ⟨S8x32x32x32, .f32⟩
  | 78 => ⟨S8x32x32x32, .f32⟩
  | 79 => ⟨S8x32x32x32, .f32⟩
  | 80 => ⟨S8x32x32x32, .f32⟩
  | 81 => ⟨S32x32x1x1, .f32⟩
  | 82 => ⟨S32x32, .f32⟩
  | 83 => ⟨S8x32x32x32, .f32⟩
  | 84 => ⟨S8x32x32x32, .f32⟩
  | 85 => ⟨S8x32x32x32, .f32⟩
  | 86 => ⟨S8x32x32x32, .f32⟩
  | 87 => ⟨S32x32x1x1, .f32⟩
  | 88 => ⟨S32x32, .f32⟩
  | 89 => ⟨S8x32x32x32, .f32⟩
  | 90 => ⟨S8x32x32x32, .f32⟩
  | 91 => ⟨S8x32x32x32, .f32⟩
  | 92 => ⟨S8x32x32x32, .f32⟩
  | 93 => ⟨S32x32x1x1, .f32⟩
  | 94 => ⟨S32x32, .f32⟩
  | 95 => ⟨S8x32x32x32, .f32⟩
  | 96 => ⟨S8x32x32x32, .f32⟩
  | 97 => ⟨S8x32x32x32, .f32⟩
  | 98 => ⟨S8x32x32x32, .f32⟩
  | 99 => ⟨S32x32x1x1, .f32⟩
  | 100 => ⟨S32x32, .f32⟩
  | 101 => ⟨S8x32x32x32, .f32⟩
  | 102 => ⟨S8x32x32x32, .f32⟩
  | 103 => ⟨S8x32x32x32, .f32⟩
  | 104 => ⟨S8x32x32x32, .f32⟩
  | 105 => ⟨S1x32x1x1, .f32⟩
  | 106 => ⟨S8x32x32x32, .f32⟩
  | 107 => ⟨S8x32x32x32, .f32⟩
  | 108 => ⟨S_, .f32⟩
  | 109 => ⟨S8x32x32x32, .f32⟩
  | 110 => ⟨S8x32x32x32, .f32⟩
  | 111 => ⟨S8x32x32x32, .f32⟩
  | 112 => ⟨S8x32x32x32, .f32⟩
  | 113 => ⟨S8x32x32x32, .f32⟩
  | 114 => ⟨S512x1, .i32⟩
  | 115 => ⟨S8x32x32x32, .f32⟩
  | 116 => ⟨S8x32x32x32, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S8x32x32x32, .f32⟩
  | 125 => ⟨S8x32x32x32, .f32⟩
  | 126 => ⟨S_, .f32⟩
  | 127 => ⟨S_, .f32⟩
  | _ => ⟨S8x32x32x32, .f32⟩

abbrev hbmTy0_7 (i : Nat) : BufTy := match i % 128 with
  | 0 => ⟨S_, .f32⟩
  | 1 => ⟨S_, .f32⟩
  | 2 => ⟨S_, .f32⟩
  | 3 => ⟨S8x32x16x2x16x2, .f32⟩
  | 4 => ⟨S_, .f32⟩
  | 5 => ⟨S8x32x16x16, .f32⟩
  | 6 => ⟨S_, .f32⟩
  | 7 => ⟨S8x32x16x16, .f32⟩
  | 8 => ⟨S8x32x16x16, .f32⟩
  | 9 => ⟨S8x16x16x32, .f32⟩
  | 10 => ⟨S2048x32, .f32⟩
  | 11 => ⟨S2048x32, .f32⟩
  | 12 => ⟨S_, .f32⟩
  | 13 => ⟨S2048, .f32⟩
  | 14 => ⟨S2048x1, .f32⟩
  | 15 => ⟨S8192x32, .f32⟩
  | 16 => ⟨S_, .f32⟩
  | 17 => ⟨S8192, .f32⟩
  | 18 => ⟨S1x8192, .f32⟩
  | 19 => ⟨S2048x8192, .f32⟩
  | 20 => ⟨S2048x8192, .f32⟩
  | 21 => ⟨S2048x8192, .f32⟩
  | 22 => ⟨S32x8192, .f32⟩
  | 23 => ⟨S2048x8192, .f32⟩
  | 24 => ⟨S_, .f32⟩
  | 25 => ⟨S2048x8192, .f32⟩
  | 26 => ⟨S2048x8192, .f32⟩
  | 27 => ⟨S2048x8192, .f32⟩
  | 28 => ⟨S_, .f32⟩
  | 29 => ⟨S_, .f32⟩
  | 30 => ⟨S2048x8192, .f32⟩
  | 31 => ⟨S2048x8192, .f32⟩
  | 32 => ⟨S2048x8192, .f32⟩
  | 33 => ⟨S_, .f32⟩
  | 34 => ⟨S2048, .f32⟩
  | 35 => ⟨S2048x1, .f32⟩
  | 36 => ⟨S2048x8192, .i32⟩
  | 37 => ⟨S2048x8192, .f32⟩
  | 38 => ⟨S2048x8192, .i1⟩
  | 39 => ⟨S_, .i32⟩
  | 40 => ⟨S2048x8192, .i32⟩
  | 41 => ⟨S2048x8192, .i32⟩
  | 42 => ⟨S_, .i32⟩
  | 43 => ⟨S2048, .i32⟩
  | 44 => ⟨S8x16x16, .i32⟩
  | 45 => ⟨S_, .i32⟩
  | 46 => ⟨S8x16x16, .i32⟩
  | 47 => ⟨S8x16x16, .i1⟩
  | 48 => ⟨S_, .i32⟩
  | 49 => ⟨S8x16x16, .i32⟩
  | 50 => ⟨S8x16x16, .i32⟩
  | 51 => ⟨S8x16x16, .i32⟩
  | 52 => ⟨S8x16x16x1, .i32⟩
  | 53 => ⟨S1, .i32⟩
  | 54 => ⟨S_, .i32⟩
  | 55 => ⟨S8x16x16x1, .i32⟩
  | 56 => ⟨S8x16x16x1, .i1⟩
  | 57 => ⟨S1x1x1x1, .i32⟩
  | 58 => ⟨S8x16x16x1, .i32⟩
  | 59 => ⟨S8x16x16x1, .i1⟩
  | 60 => ⟨S8x16x16x1, .i1⟩
  | 61 => ⟨S_, .i1⟩
  | 62 => ⟨S8x16x16, .i1⟩
  | 63 => ⟨S8x16x16x32, .f32⟩
  | 64 => ⟨S8x16x16x32, .i1⟩
  | 65 => ⟨S_, .f32⟩
  | 66 => ⟨S8x16x16x32, .f32⟩
  | 67 => ⟨S8x16x16x32, .f32⟩
  | 68 => ⟨S8x32x16x16, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S1x32, .f32⟩
  | 80 => ⟨S16, .f32⟩
  | 81 => ⟨S16x1, .f32⟩
  | 82 => ⟨S16x32, .f32⟩
  | 83 => ⟨S16x32, .f32⟩
  | 84 => ⟨S16x32, .f32⟩
  | 85 => ⟨S16x32, .f32⟩
  | 86 => ⟨S_, .f32⟩
  | 87 => ⟨S16x32, .f32⟩
  | 88 => ⟨S16x32, .f32⟩
  | 89 => ⟨S_, .f32⟩
  | 90 => ⟨S16x32, .f32⟩
  | 91 => ⟨S16x32, .f32⟩
  | 92 => ⟨S16x32, .f32⟩
  | 93 => ⟨S16x32, .f32⟩
  | 94 => ⟨S_, .f32⟩
  | 95 => ⟨S16x32, .f32⟩
  | 96 => ⟨S16x32, .f32⟩
  | 97 => ⟨S_, .f32⟩
  | 98 => ⟨S16x32, .f32⟩
  | 99 => ⟨S16x32, .f32⟩
  | 100 => ⟨S_, .f32⟩
  | 101 => ⟨S16x32, .f32⟩
  | 102 => ⟨S16x32, .f32⟩
  | 103 => ⟨S16x32, .f32⟩
  | 104 => ⟨S_, .f32⟩
  | 105 => ⟨S16x32, .f32⟩
  | 106 => ⟨S16x32, .f32⟩
  | 107 => ⟨S16x32, .f32⟩
  | 108 => ⟨S_, .f32⟩
  | 109 => ⟨S16x32, .f32⟩
  | 110 => ⟨S16x32, .f32⟩
  | 111 => ⟨S_, .f32⟩
  | 112 => ⟨S16x32, .f32⟩
  | 113 => ⟨S16x32, .i1⟩
  | 114 => ⟨S_, .f32⟩
  | 115 => ⟨S16x32, .f32⟩
  | 116 => ⟨S16x32, .i1⟩
  | 117 => ⟨S16x32, .f32⟩
  | 118 => ⟨S_, .f32⟩
  | 119 => ⟨S_, .f32⟩
  | 120 => ⟨S16x32, .f32⟩
  | 121 => ⟨S16x32, .f32⟩
  | 122 => ⟨S_, .f32⟩
  | 123 => ⟨S32, .f32⟩
  | 124 => ⟨S1x32, .f32⟩
  | 125 => ⟨S_, .f32⟩
  | 126 => ⟨S1x32, .f32⟩
  | 127 => ⟨S1x32, .i1⟩
  | _ => ⟨S8x32x32x32, .f32⟩

abbrev hbmTy0_8 (i : Nat) : BufTy := match i % 128 with
  | 0 => ⟨S_, .i32⟩
  | 1 => ⟨S_, .f32⟩
  | 2 => ⟨S1x32, .f32⟩
  | 3 => ⟨S1x32, .f32⟩
  | 4 => ⟨S16x32, .f32⟩
  | 5 => ⟨S16x32, .f32⟩
  | 6 => ⟨S32x8x32x16, .f32⟩
  | 7 => ⟨S8x32x32x16, .f32⟩
  | 8 => ⟨S8x32x32x32, .f32⟩
  | 9 => ⟨S_, .f32⟩
  | 10 => ⟨S8x32x32x32, .f32⟩
  | 11 => ⟨S8x32x32x32, .f32⟩
  | 12 => ⟨S_, .i32⟩
  | 13 => ⟨S_, .f32⟩
  | 14 => ⟨S8x32x34x34, .f32⟩
  | 15 => ⟨S_, .f32⟩
  | 16 => ⟨S8x32x32x32, .f32⟩
  | 17 => ⟨S32x32x1x1, .f32⟩
  | 18 => ⟨S32x32, .f32⟩
  | 19 => ⟨S8x32x32x32, .f32⟩
  | 20 => ⟨S8x32x32x32, .f32⟩
  | 21 => ⟨S8x32x32x32, .f32⟩
  | 22 => ⟨S8x32x32x32, .f32⟩
  | 23 => ⟨S32x32x1x1, .f32⟩
  | 24 => ⟨S32x32, .f32⟩
  | 25 => ⟨S8x32x32x32, .f32⟩
  | 26 => ⟨S8x32x32x32, .f32⟩
  | 27 => ⟨S8x32x32x32, .f32⟩
  | 28 => ⟨S8x32x32x32, .f32⟩
  | 29 => ⟨S32x32x1x1, .f32⟩
  | 30 => ⟨S32x32, .f32⟩
  | 31 => ⟨S8x32x32x32, .f32⟩
  | 32 => ⟨S8x32x32x32, .f32⟩
  | 33 => ⟨S8x32x32x32, .f32⟩
  | 34 => ⟨S8x32x32x32, .f32⟩
  | 35 => ⟨S32x32x1x1, .f32⟩
  | 36 => ⟨S32x32, .f32⟩
  | 37 => ⟨S8x32x32x32, .f32⟩
  | 38 => ⟨S8x32x32x32, .f32⟩
  | 39 => ⟨S8x32x32x32, .f32⟩
  | 40 => ⟨S8x32x32x32, .f32⟩
  | 41 => ⟨S32x32x1x1, .f32⟩
  | 42 => ⟨S32x32, .f32⟩
  | 43 => ⟨S8x32x32x32, .f32⟩
  | 44 => ⟨S8x32x32x32, .f32⟩
  | 45 => ⟨S8x32x32x32, .f32⟩
  | 46 => ⟨S8x32x32x32, .f32⟩
  | 47 => ⟨S32x32x1x1, .f32⟩
  | 48 => ⟨S32x32, .f32⟩
  | 49 => ⟨S8x32x32x32, .f32⟩
  | 50 => ⟨S8x32x32x32, .f32⟩
  | 51 => ⟨S8x32x32x32, .f32⟩
  | 52 => ⟨S8x32x32x32, .f32⟩
  | 53 => ⟨S32x32x1x1, .f32⟩
  | 54 => ⟨S32x32, .f32⟩
  | 55 => ⟨S8x32x32x32, .f32⟩
  | 56 => ⟨S8x32x32x32, .f32⟩
  | 57 => ⟨S8x32x32x32, .f32⟩
  | 58 => ⟨S8x32x32x32, .f32⟩
  | 59 => ⟨S32x32x1x1, .f32⟩
  | 60 => ⟨S32x32, .f32⟩
  | 61 => ⟨S8x32x32x32, .f32⟩
  | 62 => ⟨S8x32x32x32, .f32⟩
  | 63 => ⟨S8x32x32x32, .f32⟩
  | 64 => ⟨S8x32x32x32, .f32⟩
  | 65 => ⟨S32x32x1x1, .f32⟩
  | 66 => ⟨S32x32, .f32⟩
  | 67 => ⟨S8x32x32x32, .f32⟩
  | 68 => ⟨S8x32x32x32, .f32⟩
  | 69 => ⟨S8x32x32x32, .f32⟩
  | 70 => ⟨S8x32x32x32, .f32⟩
  | 71 => ⟨S1x32x1x1, .f32⟩
  | 72 => ⟨S8x32x32x32, .f32⟩
  | 73 => ⟨S8x32x32x32, .f32⟩
  | 74 => ⟨S_, .f32⟩
  | 75 => ⟨S8x32x32x32, .f32⟩
  | 76 => ⟨S8x32x32x32, .f32⟩
  | 77 => ⟨S8x32x32x32, .f32⟩
  | 78 => ⟨S8x32x32x32, .f32⟩
  | 79 => ⟨S8x32x32x32, .f32⟩
  | 80 => ⟨S2048x1, .i32⟩
  | 81 => ⟨S8x32x32x32, .f32⟩
  | 82 => ⟨S8x32x32x32, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S8x32x32x32, .f32⟩
  | 91 => ⟨S8x32x32x32, .f32⟩
  | 92 => ⟨S_, .f32⟩
  | 93 => ⟨S_, .f32⟩
  | 94 => ⟨S_, .f32⟩
  | 95 => ⟨S_, .f32⟩
  | 96 => ⟨S_, .f32⟩
  | 97 => ⟨S8x32x32x32, .f32⟩
  | 98 => ⟨S8192x32, .f32⟩
  | 99 => ⟨S8192x32, .f32⟩
  | 100 => ⟨S_, .f32⟩
  | 101 => ⟨S8192, .f32⟩
  | 102 => ⟨S8192x1, .f32⟩
  | 103 => ⟨S8192x32, .f32⟩
  | 104 => ⟨S_, .f32⟩
  | 105 => ⟨S8192, .f32⟩
  | 106 => ⟨S1x8192, .f32⟩
  | 107 => ⟨S8192x8192, .f32⟩
  | 108 => ⟨S8192x8192, .f32⟩
  | 109 => ⟨S8192x8192, .f32⟩
  | 110 => ⟨S32x8192, .f32⟩
  | 111 => ⟨S8192x8192, .f32⟩
  | 112 => ⟨S_, .f32⟩
  | 113 => ⟨S8192x8192, .f32⟩
  | 114 => ⟨S8192x8192, .f32⟩
  | 115 => ⟨S8192x8192, .f32⟩
  | 116 => ⟨S_, .f32⟩
  | 117 => ⟨S_, .f32⟩
  | 118 => ⟨S8192x8192, .f32⟩
  | 119 => ⟨S8192x8192, .f32⟩
  | 120 => ⟨S8192x8192, .f32⟩
  | 121 => ⟨S_, .f32⟩
  | 122 => ⟨S8192, .f32⟩
  | 123 => ⟨S8192x1, .f32⟩
  | 124 => ⟨S8192x8192, .i32⟩
  | 125 => ⟨S8192x8192, .f32⟩
  | 126 => ⟨S8192x8192, .i1⟩
  | 127 => ⟨S_, .i32⟩
  | _ => ⟨S8x32x32x32, .f32⟩

abbrev hbmTy0_9 (i : Nat) : BufTy := match i % 128 with
  | 0 => ⟨S8192x8192, .i32⟩
  | 1 => ⟨S8192x8192, .i32⟩
  | 2 => ⟨S_, .i32⟩
  | 3 => ⟨S8192, .i32⟩
  | 4 => ⟨S8x32x32, .i32⟩
  | 5 => ⟨S_, .i32⟩
  | 6 => ⟨S8x32x32, .i32⟩
  | 7 => ⟨S8x32x32, .i1⟩
  | 8 => ⟨S_, .i32⟩
  | 9 => ⟨S8x32x32, .i32⟩
  | 10 => ⟨S8x32x32, .i32⟩
  | 11 => ⟨S8x32x32, .i32⟩
  | 12 => ⟨S8x32x32x1, .i32⟩
  | 13 => ⟨S1, .i32⟩
  | 14 => ⟨S_, .i32⟩
  | 15 => ⟨S8x32x32x1, .i32⟩
  | 16 => ⟨S8x32x32x1, .i1⟩
  | 17 => ⟨S1x1x1x1, .i32⟩
  | 18 => ⟨S8x32x32x1, .i32⟩
  | 19 => ⟨S8x32x32x1, .i1⟩
  | 20 => ⟨S8x32x32x1, .i1⟩
  | 21 => ⟨S_, .i1⟩
  | 22 => ⟨S8x32x32, .i1⟩
  | 23 => ⟨S8x32x32x32, .f32⟩
  | 24 => ⟨S8x32x32x32, .i1⟩
  | 25 => ⟨S_, .f32⟩
  | 26 => ⟨S8x32x32x32, .f32⟩
  | 27 => ⟨S8x32x32x32, .f32⟩
  | 28 => ⟨S8x32x32x32, .f32⟩
  | 29 => ⟨S_, .f32⟩
  | 30 => ⟨S8x32x32x32, .f32⟩
  | 31 => ⟨S8x32x32x32, .f32⟩
  | 32 => ⟨S_, .i32⟩
  | 33 => ⟨S_, .f32⟩
  | 34 => ⟨S8x32x34x34, .f32⟩
  | 35 => ⟨S_, .f32⟩
  | 36 => ⟨S8x32x32x32, .f32⟩
  | 37 => ⟨S32x32x1x1, .f32⟩
  | 38 => ⟨S32x32, .f32⟩
  | 39 => ⟨S8x32x32x32, .f32⟩
  | 40 => ⟨S8x32x32x32, .f32⟩
  | 41 => ⟨S8x32x32x32, .f32⟩
  | 42 => ⟨S8x32x32x32, .f32⟩
  | 43 => ⟨S32x32x1x1, .f32⟩
  | 44 => ⟨S32x32, .f32⟩
  | 45 => ⟨S8x32x32x32, .f32⟩
  | 46 => ⟨S8x32x32x32, .f32⟩
  | 47 => ⟨S8x32x32x32, .f32⟩
  | 48 => ⟨S8x32x32x32, .f32⟩
  | 49 => ⟨S32x32x1x1, .f32⟩
  | 50 => ⟨S32x32, .f32⟩
  | 51 => ⟨S8x32x32x32, .f32⟩
  | 52 => ⟨S8x32x32x32, .f32⟩
  | 53 => ⟨S8x32x32x32, .f32⟩
  | 54 => ⟨S8x32x32x32, .f32⟩
  | 55 => ⟨S32x32x1x1, .f32⟩
  | 56 => ⟨S32x32, .f32⟩
  | 57 => ⟨S8x32x32x32, .f32⟩
  | 58 => ⟨S8x32x32x32, .f32⟩
  | 59 => ⟨S8x32x32x32, .f32⟩
  | 60 => ⟨S8x32x32x32, .f32⟩
  | 61 => ⟨S32x32x1x1, .f32⟩
  | 62 => ⟨S32x32, .f32⟩
  | 63 => ⟨S8x32x32x32, .f32⟩
  | 64 => ⟨S8x32x32x32, .f32⟩
  | 65 => ⟨S8x32x32x32, .f32⟩
  | 66 => ⟨S8x32x32x32, .f32⟩
  | 67 => ⟨S32x32x1x1, .f32⟩
  | 68 => ⟨S32x32, .f32⟩
  | 69 => ⟨S8x32x32x32, .f32⟩
  | 70 => ⟨S8x32x32x32, .f32⟩
  | 71 => ⟨S8x32x32x32, .f32⟩
  | 72 => ⟨S8x32x32x32, .f32⟩
  | 73 => ⟨S32x32x1x1, .f32⟩
  | 74 => ⟨S32x32, .f32⟩
  | 75 => ⟨S8x32x32x32, .f32⟩
  | 76 => ⟨S8x32x32x32, .f32⟩
  | 77 => ⟨S8x32x32x32, .f32⟩
  | 78 => ⟨S8x32x32x32, .f32⟩
  | 79 => ⟨S32x32x1x1, .f32⟩
  | 80 => ⟨S32x32, .f32⟩
  | 81 => ⟨S8x32x32x32, .f32⟩
  | 82 => ⟨S8x32x32x32, .f32⟩
  | 83 => ⟨S8x32x32x32, .f32⟩
  | 84 => ⟨S8x32x32x32, .f32⟩
  | 85 => ⟨S32x32x1x1, .f32⟩
  | 86 => ⟨S32x32, .f32⟩
  | 87 => ⟨S8x32x32x32, .f32⟩
  | 88 => ⟨S8x32x32x32, .f32⟩
  | 89 => ⟨S8x32x32x32, .f32⟩
  | 90 => ⟨S8x32x32x32, .f32⟩
  | 91 => ⟨S1x32x1x1, .f32⟩
  | 92 => ⟨S8x32x32x32, .f32⟩
  | 93 => ⟨S8x32x32x32, .f32⟩
  | 94 => ⟨S_, .f32⟩
  | 95 => ⟨S8x32x32x32, .f32⟩
  | 96 => ⟨S8x32x32x32, .f32⟩
  | 97 => ⟨S8x32x32x32, .f32⟩
  | 98 => ⟨S8x32x32x32, .f32⟩
  | 99 => ⟨S8x32x32x32, .f32⟩
  | 100 => ⟨S8192x1, .i32⟩
  | 101 => ⟨S8x32x32x32, .f32⟩
  | 102 => ⟨S8x32x32x32, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S8x32x32x32, .f32⟩
  | 111 => ⟨S8x32x32x32, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S8x32x32x32, .f32⟩
  | 120 => ⟨S8x32x32x32, .f32⟩
  | 121 => ⟨S32x8x32x32, .f32⟩
  | 122 => ⟨S32x8192, .f32⟩
  | 123 => ⟨S1x1, .f32⟩
  | _ => ⟨S8x32x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S8x32x32x32, .f32⟩

abbrev bufTy : (tb : Table) → Fin (tcTables nBuf tb) → BufTy
  | .hbm, ⟨i, _⟩ => hbmTy i
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v21 : Ref sig .tc := ⟨.hbm, 40, rfl⟩
abbrev main_v22 : Ref sig .tc := ⟨.hbm, 41, rfl⟩
abbrev main_cst_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c : Ref sig .tc := ⟨.hbm, 48, rfl⟩
abbrev main_call1_v0 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_8 : Ref sig .tc := ⟨.hbm, 79, rfl⟩
abbrev main_v34 : Ref sig .tc := ⟨.hbm, 80, rfl⟩
abbrev main_v35 : Ref sig .tc := ⟨.hbm, 81, rfl⟩
abbrev main_cst_9 : Ref sig .tc := ⟨.hbm, 82, rfl⟩
abbrev main_v36 : Ref sig .tc := ⟨.hbm, 83, rfl⟩
abbrev main_v37 : Ref sig .tc := ⟨.hbm, 84, rfl⟩
abbrev main_cst_10 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_cst_11 : Ref sig .tc := ⟨.hbm, 94, rfl⟩
abbrev main_v46 : Ref sig .tc := ⟨.hbm, 95, rfl⟩
abbrev main_v47 : Ref sig .tc := ⟨.hbm, 96, rfl⟩
abbrev main_cst_12 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_cst_13 : Ref sig .tc := ⟨.hbm, 102, rfl⟩
abbrev main_v52 : Ref sig .tc := ⟨.hbm, 103, rfl⟩
abbrev main_v53 : Ref sig .tc := ⟨.hbm, 104, rfl⟩
abbrev main_cst_14 : Ref sig .tc := ⟨.hbm, 105, rfl⟩
abbrev main_v54 : Ref sig .tc := ⟨.hbm, 106, rfl⟩
abbrev main_v55 : Ref sig .tc := ⟨.hbm, 107, rfl⟩
abbrev main_cst_15 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_cst_16 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_cst_17 : Ref sig .tc := ⟨.hbm, 116, rfl⟩
abbrev main_v62 : Ref sig .tc := ⟨.hbm, 117, rfl⟩
abbrev main_v63 : Ref sig .tc := ⟨.hbm, 118, rfl⟩
abbrev main_cst_18 : Ref sig .tc := ⟨.hbm, 119, rfl⟩
abbrev main_v64 : Ref sig .tc := ⟨.hbm, 120, rfl⟩
abbrev main_v65 : Ref sig .tc := ⟨.hbm, 121, rfl⟩
abbrev main_cst_19 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_cst_20 : Ref sig .tc := ⟨.hbm, 126, rfl⟩
abbrev main_call4_v0 : Ref sig .tc := ⟨.hbm, 127, rfl⟩
abbrev main_call4_v1 : Ref sig .tc := ⟨.hbm, 128, rfl⟩
abbrev main_v69 : Ref sig .tc := ⟨.hbm, 129, rfl⟩
abbrev main_cst_21 : Ref sig .tc := ⟨.hbm, 130, rfl⟩
abbrev main_v70 : Ref sig .tc := ⟨.hbm, 131, rfl⟩
abbrev main_v71 : Ref sig .tc := ⟨.hbm, 132, rfl⟩
abbrev main_cst_22 : Ref sig .tc := ⟨.hbm, 133, rfl⟩
abbrev main_v72 : Ref sig .tc := ⟨.hbm, 134, rfl⟩
abbrev main_v73 : Ref sig .tc := ⟨.hbm, 135, rfl⟩
abbrev main_c_23 : Ref sig .tc := ⟨.hbm, 136, rfl⟩
abbrev main_call5_v0 : Ref sig .tc := ⟨.hbm, 137, rfl⟩
abbrev main_call5_v1 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_cst_24 : Ref sig .tc := ⟨.hbm, 144, rfl⟩
abbrev main_v79 : Ref sig .tc := ⟨.hbm, 145, rfl⟩
abbrev main_v80 : Ref sig .tc := ⟨.hbm, 146, rfl⟩
abbrev main_c_25 : Ref sig .tc := ⟨.hbm, 147, rfl⟩
abbrev main_call6_v0 : Ref sig .tc := ⟨.hbm, 148, rfl⟩
abbrev main_v81 : Ref sig .tc := ⟨.hbm, 149, rfl⟩
abbrev main_cst_26 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_cst_27 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_cst_28 : Ref sig .tc := ⟨.hbm, 218, rfl⟩
abbrev main_v148 : Ref sig .tc := ⟨.hbm, 219, rfl⟩
abbrev main_cst_29 : Ref sig .tc := ⟨.hbm, 220, rfl⟩
abbrev main_v149 : Ref sig .tc := ⟨.hbm, 221, rfl⟩
abbrev main_cst_30 : Ref sig .tc := ⟨.hbm, 222, rfl⟩
abbrev main_v150 : Ref sig .tc := ⟨.hbm, 223, rfl⟩
abbrev main_cst_31 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_cst_32 : Ref sig .tc := ⟨.hbm, 228, rfl⟩
abbrev main_v154 : Ref sig .tc := ⟨.hbm, 229, rfl⟩
abbrev main_cst_33 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_cst_34 : Ref sig .tc := ⟨.hbm, 234, rfl⟩
abbrev main_v158 : Ref sig .tc := ⟨.hbm, 235, rfl⟩
abbrev main_cst_35 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_cst_36 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_cst_37 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_cst_38 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_cst_39 : Ref sig .tc := ⟨.hbm, 258, rfl⟩
abbrev main_call7_v0 : Ref sig .tc := ⟨.hbm, 259, rfl⟩
abbrev main_call7_v1 : Ref sig .tc := ⟨.hbm, 260, rfl⟩
abbrev main_v177 : Ref sig .tc := ⟨.hbm, 261, rfl⟩
abbrev main_v178 : Ref sig .tc := ⟨.hbm, 262, rfl⟩
abbrev main_cst_40 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_c_41 : Ref sig .tc := ⟨.hbm, 269, rfl⟩
abbrev main_call8_v0 : Ref sig .tc := ⟨.hbm, 270, rfl⟩
abbrev main_v184 : Ref sig .tc := ⟨.hbm, 271, rfl⟩
abbrev main_c_42 : Ref sig .tc := ⟨.hbm, 272, rfl⟩
abbrev main_v185 : Ref sig .tc := ⟨.hbm, 273, rfl⟩
abbrev main_v186 : Ref sig .tc := ⟨.hbm, 274, rfl⟩
abbrev main_call9_c : Ref sig .tc := ⟨.hbm, 275, rfl⟩
abbrev main_call9_v0 : Ref sig .tc := ⟨.hbm, 276, rfl⟩
abbrev main_call9_v1 : Ref sig .tc := ⟨.hbm, 277, rfl⟩
abbrev main_call9_c_0 : Ref sig .tc := ⟨.hbm, 278, rfl⟩
abbrev main_call9_v2 : Ref sig .tc := ⟨.hbm, 279, rfl⟩
abbrev main_call9_v3 : Ref sig .tc := ⟨.hbm, 280, rfl⟩
abbrev main_call9_v4 : Ref sig .tc := ⟨.hbm, 281, rfl⟩
abbrev main_call9_v5 : Ref sig .tc := ⟨.hbm, 282, rfl⟩
abbrev main_call9_c_1 : Ref sig .tc := ⟨.hbm, 283, rfl⟩
abbrev main_call9_c_2 : Ref sig .tc := ⟨.hbm, 284, rfl⟩
abbrev main_call9_v6 : Ref sig .tc := ⟨.hbm, 285, rfl⟩
abbrev main_call9_v7 : Ref sig .tc := ⟨.hbm, 286, rfl⟩
abbrev main_call9_v8 : Ref sig .tc := ⟨.hbm, 287, rfl⟩
abbrev main_call9_v9 : Ref sig .tc := ⟨.hbm, 288, rfl⟩
abbrev main_call9_v10 : Ref sig .tc := ⟨.hbm, 289, rfl⟩
abbrev main_call9_v11 : Ref sig .tc := ⟨.hbm, 290, rfl⟩
abbrev main_call9_c_3 : Ref sig .tc := ⟨.hbm, 291, rfl⟩
abbrev main_call9_v12 : Ref sig .tc := ⟨.hbm, 292, rfl⟩
abbrev main_call9_v13 : Ref sig .tc := ⟨.hbm, 293, rfl⟩
abbrev main_call9_v14 : Ref sig .tc := ⟨.hbm, 294, rfl⟩
abbrev main_call9_cst : Ref sig .tc := ⟨.hbm, 295, rfl⟩
abbrev main_call9_v15 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_cst_43 : Ref sig .tc := ⟨.hbm, 300, rfl⟩
abbrev main_v190 : Ref sig .tc := ⟨.hbm, 301, rfl⟩
abbrev main_v191 : Ref sig .tc := ⟨.hbm, 302, rfl⟩
abbrev main_cst_44 : Ref sig .tc := ⟨.hbm, 303, rfl⟩
abbrev main_v192 : Ref sig .tc := ⟨.hbm, 304, rfl⟩
abbrev main_v193 : Ref sig .tc := ⟨.hbm, 305, rfl⟩
abbrev main_cst_45 : Ref sig .tc := ⟨.hbm, 306, rfl⟩
abbrev main_v194 : Ref sig .tc := ⟨.hbm, 307, rfl⟩
abbrev main_v195 : Ref sig .tc := ⟨.hbm, 308, rfl⟩
abbrev main_v196 : Ref sig .tc := ⟨.hbm, 309, rfl⟩
abbrev main_v197 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩
abbrev main_v202 : Ref sig .tc := ⟨.hbm, 315, rfl⟩
abbrev main_cst_46 : Ref sig .tc := ⟨.hbm, 316, rfl⟩
abbrev main_v203 : Ref sig .tc := ⟨.hbm, 317, rfl⟩
abbrev main_v204 : Ref sig .tc := ⟨.hbm, 318, rfl⟩
abbrev main_cst_47 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_cst_48 : Ref sig .tc := ⟨.hbm, 324, rfl⟩
abbrev main_v209 : Ref sig .tc := ⟨.hbm, 325, rfl⟩
abbrev main_v210 : Ref sig .tc := ⟨.hbm, 326, rfl⟩
abbrev main_cst_49 : Ref sig .tc := ⟨.hbm, 327, rfl⟩
abbrev main_v211 : Ref sig .tc := ⟨.hbm, 328, rfl⟩
abbrev main_v212 : Ref sig .tc := ⟨.hbm, 329, rfl⟩
abbrev main_cst_50 : Ref sig .tc := ⟨.hbm, 330, rfl⟩
abbrev main_v213 : Ref sig .tc := ⟨.hbm, 331, rfl⟩
abbrev main_v214 : Ref sig .tc := ⟨.hbm, 332, rfl⟩
abbrev main_v215 : Ref sig .tc := ⟨.hbm, 333, rfl⟩
abbrev main_cst_51 : Ref sig .tc := ⟨.hbm, 334, rfl⟩
abbrev main_v216 : Ref sig .tc := ⟨.hbm, 335, rfl⟩
abbrev main_v217 : Ref sig .tc := ⟨.hbm, 336, rfl⟩
abbrev main_v218 : Ref sig .tc := ⟨.hbm, 337, rfl⟩
abbrev main_cst_52 : Ref sig .tc := ⟨.hbm, 338, rfl⟩
abbrev main_v219 : Ref sig .tc := ⟨.hbm, 339, rfl⟩
abbrev main_v220 : Ref sig .tc := ⟨.hbm, 340, rfl⟩
abbrev main_cst_53 : Ref sig .tc := ⟨.hbm, 341, rfl⟩
abbrev main_v221 : Ref sig .tc := ⟨.hbm, 342, rfl⟩
abbrev main_v222 : Ref sig .tc := ⟨.hbm, 343, rfl⟩
abbrev main_cst_54 : Ref sig .tc := ⟨.hbm, 344, rfl⟩
abbrev main_v223 : Ref sig .tc := ⟨.hbm, 345, rfl⟩
abbrev main_v224 : Ref sig .tc := ⟨.hbm, 346, rfl⟩
abbrev main_v225 : Ref sig .tc := ⟨.hbm, 347, rfl⟩
abbrev main_cst_55 : Ref sig .tc := ⟨.hbm, 348, rfl⟩
abbrev main_call11_v0 : Ref sig .tc := ⟨.hbm, 349, rfl⟩
abbrev main_call11_v1 : Ref sig .tc := ⟨.hbm, 350, rfl⟩
abbrev main_v226 : Ref sig .tc := ⟨.hbm, 351, rfl⟩
abbrev main_cst_56 : Ref sig .tc := ⟨.hbm, 352, rfl⟩
abbrev main_v227 : Ref sig .tc := ⟨.hbm, 353, rfl⟩
abbrev main_v228 : Ref sig .tc := ⟨.hbm, 354, rfl⟩
abbrev main_cst_57 : Ref sig .tc := ⟨.hbm, 355, rfl⟩
abbrev main_v229 : Ref sig .tc := ⟨.hbm, 356, rfl⟩
abbrev main_v230 : Ref sig .tc := ⟨.hbm, 357, rfl⟩
abbrev main_c_58 : Ref sig .tc := ⟨.hbm, 358, rfl⟩
abbrev main_call12_v0 : Ref sig .tc := ⟨.hbm, 359, rfl⟩
abbrev main_call12_v1 : Ref sig .tc := ⟨.hbm, 360, rfl⟩
abbrev main_v231 : Ref sig .tc := ⟨.hbm, 361, rfl⟩
abbrev main_v232 : Ref sig .tc := ⟨.hbm, 362, rfl⟩
abbrev main_v233 : Ref sig .tc := ⟨.hbm, 363, rfl⟩
abbrev main_v234 : Ref sig .tc := ⟨.hbm, 364, rfl⟩
abbrev main_v235 : Ref sig .tc := ⟨.hbm, 365, rfl⟩
abbrev main_v236 : Ref sig .tc := ⟨.hbm, 366, rfl⟩
abbrev main_cst_59 : Ref sig .tc := ⟨.hbm, 367, rfl⟩
abbrev main_v237 : Ref sig .tc := ⟨.hbm, 368, rfl⟩
abbrev main_v238 : Ref sig .tc := ⟨.hbm, 369, rfl⟩
abbrev main_c_60 : Ref sig .tc := ⟨.hbm, 370, rfl⟩
abbrev main_call13_v0 : Ref sig .tc := ⟨.hbm, 371, rfl⟩
abbrev main_v239 : Ref sig .tc := ⟨.hbm, 372, rfl⟩
abbrev main_cst_61 : Ref sig .tc := ⟨.hbm, 373, rfl⟩
abbrev main_v240 : Ref sig .tc := ⟨.hbm, 374, rfl⟩
abbrev main_v241 : Ref sig .tc := ⟨.hbm, 375, rfl⟩
abbrev main_v242 : Ref sig .tc := ⟨.hbm, 376, rfl⟩
abbrev main_v243 : Ref sig .tc := ⟨.hbm, 377, rfl⟩
abbrev main_v244 : Ref sig .tc := ⟨.hbm, 378, rfl⟩
abbrev main_v245 : Ref sig .tc := ⟨.hbm, 379, rfl⟩
abbrev main_v246 : Ref sig .tc := ⟨.hbm, 380, rfl⟩
abbrev main_v247 : Ref sig .tc := ⟨.hbm, 381, rfl⟩
abbrev main_v248 : Ref sig .tc := ⟨.hbm, 382, rfl⟩
abbrev main_v249 : Ref sig .tc := ⟨.hbm, 383, rfl⟩
abbrev main_v250 : Ref sig .tc := ⟨.hbm, 384, rfl⟩
abbrev main_v251 : Ref sig .tc := ⟨.hbm, 385, rfl⟩
abbrev main_v252 : Ref sig .tc := ⟨.hbm, 386, rfl⟩
abbrev main_v253 : Ref sig .tc := ⟨.hbm, 387, rfl⟩
abbrev main_v254 : Ref sig .tc := ⟨.hbm, 388, rfl⟩
abbrev main_v255 : Ref sig .tc := ⟨.hbm, 389, rfl⟩
abbrev main_v256 : Ref sig .tc := ⟨.hbm, 390, rfl⟩
abbrev main_v257 : Ref sig .tc := ⟨.hbm, 391, rfl⟩
abbrev main_v258 : Ref sig .tc := ⟨.hbm, 392, rfl⟩
abbrev main_v259 : Ref sig .tc := ⟨.hbm, 393, rfl⟩
abbrev main_v260 : Ref sig .tc := ⟨.hbm, 394, rfl⟩
abbrev main_v261 : Ref sig .tc := ⟨.hbm, 395, rfl⟩
abbrev main_v262 : Ref sig .tc := ⟨.hbm, 396, rfl⟩
abbrev main_v263 : Ref sig .tc := ⟨.hbm, 397, rfl⟩
abbrev main_v264 : Ref sig .tc := ⟨.hbm, 398, rfl⟩
abbrev main_v265 : Ref sig .tc := ⟨.hbm, 399, rfl⟩
abbrev main_v266 : Ref sig .tc := ⟨.hbm, 400, rfl⟩
abbrev main_v267 : Ref sig .tc := ⟨.hbm, 401, rfl⟩
abbrev main_v268 : Ref sig .tc := ⟨.hbm, 402, rfl⟩
abbrev main_v269 : Ref sig .tc := ⟨.hbm, 403, rfl⟩
abbrev main_v270 : Ref sig .tc := ⟨.hbm, 404, rfl⟩
abbrev main_v271 : Ref sig .tc := ⟨.hbm, 405, rfl⟩
abbrev main_v272 : Ref sig .tc := ⟨.hbm, 406, rfl⟩
abbrev main_v273 : Ref sig .tc := ⟨.hbm, 407, rfl⟩
abbrev main_v274 : Ref sig .tc := ⟨.hbm, 408, rfl⟩
abbrev main_v275 : Ref sig .tc := ⟨.hbm, 409, rfl⟩
abbrev main_v276 : Ref sig .tc := ⟨.hbm, 410, rfl⟩
abbrev main_v277 : Ref sig .tc := ⟨.hbm, 411, rfl⟩
abbrev main_v278 : Ref sig .tc := ⟨.hbm, 412, rfl⟩
abbrev main_v279 : Ref sig .tc := ⟨.hbm, 413, rfl⟩
abbrev main_v280 : Ref sig .tc := ⟨.hbm, 414, rfl⟩
abbrev main_v281 : Ref sig .tc := ⟨.hbm, 415, rfl⟩
abbrev main_v282 : Ref sig .tc := ⟨.hbm, 416, rfl⟩
abbrev main_v283 : Ref sig .tc := ⟨.hbm, 417, rfl⟩
abbrev main_v284 : Ref sig .tc := ⟨.hbm, 418, rfl⟩
abbrev main_v285 : Ref sig .tc := ⟨.hbm, 419, rfl⟩
abbrev main_v286 : Ref sig .tc := ⟨.hbm, 420, rfl⟩
abbrev main_v287 : Ref sig .tc := ⟨.hbm, 421, rfl⟩
abbrev main_v288 : Ref sig .tc := ⟨.hbm, 422, rfl⟩
abbrev main_v289 : Ref sig .tc := ⟨.hbm, 423, rfl⟩
abbrev main_v290 : Ref sig .tc := ⟨.hbm, 424, rfl⟩
abbrev main_v291 : Ref sig .tc := ⟨.hbm, 425, rfl⟩
abbrev main_v292 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_v296 : Ref sig .tc := ⟨.hbm, 430, rfl⟩
abbrev main_v297 : Ref sig .tc := ⟨.hbm, 431, rfl⟩
abbrev main_cst_62 : Ref sig .tc := ⟨.hbm, 432, rfl⟩
abbrev main_v298 : Ref sig .tc := ⟨.hbm, 433, rfl⟩
abbrev main_v299 : Ref sig .tc := ⟨.hbm, 434, rfl⟩
abbrev main_v300 : Ref sig .tc := ⟨.hbm, 435, rfl⟩
abbrev main_v301 : Ref sig .tc := ⟨.hbm, 436, rfl⟩
abbrev main_v302 : Ref sig .tc := ⟨.hbm, 437, rfl⟩
abbrev main_v303 : Ref sig .tc := ⟨.hbm, 438, rfl⟩
abbrev main_v304 : Ref sig .tc := ⟨.hbm, 439, rfl⟩
abbrev main_v305 : Ref sig .tc := ⟨.hbm, 440, rfl⟩
abbrev main_cst_63 : Ref sig .tc := ⟨.hbm, 441, rfl⟩
abbrev main_v306 : Ref sig .tc := ⟨.hbm, 442, rfl⟩
abbrev main_cst_64 : Ref sig .tc := ⟨.hbm, 443, rfl⟩
abbrev main_v307 : Ref sig .tc := ⟨.hbm, 444, rfl⟩
abbrev main_cst_65 : Ref sig .tc := ⟨.hbm, 445, rfl⟩
abbrev main_v308 : Ref sig .tc := ⟨.hbm, 446, rfl⟩
abbrev main_v309 : Ref sig .tc := ⟨.hbm, 447, rfl⟩
abbrev main_v310 : Ref sig .tc := ⟨.hbm, 448, rfl⟩
abbrev main_v311 : Ref sig .tc := ⟨.hbm, 449, rfl⟩
abbrev main_cst_66 : Ref sig .tc := ⟨.hbm, 450, rfl⟩
abbrev main_v312 : Ref sig .tc := ⟨.hbm, 451, rfl⟩
abbrev main_cst_67 : Ref sig .tc := ⟨.hbm, 452, rfl⟩
abbrev main_v313 : Ref sig .tc := ⟨.hbm, 453, rfl⟩
abbrev main_v314 : Ref sig .tc := ⟨.hbm, 454, rfl⟩
abbrev main_v315 : Ref sig .tc := ⟨.hbm, 455, rfl⟩
abbrev main_cst_68 : Ref sig .tc := ⟨.hbm, 456, rfl⟩
abbrev main_v316 : Ref sig .tc := ⟨.hbm, 457, rfl⟩
abbrev main_cst_69 : Ref sig .tc := ⟨.hbm, 458, rfl⟩
abbrev main_v317 : Ref sig .tc := ⟨.hbm, 459, rfl⟩
abbrev main_v318 : Ref sig .tc := ⟨.hbm, 460, rfl⟩
abbrev main_v319 : Ref sig .tc := ⟨.hbm, 461, rfl⟩
abbrev main_v320 : Ref sig .tc := ⟨.hbm, 462, rfl⟩
abbrev main_v321 : Ref sig .tc := ⟨.hbm, 463, rfl⟩
abbrev main_cst_70 : Ref sig .tc := ⟨.hbm, 464, rfl⟩
abbrev main_v322 : Ref sig .tc := ⟨.hbm, 465, rfl⟩
abbrev main_v323 : Ref sig .tc := ⟨.hbm, 466, rfl⟩
abbrev main_v324 : Ref sig .tc := ⟨.hbm, 467, rfl⟩
abbrev main_cst_71 : Ref sig .tc := ⟨.hbm, 468, rfl⟩
abbrev main_v325 : Ref sig .tc := ⟨.hbm, 469, rfl⟩
abbrev main_v326 : Ref sig .tc := ⟨.hbm, 470, rfl⟩
abbrev main_v327 : Ref sig .tc := ⟨.hbm, 471, rfl⟩
abbrev main_v328 : Ref sig .tc := ⟨.hbm, 472, rfl⟩
abbrev main_v329 : Ref sig .tc := ⟨.hbm, 473, rfl⟩
abbrev main_v330 : Ref sig .tc := ⟨.hbm, 474, rfl⟩
abbrev main_v331 : Ref sig .tc := ⟨.hbm, 475, rfl⟩
abbrev main_cst_72 : Ref sig .tc := ⟨.hbm, 476, rfl⟩
abbrev main_v332 : Ref sig .tc := ⟨.hbm, 477, rfl⟩
abbrev main_v333 : Ref sig .tc := ⟨.hbm, 478, rfl⟩
abbrev main_v334 : Ref sig .tc := ⟨.hbm, 479, rfl⟩
abbrev main_cst_73 : Ref sig .tc := ⟨.hbm, 480, rfl⟩
abbrev main_call14_v0 : Ref sig .tc := ⟨.hbm, 481, rfl⟩
abbrev main_call14_v1 : Ref sig .tc := ⟨.hbm, 482, rfl⟩
abbrev main_v335 : Ref sig .tc := ⟨.hbm, 483, rfl⟩
abbrev main_v336 : Ref sig .tc := ⟨.hbm, 484, rfl⟩
abbrev main_cst_74 : Ref sig .tc := ⟨.hbm, 485, rfl⟩
abbrev main_v337 : Ref sig .tc := ⟨.hbm, 486, rfl⟩
abbrev main_v338 : Ref sig .tc := ⟨.hbm, 487, rfl⟩
abbrev main_v339 : Ref sig .tc := ⟨.hbm, 488, rfl⟩
abbrev main_v340 : Ref sig .tc := ⟨.hbm, 489, rfl⟩
abbrev main_v341 : Ref sig .tc := ⟨.hbm, 490, rfl⟩
abbrev main_c_75 : Ref sig .tc := ⟨.hbm, 491, rfl⟩
abbrev main_call15_v0 : Ref sig .tc := ⟨.hbm, 492, rfl⟩
abbrev main_v342 : Ref sig .tc := ⟨.hbm, 493, rfl⟩
abbrev main_c_76 : Ref sig .tc := ⟨.hbm, 494, rfl⟩
abbrev main_v343 : Ref sig .tc := ⟨.hbm, 495, rfl⟩
abbrev main_v344 : Ref sig .tc := ⟨.hbm, 496, rfl⟩
abbrev main_call16_c : Ref sig .tc := ⟨.hbm, 497, rfl⟩
abbrev main_call16_v0 : Ref sig .tc := ⟨.hbm, 498, rfl⟩
abbrev main_call16_v1 : Ref sig .tc := ⟨.hbm, 499, rfl⟩
abbrev main_call16_c_0 : Ref sig .tc := ⟨.hbm, 500, rfl⟩
abbrev main_call16_v2 : Ref sig .tc := ⟨.hbm, 501, rfl⟩
abbrev main_call16_v3 : Ref sig .tc := ⟨.hbm, 502, rfl⟩
abbrev main_call16_v4 : Ref sig .tc := ⟨.hbm, 503, rfl⟩
abbrev main_call16_v5 : Ref sig .tc := ⟨.hbm, 504, rfl⟩
abbrev main_call16_c_1 : Ref sig .tc := ⟨.hbm, 505, rfl⟩
abbrev main_call16_c_2 : Ref sig .tc := ⟨.hbm, 506, rfl⟩
abbrev main_call16_v6 : Ref sig .tc := ⟨.hbm, 507, rfl⟩
abbrev main_call16_v7 : Ref sig .tc := ⟨.hbm, 508, rfl⟩
abbrev main_call16_v8 : Ref sig .tc := ⟨.hbm, 509, rfl⟩
abbrev main_call16_v9 : Ref sig .tc := ⟨.hbm, 510, rfl⟩
abbrev main_call16_v10 : Ref sig .tc := ⟨.hbm, 511, rfl⟩
abbrev main_call16_v11 : Ref sig .tc := ⟨.hbm, 512, rfl⟩
abbrev main_call16_c_3 : Ref sig .tc := ⟨.hbm, 513, rfl⟩
abbrev main_call16_v12 : Ref sig .tc := ⟨.hbm, 514, rfl⟩
abbrev main_call16_v13 : Ref sig .tc := ⟨.hbm, 515, rfl⟩
abbrev main_call16_v14 : Ref sig .tc := ⟨.hbm, 516, rfl⟩
abbrev main_call16_cst : Ref sig .tc := ⟨.hbm, 517, rfl⟩
abbrev main_call16_v15 : Ref sig .tc := ⟨.hbm, 518, rfl⟩
abbrev main_v345 : Ref sig .tc := ⟨.hbm, 519, rfl⟩
abbrev main_v346 : Ref sig .tc := ⟨.hbm, 520, rfl⟩
abbrev main_v347 : Ref sig .tc := ⟨.hbm, 521, rfl⟩
abbrev main_cst_77 : Ref sig .tc := ⟨.hbm, 522, rfl⟩
abbrev main_v348 : Ref sig .tc := ⟨.hbm, 523, rfl⟩
abbrev main_v349 : Ref sig .tc := ⟨.hbm, 524, rfl⟩
abbrev main_cst_78 : Ref sig .tc := ⟨.hbm, 525, rfl⟩
abbrev main_v350 : Ref sig .tc := ⟨.hbm, 526, rfl⟩
abbrev main_v351 : Ref sig .tc := ⟨.hbm, 527, rfl⟩
abbrev main_cst_79 : Ref sig .tc := ⟨.hbm, 528, rfl⟩
abbrev main_v352 : Ref sig .tc := ⟨.hbm, 529, rfl⟩
abbrev main_v353 : Ref sig .tc := ⟨.hbm, 530, rfl⟩
abbrev main_v354 : Ref sig .tc := ⟨.hbm, 531, rfl⟩
abbrev main_v355 : Ref sig .tc := ⟨.hbm, 532, rfl⟩
abbrev main_v356 : Ref sig .tc := ⟨.hbm, 533, rfl⟩
abbrev main_v357 : Ref sig .tc := ⟨.hbm, 534, rfl⟩
abbrev main_v358 : Ref sig .tc := ⟨.hbm, 535, rfl⟩
abbrev main_v359 : Ref sig .tc := ⟨.hbm, 536, rfl⟩
abbrev main_v360 : Ref sig .tc := ⟨.hbm, 537, rfl⟩
abbrev main_cst_80 : Ref sig .tc := ⟨.hbm, 538, rfl⟩
abbrev main_v361 : Ref sig .tc := ⟨.hbm, 539, rfl⟩
abbrev main_v362 : Ref sig .tc := ⟨.hbm, 540, rfl⟩
abbrev main_cst_81 : Ref sig .tc := ⟨.hbm, 541, rfl⟩
abbrev main_v363 : Ref sig .tc := ⟨.hbm, 542, rfl⟩
abbrev main_v364 : Ref sig .tc := ⟨.hbm, 543, rfl⟩
abbrev main_v365 : Ref sig .tc := ⟨.hbm, 544, rfl⟩
abbrev main_v366 : Ref sig .tc := ⟨.hbm, 545, rfl⟩
abbrev main_cst_82 : Ref sig .tc := ⟨.hbm, 546, rfl⟩
abbrev main_v367 : Ref sig .tc := ⟨.hbm, 547, rfl⟩
abbrev main_v368 : Ref sig .tc := ⟨.hbm, 548, rfl⟩
abbrev main_cst_83 : Ref sig .tc := ⟨.hbm, 549, rfl⟩
abbrev main_v369 : Ref sig .tc := ⟨.hbm, 550, rfl⟩
abbrev main_v370 : Ref sig .tc := ⟨.hbm, 551, rfl⟩
abbrev main_cst_84 : Ref sig .tc := ⟨.hbm, 552, rfl⟩
abbrev main_v371 : Ref sig .tc := ⟨.hbm, 553, rfl⟩
abbrev main_v372 : Ref sig .tc := ⟨.hbm, 554, rfl⟩
abbrev main_v373 : Ref sig .tc := ⟨.hbm, 555, rfl⟩
abbrev main_cst_85 : Ref sig .tc := ⟨.hbm, 556, rfl⟩
abbrev main_v374 : Ref sig .tc := ⟨.hbm, 557, rfl⟩
abbrev main_v375 : Ref sig .tc := ⟨.hbm, 558, rfl⟩
abbrev main_v376 : Ref sig .tc := ⟨.hbm, 559, rfl⟩
abbrev main_cst_86 : Ref sig .tc := ⟨.hbm, 560, rfl⟩
abbrev main_v377 : Ref sig .tc := ⟨.hbm, 561, rfl⟩
abbrev main_v378 : Ref sig .tc := ⟨.hbm, 562, rfl⟩
abbrev main_cst_87 : Ref sig .tc := ⟨.hbm, 563, rfl⟩
abbrev main_v379 : Ref sig .tc := ⟨.hbm, 564, rfl⟩
abbrev main_v380 : Ref sig .tc := ⟨.hbm, 565, rfl⟩
abbrev main_cst_88 : Ref sig .tc := ⟨.hbm, 566, rfl⟩
abbrev main_v381 : Ref sig .tc := ⟨.hbm, 567, rfl⟩
abbrev main_v382 : Ref sig .tc := ⟨.hbm, 568, rfl⟩
abbrev main_v383 : Ref sig .tc := ⟨.hbm, 569, rfl⟩
abbrev main_cst_89 : Ref sig .tc := ⟨.hbm, 570, rfl⟩
abbrev main_call18_v0 : Ref sig .tc := ⟨.hbm, 571, rfl⟩
abbrev main_call18_v1 : Ref sig .tc := ⟨.hbm, 572, rfl⟩
abbrev main_v384 : Ref sig .tc := ⟨.hbm, 573, rfl⟩
abbrev main_cst_90 : Ref sig .tc := ⟨.hbm, 574, rfl⟩
abbrev main_v385 : Ref sig .tc := ⟨.hbm, 575, rfl⟩
abbrev main_v386 : Ref sig .tc := ⟨.hbm, 576, rfl⟩
abbrev main_cst_91 : Ref sig .tc := ⟨.hbm, 577, rfl⟩
abbrev main_v387 : Ref sig .tc := ⟨.hbm, 578, rfl⟩
abbrev main_v388 : Ref sig .tc := ⟨.hbm, 579, rfl⟩
abbrev main_c_92 : Ref sig .tc := ⟨.hbm, 580, rfl⟩
abbrev main_call19_v0 : Ref sig .tc := ⟨.hbm, 581, rfl⟩
abbrev main_call19_v1 : Ref sig .tc := ⟨.hbm, 582, rfl⟩
abbrev main_v389 : Ref sig .tc := ⟨.hbm, 583, rfl⟩
abbrev main_v390 : Ref sig .tc := ⟨.hbm, 584, rfl⟩
abbrev main_v391 : Ref sig .tc := ⟨.hbm, 585, rfl⟩
abbrev main_v392 : Ref sig .tc := ⟨.hbm, 586, rfl⟩
abbrev main_v393 : Ref sig .tc := ⟨.hbm, 587, rfl⟩
abbrev main_v394 : Ref sig .tc := ⟨.hbm, 588, rfl⟩
abbrev main_cst_93 : Ref sig .tc := ⟨.hbm, 589, rfl⟩
abbrev main_v395 : Ref sig .tc := ⟨.hbm, 590, rfl⟩
abbrev main_v396 : Ref sig .tc := ⟨.hbm, 591, rfl⟩
abbrev main_c_94 : Ref sig .tc := ⟨.hbm, 592, rfl⟩
abbrev main_call20_v0 : Ref sig .tc := ⟨.hbm, 593, rfl⟩
abbrev main_v397 : Ref sig .tc := ⟨.hbm, 594, rfl⟩
abbrev main_cst_95 : Ref sig .tc := ⟨.hbm, 595, rfl⟩
abbrev main_v398 : Ref sig .tc := ⟨.hbm, 596, rfl⟩
abbrev main_v399 : Ref sig .tc := ⟨.hbm, 597, rfl⟩
abbrev main_v400 : Ref sig .tc := ⟨.hbm, 598, rfl⟩
abbrev main_v401 : Ref sig .tc := ⟨.hbm, 599, rfl⟩
abbrev main_v402 : Ref sig .tc := ⟨.hbm, 600, rfl⟩
abbrev main_v403 : Ref sig .tc := ⟨.hbm, 601, rfl⟩
abbrev main_v404 : Ref sig .tc := ⟨.hbm, 602, rfl⟩
abbrev main_v405 : Ref sig .tc := ⟨.hbm, 603, rfl⟩
abbrev main_v406 : Ref sig .tc := ⟨.hbm, 604, rfl⟩
abbrev main_v407 : Ref sig .tc := ⟨.hbm, 605, rfl⟩
abbrev main_v408 : Ref sig .tc := ⟨.hbm, 606, rfl⟩
abbrev main_v409 : Ref sig .tc := ⟨.hbm, 607, rfl⟩
abbrev main_v410 : Ref sig .tc := ⟨.hbm, 608, rfl⟩
abbrev main_v411 : Ref sig .tc := ⟨.hbm, 609, rfl⟩
abbrev main_v412 : Ref sig .tc := ⟨.hbm, 610, rfl⟩
abbrev main_v413 : Ref sig .tc := ⟨.hbm, 611, rfl⟩
abbrev main_v414 : Ref sig .tc := ⟨.hbm, 612, rfl⟩
abbrev main_v415 : Ref sig .tc := ⟨.hbm, 613, rfl⟩
abbrev main_v416 : Ref sig .tc := ⟨.hbm, 614, rfl⟩
abbrev main_v417 : Ref sig .tc := ⟨.hbm, 615, rfl⟩
abbrev main_v418 : Ref sig .tc := ⟨.hbm, 616, rfl⟩
abbrev main_v419 : Ref sig .tc := ⟨.hbm, 617, rfl⟩
abbrev main_v420 : Ref sig .tc := ⟨.hbm, 618, rfl⟩
abbrev main_v421 : Ref sig .tc := ⟨.hbm, 619, rfl⟩
abbrev main_v422 : Ref sig .tc := ⟨.hbm, 620, rfl⟩
abbrev main_v423 : Ref sig .tc := ⟨.hbm, 621, rfl⟩
abbrev main_v424 : Ref sig .tc := ⟨.hbm, 622, rfl⟩
abbrev main_v425 : Ref sig .tc := ⟨.hbm, 623, rfl⟩
abbrev main_v426 : Ref sig .tc := ⟨.hbm, 624, rfl⟩
abbrev main_v427 : Ref sig .tc := ⟨.hbm, 625, rfl⟩
abbrev main_v428 : Ref sig .tc := ⟨.hbm, 626, rfl⟩
abbrev main_v429 : Ref sig .tc := ⟨.hbm, 627, rfl⟩
abbrev main_v430 : Ref sig .tc := ⟨.hbm, 628, rfl⟩
abbrev main_v431 : Ref sig .tc := ⟨.hbm, 629, rfl⟩
abbrev main_v432 : Ref sig .tc := ⟨.hbm, 630, rfl⟩
abbrev main_v433 : Ref sig .tc := ⟨.hbm, 631, rfl⟩
abbrev main_v434 : Ref sig .tc := ⟨.hbm, 632, rfl⟩
abbrev main_v435 : Ref sig .tc := ⟨.hbm, 633, rfl⟩
abbrev main_v436 : Ref sig .tc := ⟨.hbm, 634, rfl⟩
abbrev main_v437 : Ref sig .tc := ⟨.hbm, 635, rfl⟩
abbrev main_v438 : Ref sig .tc := ⟨.hbm, 636, rfl⟩
abbrev main_v439 : Ref sig .tc := ⟨.hbm, 637, rfl⟩
abbrev main_v440 : Ref sig .tc := ⟨.hbm, 638, rfl⟩
abbrev main_v441 : Ref sig .tc := ⟨.hbm, 639, rfl⟩
abbrev main_v442 : Ref sig .tc := ⟨.hbm, 640, rfl⟩
abbrev main_v443 : Ref sig .tc := ⟨.hbm, 641, rfl⟩
abbrev main_v444 : Ref sig .tc := ⟨.hbm, 642, rfl⟩
abbrev main_v445 : Ref sig .tc := ⟨.hbm, 643, rfl⟩
abbrev main_v446 : Ref sig .tc := ⟨.hbm, 644, rfl⟩
abbrev main_v447 : Ref sig .tc := ⟨.hbm, 645, rfl⟩
abbrev main_v448 : Ref sig .tc := ⟨.hbm, 646, rfl⟩
abbrev main_v449 : Ref sig .tc := ⟨.hbm, 647, rfl⟩
abbrev main_v450 : Ref sig .tc := ⟨.hbm, 648, rfl⟩
abbrev main_v451 : Ref sig .tc := ⟨.hbm, 649, rfl⟩
abbrev main_v452 : Ref sig .tc := ⟨.hbm, 650, rfl⟩
abbrev main_v453 : Ref sig .tc := ⟨.hbm, 651, rfl⟩
abbrev main_v454 : Ref sig .tc := ⟨.hbm, 652, rfl⟩
abbrev main_v455 : Ref sig .tc := ⟨.hbm, 653, rfl⟩
abbrev main_cst_96 : Ref sig .tc := ⟨.hbm, 654, rfl⟩
abbrev main_v456 : Ref sig .tc := ⟨.hbm, 655, rfl⟩
abbrev main_v457 : Ref sig .tc := ⟨.hbm, 656, rfl⟩
abbrev main_v458 : Ref sig .tc := ⟨.hbm, 657, rfl⟩
abbrev main_v459 : Ref sig .tc := ⟨.hbm, 658, rfl⟩
abbrev main_v460 : Ref sig .tc := ⟨.hbm, 659, rfl⟩
abbrev main_v461 : Ref sig .tc := ⟨.hbm, 660, rfl⟩
abbrev main_v462 : Ref sig .tc := ⟨.hbm, 661, rfl⟩
abbrev main_v463 : Ref sig .tc := ⟨.hbm, 662, rfl⟩
abbrev main_cst_97 : Ref sig .tc := ⟨.hbm, 663, rfl⟩
abbrev main_v464 : Ref sig .tc := ⟨.hbm, 664, rfl⟩
abbrev main_cst_98 : Ref sig .tc := ⟨.hbm, 665, rfl⟩
abbrev main_v465 : Ref sig .tc := ⟨.hbm, 666, rfl⟩
abbrev main_cst_99 : Ref sig .tc := ⟨.hbm, 667, rfl⟩
abbrev main_v466 : Ref sig .tc := ⟨.hbm, 668, rfl⟩
abbrev main_v467 : Ref sig .tc := ⟨.hbm, 669, rfl⟩
abbrev main_v468 : Ref sig .tc := ⟨.hbm, 670, rfl⟩
abbrev main_v469 : Ref sig .tc := ⟨.hbm, 671, rfl⟩
abbrev main_cst_100 : Ref sig .tc := ⟨.hbm, 672, rfl⟩
abbrev main_v470 : Ref sig .tc := ⟨.hbm, 673, rfl⟩
abbrev main_cst_101 : Ref sig .tc := ⟨.hbm, 674, rfl⟩
abbrev main_v471 : Ref sig .tc := ⟨.hbm, 675, rfl⟩
abbrev main_v472 : Ref sig .tc := ⟨.hbm, 676, rfl⟩
abbrev main_v473 : Ref sig .tc := ⟨.hbm, 677, rfl⟩
abbrev main_cst_102 : Ref sig .tc := ⟨.hbm, 678, rfl⟩
abbrev main_v474 : Ref sig .tc := ⟨.hbm, 679, rfl⟩
abbrev main_cst_103 : Ref sig .tc := ⟨.hbm, 680, rfl⟩
abbrev main_v475 : Ref sig .tc := ⟨.hbm, 681, rfl⟩
abbrev main_v476 : Ref sig .tc := ⟨.hbm, 682, rfl⟩
abbrev main_v477 : Ref sig .tc := ⟨.hbm, 683, rfl⟩
abbrev main_v478 : Ref sig .tc := ⟨.hbm, 684, rfl⟩
abbrev main_v479 : Ref sig .tc := ⟨.hbm, 685, rfl⟩
abbrev main_cst_104 : Ref sig .tc := ⟨.hbm, 686, rfl⟩
abbrev main_v480 : Ref sig .tc := ⟨.hbm, 687, rfl⟩
abbrev main_v481 : Ref sig .tc := ⟨.hbm, 688, rfl⟩
abbrev main_v482 : Ref sig .tc := ⟨.hbm, 689, rfl⟩
abbrev main_cst_105 : Ref sig .tc := ⟨.hbm, 690, rfl⟩
abbrev main_v483 : Ref sig .tc := ⟨.hbm, 691, rfl⟩
abbrev main_v484 : Ref sig .tc := ⟨.hbm, 692, rfl⟩
abbrev main_v485 : Ref sig .tc := ⟨.hbm, 693, rfl⟩
abbrev main_v486 : Ref sig .tc := ⟨.hbm, 694, rfl⟩
abbrev main_v487 : Ref sig .tc := ⟨.hbm, 695, rfl⟩
abbrev main_v488 : Ref sig .tc := ⟨.hbm, 696, rfl⟩
abbrev main_v489 : Ref sig .tc := ⟨.hbm, 697, rfl⟩
abbrev main_cst_106 : Ref sig .tc := ⟨.hbm, 698, rfl⟩
abbrev main_v490 : Ref sig .tc := ⟨.hbm, 699, rfl⟩
abbrev main_v491 : Ref sig .tc := ⟨.hbm, 700, rfl⟩
abbrev main_v492 : Ref sig .tc := ⟨.hbm, 701, rfl⟩
abbrev main_cst_107 : Ref sig .tc := ⟨.hbm, 702, rfl⟩
abbrev main_call21_v0 : Ref sig .tc := ⟨.hbm, 703, rfl⟩
abbrev main_call21_v1 : Ref sig .tc := ⟨.hbm, 704, rfl⟩
abbrev main_v493 : Ref sig .tc := ⟨.hbm, 705, rfl⟩
abbrev main_v494 : Ref sig .tc := ⟨.hbm, 706, rfl⟩
abbrev main_cst_108 : Ref sig .tc := ⟨.hbm, 707, rfl⟩
abbrev main_v495 : Ref sig .tc := ⟨.hbm, 708, rfl⟩
abbrev main_v496 : Ref sig .tc := ⟨.hbm, 709, rfl⟩
abbrev main_v497 : Ref sig .tc := ⟨.hbm, 710, rfl⟩
abbrev main_v498 : Ref sig .tc := ⟨.hbm, 711, rfl⟩
abbrev main_v499 : Ref sig .tc := ⟨.hbm, 712, rfl⟩
abbrev main_c_109 : Ref sig .tc := ⟨.hbm, 713, rfl⟩
abbrev main_call22_v0 : Ref sig .tc := ⟨.hbm, 714, rfl⟩
abbrev main_v500 : Ref sig .tc := ⟨.hbm, 715, rfl⟩
abbrev main_c_110 : Ref sig .tc := ⟨.hbm, 716, rfl⟩
abbrev main_v501 : Ref sig .tc := ⟨.hbm, 717, rfl⟩
abbrev main_v502 : Ref sig .tc := ⟨.hbm, 718, rfl⟩
abbrev main_call23_c : Ref sig .tc := ⟨.hbm, 719, rfl⟩
abbrev main_call23_v0 : Ref sig .tc := ⟨.hbm, 720, rfl⟩
abbrev main_call23_v1 : Ref sig .tc := ⟨.hbm, 721, rfl⟩
abbrev main_call23_c_0 : Ref sig .tc := ⟨.hbm, 722, rfl⟩
abbrev main_call23_v2 : Ref sig .tc := ⟨.hbm, 723, rfl⟩
abbrev main_call23_v3 : Ref sig .tc := ⟨.hbm, 724, rfl⟩
abbrev main_call23_v4 : Ref sig .tc := ⟨.hbm, 725, rfl⟩
abbrev main_call23_v5 : Ref sig .tc := ⟨.hbm, 726, rfl⟩
abbrev main_call23_c_1 : Ref sig .tc := ⟨.hbm, 727, rfl⟩
abbrev main_call23_c_2 : Ref sig .tc := ⟨.hbm, 728, rfl⟩
abbrev main_call23_v6 : Ref sig .tc := ⟨.hbm, 729, rfl⟩
abbrev main_call23_v7 : Ref sig .tc := ⟨.hbm, 730, rfl⟩
abbrev main_call23_v8 : Ref sig .tc := ⟨.hbm, 731, rfl⟩
abbrev main_call23_v9 : Ref sig .tc := ⟨.hbm, 732, rfl⟩
abbrev main_call23_v10 : Ref sig .tc := ⟨.hbm, 733, rfl⟩
abbrev main_call23_v11 : Ref sig .tc := ⟨.hbm, 734, rfl⟩
abbrev main_call23_c_3 : Ref sig .tc := ⟨.hbm, 735, rfl⟩
abbrev main_call23_v12 : Ref sig .tc := ⟨.hbm, 736, rfl⟩
abbrev main_call23_v13 : Ref sig .tc := ⟨.hbm, 737, rfl⟩
abbrev main_call23_v14 : Ref sig .tc := ⟨.hbm, 738, rfl⟩
abbrev main_call23_cst : Ref sig .tc := ⟨.hbm, 739, rfl⟩
abbrev main_call23_v15 : Ref sig .tc := ⟨.hbm, 740, rfl⟩
abbrev main_v503 : Ref sig .tc := ⟨.hbm, 741, rfl⟩
abbrev main_v504 : Ref sig .tc := ⟨.hbm, 742, rfl⟩
abbrev main_v505 : Ref sig .tc := ⟨.hbm, 743, rfl⟩
abbrev main_cst_111 : Ref sig .tc := ⟨.hbm, 744, rfl⟩
abbrev main_v506 : Ref sig .tc := ⟨.hbm, 745, rfl⟩
abbrev main_v507 : Ref sig .tc := ⟨.hbm, 746, rfl⟩
abbrev main_cst_112 : Ref sig .tc := ⟨.hbm, 747, rfl⟩
abbrev main_v508 : Ref sig .tc := ⟨.hbm, 748, rfl⟩
abbrev main_v509 : Ref sig .tc := ⟨.hbm, 749, rfl⟩
abbrev main_cst_113 : Ref sig .tc := ⟨.hbm, 750, rfl⟩
abbrev main_v510 : Ref sig .tc := ⟨.hbm, 751, rfl⟩
abbrev main_v511 : Ref sig .tc := ⟨.hbm, 752, rfl⟩
abbrev main_v512 : Ref sig .tc := ⟨.hbm, 753, rfl⟩
abbrev main_v513 : Ref sig .tc := ⟨.hbm, 754, rfl⟩
abbrev main_v514 : Ref sig .tc := ⟨.hbm, 755, rfl⟩
abbrev main_v515 : Ref sig .tc := ⟨.hbm, 756, rfl⟩
abbrev main_v516 : Ref sig .tc := ⟨.hbm, 757, rfl⟩
abbrev main_v517 : Ref sig .tc := ⟨.hbm, 758, rfl⟩
abbrev main_v518 : Ref sig .tc := ⟨.hbm, 759, rfl⟩
abbrev main_cst_114 : Ref sig .tc := ⟨.hbm, 760, rfl⟩
abbrev main_v519 : Ref sig .tc := ⟨.hbm, 761, rfl⟩
abbrev main_v520 : Ref sig .tc := ⟨.hbm, 762, rfl⟩
abbrev main_cst_115 : Ref sig .tc := ⟨.hbm, 763, rfl⟩
abbrev main_v521 : Ref sig .tc := ⟨.hbm, 764, rfl⟩
abbrev main_v522 : Ref sig .tc := ⟨.hbm, 765, rfl⟩
abbrev main_v523 : Ref sig .tc := ⟨.hbm, 766, rfl⟩
abbrev main_v524 : Ref sig .tc := ⟨.hbm, 767, rfl⟩
abbrev main_cst_116 : Ref sig .tc := ⟨.hbm, 768, rfl⟩
abbrev main_v525 : Ref sig .tc := ⟨.hbm, 769, rfl⟩
abbrev main_v526 : Ref sig .tc := ⟨.hbm, 770, rfl⟩
abbrev main_cst_117 : Ref sig .tc := ⟨.hbm, 771, rfl⟩
abbrev main_v527 : Ref sig .tc := ⟨.hbm, 772, rfl⟩
abbrev main_v528 : Ref sig .tc := ⟨.hbm, 773, rfl⟩
abbrev main_cst_118 : Ref sig .tc := ⟨.hbm, 774, rfl⟩
abbrev main_v529 : Ref sig .tc := ⟨.hbm, 775, rfl⟩
abbrev main_v530 : Ref sig .tc := ⟨.hbm, 776, rfl⟩
abbrev main_v531 : Ref sig .tc := ⟨.hbm, 777, rfl⟩
abbrev main_cst_119 : Ref sig .tc := ⟨.hbm, 778, rfl⟩
abbrev main_v532 : Ref sig .tc := ⟨.hbm, 779, rfl⟩
abbrev main_v533 : Ref sig .tc := ⟨.hbm, 780, rfl⟩
abbrev main_v534 : Ref sig .tc := ⟨.hbm, 781, rfl⟩
abbrev main_cst_120 : Ref sig .tc := ⟨.hbm, 782, rfl⟩
abbrev main_v535 : Ref sig .tc := ⟨.hbm, 783, rfl⟩
abbrev main_v536 : Ref sig .tc := ⟨.hbm, 784, rfl⟩
abbrev main_cst_121 : Ref sig .tc := ⟨.hbm, 785, rfl⟩
abbrev main_v537 : Ref sig .tc := ⟨.hbm, 786, rfl⟩
abbrev main_v538 : Ref sig .tc := ⟨.hbm, 787, rfl⟩
abbrev main_cst_122 : Ref sig .tc := ⟨.hbm, 788, rfl⟩
abbrev main_v539 : Ref sig .tc := ⟨.hbm, 789, rfl⟩
abbrev main_v540 : Ref sig .tc := ⟨.hbm, 790, rfl⟩
abbrev main_v541 : Ref sig .tc := ⟨.hbm, 791, rfl⟩
abbrev main_cst_123 : Ref sig .tc := ⟨.hbm, 792, rfl⟩
abbrev main_call25_v0 : Ref sig .tc := ⟨.hbm, 793, rfl⟩
abbrev main_call25_v1 : Ref sig .tc := ⟨.hbm, 794, rfl⟩
abbrev main_v542 : Ref sig .tc := ⟨.hbm, 795, rfl⟩
abbrev main_cst_124 : Ref sig .tc := ⟨.hbm, 796, rfl⟩
abbrev main_v543 : Ref sig .tc := ⟨.hbm, 797, rfl⟩
abbrev main_v544 : Ref sig .tc := ⟨.hbm, 798, rfl⟩
abbrev main_cst_125 : Ref sig .tc := ⟨.hbm, 799, rfl⟩
abbrev main_v545 : Ref sig .tc := ⟨.hbm, 800, rfl⟩
abbrev main_v546 : Ref sig .tc := ⟨.hbm, 801, rfl⟩
abbrev main_c_126 : Ref sig .tc := ⟨.hbm, 802, rfl⟩
abbrev main_call26_v0 : Ref sig .tc := ⟨.hbm, 803, rfl⟩
abbrev main_call26_v1 : Ref sig .tc := ⟨.hbm, 804, rfl⟩
abbrev main_v547 : Ref sig .tc := ⟨.hbm, 805, rfl⟩
abbrev main_v548 : Ref sig .tc := ⟨.hbm, 806, rfl⟩
abbrev main_v549 : Ref sig .tc := ⟨.hbm, 807, rfl⟩
abbrev main_v550 : Ref sig .tc := ⟨.hbm, 808, rfl⟩
abbrev main_v551 : Ref sig .tc := ⟨.hbm, 809, rfl⟩
abbrev main_v552 : Ref sig .tc := ⟨.hbm, 810, rfl⟩
abbrev main_cst_127 : Ref sig .tc := ⟨.hbm, 811, rfl⟩
abbrev main_v553 : Ref sig .tc := ⟨.hbm, 812, rfl⟩
abbrev main_v554 : Ref sig .tc := ⟨.hbm, 813, rfl⟩
abbrev main_c_128 : Ref sig .tc := ⟨.hbm, 814, rfl⟩
abbrev main_call27_v0 : Ref sig .tc := ⟨.hbm, 815, rfl⟩
abbrev main_v555 : Ref sig .tc := ⟨.hbm, 816, rfl⟩
abbrev main_cst_129 : Ref sig .tc := ⟨.hbm, 817, rfl⟩
abbrev main_v556 : Ref sig .tc := ⟨.hbm, 818, rfl⟩
abbrev main_v557 : Ref sig .tc := ⟨.hbm, 819, rfl⟩
abbrev main_v558 : Ref sig .tc := ⟨.hbm, 820, rfl⟩
abbrev main_v559 : Ref sig .tc := ⟨.hbm, 821, rfl⟩
abbrev main_v560 : Ref sig .tc := ⟨.hbm, 822, rfl⟩
abbrev main_v561 : Ref sig .tc := ⟨.hbm, 823, rfl⟩
abbrev main_v562 : Ref sig .tc := ⟨.hbm, 824, rfl⟩
abbrev main_v563 : Ref sig .tc := ⟨.hbm, 825, rfl⟩
abbrev main_v564 : Ref sig .tc := ⟨.hbm, 826, rfl⟩
abbrev main_v565 : Ref sig .tc := ⟨.hbm, 827, rfl⟩
abbrev main_v566 : Ref sig .tc := ⟨.hbm, 828, rfl⟩
abbrev main_v567 : Ref sig .tc := ⟨.hbm, 829, rfl⟩
abbrev main_v568 : Ref sig .tc := ⟨.hbm, 830, rfl⟩
abbrev main_v569 : Ref sig .tc := ⟨.hbm, 831, rfl⟩
abbrev main_v570 : Ref sig .tc := ⟨.hbm, 832, rfl⟩
abbrev main_v571 : Ref sig .tc := ⟨.hbm, 833, rfl⟩
abbrev main_v572 : Ref sig .tc := ⟨.hbm, 834, rfl⟩
abbrev main_v573 : Ref sig .tc := ⟨.hbm, 835, rfl⟩
abbrev main_v574 : Ref sig .tc := ⟨.hbm, 836, rfl⟩
abbrev main_v575 : Ref sig .tc := ⟨.hbm, 837, rfl⟩
abbrev main_v576 : Ref sig .tc := ⟨.hbm, 838, rfl⟩
abbrev main_v577 : Ref sig .tc := ⟨.hbm, 839, rfl⟩
abbrev main_v578 : Ref sig .tc := ⟨.hbm, 840, rfl⟩
abbrev main_v579 : Ref sig .tc := ⟨.hbm, 841, rfl⟩
abbrev main_v580 : Ref sig .tc := ⟨.hbm, 842, rfl⟩
abbrev main_v581 : Ref sig .tc := ⟨.hbm, 843, rfl⟩
abbrev main_v582 : Ref sig .tc := ⟨.hbm, 844, rfl⟩
abbrev main_v583 : Ref sig .tc := ⟨.hbm, 845, rfl⟩
abbrev main_v584 : Ref sig .tc := ⟨.hbm, 846, rfl⟩
abbrev main_v585 : Ref sig .tc := ⟨.hbm, 847, rfl⟩
abbrev main_v586 : Ref sig .tc := ⟨.hbm, 848, rfl⟩
abbrev main_v587 : Ref sig .tc := ⟨.hbm, 849, rfl⟩
abbrev main_v588 : Ref sig .tc := ⟨.hbm, 850, rfl⟩
abbrev main_v589 : Ref sig .tc := ⟨.hbm, 851, rfl⟩
abbrev main_v590 : Ref sig .tc := ⟨.hbm, 852, rfl⟩
abbrev main_v591 : Ref sig .tc := ⟨.hbm, 853, rfl⟩
abbrev main_v592 : Ref sig .tc := ⟨.hbm, 854, rfl⟩
abbrev main_v593 : Ref sig .tc := ⟨.hbm, 855, rfl⟩
abbrev main_v594 : Ref sig .tc := ⟨.hbm, 856, rfl⟩
abbrev main_v595 : Ref sig .tc := ⟨.hbm, 857, rfl⟩
abbrev main_v596 : Ref sig .tc := ⟨.hbm, 858, rfl⟩
abbrev main_v597 : Ref sig .tc := ⟨.hbm, 859, rfl⟩
abbrev main_v598 : Ref sig .tc := ⟨.hbm, 860, rfl⟩
abbrev main_v599 : Ref sig .tc := ⟨.hbm, 861, rfl⟩
abbrev main_v600 : Ref sig .tc := ⟨.hbm, 862, rfl⟩
abbrev main_v601 : Ref sig .tc := ⟨.hbm, 863, rfl⟩
abbrev main_v602 : Ref sig .tc := ⟨.hbm, 864, rfl⟩
abbrev main_v603 : Ref sig .tc := ⟨.hbm, 865, rfl⟩
abbrev main_v604 : Ref sig .tc := ⟨.hbm, 866, rfl⟩
abbrev main_v605 : Ref sig .tc := ⟨.hbm, 867, rfl⟩
abbrev main_v606 : Ref sig .tc := ⟨.hbm, 868, rfl⟩
abbrev main_v607 : Ref sig .tc := ⟨.hbm, 869, rfl⟩
abbrev main_v608 : Ref sig .tc := ⟨.hbm, 870, rfl⟩
abbrev main_v609 : Ref sig .tc := ⟨.hbm, 871, rfl⟩
abbrev main_v610 : Ref sig .tc := ⟨.hbm, 872, rfl⟩
abbrev main_v611 : Ref sig .tc := ⟨.hbm, 873, rfl⟩
abbrev main_v612 : Ref sig .tc := ⟨.hbm, 874, rfl⟩
abbrev main_v613 : Ref sig .tc := ⟨.hbm, 875, rfl⟩
abbrev main_cst_130 : Ref sig .tc := ⟨.hbm, 876, rfl⟩
abbrev main_v614 : Ref sig .tc := ⟨.hbm, 877, rfl⟩
abbrev main_v615 : Ref sig .tc := ⟨.hbm, 878, rfl⟩
abbrev main_v616 : Ref sig .tc := ⟨.hbm, 879, rfl⟩
abbrev main_v617 : Ref sig .tc := ⟨.hbm, 880, rfl⟩
abbrev main_v618 : Ref sig .tc := ⟨.hbm, 881, rfl⟩
abbrev main_v619 : Ref sig .tc := ⟨.hbm, 882, rfl⟩
abbrev main_v620 : Ref sig .tc := ⟨.hbm, 883, rfl⟩
abbrev main_v621 : Ref sig .tc := ⟨.hbm, 884, rfl⟩
abbrev main_cst_131 : Ref sig .tc := ⟨.hbm, 885, rfl⟩
abbrev main_v622 : Ref sig .tc := ⟨.hbm, 886, rfl⟩
abbrev main_cst_132 : Ref sig .tc := ⟨.hbm, 887, rfl⟩
abbrev main_v623 : Ref sig .tc := ⟨.hbm, 888, rfl⟩
abbrev main_cst_133 : Ref sig .tc := ⟨.hbm, 889, rfl⟩
abbrev main_v624 : Ref sig .tc := ⟨.hbm, 890, rfl⟩
abbrev main_v625 : Ref sig .tc := ⟨.hbm, 891, rfl⟩
abbrev main_v626 : Ref sig .tc := ⟨.hbm, 892, rfl⟩
abbrev main_v627 : Ref sig .tc := ⟨.hbm, 893, rfl⟩
abbrev main_cst_134 : Ref sig .tc := ⟨.hbm, 894, rfl⟩
abbrev main_v628 : Ref sig .tc := ⟨.hbm, 895, rfl⟩
abbrev main_cst_135 : Ref sig .tc := ⟨.hbm, 896, rfl⟩
abbrev main_v629 : Ref sig .tc := ⟨.hbm, 897, rfl⟩
abbrev main_v630 : Ref sig .tc := ⟨.hbm, 898, rfl⟩
abbrev main_v631 : Ref sig .tc := ⟨.hbm, 899, rfl⟩
abbrev main_cst_136 : Ref sig .tc := ⟨.hbm, 900, rfl⟩
abbrev main_v632 : Ref sig .tc := ⟨.hbm, 901, rfl⟩
abbrev main_cst_137 : Ref sig .tc := ⟨.hbm, 902, rfl⟩
abbrev main_v633 : Ref sig .tc := ⟨.hbm, 903, rfl⟩
abbrev main_v634 : Ref sig .tc := ⟨.hbm, 904, rfl⟩
abbrev main_v635 : Ref sig .tc := ⟨.hbm, 905, rfl⟩
abbrev main_v636 : Ref sig .tc := ⟨.hbm, 906, rfl⟩
abbrev main_v637 : Ref sig .tc := ⟨.hbm, 907, rfl⟩
abbrev main_cst_138 : Ref sig .tc := ⟨.hbm, 908, rfl⟩
abbrev main_v638 : Ref sig .tc := ⟨.hbm, 909, rfl⟩
abbrev main_v639 : Ref sig .tc := ⟨.hbm, 910, rfl⟩
abbrev main_v640 : Ref sig .tc := ⟨.hbm, 911, rfl⟩
abbrev main_cst_139 : Ref sig .tc := ⟨.hbm, 912, rfl⟩
abbrev main_v641 : Ref sig .tc := ⟨.hbm, 913, rfl⟩
abbrev main_v642 : Ref sig .tc := ⟨.hbm, 914, rfl⟩
abbrev main_v643 : Ref sig .tc := ⟨.hbm, 915, rfl⟩
abbrev main_v644 : Ref sig .tc := ⟨.hbm, 916, rfl⟩
abbrev main_v645 : Ref sig .tc := ⟨.hbm, 917, rfl⟩
abbrev main_v646 : Ref sig .tc := ⟨.hbm, 918, rfl⟩
abbrev main_v647 : Ref sig .tc := ⟨.hbm, 919, rfl⟩
abbrev main_cst_140 : Ref sig .tc := ⟨.hbm, 920, rfl⟩
abbrev main_v648 : Ref sig .tc := ⟨.hbm, 921, rfl⟩
abbrev main_v649 : Ref sig .tc := ⟨.hbm, 922, rfl⟩
abbrev main_v650 : Ref sig .tc := ⟨.hbm, 923, rfl⟩
abbrev main_cst_141 : Ref sig .tc := ⟨.hbm, 924, rfl⟩
abbrev main_call28_v0 : Ref sig .tc := ⟨.hbm, 925, rfl⟩
abbrev main_call28_v1 : Ref sig .tc := ⟨.hbm, 926, rfl⟩
abbrev main_v651 : Ref sig .tc := ⟨.hbm, 927, rfl⟩
abbrev main_v652 : Ref sig .tc := ⟨.hbm, 928, rfl⟩
abbrev main_cst_142 : Ref sig .tc := ⟨.hbm, 929, rfl⟩
abbrev main_v653 : Ref sig .tc := ⟨.hbm, 930, rfl⟩
abbrev main_v654 : Ref sig .tc := ⟨.hbm, 931, rfl⟩
abbrev main_v655 : Ref sig .tc := ⟨.hbm, 932, rfl⟩
abbrev main_v656 : Ref sig .tc := ⟨.hbm, 933, rfl⟩
abbrev main_v657 : Ref sig .tc := ⟨.hbm, 934, rfl⟩
abbrev main_c_143 : Ref sig .tc := ⟨.hbm, 935, rfl⟩
abbrev main_call29_v0 : Ref sig .tc := ⟨.hbm, 936, rfl⟩
abbrev main_v658 : Ref sig .tc := ⟨.hbm, 937, rfl⟩
abbrev main_c_144 : Ref sig .tc := ⟨.hbm, 938, rfl⟩
abbrev main_v659 : Ref sig .tc := ⟨.hbm, 939, rfl⟩
abbrev main_v660 : Ref sig .tc := ⟨.hbm, 940, rfl⟩
abbrev main_call30_c : Ref sig .tc := ⟨.hbm, 941, rfl⟩
abbrev main_call30_v0 : Ref sig .tc := ⟨.hbm, 942, rfl⟩
abbrev main_call30_v1 : Ref sig .tc := ⟨.hbm, 943, rfl⟩
abbrev main_call30_c_0 : Ref sig .tc := ⟨.hbm, 944, rfl⟩
abbrev main_call30_v2 : Ref sig .tc := ⟨.hbm, 945, rfl⟩
abbrev main_call30_v3 : Ref sig .tc := ⟨.hbm, 946, rfl⟩
abbrev main_call30_v4 : Ref sig .tc := ⟨.hbm, 947, rfl⟩
abbrev main_call30_v5 : Ref sig .tc := ⟨.hbm, 948, rfl⟩
abbrev main_call30_c_1 : Ref sig .tc := ⟨.hbm, 949, rfl⟩
abbrev main_call30_c_2 : Ref sig .tc := ⟨.hbm, 950, rfl⟩
abbrev main_call30_v6 : Ref sig .tc := ⟨.hbm, 951, rfl⟩
abbrev main_call30_v7 : Ref sig .tc := ⟨.hbm, 952, rfl⟩
abbrev main_call30_v8 : Ref sig .tc := ⟨.hbm, 953, rfl⟩
abbrev main_call30_v9 : Ref sig .tc := ⟨.hbm, 954, rfl⟩
abbrev main_call30_v10 : Ref sig .tc := ⟨.hbm, 955, rfl⟩
abbrev main_call30_v11 : Ref sig .tc := ⟨.hbm, 956, rfl⟩
abbrev main_call30_c_3 : Ref sig .tc := ⟨.hbm, 957, rfl⟩
abbrev main_call30_v12 : Ref sig .tc := ⟨.hbm, 958, rfl⟩
abbrev main_call30_v13 : Ref sig .tc := ⟨.hbm, 959, rfl⟩
abbrev main_call30_v14 : Ref sig .tc := ⟨.hbm, 960, rfl⟩
abbrev main_call30_cst : Ref sig .tc := ⟨.hbm, 961, rfl⟩
abbrev main_call30_v15 : Ref sig .tc := ⟨.hbm, 962, rfl⟩
abbrev main_v661 : Ref sig .tc := ⟨.hbm, 963, rfl⟩
abbrev main_v662 : Ref sig .tc := ⟨.hbm, 964, rfl⟩
abbrev main_v663 : Ref sig .tc := ⟨.hbm, 965, rfl⟩
abbrev main_cst_145 : Ref sig .tc := ⟨.hbm, 966, rfl⟩
abbrev main_v664 : Ref sig .tc := ⟨.hbm, 967, rfl⟩
abbrev main_v665 : Ref sig .tc := ⟨.hbm, 968, rfl⟩
abbrev main_cst_146 : Ref sig .tc := ⟨.hbm, 969, rfl⟩
abbrev main_v666 : Ref sig .tc := ⟨.hbm, 970, rfl⟩
abbrev main_v667 : Ref sig .tc := ⟨.hbm, 971, rfl⟩
abbrev main_cst_147 : Ref sig .tc := ⟨.hbm, 972, rfl⟩
abbrev main_v668 : Ref sig .tc := ⟨.hbm, 973, rfl⟩
abbrev main_v669 : Ref sig .tc := ⟨.hbm, 974, rfl⟩
abbrev main_v670 : Ref sig .tc := ⟨.hbm, 975, rfl⟩
abbrev main_v671 : Ref sig .tc := ⟨.hbm, 976, rfl⟩
abbrev main_v672 : Ref sig .tc := ⟨.hbm, 977, rfl⟩
abbrev main_v673 : Ref sig .tc := ⟨.hbm, 978, rfl⟩
abbrev main_v674 : Ref sig .tc := ⟨.hbm, 979, rfl⟩
abbrev main_v675 : Ref sig .tc := ⟨.hbm, 980, rfl⟩
abbrev main_v676 : Ref sig .tc := ⟨.hbm, 981, rfl⟩
abbrev main_cst_148 : Ref sig .tc := ⟨.hbm, 982, rfl⟩
abbrev main_v677 : Ref sig .tc := ⟨.hbm, 983, rfl⟩
abbrev main_v678 : Ref sig .tc := ⟨.hbm, 984, rfl⟩
abbrev main_cst_149 : Ref sig .tc := ⟨.hbm, 985, rfl⟩
abbrev main_v679 : Ref sig .tc := ⟨.hbm, 986, rfl⟩
abbrev main_v680 : Ref sig .tc := ⟨.hbm, 987, rfl⟩
abbrev main_v681 : Ref sig .tc := ⟨.hbm, 988, rfl⟩
abbrev main_v682 : Ref sig .tc := ⟨.hbm, 989, rfl⟩
abbrev main_cst_150 : Ref sig .tc := ⟨.hbm, 990, rfl⟩
abbrev main_v683 : Ref sig .tc := ⟨.hbm, 991, rfl⟩
abbrev main_v684 : Ref sig .tc := ⟨.hbm, 992, rfl⟩
abbrev main_cst_151 : Ref sig .tc := ⟨.hbm, 993, rfl⟩
abbrev main_v685 : Ref sig .tc := ⟨.hbm, 994, rfl⟩
abbrev main_v686 : Ref sig .tc := ⟨.hbm, 995, rfl⟩
abbrev main_cst_152 : Ref sig .tc := ⟨.hbm, 996, rfl⟩
abbrev main_v687 : Ref sig .tc := ⟨.hbm, 997, rfl⟩
abbrev main_v688 : Ref sig .tc := ⟨.hbm, 998, rfl⟩
abbrev main_v689 : Ref sig .tc := ⟨.hbm, 999, rfl⟩
abbrev main_cst_153 : Ref sig .tc := ⟨.hbm, 1000, rfl⟩
abbrev main_v690 : Ref sig .tc := ⟨.hbm, 1001, rfl⟩
abbrev main_v691 : Ref sig .tc := ⟨.hbm, 1002, rfl⟩
abbrev main_v692 : Ref sig .tc := ⟨.hbm, 1003, rfl⟩
abbrev main_cst_154 : Ref sig .tc := ⟨.hbm, 1004, rfl⟩
abbrev main_v693 : Ref sig .tc := ⟨.hbm, 1005, rfl⟩
abbrev main_v694 : Ref sig .tc := ⟨.hbm, 1006, rfl⟩
abbrev main_cst_155 : Ref sig .tc := ⟨.hbm, 1007, rfl⟩
abbrev main_v695 : Ref sig .tc := ⟨.hbm, 1008, rfl⟩
abbrev main_v696 : Ref sig .tc := ⟨.hbm, 1009, rfl⟩
abbrev main_cst_156 : Ref sig .tc := ⟨.hbm, 1010, rfl⟩
abbrev main_v697 : Ref sig .tc := ⟨.hbm, 1011, rfl⟩
abbrev main_v698 : Ref sig .tc := ⟨.hbm, 1012, rfl⟩
abbrev main_v699 : Ref sig .tc := ⟨.hbm, 1013, rfl⟩
abbrev main_cst_157 : Ref sig .tc := ⟨.hbm, 1014, rfl⟩
abbrev main_call32_v0 : Ref sig .tc := ⟨.hbm, 1015, rfl⟩
abbrev main_call32_v1 : Ref sig .tc := ⟨.hbm, 1016, rfl⟩
abbrev main_v700 : Ref sig .tc := ⟨.hbm, 1017, rfl⟩
abbrev main_cst_158 : Ref sig .tc := ⟨.hbm, 1018, rfl⟩
abbrev main_v701 : Ref sig .tc := ⟨.hbm, 1019, rfl⟩
abbrev main_v702 : Ref sig .tc := ⟨.hbm, 1020, rfl⟩
abbrev main_cst_159 : Ref sig .tc := ⟨.hbm, 1021, rfl⟩
abbrev main_v703 : Ref sig .tc := ⟨.hbm, 1022, rfl⟩
abbrev main_v704 : Ref sig .tc := ⟨.hbm, 1023, rfl⟩
abbrev main_c_160 : Ref sig .tc := ⟨.hbm, 1024, rfl⟩
abbrev main_call33_v0 : Ref sig .tc := ⟨.hbm, 1025, rfl⟩
abbrev main_call33_v1 : Ref sig .tc := ⟨.hbm, 1026, rfl⟩
abbrev main_v705 : Ref sig .tc := ⟨.hbm, 1027, rfl⟩
abbrev main_v706 : Ref sig .tc := ⟨.hbm, 1028, rfl⟩
abbrev main_v707 : Ref sig .tc := ⟨.hbm, 1029, rfl⟩
abbrev main_v708 : Ref sig .tc := ⟨.hbm, 1030, rfl⟩
abbrev main_v709 : Ref sig .tc := ⟨.hbm, 1031, rfl⟩
abbrev main_v710 : Ref sig .tc := ⟨.hbm, 1032, rfl⟩
abbrev main_cst_161 : Ref sig .tc := ⟨.hbm, 1033, rfl⟩
abbrev main_v711 : Ref sig .tc := ⟨.hbm, 1034, rfl⟩
abbrev main_v712 : Ref sig .tc := ⟨.hbm, 1035, rfl⟩
abbrev main_c_162 : Ref sig .tc := ⟨.hbm, 1036, rfl⟩
abbrev main_call34_v0 : Ref sig .tc := ⟨.hbm, 1037, rfl⟩
abbrev main_v713 : Ref sig .tc := ⟨.hbm, 1038, rfl⟩
abbrev main_cst_163 : Ref sig .tc := ⟨.hbm, 1039, rfl⟩
abbrev main_v714 : Ref sig .tc := ⟨.hbm, 1040, rfl⟩
abbrev main_v715 : Ref sig .tc := ⟨.hbm, 1041, rfl⟩
abbrev main_v716 : Ref sig .tc := ⟨.hbm, 1042, rfl⟩
abbrev main_v717 : Ref sig .tc := ⟨.hbm, 1043, rfl⟩
abbrev main_v718 : Ref sig .tc := ⟨.hbm, 1044, rfl⟩
abbrev main_v719 : Ref sig .tc := ⟨.hbm, 1045, rfl⟩
abbrev main_v720 : Ref sig .tc := ⟨.hbm, 1046, rfl⟩
abbrev main_v721 : Ref sig .tc := ⟨.hbm, 1047, rfl⟩
abbrev main_v722 : Ref sig .tc := ⟨.hbm, 1048, rfl⟩
abbrev main_v723 : Ref sig .tc := ⟨.hbm, 1049, rfl⟩
abbrev main_v724 : Ref sig .tc := ⟨.hbm, 1050, rfl⟩
abbrev main_v725 : Ref sig .tc := ⟨.hbm, 1051, rfl⟩
abbrev main_v726 : Ref sig .tc := ⟨.hbm, 1052, rfl⟩
abbrev main_v727 : Ref sig .tc := ⟨.hbm, 1053, rfl⟩
abbrev main_v728 : Ref sig .tc := ⟨.hbm, 1054, rfl⟩
abbrev main_v729 : Ref sig .tc := ⟨.hbm, 1055, rfl⟩
abbrev main_v730 : Ref sig .tc := ⟨.hbm, 1056, rfl⟩
abbrev main_v731 : Ref sig .tc := ⟨.hbm, 1057, rfl⟩
abbrev main_v732 : Ref sig .tc := ⟨.hbm, 1058, rfl⟩
abbrev main_v733 : Ref sig .tc := ⟨.hbm, 1059, rfl⟩
abbrev main_v734 : Ref sig .tc := ⟨.hbm, 1060, rfl⟩
abbrev main_v735 : Ref sig .tc := ⟨.hbm, 1061, rfl⟩
abbrev main_v736 : Ref sig .tc := ⟨.hbm, 1062, rfl⟩
abbrev main_v737 : Ref sig .tc := ⟨.hbm, 1063, rfl⟩
abbrev main_v738 : Ref sig .tc := ⟨.hbm, 1064, rfl⟩
abbrev main_v739 : Ref sig .tc := ⟨.hbm, 1065, rfl⟩
abbrev main_v740 : Ref sig .tc := ⟨.hbm, 1066, rfl⟩
abbrev main_v741 : Ref sig .tc := ⟨.hbm, 1067, rfl⟩
abbrev main_v742 : Ref sig .tc := ⟨.hbm, 1068, rfl⟩
abbrev main_v743 : Ref sig .tc := ⟨.hbm, 1069, rfl⟩
abbrev main_v744 : Ref sig .tc := ⟨.hbm, 1070, rfl⟩
abbrev main_v745 : Ref sig .tc := ⟨.hbm, 1071, rfl⟩
abbrev main_v746 : Ref sig .tc := ⟨.hbm, 1072, rfl⟩
abbrev main_v747 : Ref sig .tc := ⟨.hbm, 1073, rfl⟩
abbrev main_v748 : Ref sig .tc := ⟨.hbm, 1074, rfl⟩
abbrev main_v749 : Ref sig .tc := ⟨.hbm, 1075, rfl⟩
abbrev main_v750 : Ref sig .tc := ⟨.hbm, 1076, rfl⟩
abbrev main_v751 : Ref sig .tc := ⟨.hbm, 1077, rfl⟩
abbrev main_v752 : Ref sig .tc := ⟨.hbm, 1078, rfl⟩
abbrev main_v753 : Ref sig .tc := ⟨.hbm, 1079, rfl⟩
abbrev main_v754 : Ref sig .tc := ⟨.hbm, 1080, rfl⟩
abbrev main_v755 : Ref sig .tc := ⟨.hbm, 1081, rfl⟩
abbrev main_v756 : Ref sig .tc := ⟨.hbm, 1082, rfl⟩
abbrev main_v757 : Ref sig .tc := ⟨.hbm, 1083, rfl⟩
abbrev main_v758 : Ref sig .tc := ⟨.hbm, 1084, rfl⟩
abbrev main_v759 : Ref sig .tc := ⟨.hbm, 1085, rfl⟩
abbrev main_v760 : Ref sig .tc := ⟨.hbm, 1086, rfl⟩
abbrev main_v761 : Ref sig .tc := ⟨.hbm, 1087, rfl⟩
abbrev main_v762 : Ref sig .tc := ⟨.hbm, 1088, rfl⟩
abbrev main_v763 : Ref sig .tc := ⟨.hbm, 1089, rfl⟩
abbrev main_v764 : Ref sig .tc := ⟨.hbm, 1090, rfl⟩
abbrev main_v765 : Ref sig .tc := ⟨.hbm, 1091, rfl⟩
abbrev main_v766 : Ref sig .tc := ⟨.hbm, 1092, rfl⟩
abbrev main_v767 : Ref sig .tc := ⟨.hbm, 1093, rfl⟩
abbrev main_v768 : Ref sig .tc := ⟨.hbm, 1094, rfl⟩
abbrev main_v769 : Ref sig .tc := ⟨.hbm, 1095, rfl⟩
abbrev main_v770 : Ref sig .tc := ⟨.hbm, 1096, rfl⟩
abbrev main_v771 : Ref sig .tc := ⟨.hbm, 1097, rfl⟩
abbrev main_cst_164 : Ref sig .tc := ⟨.hbm, 1098, rfl⟩
abbrev main_v772 : Ref sig .tc := ⟨.hbm, 1099, rfl⟩
abbrev main_v773 : Ref sig .tc := ⟨.hbm, 1100, rfl⟩
abbrev main_v774 : Ref sig .tc := ⟨.hbm, 1101, rfl⟩
abbrev main_v775 : Ref sig .tc := ⟨.hbm, 1102, rfl⟩
abbrev main_v776 : Ref sig .tc := ⟨.hbm, 1103, rfl⟩
abbrev main_v777 : Ref sig .tc := ⟨.hbm, 1104, rfl⟩
abbrev main_v778 : Ref sig .tc := ⟨.hbm, 1105, rfl⟩
abbrev main_v779 : Ref sig .tc := ⟨.hbm, 1106, rfl⟩
abbrev main_cst_165 : Ref sig .tc := ⟨.hbm, 1107, rfl⟩
abbrev main_v780 : Ref sig .tc := ⟨.hbm, 1108, rfl⟩
abbrev main_cst_166 : Ref sig .tc := ⟨.hbm, 1109, rfl⟩
abbrev main_v781 : Ref sig .tc := ⟨.hbm, 1110, rfl⟩
abbrev main_cst_167 : Ref sig .tc := ⟨.hbm, 1111, rfl⟩
abbrev main_v782 : Ref sig .tc := ⟨.hbm, 1112, rfl⟩
abbrev main_v783 : Ref sig .tc := ⟨.hbm, 1113, rfl⟩
abbrev main_v784 : Ref sig .tc := ⟨.hbm, 1114, rfl⟩
abbrev main_v785 : Ref sig .tc := ⟨.hbm, 1115, rfl⟩
abbrev main_cst_168 : Ref sig .tc := ⟨.hbm, 1116, rfl⟩
abbrev main_v786 : Ref sig .tc := ⟨.hbm, 1117, rfl⟩
abbrev main_cst_169 : Ref sig .tc := ⟨.hbm, 1118, rfl⟩
abbrev main_v787 : Ref sig .tc := ⟨.hbm, 1119, rfl⟩
abbrev main_v788 : Ref sig .tc := ⟨.hbm, 1120, rfl⟩
abbrev main_v789 : Ref sig .tc := ⟨.hbm, 1121, rfl⟩
abbrev main_v790 : Ref sig .tc := ⟨.hbm, 1122, rfl⟩
abbrev main_v791 : Ref sig .tc := ⟨.hbm, 1123, rfl⟩
abbrev main_cst_170 : Ref sig .tc := ⟨.hbm, 1124, rfl⟩
abbrev main_v792 : Ref sig .tc := ⟨.hbm, 1125, rfl⟩
abbrev main_v793 : Ref sig .tc := ⟨.hbm, 1126, rfl⟩
abbrev main_v794 : Ref sig .tc := ⟨.hbm, 1127, rfl⟩
abbrev main_cst_171 : Ref sig .tc := ⟨.hbm, 1128, rfl⟩
abbrev main_v795 : Ref sig .tc := ⟨.hbm, 1129, rfl⟩
abbrev main_v796 : Ref sig .tc := ⟨.hbm, 1130, rfl⟩
abbrev main_v797 : Ref sig .tc := ⟨.hbm, 1131, rfl⟩
abbrev main_v798 : Ref sig .tc := ⟨.hbm, 1132, rfl⟩
abbrev main_v799 : Ref sig .tc := ⟨.hbm, 1133, rfl⟩
abbrev main_v800 : Ref sig .tc := ⟨.hbm, 1134, rfl⟩
abbrev main_v801 : Ref sig .tc := ⟨.hbm, 1135, rfl⟩
abbrev main_cst_172 : Ref sig .tc := ⟨.hbm, 1136, rfl⟩
abbrev main_v802 : Ref sig .tc := ⟨.hbm, 1137, rfl⟩
abbrev main_v803 : Ref sig .tc := ⟨.hbm, 1138, rfl⟩
abbrev main_v804 : Ref sig .tc := ⟨.hbm, 1139, rfl⟩
abbrev main_cst_173 : Ref sig .tc := ⟨.hbm, 1140, rfl⟩
abbrev main_call35_v0 : Ref sig .tc := ⟨.hbm, 1141, rfl⟩
abbrev main_call35_v1 : Ref sig .tc := ⟨.hbm, 1142, rfl⟩
abbrev main_v805 : Ref sig .tc := ⟨.hbm, 1143, rfl⟩
abbrev main_v806 : Ref sig .tc := ⟨.hbm, 1144, rfl⟩
abbrev main_cst_174 : Ref sig .tc := ⟨.hbm, 1145, rfl⟩
abbrev main_v807 : Ref sig .tc := ⟨.hbm, 1146, rfl⟩
abbrev main_v808 : Ref sig .tc := ⟨.hbm, 1147, rfl⟩
abbrev main_v809 : Ref sig .tc := ⟨.hbm, 1148, rfl⟩
abbrev main_v810 : Ref sig .tc := ⟨.hbm, 1149, rfl⟩
abbrev main_v811 : Ref sig .tc := ⟨.hbm, 1150, rfl⟩
abbrev main_c_175 : Ref sig .tc := ⟨.hbm, 1151, rfl⟩
abbrev main_call36_v0 : Ref sig .tc := ⟨.hbm, 1152, rfl⟩
abbrev main_v812 : Ref sig .tc := ⟨.hbm, 1153, rfl⟩
abbrev main_c_176 : Ref sig .tc := ⟨.hbm, 1154, rfl⟩
abbrev main_v813 : Ref sig .tc := ⟨.hbm, 1155, rfl⟩
abbrev main_v814 : Ref sig .tc := ⟨.hbm, 1156, rfl⟩
abbrev main_call37_c : Ref sig .tc := ⟨.hbm, 1157, rfl⟩
abbrev main_call37_v0 : Ref sig .tc := ⟨.hbm, 1158, rfl⟩
abbrev main_call37_v1 : Ref sig .tc := ⟨.hbm, 1159, rfl⟩
abbrev main_call37_c_0 : Ref sig .tc := ⟨.hbm, 1160, rfl⟩
abbrev main_call37_v2 : Ref sig .tc := ⟨.hbm, 1161, rfl⟩
abbrev main_call37_v3 : Ref sig .tc := ⟨.hbm, 1162, rfl⟩
abbrev main_call37_v4 : Ref sig .tc := ⟨.hbm, 1163, rfl⟩
abbrev main_call37_v5 : Ref sig .tc := ⟨.hbm, 1164, rfl⟩
abbrev main_call37_c_1 : Ref sig .tc := ⟨.hbm, 1165, rfl⟩
abbrev main_call37_c_2 : Ref sig .tc := ⟨.hbm, 1166, rfl⟩
abbrev main_call37_v6 : Ref sig .tc := ⟨.hbm, 1167, rfl⟩
abbrev main_call37_v7 : Ref sig .tc := ⟨.hbm, 1168, rfl⟩
abbrev main_call37_v8 : Ref sig .tc := ⟨.hbm, 1169, rfl⟩
abbrev main_call37_v9 : Ref sig .tc := ⟨.hbm, 1170, rfl⟩
abbrev main_call37_v10 : Ref sig .tc := ⟨.hbm, 1171, rfl⟩
abbrev main_call37_v11 : Ref sig .tc := ⟨.hbm, 1172, rfl⟩
abbrev main_call37_c_3 : Ref sig .tc := ⟨.hbm, 1173, rfl⟩
abbrev main_call37_v12 : Ref sig .tc := ⟨.hbm, 1174, rfl⟩
abbrev main_call37_v13 : Ref sig .tc := ⟨.hbm, 1175, rfl⟩
abbrev main_call37_v14 : Ref sig .tc := ⟨.hbm, 1176, rfl⟩
abbrev main_call37_cst : Ref sig .tc := ⟨.hbm, 1177, rfl⟩
abbrev main_call37_v15 : Ref sig .tc := ⟨.hbm, 1178, rfl⟩
abbrev main_v815 : Ref sig .tc := ⟨.hbm, 1179, rfl⟩
abbrev main_v816 : Ref sig .tc := ⟨.hbm, 1180, rfl⟩
abbrev main_cst_177 : Ref sig .tc := ⟨.hbm, 1181, rfl⟩
abbrev main_v817 : Ref sig .tc := ⟨.hbm, 1182, rfl⟩
abbrev main_v818 : Ref sig .tc := ⟨.hbm, 1183, rfl⟩
abbrev main_c_178 : Ref sig .tc := ⟨.hbm, 1184, rfl⟩
abbrev main_call38_v0 : Ref sig .tc := ⟨.hbm, 1185, rfl⟩
abbrev main_v819 : Ref sig .tc := ⟨.hbm, 1186, rfl⟩
abbrev main_cst_179 : Ref sig .tc := ⟨.hbm, 1187, rfl⟩
abbrev main_v820 : Ref sig .tc := ⟨.hbm, 1188, rfl⟩
abbrev main_v821 : Ref sig .tc := ⟨.hbm, 1189, rfl⟩
abbrev main_v822 : Ref sig .tc := ⟨.hbm, 1190, rfl⟩
abbrev main_v823 : Ref sig .tc := ⟨.hbm, 1191, rfl⟩
abbrev main_v824 : Ref sig .tc := ⟨.hbm, 1192, rfl⟩
abbrev main_v825 : Ref sig .tc := ⟨.hbm, 1193, rfl⟩
abbrev main_v826 : Ref sig .tc := ⟨.hbm, 1194, rfl⟩
abbrev main_v827 : Ref sig .tc := ⟨.hbm, 1195, rfl⟩
abbrev main_v828 : Ref sig .tc := ⟨.hbm, 1196, rfl⟩
abbrev main_v829 : Ref sig .tc := ⟨.hbm, 1197, rfl⟩
abbrev main_v830 : Ref sig .tc := ⟨.hbm, 1198, rfl⟩
abbrev main_v831 : Ref sig .tc := ⟨.hbm, 1199, rfl⟩
abbrev main_v832 : Ref sig .tc := ⟨.hbm, 1200, rfl⟩
abbrev main_v833 : Ref sig .tc := ⟨.hbm, 1201, rfl⟩
abbrev main_v834 : Ref sig .tc := ⟨.hbm, 1202, rfl⟩
abbrev main_v835 : Ref sig .tc := ⟨.hbm, 1203, rfl⟩
abbrev main_v836 : Ref sig .tc := ⟨.hbm, 1204, rfl⟩
abbrev main_v837 : Ref sig .tc := ⟨.hbm, 1205, rfl⟩
abbrev main_v838 : Ref sig .tc := ⟨.hbm, 1206, rfl⟩
abbrev main_v839 : Ref sig .tc := ⟨.hbm, 1207, rfl⟩
abbrev main_v840 : Ref sig .tc := ⟨.hbm, 1208, rfl⟩
abbrev main_v841 : Ref sig .tc := ⟨.hbm, 1209, rfl⟩
abbrev main_v842 : Ref sig .tc := ⟨.hbm, 1210, rfl⟩
abbrev main_v843 : Ref sig .tc := ⟨.hbm, 1211, rfl⟩
abbrev main_v844 : Ref sig .tc := ⟨.hbm, 1212, rfl⟩
abbrev main_v845 : Ref sig .tc := ⟨.hbm, 1213, rfl⟩
abbrev main_v846 : Ref sig .tc := ⟨.hbm, 1214, rfl⟩
abbrev main_v847 : Ref sig .tc := ⟨.hbm, 1215, rfl⟩
abbrev main_v848 : Ref sig .tc := ⟨.hbm, 1216, rfl⟩
abbrev main_v849 : Ref sig .tc := ⟨.hbm, 1217, rfl⟩
abbrev main_v850 : Ref sig .tc := ⟨.hbm, 1218, rfl⟩
abbrev main_v851 : Ref sig .tc := ⟨.hbm, 1219, rfl⟩
abbrev main_v852 : Ref sig .tc := ⟨.hbm, 1220, rfl⟩
abbrev main_v853 : Ref sig .tc := ⟨.hbm, 1221, rfl⟩
abbrev main_v854 : Ref sig .tc := ⟨.hbm, 1222, rfl⟩
abbrev main_v855 : Ref sig .tc := ⟨.hbm, 1223, rfl⟩
abbrev main_v856 : Ref sig .tc := ⟨.hbm, 1224, rfl⟩
abbrev main_v857 : Ref sig .tc := ⟨.hbm, 1225, rfl⟩
abbrev main_v858 : Ref sig .tc := ⟨.hbm, 1226, rfl⟩
abbrev main_v859 : Ref sig .tc := ⟨.hbm, 1227, rfl⟩
abbrev main_v860 : Ref sig .tc := ⟨.hbm, 1228, rfl⟩
abbrev main_v861 : Ref sig .tc := ⟨.hbm, 1229, rfl⟩
abbrev main_v862 : Ref sig .tc := ⟨.hbm, 1230, rfl⟩
abbrev main_v863 : Ref sig .tc := ⟨.hbm, 1231, rfl⟩
abbrev main_v864 : Ref sig .tc := ⟨.hbm, 1232, rfl⟩
abbrev main_v865 : Ref sig .tc := ⟨.hbm, 1233, rfl⟩
abbrev main_v866 : Ref sig .tc := ⟨.hbm, 1234, rfl⟩
abbrev main_v867 : Ref sig .tc := ⟨.hbm, 1235, rfl⟩
abbrev main_v868 : Ref sig .tc := ⟨.hbm, 1236, rfl⟩
abbrev main_v869 : Ref sig .tc := ⟨.hbm, 1237, rfl⟩
abbrev main_v870 : Ref sig .tc := ⟨.hbm, 1238, rfl⟩
abbrev main_v871 : Ref sig .tc := ⟨.hbm, 1239, rfl⟩
abbrev main_v872 : Ref sig .tc := ⟨.hbm, 1240, rfl⟩
abbrev main_v873 : Ref sig .tc := ⟨.hbm, 1241, rfl⟩
abbrev main_v874 : Ref sig .tc := ⟨.hbm, 1242, rfl⟩
abbrev main_v875 : Ref sig .tc := ⟨.hbm, 1243, rfl⟩
abbrev main_v876 : Ref sig .tc := ⟨.hbm, 1244, rfl⟩
abbrev main_v877 : Ref sig .tc := ⟨.hbm, 1245, rfl⟩
abbrev main_cst_180 : Ref sig .tc := ⟨.hbm, 1246, rfl⟩
abbrev main_v878 : Ref sig .tc := ⟨.hbm, 1247, rfl⟩
abbrev main_v879 : Ref sig .tc := ⟨.hbm, 1248, rfl⟩
abbrev main_v880 : Ref sig .tc := ⟨.hbm, 1249, rfl⟩
abbrev main_v881 : Ref sig .tc := ⟨.hbm, 1250, rfl⟩
abbrev main_v882 : Ref sig .tc := ⟨.hbm, 1251, rfl⟩
abbrev main_v883 : Ref sig .tc := ⟨.hbm, 1252, rfl⟩
abbrev main_v884 : Ref sig .tc := ⟨.hbm, 1253, rfl⟩
abbrev main_v885 : Ref sig .tc := ⟨.hbm, 1254, rfl⟩
abbrev main_cst_181 : Ref sig .tc := ⟨.hbm, 1255, rfl⟩
abbrev main_v886 : Ref sig .tc := ⟨.hbm, 1256, rfl⟩
abbrev main_cst_182 : Ref sig .tc := ⟨.hbm, 1257, rfl⟩
abbrev main_v887 : Ref sig .tc := ⟨.hbm, 1258, rfl⟩
abbrev main_cst_183 : Ref sig .tc := ⟨.hbm, 1259, rfl⟩
abbrev main_v888 : Ref sig .tc := ⟨.hbm, 1260, rfl⟩
abbrev main_v889 : Ref sig .tc := ⟨.hbm, 1261, rfl⟩
abbrev main_v890 : Ref sig .tc := ⟨.hbm, 1262, rfl⟩
abbrev main_v891 : Ref sig .tc := ⟨.hbm, 1263, rfl⟩
abbrev main_cst_184 : Ref sig .tc := ⟨.hbm, 1264, rfl⟩
abbrev main_v892 : Ref sig .tc := ⟨.hbm, 1265, rfl⟩
abbrev main_cst_185 : Ref sig .tc := ⟨.hbm, 1266, rfl⟩
abbrev main_v893 : Ref sig .tc := ⟨.hbm, 1267, rfl⟩
abbrev main_v894 : Ref sig .tc := ⟨.hbm, 1268, rfl⟩
abbrev main_cst_186 : Ref sig .tc := ⟨.hbm, 1269, rfl⟩
abbrev main_v895 : Ref sig .tc := ⟨.hbm, 1270, rfl⟩
abbrev main_v896 : Ref sig .tc := ⟨.hbm, 1271, rfl⟩
abbrev main_v897 : Ref sig .tc := ⟨.hbm, 1272, rfl⟩
abbrev main_v898 : Ref sig .tc := ⟨.hbm, 1273, rfl⟩
abbrev main_v899 : Ref sig .tc := ⟨.hbm, 1274, rfl⟩
abbrev main_v900 : Ref sig .tc := ⟨.hbm, 1275, rfl⟩

abbrev nD : Nat := 1
abbrev τ : Topo := Topo.v7x

variable {F : FTy → Type} [FloatOps F]
-- ==== Proof.IdealRun.lean ====
/-
  The run of the body of `KernelIdeal` on whole buffers: the generated run module's text under a larger budget, which the six
  scales in one body need.
-/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S32x8192 .f32) (harg0 : arg0.IsWhole) (arg1 : Memref sig .tc .vmem S8192x32 .f32) (harg1 : arg1.IsWhole) (arg2 : Memref sig .tc .vmem S32x8192 .f32) (harg2 : arg2.IsWhole) (arg3 : Memref sig .tc .vmem S32x288 .bf16) (harg3 : arg3.IsWhole) (arg4 : Memref sig .tc .vmem S32x288 .bf16) (harg4 : arg4.IsWhole) (arg5 : Memref sig .tc .vmem S32x288 .bf16) (harg5 : arg5.IsWhole) (arg6 : Memref sig .tc .vmem S32x288 .bf16) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S8192x8 .f32) (harg11 : arg11.IsWhole) (arg12 : Memref sig .tc .vmem S8192x32 .f32) (harg12 : arg12.IsWhole) (arg13 : Memref sig .tc .vmem S1024x16 .f32) (harg13 : arg13.IsWhole) (arg14 : Memref sig .tc .vmem S1024x64 .f32) (harg14 : arg14.IsWhole) (arg15 : Memref sig .tc .vmem S1024x256 .f32) (harg15 : arg15.IsWhole) (arg16 : Memref sig .tc .vmem S4x64 .f32) (harg16 : arg16.IsWhole) (arg17 : Memref sig .tc .vmem S16x128 .f32) (harg17 : arg17.IsWhole) (arg18 : Memref sig .tc .vmem S64x256 .f32) (harg18 : arg18.IsWhole) (arg19 : Memref sig .tc .vmem S256x512 .f32) (harg19 : arg19.IsWhole) (arg20 : Memref sig .tc .vmem S64x1024 .f32) (harg20 : arg20.IsWhole) (arg21 : Memref sig .tc .vmem S128x1024 .f32) (harg21 : arg21.IsWhole) (arg22 : Memref sig .tc .vmem S256x1024 .f32) (harg22 : arg22.IsWhole) (arg23 : Memref sig .tc .vmem S512x1024 .f32) (harg23 : arg23.IsWhole) (arg24 : Memref sig .tc .vmem S8x8192 .f32) (harg24 : arg24.IsWhole) (arg25 : Memref sig .tc .vmem S32x8192 .f32) (harg25 : arg25.IsWhole) (arg26 : Memref sig .tc .vmem S1x1 .f32) (harg26 : arg26.IsWhole) (arg27 : Memref sig .tc .vmem S8x1 .i32) (harg27 : arg27.IsWhole) (arg28 : Memref sig .tc .vmem S32x1 .i32) (harg28 : arg28.IsWhole) (arg29 : Memref sig .tc .vmem S128x1 .i32) (harg29 : arg29.IsWhole) (arg30 : Memref sig .tc .vmem S512x1 .i32) (harg30 : arg30.IsWhole) (arg31 : Memref sig .tc .vmem S2048x1 .i32) (harg31 : arg31.IsWhole) (arg32 : Memref sig .tc .vmem S8192x1 .i32) (harg32 : arg32.IsWhole)
    (x0 : Vec F S32x8192 .f32) (x1 : Vec F S8192x32 .f32) (x2 : Vec F S32x8192 .f32) (x3 : Vec F S32x288 .bf16) (x4 : Vec F S32x288 .bf16) (x5 : Vec F S32x288 .bf16) (x6 : Vec F S32x288 .bf16) (x7 : Vec F S32x1 .f32) (x8 : Vec F S32x1 .f32) (x9 : Vec F S32x1 .f32) (x10 : Vec F S32x1 .f32) (x11 : Vec F S8192x8 .f32) (x12 : Vec F S8192x32 .f32) (x13 : Vec F S1024x16 .f32) (x14 : Vec F S1024x64 .f32) (x15 : Vec F S1024x256 .f32) (x16 : Vec F S4x64 .f32) (x17 : Vec F S16x128 .f32) (x18 : Vec F S64x256 .f32) (x19 : Vec F S256x512 .f32) (x20 : Vec F S64x1024 .f32) (x21 : Vec F S128x1024 .f32) (x22 : Vec F S256x1024 .f32) (x23 : Vec F S512x1024 .f32) (x24 : Vec F S8x8192 .f32) :
    Σ' (L25 : List (View.Piece (Elt F) S32x8192 .f32)), Σ' (L26 : List (View.Piece (Elt F) S1x1 .f32)), Σ' (L27 : List (View.Piece (Elt F) S8x1 .i32)), Σ' (L28 : List (View.Piece (Elt F) S32x1 .i32)), Σ' (L29 : List (View.Piece (Elt F) S128x1 .i32)), Σ' (L30 : List (View.Piece (Elt F) S512x1 .i32)), Σ' (L31 : List (View.Piece (Elt F) S2048x1 .i32)), { L32 : List (View.Piece (Elt F) S8192x1 .i32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ (∃ f, arg25.view.loc (c : Thread nD τ) ↦[arg25.view.set]{fullShare} arg25.view.writes (Elt F) f L25) ∗ (∃ f, arg26.view.loc (c : Thread nD τ) ↦[arg26.view.set]{fullShare} arg26.view.writes (Elt F) f L26) ∗ (∃ f, arg27.view.loc (c : Thread nD τ) ↦[arg27.view.set]{fullShare} arg27.view.writes (Elt F) f L27) ∗ (∃ f, arg28.view.loc (c : Thread nD τ) ↦[arg28.view.set]{fullShare} arg28.view.writes (Elt F) f L28) ∗ (∃ f, arg29.view.loc (c : Thread nD τ) ↦[arg29.view.set]{fullShare} arg29.view.writes (Elt F) f L29) ∗ (∃ f, arg30.view.loc (c : Thread nD τ) ↦[arg30.view.set]{fullShare} arg30.view.writes (Elt F) f L30) ∗ (∃ f, arg31.view.loc (c : Thread nD τ) ↦[arg31.view.set]{fullShare} arg31.view.writes (Elt F) f L31) ∗ (∃ f, arg32.view.loc (c : Thread nD τ) ↦[arg32.view.set]{fullShare} arg32.view.writes (Elt F) f L32)) -∗ K ⟨⟩))
          ⊢ wp frame (wpE (defs₀ (F := F)) Variants.none c none) E (cc0__body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, ?_, fun E K => ?run⟩
  case run =>
    simp only [cc0__body_eq_skeleton]; unfold cc0__body_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    iexists _; iexact H32

end Cert.KernelIdeal.Gen

end
-- ==== Proof.IdealFrame.lean ====
/-
  The frame of `KernelIdeal`, from the run of its body: the generated frame module's text over the module `IdealRun`.
-/
module

public import proofs.«01_k».proof.Proof.IdealRun
public import Idealize.ShloMosaic.Lib.Claim

@[expose] public section

-- membership in a rectangle of production extents (`View.cover_of_tiled`): the elaborator's structural look
-- recurses once per coordinate of the long axes
set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Body

/- The body's arguments and the contents of the inputs. -/
variable (c : Dev nD) (arg0 : Memref sig .tc .vmem S32x8192 .f32) (harg0 : arg0.IsWhole) (arg1 : Memref sig .tc .vmem S8192x32 .f32) (harg1 : arg1.IsWhole) (arg2 : Memref sig .tc .vmem S32x8192 .f32) (harg2 : arg2.IsWhole) (arg3 : Memref sig .tc .vmem S32x288 .bf16) (harg3 : arg3.IsWhole) (arg4 : Memref sig .tc .vmem S32x288 .bf16) (harg4 : arg4.IsWhole) (arg5 : Memref sig .tc .vmem S32x288 .bf16) (harg5 : arg5.IsWhole) (arg6 : Memref sig .tc .vmem S32x288 .bf16) (harg6 : arg6.IsWhole) (arg7 : Memref sig .tc .vmem S32x1 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S8192x8 .f32) (harg11 : arg11.IsWhole) (arg12 : Memref sig .tc .vmem S8192x32 .f32) (harg12 : arg12.IsWhole) (arg13 : Memref sig .tc .vmem S1024x16 .f32) (harg13 : arg13.IsWhole) (arg14 : Memref sig .tc .vmem S1024x64 .f32) (harg14 : arg14.IsWhole) (arg15 : Memref sig .tc .vmem S1024x256 .f32) (harg15 : arg15.IsWhole) (arg16 : Memref sig .tc .vmem S4x64 .f32) (harg16 : arg16.IsWhole) (arg17 : Memref sig .tc .vmem S16x128 .f32) (harg17 : arg17.IsWhole) (arg18 : Memref sig .tc .vmem S64x256 .f32) (harg18 : arg18.IsWhole) (arg19 : Memref sig .tc .vmem S256x512 .f32) (harg19 : arg19.IsWhole) (arg20 : Memref sig .tc .vmem S64x1024 .f32) (harg20 : arg20.IsWhole) (arg21 : Memref sig .tc .vmem S128x1024 .f32) (harg21 : arg21.IsWhole) (arg22 : Memref sig .tc .vmem S256x1024 .f32) (harg22 : arg22.IsWhole) (arg23 : Memref sig .tc .vmem S512x1024 .f32) (harg23 : arg23.IsWhole) (arg24 : Memref sig .tc .vmem S8x8192 .f32) (harg24 : arg24.IsWhole) (arg25 : Memref sig .tc .vmem S32x8192 .f32) (harg25 : arg25.IsWhole) (arg26 : Memref sig .tc .vmem S1x1 .f32) (harg26 : arg26.IsWhole) (arg27 : Memref sig .tc .vmem S8x1 .i32) (harg27 : arg27.IsWhole) (arg28 : Memref sig .tc .vmem S32x1 .i32) (harg28 : arg28.IsWhole) (arg29 : Memref sig .tc .vmem S128x1 .i32) (harg29 : arg29.IsWhole) (arg30 : Memref sig .tc .vmem S512x1 .i32) (harg30 : arg30.IsWhole) (arg31 : Memref sig .tc .vmem S2048x1 .i32) (harg31 : arg31.IsWhole) (arg32 : Memref sig .tc .vmem S8192x1 .i32) (harg32 : arg32.IsWhole)
    (x0 : Vec F S32x8192 .f32) (x1 : Vec F S8192x32 .f32) (x2 : Vec F S32x8192 .f32) (x3 : Vec F S32x288 .bf16) (x4 : Vec F S32x288 .bf16) (x5 : Vec F S32x288 .bf16) (x6 : Vec F S32x288 .bf16) (x7 : Vec F S32x1 .f32) (x8 : Vec F S32x1 .f32) (x9 : Vec F S32x1 .f32) (x10 : Vec F S32x1 .f32) (x11 : Vec F S8192x8 .f32) (x12 : Vec F S8192x32 .f32) (x13 : Vec F S1024x16 .f32) (x14 : Vec F S1024x64 .f32) (x15 : Vec F S1024x256 .f32) (x16 : Vec F S4x64 .f32) (x17 : Vec F S16x128 .f32) (x18 : Vec F S64x256 .f32) (x19 : Vec F S256x512 .f32) (x20 : Vec F S64x1024 .f32) (x21 : Vec F S128x1024 .f32) (x22 : Vec F S256x1024 .f32) (x23 : Vec F S512x1024 .f32) (x24 : Vec F S8x8192 .f32)

/-- The run's pieces for output 25 cover its block. -/
theorem cover0_A_25 (y : S32x8192.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).1 S32x8192.size (by sl_kernel_rfl) y

/-- What the run leaves in output 25's staging buffer: its pieces read back over junk. -/
def out0_A_25 : Vec F S32x8192 .f32 :=
  VO0_25.read (Elt F) (VO0_25.writes (Elt F) VO0_25.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).1)

/-- The run's pieces for output 26 cover its block. -/
theorem cover0_A_26 (y : S1x1.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.1 S1x1.size (by sl_kernel_rfl) y

/-- What the run leaves in output 26's staging buffer: its pieces read back over junk. -/
def out0_A_26 : Vec F S1x1 .f32 :=
  VO0_26.read (Elt F) (VO0_26.writes (Elt F) VO0_26.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.1)

/-- The run's pieces for output 27 cover its block. -/
theorem cover0_A_27 (y : S8x1.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.1 S8x1.size (by sl_kernel_rfl) y

/-- What the run leaves in output 27's staging buffer: its pieces read back over junk. -/
def out0_A_27 : Vec F S8x1 .i32 :=
  VO0_27.read (Elt F) (VO0_27.writes (Elt F) VO0_27.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.1)

/-- The run's pieces for output 28 cover its block. -/
theorem cover0_A_28 (y : S32x1.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.2.1 S32x1.size (by sl_kernel_rfl) y

/-- What the run leaves in output 28's staging buffer: its pieces read back over junk. -/
def out0_A_28 : Vec F S32x1 .i32 :=
  VO0_28.read (Elt F) (VO0_28.writes (Elt F) VO0_28.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.2.1)

/-- The run's pieces for output 29 cover its block. -/
theorem cover0_A_29 (y : S128x1.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.2.2.1 S128x1.size (by sl_kernel_rfl) y

/-- What the run leaves in output 29's staging buffer: its pieces read back over junk. -/
def out0_A_29 : Vec F S128x1 .i32 :=
  VO0_29.read (Elt F) (VO0_29.writes (Elt F) VO0_29.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.2.2.1)

/-- The run's pieces for output 30 cover its block. -/
theorem cover0_A_30 (y : S512x1.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.2.2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.2.2.2.1 S512x1.size (by sl_kernel_rfl) y

/-- What the run leaves in output 30's staging buffer: its pieces read back over junk. -/
def out0_A_30 : Vec F S512x1 .i32 :=
  VO0_30.read (Elt F) (VO0_30.writes (Elt F) VO0_30.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.2.2.2.1)

/-- The run's pieces for output 31 cover its block. -/
theorem cover0_A_31 (y : S2048x1.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.2.2.2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.2.2.2.2.1 S2048x1.size (by sl_kernel_rfl) y

/-- What the run leaves in output 31's staging buffer: its pieces read back over junk. -/
def out0_A_31 : Vec F S2048x1 .i32 :=
  VO0_31.read (Elt F) (VO0_31.writes (Elt F) VO0_31.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.2.2.2.2.1)

/-- The run's pieces for output 32 cover its block. -/
theorem cover0_A_32 (y : S8192x1.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.2.2.2.2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.2.2.2.2.2.1 S8192x1.size (by sl_kernel_rfl) y

/-- What the run leaves in output 32's staging buffer: its pieces read back over junk. -/
def out0_A_32 : Vec F S8192x1 .i32 :=
  VO0_32.read (Elt F) (VO0_32.writes (Elt F) VO0_32.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24).2.2.2.2.2.2.2.1)

end Body

/-! ## What the outputs hold after each point -/

/-- What the outputs' staging buffers hold after the body at point `t` (as a tuple, in window order): the run's contents at
    the point's memrefs and input blocks. -/
def outsAt0 (c : Dev nD) (t : Fin cfg0.N) : Vec F S32x8192 .f32 × Vec F S1x1 .f32 × Vec F S8x1 .i32 × Vec F S32x1 .i32 × Vec F S128x1 .i32 × Vec F S512x1 .i32 × Vec F S2048x1 .i32 × Vec F S8192x1 .i32 :=
  (out0_A_25 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t), out0_A_26 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t), out0_A_27 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t), out0_A_28 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t), out0_A_29 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t), out0_A_30 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t), out0_A_31 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t), out0_A_32 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => (outsAt0 m c t).1
    | ⟨26, _⟩ => (outsAt0 m c t).2.1
    | ⟨27, _⟩ => (outsAt0 m c t).2.2.1
    | ⟨28, _⟩ => (outsAt0 m c t).2.2.2.1
    | ⟨29, _⟩ => (outsAt0 m c t).2.2.2.2.1
    | ⟨30, _⟩ => (outsAt0 m c t).2.2.2.2.2.1
    | ⟨31, _⟩ => (outsAt0 m c t).2.2.2.2.2.2.1
    | ⟨32, _⟩ => (outsAt0 m c t).2.2.2.2.2.2.2
    | ⟨_ + 33, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = (outsAt0 m c t).1 := by dsimp only [dats]
theorem after0_26 (c : Dev nD) (t : Fin cfg0.N) : (dats m 0 c).after 26 t = (outsAt0 m c t).2.1 := by dsimp only [dats]
theorem after0_27 (c : Dev nD) (t : Fin cfg0.N) : (dats m 0 c).after 27 t = (outsAt0 m c t).2.2.1 := by dsimp only [dats]
theorem after0_28 (c : Dev nD) (t : Fin cfg0.N) : (dats m 0 c).after 28 t = (outsAt0 m c t).2.2.2.1 := by dsimp only [dats]
theorem after0_29 (c : Dev nD) (t : Fin cfg0.N) : (dats m 0 c).after 29 t = (outsAt0 m c t).2.2.2.2.1 := by dsimp only [dats]
theorem after0_30 (c : Dev nD) (t : Fin cfg0.N) : (dats m 0 c).after 30 t = (outsAt0 m c t).2.2.2.2.2.1 := by dsimp only [dats]
theorem after0_31 (c : Dev nD) (t : Fin cfg0.N) : (dats m 0 c).after 31 t = (outsAt0 m c t).2.2.2.2.2.2.1 := by dsimp only [dats]
theorem after0_32 (c : Dev nD) (t : Fin cfg0.N) : (dats m 0 c).after 32 t = (outsAt0 m c t).2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t))

set_option maxHeartbeats 3200000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  unfold outsAt0
  unfold out0_A_25 out0_A_26 out0_A_27 out0_A_28 out0_A_29 out0_A_30 out0_A_31 out0_A_32; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply ((kernelRun0_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  iintro ⟨H0, H1, H2, H3, H4, H5, H6, H7, H8, H9, H10, H11, H12, H13, H14, H15, H16, H17, H18, H19, H20, H21, H22, H23, H24, ⟨%e25, H25⟩, ⟨%e26, H26⟩, ⟨%e27, H27⟩, ⟨%e28, H28⟩, ⟨%e29, H29⟩, ⟨%e30, H30⟩, ⟨%e31, H31⟩, ⟨%e32, H32⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H29]
  · unfold owns; iexists _; isplitr
    swap; · iexact H29
    ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H30]
  · unfold owns; iexists _; isplitr
    swap; · iexact H30
    ipureintro; exact View.read_writes_of_cover _ _ _ _ _ (cover0_A_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H31]
  · unfold owns; iexists _; isplitr
    swap; · iexact H31
    ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H32
  ipureintro; exact View.read_writes_of_cover _ _ _ _ _ (cover0_A_32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Gen

end
-- ==== Proof.IdealValue.lean ====
/-
  What the launch leaves in each result of `KernelIdeal`, block by block: the generated value module's text over the module `IdealFrame`.
-/
module

public import proofs.«01_k».proof.Proof.IdealFrame
public import Idealize.ShloMosaic.Lib.Pipeline.Value

@[expose] public section

set_option maxHeartbeats 4000000

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 25's array: the run's contents for that window after the body (`Gen.outsAt0`: its component 0), read through the window's block. -/
theorem flushed25 (c : Dev nD) (t : Fin cfg0.N) :
    (dats m 0 c).flushed 25 t = (cfg0.win 25).cut (grid0.coords t) ((outsAt0 m c t).1) := by
  show (cfg0.win 25).cut (grid0.coords t) ((dats m 0 c).after 25 t) = _
  rw [after0_25]

/-- … so at a point where case A runs, what its write-back would write is that case's NAMED TERM for the window (`Gen.out0_A_25`: the pieces
    its run found, read back) at the point's memrefs and input blocks, and for an output the case reads back what the point before left (`Gen.outsAt0` at `t - 1`) — the kernel's one case, `Gen.outsAt0` by definition. -/
theorem flushed25_A (c : Dev nD) (t : Fin cfg0.N) :
    (dats m 0 c).flushed 25 t = (cfg0.win 25).cut (grid0.coords t) (out0_A_25 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) := by
  simp only [flushed25, outsAt0]

/-- The index map sends distinct grid points to distinct block indices (decided over the 1 point). -/
theorem idx_inj25 : ∀ t t' : Fin cfg0.N, win0_25.index t = win0_25.index t' → t = t' :=
  (by decide +kernel : ∀ t t' : Fin grid0.N, win0_25.index t = win0_25.index t' → t = t')

/-- So two flushing points' blocks share no array index (Lib/Pipeline/Cells.lean `Window.disjoint_blk`). -/
theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

/-- BLOCK `t` OF THE FINAL ARRAY, read back through the window, is what point `t` wrote back (`flushed25`), for every
    point that writes back: no other point's block meets it. -/
theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

/-- An index that no flushing point's block covers keeps output window 25's array contents at region entry. -/
theorem entry25 (c : Dev nD) (i : S32x8192.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

/-- WHAT POINT `t` WRITES BACK to output window 26's array: the run's contents for that window after the body (`Gen.outsAt0`: its component 1), read through the window's block. -/
theorem flushed26 (c : Dev nD) (t : Fin cfg0.N) :
    (dats m 0 c).flushed 26 t = (cfg0.win 26).cut (grid0.coords t) ((outsAt0 m c t).2.1) := by
  show (cfg0.win 26).cut (grid0.coords t) ((dats m 0 c).after 26 t) = _
  rw [after0_26]

/-- … so at a point where case A runs, what its write-back would write is that case's NAMED TERM for the window (`Gen.out0_A_26`: the pieces
    its run found, read back) at the point's memrefs and input blocks, and for an output the case reads back what the point before left (`Gen.outsAt0` at `t - 1`) — the kernel's one case, `Gen.outsAt0` by definition. -/
theorem flushed26_A (c : Dev nD) (t : Fin cfg0.N) :
    (dats m 0 c).flushed 26 t = (cfg0.win 26).cut (grid0.coords t) (out0_A_26 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) := by
  simp only [flushed26, outsAt0]

/-- The index map sends distinct grid points to distinct block indices (decided over the 1 point). -/
theorem idx_inj26 : ∀ t t' : Fin cfg0.N, win0_26.index t = win0_26.index t' → t = t' :=
  (by decide +kernel : ∀ t t' : Fin grid0.N, win0_26.index t = win0_26.index t' → t = t')

/-- So two flushing points' blocks share no array index (Lib/Pipeline/Cells.lean `Window.disjoint_blk`). -/
theorem disjoint26 : ∀ t t' : Fin cfg0.N, (cfg0.win 26).flush t = true → (cfg0.win 26).flush t' = true → t ≠ t' →
    Disjoint ((cfg0.win 26).blk t).view.set ((cfg0.win 26).blk t').view.set :=
  fun t t' _ _ hne => (cfg0.win 26).disjoint_blk fun h => hne (idx_inj26 t t' h)

/-- BLOCK `t` OF THE FINAL ARRAY, read back through the window, is what point `t` wrote back (`flushed26`), for every
    point that writes back: no other point's block meets it. -/
theorem blocks26 (c : Dev nD) (t : Fin cfg0.N) (hf : (cfg0.win 26).flush t = true) :
    ((cfg0.win 26).blk t).view.read (Elt F) ((dats m 0 c).arrAt 26 cfg0.N) = (dats m 0 c).flushed 26 t :=
  (dats m 0 c).read_blk_arrAt_eq_flushed 26 disjoint26 cfg0.N t t.isLt hf

/-- An index that no flushing point's block covers keeps output window 26's array contents at region entry. -/
theorem entry26 (c : Dev nD) (i : S1x1.Idx) (h : ∀ t : Fin cfg0.N, (cfg0.win 26).flush t = true → i ∉ ((cfg0.win 26).blk t).view.set) :
    (dats m 0 c).arrAt 26 cfg0.N i = V m c (Pipeline.arrRef spec0 26) i := by
  rw [(dats m 0 c).arrAt_apply_of_forall_not_mem 26 cfg0.N i (fun t _ hf => h t hf), A_eq]

/-- WHAT POINT `t` WRITES BACK to output window 27's array: the run's contents for that window after the body (`Gen.outsAt0`: its component 2), read through the window's block. -/
theorem flushed27 (c : Dev nD) (t : Fin cfg0.N) :
    (dats m 0 c).flushed 27 t = (cfg0.win 27).cut (grid0.coords t) ((outsAt0 m c t).2.2.1) := by
  show (cfg0.win 27).cut (grid0.coords t) ((dats m 0 c).after 27 t) = _
  rw [after0_27]

/-- … so at a point where case A runs, what its write-back would write is that case's NAMED TERM for the window (`Gen.out0_A_27`: the pieces
    its run found, read back) at the point's memrefs and input blocks, and for an output the case reads back what the point before left (`Gen.outsAt0` at `t - 1`) — the kernel's one case, `Gen.outsAt0` by definition. -/
theorem flushed27_A (c : Dev nD) (t : Fin cfg0.N) :
    (dats m 0 c).flushed 27 t = (cfg0.win 27).cut (grid0.coords t) (out0_A_27 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) := by
  simp only [flushed27, outsAt0]

/-- The index map sends distinct grid points to distinct block indices (decided over the 1 point). -/
theorem idx_inj27 : ∀ t t' : Fin cfg0.N, win0_27.index t = win0_27.index t' → t = t' :=
  (by decide +kernel : ∀ t t' : Fin grid0.N, win0_27.index t = win0_27.index t' → t = t')

/-- So two flushing points' blocks share no array index (Lib/Pipeline/Cells.lean `Window.disjoint_blk`). -/
theorem disjoint27 : ∀ t t' : Fin cfg0.N, (cfg0.win 27).flush t = true → (cfg0.win 27).flush t' = true → t ≠ t' →
    Disjoint ((cfg0.win 27).blk t).view.set ((cfg0.win 27).blk t').view.set :=
  fun t t' _ _ hne => (cfg0.win 27).disjoint_blk fun h => hne (idx_inj27 t t' h)

/-- BLOCK `t` OF THE FINAL ARRAY, read back through the window, is what point `t` wrote back (`flushed27`), for every
    point that writes back: no other point's block meets it. -/
theorem blocks27 (c : Dev nD) (t : Fin cfg0.N) (hf : (cfg0.win 27).flush t = true) :
    ((cfg0.win 27).blk t).view.read (Elt F) ((dats m 0 c).arrAt 27 cfg0.N) = (dats m 0 c).flushed 27 t :=
  (dats m 0 c).read_blk_arrAt_eq_flushed 27 disjoint27 cfg0.N t t.isLt hf

/-- An index that no flushing point's block covers keeps output window 27's array contents at region entry. -/
theorem entry27 (c : Dev nD) (i : S8x1.Idx) (h : ∀ t : Fin cfg0.N, (cfg0.win 27).flush t = true → i ∉ ((cfg0.win 27).blk t).view.set) :
    (dats m 0 c).arrAt 27 cfg0.N i = V m c (Pipeline.arrRef spec0 27) i := by
  rw [(dats m 0 c).arrAt_apply_of_forall_not_mem 27 cfg0.N i (fun t _ hf => h t hf), A_eq]

/-- WHAT POINT `t` WRITES BACK to output window 28's array: the run's contents for that window after the body (`Gen.outsAt0`: its component 3), read through the window's block. -/
theorem flushed28 (c : Dev nD) (t : Fin cfg0.N) :
    (dats m 0 c).flushed 28 t = (cfg0.win 28).cut (grid0.coords t) ((outsAt0 m c t).2.2.2.1) := by
  show (cfg0.win 28).cut (grid0.coords t) ((dats m 0 c).after 28 t) = _
  rw [after0_28]

/-- … so at a point where case A runs, what its write-back would write is that case's NAMED TERM for the window (`Gen.out0_A_28`: the pieces
    its run found, read back) at the point's memrefs and input blocks, and for an output the case reads back what the point before left (`Gen.outsAt0` at `t - 1`) — the kernel's one case, `Gen.outsAt0` by definition. -/
theorem flushed28_A (c : Dev nD) (t : Fin cfg0.N) :
    (dats m 0 c).flushed 28 t = (cfg0.win 28).cut (grid0.coords t) (out0_A_28 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) := by
  simp only [flushed28, outsAt0]

/-- The index map sends distinct grid points to distinct block indices (decided over the 1 point). -/
theorem idx_inj28 : ∀ t t' : Fin cfg0.N, win0_28.index t = win0_28.index t' → t = t' :=
  (by decide +kernel : ∀ t t' : Fin grid0.N, win0_28.index t = win0_28.index t' → t = t')

/-- So two flushing points' blocks share no array index (Lib/Pipeline/Cells.lean `Window.disjoint_blk`). -/
theorem disjoint28 : ∀ t t' : Fin cfg0.N, (cfg0.win 28).flush t = true → (cfg0.win 28).flush t' = true → t ≠ t' →
    Disjoint ((cfg0.win 28).blk t).view.set ((cfg0.win 28).blk t').view.set :=
  fun t t' _ _ hne => (cfg0.win 28).disjoint_blk fun h => hne (idx_inj28 t t' h)

/-- BLOCK `t` OF THE FINAL ARRAY, read back through the window, is what point `t` wrote back (`flushed28`), for every
    point that writes back: no other point's block meets it. -/
theorem blocks28 (c : Dev nD) (t : Fin cfg0.N) (hf : (cfg0.win 28).flush t = true) :
    ((cfg0.win 28).blk t).view.read (Elt F) ((dats m 0 c).arrAt 28 cfg0.N) = (dats m 0 c).flushed 28 t :=
  (dats m 0 c).read_blk_arrAt_eq_flushed 28 disjoint28 cfg0.N t t.isLt hf

/-- An index that no flushing point's block covers keeps output window 28's array contents at region entry. -/
theorem entry28 (c : Dev nD) (i : S32x1.Idx) (h : ∀ t : Fin cfg0.N, (cfg0.win 28).flush t = true → i ∉ ((cfg0.win 28).blk t).view.set) :
    (dats m 0 c).arrAt 28 cfg0.N i = V m c (Pipeline.arrRef spec0 28) i := by
  rw [(dats m 0 c).arrAt_apply_of_forall_not_mem 28 cfg0.N i (fun t _ hf => h t hf), A_eq]

/-- WHAT POINT `t` WRITES BACK to output window 29's array: the run's contents for that window after the body (`Gen.outsAt0`: its component 4), read through the window's block. -/
theorem flushed29 (c : Dev nD) (t : Fin cfg0.N) :
    (dats m 0 c).flushed 29 t = (cfg0.win 29).cut (grid0.coords t) ((outsAt0 m c t).2.2.2.2.1) := by
  show (cfg0.win 29).cut (grid0.coords t) ((dats m 0 c).after 29 t) = _
  rw [after0_29]

/-- … so at a point where case A runs, what its write-back would write is that case's NAMED TERM for the window (`Gen.out0_A_29`: the pieces
    its run found, read back) at the point's memrefs and input blocks, and for an output the case reads back what the point before left (`Gen.outsAt0` at `t - 1`) — the kernel's one case, `Gen.outsAt0` by definition. -/
theorem flushed29_A (c : Dev nD) (t : Fin cfg0.N) :
    (dats m 0 c).flushed 29 t = (cfg0.win 29).cut (grid0.coords t) (out0_A_29 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) := by
  simp only [flushed29, outsAt0]

/-- The index map sends distinct grid points to distinct block indices (decided over the 1 point). -/
theorem idx_inj29 : ∀ t t' : Fin cfg0.N, win0_29.index t = win0_29.index t' → t = t' :=
  (by decide +kernel : ∀ t t' : Fin grid0.N, win0_29.index t = win0_29.index t' → t = t')

/-- So two flushing points' blocks share no array index (Lib/Pipeline/Cells.lean `Window.disjoint_blk`). -/
theorem disjoint29 : ∀ t t' : Fin cfg0.N, (cfg0.win 29).flush t = true → (cfg0.win 29).flush t' = true → t ≠ t' →
    Disjoint ((cfg0.win 29).blk t).view.set ((cfg0.win 29).blk t').view.set :=
  fun t t' _ _ hne => (cfg0.win 29).disjoint_blk fun h => hne (idx_inj29 t t' h)

/-- BLOCK `t` OF THE FINAL ARRAY, read back through the window, is what point `t` wrote back (`flushed29`), for every
    point that writes back: no other point's block meets it. -/
theorem blocks29 (c : Dev nD) (t : Fin cfg0.N) (hf : (cfg0.win 29).flush t = true) :
    ((cfg0.win 29).blk t).view.read (Elt F) ((dats m 0 c).arrAt 29 cfg0.N) = (dats m 0 c).flushed 29 t :=
  (dats m 0 c).read_blk_arrAt_eq_flushed 29 disjoint29 cfg0.N t t.isLt hf

/-- An index that no flushing point's block covers keeps output window 29's array contents at region entry. -/
theorem entry29 (c : Dev nD) (i : S128x1.Idx) (h : ∀ t : Fin cfg0.N, (cfg0.win 29).flush t = true → i ∉ ((cfg0.win 29).blk t).view.set) :
    (dats m 0 c).arrAt 29 cfg0.N i = V m c (Pipeline.arrRef spec0 29) i := by
  rw [(dats m 0 c).arrAt_apply_of_forall_not_mem 29 cfg0.N i (fun t _ hf => h t hf), A_eq]

/-- WHAT POINT `t` WRITES BACK to output window 30's array: the run's contents for that window after the body (`Gen.outsAt0`: its component 5), read through the window's block. -/
theorem flushed30 (c : Dev nD) (t : Fin cfg0.N) :
    (dats m 0 c).flushed 30 t = (cfg0.win 30).cut (grid0.coords t) ((outsAt0 m c t).2.2.2.2.2.1) := by
  show (cfg0.win 30).cut (grid0.coords t) ((dats m 0 c).after 30 t) = _
  rw [after0_30]

/-- … so at a point where case A runs, what its write-back would write is that case's NAMED TERM for the window (`Gen.out0_A_30`: the pieces
    its run found, read back) at the point's memrefs and input blocks, and for an output the case reads back what the point before left (`Gen.outsAt0` at `t - 1`) — the kernel's one case, `Gen.outsAt0` by definition. -/
theorem flushed30_A (c : Dev nD) (t : Fin cfg0.N) :
    (dats m 0 c).flushed 30 t = (cfg0.win 30).cut (grid0.coords t) (out0_A_30 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) := by
  simp only [flushed30, outsAt0]

/-- The index map sends distinct grid points to distinct block indices (decided over the 1 point). -/
theorem idx_inj30 : ∀ t t' : Fin cfg0.N, win0_30.index t = win0_30.index t' → t = t' :=
  (by decide +kernel : ∀ t t' : Fin grid0.N, win0_30.index t = win0_30.index t' → t = t')

/-- So two flushing points' blocks share no array index (Lib/Pipeline/Cells.lean `Window.disjoint_blk`). -/
theorem disjoint30 : ∀ t t' : Fin cfg0.N, (cfg0.win 30).flush t = true → (cfg0.win 30).flush t' = true → t ≠ t' →
    Disjoint ((cfg0.win 30).blk t).view.set ((cfg0.win 30).blk t').view.set :=
  fun t t' _ _ hne => (cfg0.win 30).disjoint_blk fun h => hne (idx_inj30 t t' h)

/-- BLOCK `t` OF THE FINAL ARRAY, read back through the window, is what point `t` wrote back (`flushed30`), for every
    point that writes back: no other point's block meets it. -/
theorem blocks30 (c : Dev nD) (t : Fin cfg0.N) (hf : (cfg0.win 30).flush t = true) :
    ((cfg0.win 30).blk t).view.read (Elt F) ((dats m 0 c).arrAt 30 cfg0.N) = (dats m 0 c).flushed 30 t :=
  (dats m 0 c).read_blk_arrAt_eq_flushed 30 disjoint30 cfg0.N t t.isLt hf

/-- An index that no flushing point's block covers keeps output window 30's array contents at region entry. -/
theorem entry30 (c : Dev nD) (i : S512x1.Idx) (h : ∀ t : Fin cfg0.N, (cfg0.win 30).flush t = true → i ∉ ((cfg0.win 30).blk t).view.set) :
    (dats m 0 c).arrAt 30 cfg0.N i = V m c (Pipeline.arrRef spec0 30) i := by
  rw [(dats m 0 c).arrAt_apply_of_forall_not_mem 30 cfg0.N i (fun t _ hf => h t hf), A_eq]

/-- WHAT POINT `t` WRITES BACK to output window 31's array: the run's contents for that window after the body (`Gen.outsAt0`: its component 6), read through the window's block. -/
theorem flushed31 (c : Dev nD) (t : Fin cfg0.N) :
    (dats m 0 c).flushed 31 t = (cfg0.win 31).cut (grid0.coords t) ((outsAt0 m c t).2.2.2.2.2.2.1) := by
  show (cfg0.win 31).cut (grid0.coords t) ((dats m 0 c).after 31 t) = _
  rw [after0_31]

/-- … so at a point where case A runs, what its write-back would write is that case's NAMED TERM for the window (`Gen.out0_A_31`: the pieces
    its run found, read back) at the point's memrefs and input blocks, and for an output the case reads back what the point before left (`Gen.outsAt0` at `t - 1`) — the kernel's one case, `Gen.outsAt0` by definition. -/
theorem flushed31_A (c : Dev nD) (t : Fin cfg0.N) :
    (dats m 0 c).flushed 31 t = (cfg0.win 31).cut (grid0.coords t) (out0_A_31 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) := by
  simp only [flushed31, outsAt0]

/-- The index map sends distinct grid points to distinct block indices (decided over the 1 point). -/
theorem idx_inj31 : ∀ t t' : Fin cfg0.N, win0_31.index t = win0_31.index t' → t = t' :=
  (by decide +kernel : ∀ t t' : Fin grid0.N, win0_31.index t = win0_31.index t' → t = t')

/-- So two flushing points' blocks share no array index (Lib/Pipeline/Cells.lean `Window.disjoint_blk`). -/
theorem disjoint31 : ∀ t t' : Fin cfg0.N, (cfg0.win 31).flush t = true → (cfg0.win 31).flush t' = true → t ≠ t' →
    Disjoint ((cfg0.win 31).blk t).view.set ((cfg0.win 31).blk t').view.set :=
  fun t t' _ _ hne => (cfg0.win 31).disjoint_blk fun h => hne (idx_inj31 t t' h)

/-- BLOCK `t` OF THE FINAL ARRAY, read back through the window, is what point `t` wrote back (`flushed31`), for every
    point that writes back: no other point's block meets it. -/
theorem blocks31 (c : Dev nD) (t : Fin cfg0.N) (hf : (cfg0.win 31).flush t = true) :
    ((cfg0.win 31).blk t).view.read (Elt F) ((dats m 0 c).arrAt 31 cfg0.N) = (dats m 0 c).flushed 31 t :=
  (dats m 0 c).read_blk_arrAt_eq_flushed 31 disjoint31 cfg0.N t t.isLt hf

/-- An index that no flushing point's block covers keeps output window 31's array contents at region entry. -/
theorem entry31 (c : Dev nD) (i : S2048x1.Idx) (h : ∀ t : Fin cfg0.N, (cfg0.win 31).flush t = true → i ∉ ((cfg0.win 31).blk t).view.set) :
    (dats m 0 c).arrAt 31 cfg0.N i = V m c (Pipeline.arrRef spec0 31) i := by
  rw [(dats m 0 c).arrAt_apply_of_forall_not_mem 31 cfg0.N i (fun t _ hf => h t hf), A_eq]

/-- WHAT POINT `t` WRITES BACK to output window 32's array: the run's contents for that window after the body (`Gen.outsAt0`: its component 7), read through the window's block. -/
theorem flushed32 (c : Dev nD) (t : Fin cfg0.N) :
    (dats m 0 c).flushed 32 t = (cfg0.win 32).cut (grid0.coords t) ((outsAt0 m c t).2.2.2.2.2.2.2) := by
  show (cfg0.win 32).cut (grid0.coords t) ((dats m 0 c).after 32 t) = _
  rw [after0_32]

/-- … so at a point where case A runs, what its write-back would write is that case's NAMED TERM for the window (`Gen.out0_A_32`: the pieces
    its run found, read back) at the point's memrefs and input blocks, and for an output the case reads back what the point before left (`Gen.outsAt0` at `t - 1`) — the kernel's one case, `Gen.outsAt0` by definition. -/
theorem flushed32_A (c : Dev nD) (t : Fin cfg0.N) :
    (dats m 0 c).flushed 32 t = (cfg0.win 32).cut (grid0.coords t) (out0_A_32 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) := by
  simp only [flushed32, outsAt0]

/-- The index map sends distinct grid points to distinct block indices (decided over the 1 point). -/
theorem idx_inj32 : ∀ t t' : Fin cfg0.N, win0_32.index t = win0_32.index t' → t = t' :=
  (by decide +kernel : ∀ t t' : Fin grid0.N, win0_32.index t = win0_32.index t' → t = t')

/-- So two flushing points' blocks share no array index (Lib/Pipeline/Cells.lean `Window.disjoint_blk`). -/
theorem disjoint32 : ∀ t t' : Fin cfg0.N, (cfg0.win 32).flush t = true → (cfg0.win 32).flush t' = true → t ≠ t' →
    Disjoint ((cfg0.win 32).blk t).view.set ((cfg0.win 32).blk t').view.set :=
  fun t t' _ _ hne => (cfg0.win 32).disjoint_blk fun h => hne (idx_inj32 t t' h)

/-- BLOCK `t` OF THE FINAL ARRAY, read back through the window, is what point `t` wrote back (`flushed32`), for every
    point that writes back: no other point's block meets it. -/
theorem blocks32 (c : Dev nD) (t : Fin cfg0.N) (hf : (cfg0.win 32).flush t = true) :
    ((cfg0.win 32).blk t).view.read (Elt F) ((dats m 0 c).arrAt 32 cfg0.N) = (dats m 0 c).flushed 32 t :=
  (dats m 0 c).read_blk_arrAt_eq_flushed 32 disjoint32 cfg0.N t t.isLt hf

/-- An index that no flushing point's block covers keeps output window 32's array contents at region entry. -/
theorem entry32 (c : Dev nD) (i : S8192x1.Idx) (h : ∀ t : Fin cfg0.N, (cfg0.win 32).flush t = true → i ∉ ((cfg0.win 32).blk t).view.set) :
    (dats m 0 c).arrAt 32 cfg0.N i = V m c (Pipeline.arrRef spec0 32) i := by
  rw [(dats m 0 c).arrAt_apply_of_forall_not_mem 32 cfg0.N i (fun t _ hf => h t hf), A_eq]

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v181_0) = (dats m 0 c).arrAt 25 cfg0.N :=
  (h c).1 25

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v181_1) = (dats m 0 c).arrAt 26 cfg0.N :=
  (h c).1 26

/-- After the frame run, output window 27's array is `(dats m 0 c).arrAt 27 N`. -/
theorem post27 (r : PUnit × MemSt nD τ sig (Elt F)) (h : Pipeline.FramePost cfgs (dats m) 0 (V m) r) (c : Dev nD) :
    r.2.mem ((c : Thread nD τ).loc main_v181_2) = (dats m 0 c).arrAt 27 cfg0.N :=
  (h c).1 27

/-- After the frame run, output window 28's array is `(dats m 0 c).arrAt 28 N`. -/
theorem post28 (r : PUnit × MemSt nD τ sig (Elt F)) (h : Pipeline.FramePost cfgs (dats m) 0 (V m) r) (c : Dev nD) :
    r.2.mem ((c : Thread nD τ).loc main_v181_3) = (dats m 0 c).arrAt 28 cfg0.N :=
  (h c).1 28

/-- After the frame run, output window 29's array is `(dats m 0 c).arrAt 29 N`. -/
theorem post29 (r : PUnit × MemSt nD τ sig (Elt F)) (h : Pipeline.FramePost cfgs (dats m) 0 (V m) r) (c : Dev nD) :
    r.2.mem ((c : Thread nD τ).loc main_v181_4) = (dats m 0 c).arrAt 29 cfg0.N :=
  (h c).1 29

/-- After the frame run, output window 30's array is `(dats m 0 c).arrAt 30 N`. -/
theorem post30 (r : PUnit × MemSt nD τ sig (Elt F)) (h : Pipeline.FramePost cfgs (dats m) 0 (V m) r) (c : Dev nD) :
    r.2.mem ((c : Thread nD τ).loc main_v181_5) = (dats m 0 c).arrAt 30 cfg0.N :=
  (h c).1 30

/-- After the frame run, output window 31's array is `(dats m 0 c).arrAt 31 N`. -/
theorem post31 (r : PUnit × MemSt nD τ sig (Elt F)) (h : Pipeline.FramePost cfgs (dats m) 0 (V m) r) (c : Dev nD) :
    r.2.mem ((c : Thread nD τ).loc main_v181_6) = (dats m 0 c).arrAt 31 cfg0.N :=
  (h c).1 31

/-- After the frame run, output window 32's array is `(dats m 0 c).arrAt 32 N`. -/
theorem post32 (r : PUnit × MemSt nD τ sig (Elt F)) (h : Pipeline.FramePost cfgs (dats m) 0 (V m) r) (c : Dev nD) :
    r.2.mem ((c : Thread nD τ).loc main_v181_7) = (dats m 0 c).arrAt 32 cfg0.N :=
  (h c).1 32

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

set_option maxHeartbeats 305000 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v181_0) = (dats m 0 c).arrAt 25 cfg0.N
      ∧ r.2.mem ((c : Thread nD τ).loc main_v181_1) = (dats m 0 c).arrAt 26 cfg0.N
      ∧ r.2.mem ((c : Thread nD τ).loc main_v181_2) = (dats m 0 c).arrAt 27 cfg0.N
      ∧ r.2.mem ((c : Thread nD τ).loc main_v181_3) = (dats m 0 c).arrAt 28 cfg0.N
      ∧ r.2.mem ((c : Thread nD τ).loc main_v181_4) = (dats m 0 c).arrAt 29 cfg0.N
      ∧ r.2.mem ((c : Thread nD τ).loc main_v181_5) = (dats m 0 c).arrAt 30 cfg0.N
      ∧ r.2.mem ((c : Thread nD τ).loc main_v181_6) = (dats m 0 c).arrAt 31 cfg0.N
      ∧ r.2.mem ((c : Thread nD τ).loc main_v181_7) = (dats m 0 c).arrAt 32 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post25 m r h c,
      post26 m r h c,
      post27 m r h c,
      post28 m r h c,
      post29 m r h c,
      post30 m r h c,
      post31 m r h c,
      post32 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.KernelIdeal.Value

end
-- ==== Proof.First.lean ====
/-
  The nearest code of a row, chunk by chunk: the first index at which a function is least, over a whole axis
  (a minimum and the least index equal to it) and over an axis cut into chunks (a running minimum replaced only by a
  smaller one).
-/
module

public import Idealize.ShloMosaic.Lib.Pointwise

@[expose] public section

noncomputable section

namespace Cert.Msvq

open Idealize.ShloMosaic

/-- `m` is the first of the indices below `n` at which `d` is least. -/
def IsFirst (d : ℕ → EReal) (n m : ℕ) : Prop :=
  m < n ∧ (∀ k < n, d m ≤ d k) ∧ ∀ k < m, d m < d k

/-- There is only one first index. -/
theorem IsFirst.unique {d : ℕ → EReal} {n m m' : ℕ} (h : IsFirst d n m) (h' : IsFirst d n m') : m = m' := by
  rcases lt_trichotomy m m' with hlt | heq | hgt
  · exact absurd (h'.2.2 m hlt) (not_lt.mpr (h.2.1 m' h'.1))
  · exact heq
  · exact absurd (h.2.2 m' hgt) (not_lt.mpr (h'.2.1 m h.1))

/-- A nonempty range has a first least index. -/
theorem exists_isFirst (d : ℕ → EReal) (n : ℕ) (hn : 0 < n) : ∃ m, IsFirst d n m := by
  classical
  obtain ⟨a, ha, hmin⟩ := Finset.exists_min_image (Finset.range n) d ⟨0, by simpa using hn⟩
  have hex : ∃ m, m < n ∧ ∀ k < n, d m ≤ d k :=
    ⟨a, by simpa using ha, fun k hk => hmin k (by simpa using hk)⟩
  refine ⟨Nat.find hex, (Nat.find_spec hex).1, (Nat.find_spec hex).2, fun k hk => ?_⟩
  by_contra hle
  have hle := not_lt.mp hle
  exact Nat.find_min hex hk ⟨hk.trans (Nat.find_spec hex).1, fun j hj => hle.trans ((Nat.find_spec hex).2 j hj)⟩

/-- The first least index of a range. -/
def first (d : ℕ → EReal) (n : ℕ) (hn : 0 < n) : ℕ := (exists_isFirst d n hn).choose

/-- The first place of the least value is one. -/
theorem first_spec (d : ℕ → EReal) (n : ℕ) (hn : 0 < n) : IsFirst d n (first d n hn) := (exists_isFirst d n hn).choose_spec

/-- The minimum taken as a fold from the top is the value at the first least index. -/
theorem fold_min_eq {n m : ℕ} {d : ℕ → EReal} (h : IsFirst d n m) (D : Fin n → EReal) (hD : ∀ k, D k = d k) :
    (Finset.univ : Finset (Fin n)).fold min ⊤ D = d m := by
  apply le_antisymm
  · rw [← hD ⟨m, h.1⟩]
    exact (Finset.fold_min_le _).mpr (Or.inr ⟨_, Finset.mem_univ _, le_rfl⟩)
  · refine (Finset.le_fold_min _).mpr ⟨le_top, fun k _ => ?_⟩
    rw [hD]; exact h.2.1 k k.2

instance : Std.Commutative (IntOp.minsi (w := 32)) := ⟨fun a b => by
  unfold IntOp.minsi
  simp only [BitVec.slt_eq_decide, decide_eq_true_eq]
  split <;> split <;> first | omega | rfl | (apply BitVec.eq_of_toInt_eq; omega)⟩

instance : Std.Associative (IntOp.minsi (w := 32)) := ⟨fun a b c => by
  unfold IntOp.minsi
  simp only [BitVec.slt_eq_decide, decide_eq_true_eq]
  (repeat' split) <;> first | omega | rfl | (apply BitVec.eq_of_toInt_eq; omega)⟩

/-- The signed minimum of words, read as an integer. -/
theorem toInt_minsi (a b : BitVec 32) : (IntOp.minsi a b).toInt = min a.toInt b.toInt := by
  unfold IntOp.minsi
  simp only [BitVec.slt_eq_decide, decide_eq_true_eq]
  split <;> omega

/-- A small number as a word reads back as itself. -/
theorem toInt_small (k : ℕ) (hk : k < 2 ^ 31) : (BitVec.ofNat 32 k).toInt = (k : ℤ) := by
  rw [BitVec.toInt_eq_toNat_cond, BitVec.toNat_ofNat]
  have : k % 2 ^ 32 = k := Nat.mod_eq_of_lt (by omega)
  rw [this]; split <;> omega

/-- The least index equal to the minimum, taken as a fold of the signed minimum over "the index where equal, else a
    number past the end", is the first least index. -/
theorem fold_minsi_eq {n m : ℕ} (hn : n < 2 ^ 31) {d : ℕ → EReal} (h : IsFirst d n m)
    (W : Fin n → BitVec 32) (hW : ∀ k : Fin n, W k = if d k = d m then BitVec.ofNat 32 k else BitVec.ofNat 32 n) :
    (Finset.univ : Finset (Fin n)).fold IntOp.minsi 2147483647#32 W = BitVec.ofNat 32 m := by
  classical
  have key : ∀ s : Finset (Fin n), (s.fold IntOp.minsi 2147483647#32 W).toInt
      = s.fold min (2147483647 : ℤ) fun k => (W k).toInt := by
    intro s
    induction s using Finset.induction_on with
    | empty => simp
    | insert a s ha ih => rw [Finset.fold_insert ha, Finset.fold_insert ha, toInt_minsi, ih]
  apply BitVec.eq_of_toInt_eq
  have hmn := h.1
  rw [key, toInt_small m (by omega)]
  have hv : ∀ k : Fin n, (W k).toInt = if d k = d m then (k : ℤ) else (n : ℤ) := by
    intro k; rw [hW]; have := k.2; split <;> rw [toInt_small _ (by omega)]
  apply le_antisymm
  · refine (Finset.fold_min_le _).mpr (Or.inr ⟨⟨m, h.1⟩, Finset.mem_univ _, ?_⟩)
    rw [hv, if_pos rfl]
  · refine (Finset.le_fold_min _).mpr ⟨by omega, fun k _ => ?_⟩
    rw [hv]
    split
    · rename_i heq
      by_contra hlt
      have : (k : ℕ) < m := by omega
      exact absurd (h.2.2 k this) (by rw [heq]; exact lt_irrefl _)
    · omega

/-- A first least index of the indices before a chunk and one within the chunk make the first least index of both
    together: the chunk's wins only when it is strictly smaller. -/
theorem IsFirst.append {d : ℕ → EReal} {n c m j : ℕ} (h : IsFirst d n m) (h' : IsFirst (fun k => d (n + k)) c j) :
    IsFirst d (n + c) (if d (n + j) < d m then n + j else m) := by
  obtain ⟨h1, h2, h3⟩ := h
  obtain ⟨g1, g2, g3⟩ := h'
  split
  · rename_i hlt
    refine ⟨by omega, fun k hk => ?_, fun k hk => ?_⟩
    · rcases lt_or_ge k n with hkn | hkn
      · exact hlt.le.trans (h2 k hkn)
      · obtain ⟨i, rfl⟩ := Nat.exists_eq_add_of_le hkn
        exact g2 i (by omega)
    · rcases lt_or_ge k n with hkn | hkn
      · exact hlt.trans_le (h2 k hkn)
      · obtain ⟨i, rfl⟩ := Nat.exists_eq_add_of_le hkn
        exact g3 i (by omega)
  · rename_i hge
    have hge := not_lt.mp hge
    refine ⟨by omega, fun k hk => ?_, h3⟩
    rcases lt_or_ge k n with hkn | hkn
    · exact h2 k hkn
    · obtain ⟨i, rfl⟩ := Nat.exists_eq_add_of_le hkn
      exact hge.trans (g2 i (by omega))

/-- What the running search holds after the first `n` codes: nothing but the start when `n = 0`; afterwards the least
    distance, its first index as a word, and that code's vector. -/
def Best (d : ℕ → EReal) (e : ℕ → Fin 32 → EReal) (n : ℕ) (bd : EReal) (bi : BitVec 32) (bv : Fin 32 → EReal) : Prop :=
  (n = 0 ∧ bd = ⊤) ∨ ∃ m, IsFirst d n m ∧ bd = d m ∧ bi = BitVec.ofNat 32 m ∧ bv = e m

/-- One chunk of the running search keeps `Best`, when every distance is below the top. -/
theorem Best.step {d : ℕ → EReal} {e : ℕ → Fin 32 → EReal} {n c : ℕ} {bd : EReal} {bi : BitVec 32} {bv : Fin 32 → EReal}
    (h : Best d e n bd bi bv) (hfin : ∀ k < n + c, d k < ⊤) (hc : 0 < c) {j : ℕ}
    (hj : IsFirst (fun k => d (n + k)) c j) :
    Best d e (n + c) (if d (n + j) < bd then d (n + j) else bd)
      (if d (n + j) < bd then BitVec.ofNat 32 j + BitVec.ofNat 32 n else bi)
      (fun l => if d (n + j) < bd then e (n + j) l else bv l) := by
  right
  rcases h with ⟨rfl, rfl⟩ | ⟨m, hm, rfl, rfl, rfl⟩
  · have hlt : d (0 + j) < ⊤ := hfin _ (by have := hj.1; omega)
    simp only [if_pos hlt]
    refine ⟨0 + j, ⟨by have := hj.1; omega, fun k hk => ?_, fun k hk => ?_⟩, rfl, ?_, rfl⟩
    · have := hj.2.1 k (by omega); simpa using this
    · have := hj.2.2 k (by omega); simpa using this
    · simp
  · refine ⟨_, hm.append hj, ?_, ?_, ?_⟩
    · split <;> rfl
    · split
      · rw [← BitVec.ofNat_add]; congr 1; omega
      · rfl
    · funext l; split <;> rfl

/-- At the end of the search. -/
theorem Best.done {d : ℕ → EReal} {e : ℕ → Fin 32 → EReal} {n : ℕ} (hn : 0 < n) {bd : EReal} {bi : BitVec 32}
    {bv : Fin 32 → EReal} (h : Best d e n bd bi bv) :
    bi = BitVec.ofNat 32 (first d n hn) ∧ bv = e (first d n hn) := by
  rcases h with ⟨rfl, -⟩ | ⟨m, hm, -, h1, h2⟩
  · exact absurd hn (lt_irrefl _)
  · rw [← hm.unique (first_spec d n hn)]; exact ⟨h1, h2⟩

/-- Picking one row out of `n` by a 0/1 weight is reading that row. -/
theorem sum_pick {n : ℕ} (w : Fin n → EReal) (x : Fin n → EReal) (j : Fin n)
    (hw : ∀ k, w k = if k = j then 1 else 0) : ∑ k, w k * x k = x j := by
  classical
  rw [Finset.sum_eq_single j]
  · rw [hw, if_pos rfl, one_mul]
  · intro k _ hk; rw [hw, if_neg hk, zero_mul]
  · intro h; exact absurd (Finset.mem_univ _) h

end Cert.Msvq

end
-- ==== Proof.Search.lean ====
/-
  One chunk of the running nearest-code search: the kernel's loop body as a function of the rows, the chunk of codes and
  the carried best distance, index and vector, at any number of rows; read at a row it is one step of `Best`.
-/
module

public import proofs.«01_k».proof.Proof.First
public import Idealize.ShloMosaic.Lib.Pointwise
public import Idealize.ShloMosaic.Lib.Pointwise.IndexVar

@[expose] public section

set_option maxRecDepth 16384

noncomputable section

namespace Cert.Msvq

open Idealize.ShloMosaic

variable {n : ℕ}

abbrev T2 (a b : ℕ) : Shape := ⟨2, ![a, b]⟩
abbrev T1 (a : ℕ) : Shape := ⟨1, ![a]⟩

/-- The distances of all rows to the codes of one chunk. -/
def cDist (d : DotDims (T2 n 32) (T2 32 128) (T2 n 128))
    (h1 : (T2 128 32).Reduces [1] (T1 128)) (h2 : (T1 128).ShapeCasts (T2 128 1)) (h3 : (T2 128 1).Transposes [1, 0] (T2 1 128))
    (h4 : (T2 n 1).Broadcasts (T2 n 128)) (h5 : (T2 1 128).Broadcasts (T2 n 128)) (hb : FTy.bits .bf16 < FTy.bits .f32) (h6 : (T2 32 128).ShapeCasts (T2 32 128))
    (r : FVec Ideal (T2 n 32) .f32) (rr : FVec Ideal (T2 n 1) .f32) (ec : FVec Ideal (T2 128 32) .f32) (et : FVec Ideal (T2 32 128) .f32) :
    FVec Ideal (T2 n 128) .f32 :=
  have v834 : FVec Ideal (T2 32 128) .f32 := shapeCast (T2 32 128) et h6
  have v835 : FVec Ideal (T2 128 32) .f32 := mulf ec ec
  have v836 : FVec Ideal (T1 128) .f32 := multiReduction .add [1] (T1 128) v835 0x00000000#32 h1 (.inl rfl) rfl
  have v837 : FVec Ideal (T2 128 1) .f32 := shapeCast (T2 128 1) v836 h2
  have v838 : FVec Ideal (T2 1 128) .f32 := transpose (T2 1 128) [1, 0] v837 h3
  have v839 : FVec Ideal (T2 n 32) .bf16 := truncf .bf16 r hb
  have v840 : FVec Ideal (T2 32 128) .bf16 := truncf .bf16 v834 hb
  have cst_332 : FVec Ideal (T2 n 128) .f32 := constant (T2 n 128) .f32 0x00000000#32
  have v841 : FVec Ideal (T2 n 128) .f32 := matmul d none v839 v840 cst_332
  have v842 : FVec Ideal (T2 n 128) .f32 := broadcastTo (T2 n 128) rr h4
  have v843 : FVec Ideal (T2 n 128) .f32 := broadcastTo (T2 n 128) v838 h5
  have v844 : FVec Ideal (T2 n 128) .f32 := addf v842 v843
  have cst_333 : Ideal .f32 := Scalar.ofBits .f32 0x40000000#32
  have v845 : FVec Ideal (T2 n 128) .f32 := broadcast (T2 n 128) cst_333
  have v846 : FVec Ideal (T2 n 128) .f32 := mulf v845 v841
  have v847 : FVec Ideal (T2 n 128) .f32 := subf v844 v846
  have cst_334 : Ideal .f32 := Scalar.ofBits .f32 0x00000000#32
  have v848 : FVec Ideal (T2 n 128) .f32 := broadcast (T2 n 128) cst_334
  have v849 : FVec Ideal (T2 n 128) .f32 := maximumf v847 v848
  sqrt v849

/-- The dimension numbers of a plain matrix product. -/
abbrev DotReads {a k b : ℕ} (d : DotDims (T2 a k) (T2 k b) (T2 a b)) : Prop :=
  ∀ (l : (T2 a k).Idx → EReal) (r : (T2 k b).Idx → EReal) (c : (T2 a b).Idx → EReal) (i : Fin a) (j : Fin b),
    Ideal.matmul d l r c (ix2 i j) = c (ix2 i j) + ∑ x : Fin k, l (ix2 i x) * r (ix2 x j)

/-- The distance of a row to a code, as both programs spell it. -/
def dist (r e : Fin 32 → EReal) : EReal :=
  Ideal.sqrt (max ((∑ l, r l * r l) + (∑ l, e l * e l) - Ideal.ofBits FTy.f32 1073741824#32 * ∑ l, r l * e l) 0)

/-- The distances at a row and a code. -/
theorem cDist_apply (hn : n ≠ 1) (d : DotDims (T2 n 32) (T2 32 128) (T2 n 128)) (hd : DotReads d) (h1 h2 h3 h4 h5 hb h6)
    (r : FVec Ideal (T2 n 32) .f32) (rr : FVec Ideal (T2 n 1) .f32) (ec : FVec Ideal (T2 128 32) .f32) (et : FVec Ideal (T2 32 128) .f32)
    (a : Fin n) (j : Fin 128) (e : Fin 32 → EReal) (hrr : rr (ix2 a 0) = ∑ l, r (ix2 a l) * r (ix2 a l))
    (hec : ∀ l, ec (ix2 j l) = e l) (het : ∀ l, et (ix2 l j) = e l) :
    cDist d h1 h2 h3 h4 h5 hb h6 r rr ec et (ix2 a j) = dist (fun l => r (ix2 a l)) e := by
  pointwise [cDist, hd, hn, hrr, hec, het, dist]

/-- The least distance of each row within the chunk. -/
def cMin (h1 : (T2 n 128).Reduces [1] (T1 n)) (h2 : (T1 n).ShapeCasts (T2 n 1)) (D : FVec Ideal (T2 n 128) .f32) : FVec Ideal (T2 n 1) .f32 :=
  have v851 : FVec Ideal (T1 n) .f32 := multiReduction .minimumf [1] (T1 n) D 0x7F800000#32 h1 (.inl rfl) rfl
  shapeCast (T2 n 1) v851 h2

/-- The f32 pattern of the positive infinity. -/
theorem ofBits_top : Ideal.ofBits .f32 0x7F800000#32 = ⊤ := by simp [Ideal.ofBits, Ideal.ieee]

/-- A comparison bit widened to a word and read as a number is 1 or 0. -/
theorem sitofp_bit (b : BitVec 1) : (FloatOps.sitofp (F := Ideal) FTy.f32 (BitVec.setWidth 32 b) : EReal) = if b = 1#1 then 1 else 0 := by
  rcases BitVec.eq_zero_or_eq_one b with rfl | rfl
  · show (((BitVec.setWidth 32 0#1).toInt : ℝ) : EReal) = _
    simp
  · show (((BitVec.setWidth 32 1#1).toInt : ℝ) : EReal) = _
    simp

/-- Equality of two small numbers' words. -/
theorem cmpi_eq_word (i j : ℕ) (hi : i < 2 ^ 32) (hj : j < 2 ^ 32) :
    (IntOp.cmpi CmpIPredicate.eq (BitVec.ofNat 32 i) (BitVec.ofNat 32 j) = 1#1) ↔ i = j := by
  have h : (BitVec.ofNat 32 i = BitVec.ofNat 32 j) ↔ i = j := by
    constructor
    · intro h
      have := congrArg BitVec.toNat h
      rwa [BitVec.toNat_ofNat, BitVec.toNat_ofNat, Nat.mod_eq_of_lt hi, Nat.mod_eq_of_lt hj] at this
    · rintro rfl; rfl
  show BitVec.ofBool (BitVec.ofNat 32 i == BitVec.ofNat 32 j) = 1#1 ↔ i = j
  rw [← h]
  by_cases he : BitVec.ofNat 32 i = BitVec.ofNat 32 j
  · simp only [he, beq_self_eq_true, iff_true]; rfl
  · rw [beq_eq_false_iff_ne.mpr he]; simp only [he, iff_false]; decide

/-- A vector as a column, read at a row. -/
theorem reshape_col (h : (T1 n).ShapeCasts (T2 n 1)) (a : Fin n) : Shape.reshapeEquiv h (ix2 a 0) = ix1 a := by
  apply Shape.reshapeEquiv_eq_of_rowMajor
  rw [Shape.rowMajor_val_one, Shape.rowMajor_val_two]
  show a.val = a.val * 1 + 0
  omega

/-- A chunk's least distance, read at a row. -/
theorem cMin_apply (h1 h2) (D : FVec Ideal (T2 n 128) .f32) (a : Fin n) :
    cMin h1 h2 D (ix2 a 0) = (Finset.univ : Finset (Fin 128)).fold min ⊤ fun x => D (ix2 a x) := by
  pointwise [cMin, reshape_col, ofBits_top]

/-- The least index, within the chunk, of a code at the least distance. -/
def cArg (hi : (T2 n 128).Iotas .tc 32 [1]) (h1 : (T2 n 128).Reduces [1] (T1 n)) (h2 : (T1 n).ShapeCasts (T2 n 1))
    (h3 : (T2 n 1).Broadcasts (T2 n 128)) (D : FVec Ideal (T2 n 128) .f32) (M : FVec Ideal (T2 n 1) .f32) : IVec (T2 n 1) 32 :=
  have v853 : IVec (T2 n 128) 32 := iota .tc (T2 n 128) 32 [1] hi
  have v854 : FVec Ideal (T2 n 128) .f32 := broadcastTo (T2 n 128) M h3
  have v855 : IVec (T2 n 128) 1 := cmpf .oeq D v854
  have v856 : IVec (T2 n 128) 32 := broadcast (T2 n 128) 128#32
  have v857 : IVec (T2 n 128) 32 := select v855 v853 v856
  have v858 : IVec (T1 n) 32 := multiReductionI .minsi [1] (T1 n) v857 2147483647#32 h1 rfl
  shapeCast (T2 n 1) v858 h2

/-- A chunk's first place of its least distance, read at a row. -/
theorem cArg_apply (hn : n ≠ 1) (hi h1 h2 h3) (D : FVec Ideal (T2 n 128) .f32) (M : FVec Ideal (T2 n 1) .f32) (a : Fin n) :
    cArg hi h1 h2 h3 D M (ix2 a 0) = (Finset.univ : Finset (Fin 128)).fold IntOp.minsi 2147483647#32
      fun x => if D (ix2 a x) = M (ix2 a 0) then BitVec.ofNat 32 x else 128#32 := by
  pointwise [cArg, reshape_col, hn]

/-- The chunk's code at that index, picked by a one-hot product. -/
def cVec (d : DotDims (T2 n 128) (T2 128 32) (T2 n 32)) (hi : (T2 n 128).Iotas .tc 32 [1]) (h3 : (T2 n 1).Broadcasts (T2 n 128))
    (hw : 1 < 32) (A : IVec (T2 n 1) 32) (ec : FVec Ideal (T2 128 32) .f32) : FVec Ideal (T2 n 32) .f32 :=
  have v853 : IVec (T2 n 128) 32 := iota .tc (T2 n 128) 32 [1] hi
  have v860 : IVec (T2 n 128) 32 := broadcastTo (T2 n 128) A h3
  have v861 : IVec (T2 n 128) 1 := cmpi .eq v853 v860
  have v862 : IVec (T2 n 128) 32 := extui 32 v861 hw
  have v863 : FVec Ideal (T2 n 128) .f32 := sitofp .f32 v862
  have cst_338 : FVec Ideal (T2 n 32) .f32 := constant (T2 n 32) .f32 0x00000000#32
  matmul d (some .fp32) v863 ec cst_338

/-- A chunk's nearest code, read at a row. -/
theorem cVec_apply (hn : n ≠ 1) (d : DotDims (T2 n 128) (T2 128 32) (T2 n 32)) (hd : DotReads d) (hi h3 hw) (A : IVec (T2 n 1) 32)
    (ec : FVec Ideal (T2 128 32) .f32) (a : Fin n) (l : Fin 32) (j : Fin 128) (hA : A (ix2 a 0) = BitVec.ofNat 32 j) :
    cVec d hi h3 hw A ec (ix2 a l) = ec (ix2 j l) := by
  pointwise [cVec, hn, hd, hA]
  refine sum_pick _ _ _ fun k => ?_
  have := k.2; have := j.2
  rw [sitofp_bit]
  simp only [cmpi_eq_word _ _ (show (k : ℕ) < 2 ^ 32 by omega) (show (j : ℕ) < 2 ^ 32 by omega), Fin.ext_iff]

/-- The chunk's first code as a word. -/
theorem muli_word (k : ℕ) : Scalar.muli (BitVec.ofNat 32 k) 128#32 = BitVec.ofNat 32 (128 * k) := by
  show BitVec.ofNat 32 k * 128#32 = _
  rw [show (128#32 : BitVec 32) = BitVec.ofNat 32 128 from rfl, ← BitVec.ofNat_mul, Nat.mul_comm]

/-- One trip of the loop, from the carried best distance, index and vector. -/
def cStep (d : DotDims (T2 n 32) (T2 32 128) (T2 n 128)) (d2 : DotDims (T2 n 128) (T2 128 32) (T2 n 32))
    (h1 : (T2 128 32).Reduces [1] (T1 128)) (h2 : (T1 128).ShapeCasts (T2 128 1)) (h3 : (T2 128 1).Transposes [1, 0] (T2 1 128))
    (h4 : (T2 n 1).Broadcasts (T2 n 128)) (h5 : (T2 1 128).Broadcasts (T2 n 128)) (hb : FTy.bits .bf16 < FTy.bits .f32)
    (h6 : (T2 32 128).ShapeCasts (T2 32 128)) (h7 : (T2 n 128).Reduces [1] (T1 n)) (h8 : (T1 n).ShapeCasts (T2 n 1))
    (hi : (T2 n 128).Iotas .tc 32 [1]) (hw : 1 < 32) (h9 : (T2 n 1).ShapeCasts (T2 n 1)) (h10 : (T2 n 1).Broadcasts (T2 n 32))
    (r : FVec Ideal (T2 n 32) .f32) (rr : FVec Ideal (T2 n 1) .f32) (k : BitVec 32) (ec : FVec Ideal (T2 128 32) .f32)
    (et : FVec Ideal (T2 32 128) .f32) (p : FVec Ideal (T2 n 1) .f32 × IVec (T2 n 1) 32 × FVec Ideal (T2 n 32) .f32) :
    FVec Ideal (T2 n 1) .f32 × IVec (T2 n 1) 32 × FVec Ideal (T2 n 32) .f32 :=
  let D := cDist d h1 h2 h3 h4 h5 hb h6 r rr ec et
  let M := cMin h7 h8 D
  let A := cArg hi h7 h8 h4 D M
  let U : IVec (T2 n 1) 1 := cmpf .olt M p.1
  (select U M p.1, select U (addi A (broadcast (T2 n 1) (Scalar.muli k 128#32))) p.2.1,
    select (broadcastTo (T2 n 32) (shapeCast (T2 n 1) U h9) h10) (cVec d2 hi h4 hw A ec) p.2.2)

/-- Read at a row, a trip is one step of the search. -/
theorem cStep_best (hn : n ≠ 1) (d : DotDims (T2 n 32) (T2 32 128) (T2 n 128)) (hd : DotReads d)
    (d2 : DotDims (T2 n 128) (T2 128 32) (T2 n 32)) (hd2 : DotReads d2) (h1 h2 h3 h4 h5 hb h6 h7 h8 hi hw h9 h10)
    (r : FVec Ideal (T2 n 32) .f32) (rr : FVec Ideal (T2 n 1) .f32) (k : ℕ) (hk : k < 64) (ec : FVec Ideal (T2 128 32) .f32)
    (et : FVec Ideal (T2 32 128) .f32) (p : FVec Ideal (T2 n 1) .f32 × IVec (T2 n 1) 32 × FVec Ideal (T2 n 32) .f32)
    (e : ℕ → Fin 32 → EReal) (a : Fin n) (hrr : rr (ix2 a 0) = ∑ l, r (ix2 a l) * r (ix2 a l))
    (hec : ∀ (j : Fin 128) l, ec (ix2 j l) = e (128 * k + j) l) (het : ∀ (j : Fin 128) l, et (ix2 l j) = e (128 * k + j) l)
    (hfin : ∀ i < 8192, dist (fun l => r (ix2 a l)) (e i) < ⊤)
    (hp : Best (fun i => dist (fun l => r (ix2 a l)) (e i)) e (128 * k) (p.1 (ix2 a 0)) (p.2.1 (ix2 a 0)) fun l => p.2.2 (ix2 a l)) :
    let q := cStep d d2 h1 h2 h3 h4 h5 hb h6 h7 h8 hi hw h9 h10 r rr (BitVec.ofNat 32 k) ec et p
    Best (fun i => dist (fun l => r (ix2 a l)) (e i)) e (128 * (k + 1)) (q.1 (ix2 a 0)) (q.2.1 (ix2 a 0)) fun l => q.2.2 (ix2 a l) := by
  intro q
  obtain ⟨j, hj⟩ := exists_isFirst (fun i => dist (fun l => r (ix2 a l)) (e (128 * k + i))) 128 (by norm_num)
  have hD : ∀ x : Fin 128, cDist d h1 h2 h3 h4 h5 hb h6 r rr ec et (ix2 a x) = dist (fun l => r (ix2 a l)) (e (128 * k + x)) :=
    fun x => cDist_apply hn d hd h1 h2 h3 h4 h5 hb h6 r rr ec et a x _ hrr (hec x) (het x)
  have hM : cMin h7 h8 (cDist d h1 h2 h3 h4 h5 hb h6 r rr ec et) (ix2 a 0) = dist (fun l => r (ix2 a l)) (e (128 * k + j)) := by
    rw [cMin_apply]; exact fold_min_eq hj _ hD
  have hA : cArg hi h7 h8 h4 (cDist d h1 h2 h3 h4 h5 hb h6 r rr ec et) (cMin h7 h8 (cDist d h1 h2 h3 h4 h5 hb h6 r rr ec et)) (ix2 a 0)
      = BitVec.ofNat 32 j := by
    rw [cArg_apply hn, hM]
    exact fold_minsi_eq (by norm_num) hj _ fun x => by rw [hD]
  have hV : ∀ l, cVec d2 hi h4 hw (cArg hi h7 h8 h4 (cDist d h1 h2 h3 h4 h5 hb h6 r rr ec et) (cMin h7 h8 (cDist d h1 h2 h3 h4 h5 hb h6 r rr ec et))) ec (ix2 a l)
      = e (128 * k + j) l := fun l => by
    rw [cVec_apply hn d2 hd2 hi h4 hw _ ec a l ⟨j, hj.1⟩ hA, hec]
  have := hp.step (c := 128) (fun i hi => hfin i (by omega)) (by norm_num) hj
  rw [show 128 * (k + 1) = 128 * k + 128 by ring]
  convert this using 1
  · pointwise [q, cStep, hM]
  · pointwise [q, cStep, hM, hA]
    rw [muli_word]
    rfl
  · funext l
    pointwise [q, cStep, hM, hV, hn]

end Cert.Msvq
end
-- ==== Proof.Spec.lean ====
/-
  The quantiser in plain mathematics: pooling into cells, the nearest code of each cell, resizing, the 3 x 3 filter and
  the running residual, over extended reals and indexed by image, channel and pixel.
-/
module

public import proofs.«01_k».proof.Proof.Search

@[expose] public section

set_option maxRecDepth 16384

noncomputable section

namespace Cert.Msvq

open Idealize.ShloMosaic

/-- A batch of images: image, channel, row, column. -/
abbrev Img := Fin 8 → Fin 32 → Fin 32 → Fin 32 → EReal

/-- A table of cells at `p` cells a side: image, cell row, cell column, channel. -/
abbrev Cells (p : ℕ) := Fin 8 → Fin p → Fin p → Fin 32 → EReal

/-- The `u`-th pixel of the `i`-th cell of `f` pixels. -/
abbrev pix {p f : ℕ} (h : p * f = 32) (i : Fin p) (u : Fin f) : Fin 32 :=
  ⟨i * f + u, by
    have := i.2; have := u.2
    calc (i : ℕ) * f + u < i * f + f := by omega
      _ = (i + 1) * f := by ring
      _ ≤ p * f := Nat.mul_le_mul_right f (by omega)
      _ = 32 := h⟩

/-- The mean of an image over each cell, dividing by the constant `k`. -/
def pool {p f : ℕ} (h : p * f = 32) (k : BitVec 32) (Z : Img) : Cells p := fun b i j c =>
  Ideal.div (∑ u : Fin f, ∑ v : Fin f, Z b c (pix h i u) (pix h j v)) (Ideal.ofBits .f32 k)

/-- The number of the code nearest to a vector: the first at the least distance. -/
def near (e : ℕ → Fin 32 → EReal) (r : Fin 32 → EReal) : ℕ := first (fun i => dist r (e i)) 8192 (by norm_num)

/-- The nearest code is one of the 8192. -/
theorem near_lt (e : ℕ → Fin 32 → EReal) (r : Fin 32 → EReal) : near e r < 8192 := (first_spec _ _ _).1

/-- The code nearest to each cell. -/
def quant (e : ℕ → Fin 32 → EReal) {p : ℕ} (R : Cells p) : Cells p := fun b i j c => e (near e (R b i j)) c

/-- Cells resized to images by a table of weights, rows first and then columns. -/
def resize {p : ℕ} (a : Fin p → Fin 32 → EReal) (q : Cells p) : Img := fun b c y x =>
  ∑ j, (∑ i, a i y * q b i j c) * a j x

/-- Cells of one pixel are the image. -/
def whole (Z : Img) : Cells 32 := fun b i j c => Z b c i j

/-- An image from cells of one pixel. -/
def unwhole (q : Cells 32) : Img := fun b c y x => q b y x c

/-- One tap of the filter: the pixel `ky - 1` rows down and `kx - 1` columns right, zero outside the image. -/
def tap (h : Img) (b : Fin 8) (c y x : Fin 32) (ky kx : Fin 3) : EReal :=
  if hh : (1 ≤ (y : ℕ) + ky ∧ (y : ℕ) + ky < 33) ∧ (1 ≤ (x : ℕ) + kx ∧ (x : ℕ) + kx < 33)
  then h b c ⟨y + ky - 1, by omega⟩ ⟨x + kx - 1, by omega⟩ else 0

/-- The 3 x 3 filter with bias. -/
def conv (w : Fin 32 → Fin 32 → Fin 3 → Fin 3 → EReal) (bi : Fin 32 → EReal) (h : Img) : Img := fun b o y x =>
  (∑ ky : Fin 3, ∑ kx : Fin 3, ∑ c : Fin 32, w o c ky kx * tap h b c y x ky kx) + bi o

/-- Half the image and half the filtered image. -/
def phi (w : Fin 32 → Fin 32 → Fin 3 → Fin 3 → EReal) (bi : Fin 32 → EReal) (h : Img) : Img := fun b c y x =>
  h b c y x * Ideal.ofBits .f32 0x3F000000#32 + conv w bi h b c y x * Ideal.ofBits .f32 0x3F000000#32

/-- The sum of the squared differences of two batches of images. -/
def sq (A B : Img) : EReal := ∑ b, ∑ c, ∑ y, ∑ x, (A b c y x - B b c y x) * (A b c y x - B b c y x)

end Cert.Msvq

end
-- ==== Proof.KernA.lean ====
/-
  The kernel's masks, shifts and filter: columns of a 32 x 8192 array are the pixels of eight images.
-/
module

public import proofs.«01_k».proof.Proof.Spec
public import proofs.«01_k».proof.Proof.Gen.KernelIdeal.Skeleton
public import Idealize.ShloMosaic.Lib.Routing.Words
public import Idealize.ShloMosaic.Lib.Pipeline.Value

@[expose] public section

set_option maxRecDepth 16384

noncomputable section

namespace Cert.Msvq

open Idealize.ShloMosaic Cert.KernelIdeal Cert.KernelIdeal.Gen

/-- The column of a pixel. -/
abbrev col (b : Fin 8) (y x : Fin 32) : Fin 8192 := ⟨b * 1024 + y * 32 + x, by omega⟩

/-- The images of the columns of an array. -/
def kimg (h : FVec Ideal (T2 32 8192) .f32) : Img := fun b c y x => h (ix2 c (col b y x))

/-- Every column is a pixel's. -/
theorem exists_col (j : Fin 8192) : ∃ b y x, j = col b y x :=
  ⟨⟨j / 1024, by omega⟩, ⟨j / 32 % 32, by omega⟩, ⟨j % 32, by omega⟩, Fin.ext (by
    show (j : ℕ) = j / 1024 * 1024 + j / 32 % 32 * 32 + j % 32; omega)⟩

/-- Comparisons of small numbers as words. -/
theorem cmpi_words {a b : ℕ} (ha : a < 2 ^ 31) (hb : b < 2 ^ 31) :
    IntOp.cmpi .sgt (BitVec.ofNat 32 a) (BitVec.ofNat 32 b) = BitVec.ofBool (decide (b < a)) ∧
    IntOp.cmpi .slt (BitVec.ofNat 32 a) (BitVec.ofNat 32 b) = BitVec.ofBool (decide (a < b)) ∧
    IntOp.cmpi .sge (BitVec.ofNat 32 a) (BitVec.ofNat 32 b) = BitVec.ofBool (decide (b ≤ a)) ∧
    IntOp.cmpi .sle (BitVec.ofNat 32 a) (BitVec.ofNat 32 b) = BitVec.ofBool (decide (a ≤ b)) := by
  unfold IntOp.cmpi BitVec.slt BitVec.sle
  rw [toInt_small a ha, toInt_small b hb]
  simp only [Nat.cast_lt, Nat.cast_le, and_self]

/-- The remainder by 32 of a small number. -/
theorem rem_word (n : ℕ) (hn : n < 8192) : IntOp.remsi .vector (BitVec.ofNat 32 n) 32#32 = BitVec.ofNat 32 (n % 32) :=
  Routing.remsi_word .vector (by omega) (by norm_num) (by norm_num)

/-- The quotient by 32 of a small number. -/
theorem div_word (n : ℕ) (hn : n < 8192) : IntOp.divsi .vector (BitVec.ofNat 32 n) 32#32 = BitVec.ofNat 32 (n / 32) :=
  Routing.divsi_word .vector (by omega) (by norm_num) (by norm_num)

/-- A remainder corrected to the divisor's sign is itself where both are not negative. -/
theorem mod_word (n : ℕ) (hn : n < 8192) (k : BitVec 32) (t : BitVec 1) :
    Scalar.select (IntOp.andi (IntOp.xori (IntOp.cmpi .slt (BitVec.ofNat 32 n) 0#32) 0#1) t) k (BitVec.ofNat 32 n) = BitVec.ofNat 32 n := by
  have h : IntOp.cmpi .slt (BitVec.ofNat 32 n) 0#32 = 0#1 := by
    have := (cmpi_words (a := n) (b := 0) (by omega) (by norm_num)).2.1
    simpa using this
  rw [h]
  have : ∀ t : BitVec 1, IntOp.andi (IntOp.xori 0#1 0#1) t = 0#1 := by decide
  rw [this]; rfl

/-- The kernel's floor division by 32 of a small number. -/
theorem floor_word (n : ℕ) (hn : n < 8192) :
    Scalar.select (IntOp.andi (IntOp.cmpi .ne (IntOp.subi (BitVec.setWidth 32 (IntOp.cmpi .sgt (BitVec.ofNat 32 n) 0#32)) (BitVec.setWidth 32 (IntOp.cmpi .slt (BitVec.ofNat 32 n) 0#32))) 1#32)
      (IntOp.cmpi .ne (BitVec.ofNat 32 (n % 32)) 0#32)) (IntOp.subi (BitVec.ofNat 32 (n / 32)) 1#32) (BitVec.ofNat 32 (n / 32)) = BitVec.ofNat 32 (n / 32) := by
  rcases Nat.eq_zero_or_pos n with rfl | h
  · decide
  · have h1 := (cmpi_words (a := n) (b := 0) (by omega) (by norm_num)).1
    have h2 := (cmpi_words (a := n) (b := 0) (by omega) (by norm_num)).2.1
    rw [decide_eq_true h] at h1
    rw [decide_eq_false (by omega)] at h2
    rw [h1, h2]
    have : ∀ t : BitVec 1, IntOp.andi (IntOp.cmpi .ne (IntOp.subi (BitVec.setWidth 32 (BitVec.ofBool true)) (BitVec.setWidth 32 (BitVec.ofBool false))) 1#32) t = 0#1 := by decide
    rw [this]; rfl

/-- The constant words of the two coordinates. -/
theorem const_words :
    Scalar.subi (Scalar.extui (Scalar.cmpi CmpIPredicate.sgt 32#32 0#32)) (Scalar.extui (Scalar.cmpi CmpIPredicate.slt 32#32 0#32)) = 1#32 ∧
    Scalar.select (Scalar.cmpi CmpIPredicate.eq 32#32 0#32) 1#32 32#32 = 32#32 ∧ Scalar.cmpi CmpIPredicate.slt 32#32 0#32 = 0#1 := by decide

/-- The row of a column. -/
theorem rows_apply (j : Fin 8192) : k0_pay53 (ix2 0 j) = BitVec.ofNat 32 (j / 32 % 32) := by
  pointwise [k0_pay53]
  simp only [const_words.1]
  simp only [const_words.2.1, const_words.2.2, rem_word j j.2, div_word j j.2, floor_word j j.2, rem_word (j / 32) (by omega)]
  exact mod_word _ (by omega) _ _

/-- The column within the row of a column. -/
theorem cols_apply (v : IVec S1x8192 32) (hv : ∀ j : Fin 8192, v (ix2 0 j) = BitVec.ofNat 32 j) (j : Fin 8192) : k0_pay54 v 32#32 0#32 (ix2 0 j) = BitVec.ofNat 32 (j % 32) := by
  pointwise [k0_pay54]
  rw [hv]
  simp only [const_words.1, const_words.2.1, const_words.2.2, rem_word j j.2]
  exact mod_word _ (by omega) _ _

/-- A bit read as a number. -/
theorem bit_ideal (p : Prop) [Decidable p] :
    (FloatOps.sitofp (F := Ideal) .f32 (BitVec.setWidth 32 (BitVec.ofBool (decide p))) : EReal) = if p then 1 else 0 := by
  by_cases h : p
  · rw [decide_eq_true h, if_pos h]
    show (((BitVec.setWidth 32 (BitVec.ofBool true)).toInt : ℝ) : EReal) = 1
    have : (BitVec.setWidth 32 (BitVec.ofBool true)).toInt = 1 := by decide
    rw [this]; simp
  · rw [decide_eq_false h, if_neg h]
    show (((BitVec.setWidth 32 (BitVec.ofBool false)).toInt : ℝ) : EReal) = 0
    have : (BitVec.setWidth 32 (BitVec.ofBool false)).toInt = 0 := by decide
    rw [this]; simp

/-- Where a tap stays inside the image. -/
abbrev inside (y x : Fin 32) (ky kx : Fin 3) : Prop := (1 ≤ (y : ℕ) + ky ∧ (y : ℕ) + ky < 33) ∧ (1 ≤ (x : ℕ) + kx ∧ (x : ℕ) + kx < 33)

/-- A mask is that of a tap. -/
def IsMask (M : FVec Ideal (T2 1 8192) .f32) (ky kx : Fin 3) : Prop := ∀ b y x, M (ix2 0 (col b y x)) = if inside y x ky kx then 1 else 0

/-- The rows of the pixels. -/
def IsRows (v : IVec (T2 1 8192) 32) : Prop := ∀ b y x, v (ix2 0 (col b y x)) = BitVec.ofNat 32 y

/-- The columns of the pixels. -/
def IsCols (v : IVec (T2 1 8192) 32) : Prop := ∀ b y x, v (ix2 0 (col b y x)) = BitVec.ofNat 32 x

/-- A condition on rows and columns read as numbers. -/
theorem mask_of (p q : Prop) [Decidable p] [Decidable q] (r : Prop) [Decidable r] (h : p ∧ q ↔ r) :
    (FloatOps.sitofp (F := Ideal) .f32 (BitVec.setWidth 32 (IntOp.andi (BitVec.ofBool (decide p)) (BitVec.ofBool (decide q)))) : EReal) = if r then 1 else 0 := by
  have e : IntOp.andi (BitVec.ofBool (decide p)) (BitVec.ofBool (decide q)) = BitVec.ofBool (decide r) := by
    by_cases hp : p <;> by_cases hq : q <;> simp [IntOp.andi, hp, hq, ← h]
  rw [e, bit_ideal]

/-- The same with a condition on rows or columns alone. -/
theorem mask_one (p : Prop) [Decidable p] (r : Prop) [Decidable r] (h : p ↔ r) :
    (FloatOps.sitofp (F := Ideal) .f32 (BitVec.setWidth 32 (BitVec.ofBool (decide p))) : EReal) = if r then 1 else 0 := by
  rw [bit_ideal]; simp only [h]

section Masks

variable (v2 v42 : IVec S1x8192 32) (hr : IsRows v42) (hc : IsCols (k0_pay54 v2 32#32 0#32))
include hr hc

/-- The mask of the tap up and left. -/
theorem mask00 : IsMask (k0_pay55 (F := Ideal) v2 v42 32#32 0#32) 0 0 := by
  intro b y x
  pointwise [k0_pay55]
  rw [hr, hc, (cmpi_words (b := 1) (show (y : ℕ) < 2 ^ 31 by omega) (by norm_num)).2.2.1, (cmpi_words (b := 1) (show (x : ℕ) < 2 ^ 31 by omega) (by norm_num)).2.2.1]
  exact mask_of _ _ _ (by unfold inside; simp; omega)

/-- The mask of the tap up and centre. -/
theorem mask01 : IsMask (k0_pay56 (F := Ideal) v42) 0 1 := by
  intro b y x
  pointwise [k0_pay56]
  rw [hr, (cmpi_words (b := 1) (show (y : ℕ) < 2 ^ 31 by omega) (by norm_num)).2.2.1]
  exact mask_one _ _ (by unfold inside; simp; omega)

/-- The mask of the tap up and right. -/
theorem mask02 : IsMask (k0_pay57 (F := Ideal) v2 v42 32#32 0#32) 0 2 := by
  intro b y x
  pointwise [k0_pay57]
  rw [hr, hc, (cmpi_words (b := 1) (show (y : ℕ) < 2 ^ 31 by omega) (by norm_num)).2.2.1, (cmpi_words (b := 30) (show (x : ℕ) < 2 ^ 31 by omega) (by norm_num)).2.2.2]
  exact mask_of _ _ _ (by unfold inside; simp; omega)

/-- The mask of the tap level and left. -/
theorem mask10 : IsMask (k0_pay58 (F := Ideal) v2 32#32 0#32) 1 0 := by
  intro b y x
  pointwise [k0_pay58]
  rw [hc]
  have one : ∀ t : BitVec 1, IntOp.andi 1#1 t = t := by decide
  rw [one, (cmpi_words (b := 1) (show (x : ℕ) < 2 ^ 31 by omega) (by norm_num)).2.2.1]
  exact mask_one _ _ (by unfold inside; simp; omega)

/-- The mask of the tap level and right. -/
theorem mask12 : IsMask (k0_pay59 (F := Ideal) v2 32#32 0#32) 1 2 := by
  intro b y x
  pointwise [k0_pay59]
  rw [hc]
  have one : ∀ t : BitVec 1, IntOp.andi 1#1 t = t := by decide
  rw [one, (cmpi_words (b := 30) (show (x : ℕ) < 2 ^ 31 by omega) (by norm_num)).2.2.2]
  exact mask_one _ _ (by unfold inside; simp; omega)

/-- The mask of the tap down and left. -/
theorem mask20 : IsMask (k0_pay60 (F := Ideal) v42 (k0_pay54 v2 32#32 0#32) 30#32) 2 0 := by
  intro b y x
  pointwise [k0_pay60]
  rw [hr, hc, (cmpi_words (b := 30) (show (y : ℕ) < 2 ^ 31 by omega) (by norm_num)).2.2.2, (cmpi_words (b := 1) (show (x : ℕ) < 2 ^ 31 by omega) (by norm_num)).2.2.1]
  exact mask_of _ _ _ (by unfold inside; simp; omega)

/-- The mask of the tap down and centre. -/
theorem mask21 : IsMask (k0_pay61 (F := Ideal) v42) 2 1 := by
  intro b y x
  pointwise [k0_pay61]
  rw [hr, (cmpi_words (b := 30) (show (y : ℕ) < 2 ^ 31 by omega) (by norm_num)).2.2.2]
  exact mask_one _ _ (by unfold inside; simp; omega)

/-- The mask of the tap down and right. -/
theorem mask22 : IsMask (k0_pay62 (F := Ideal) v42 (k0_pay54 v2 32#32 0#32)) 2 2 := by
  intro b y x
  pointwise [k0_pay62]
  rw [hr, hc, (cmpi_words (b := 30) (show (y : ℕ) < 2 ^ 31 by omega) (by norm_num)).2.2.2, (cmpi_words (b := 30) (show (x : ℕ) < 2 ^ 31 by omega) (by norm_num)).2.2.2]
  exact mask_of _ _ _ (by unfold inside; simp; omega)

end Masks

end Cert.Msvq

end
-- ==== Proof.KernB.lean ====
/-
  The kernel's filter: shifted and masked copies of the images stacked into one matrix product.
-/
module

public import proofs.«01_k».proof.Proof.KernA

@[expose] public section

set_option maxRecDepth 16384

noncomputable section

namespace Cert.Msvq

open Idealize.ShloMosaic Cert.KernelIdeal Cert.KernelIdeal.Gen

/-- The columns moved `k` to the right, zeros let in, under a mask. -/
def kBack (k n : ℕ) (hs : (T2 32 8192).Slices ![0, 0] (T2 32 n)) (hc : Shape.Concatenates [T2 32 k, T2 32 n] (T2 32 8192) 1)
    (hb : (T2 1 8192).Broadcasts (T2 32 8192)) (M : FVec Ideal (T2 1 8192) .f32) (h : FVec Ideal (T2 32 8192) .f32) : FVec Ideal (T2 32 8192) .f32 :=
  have cst_46 : Ideal .f32 := Scalar.ofBits .f32 0x00000000#32
  have v128 : FVec Ideal (T2 32 k) .f32 := broadcast (T2 32 k) cst_46
  have v129 : FVec Ideal (T2 32 n) .f32 := extractStridedSlice (T2 32 n) ![0, 0] h hs
  have v130 : FVec Ideal (T2 32 8192) .f32 := concatenate (T2 32 8192) 1 [⟨T2 32 k, v128⟩, ⟨T2 32 n, v129⟩] hc
  have v131 : FVec Ideal (T2 32 8192) .f32 := broadcastTo (T2 32 8192) M hb
  mulf v130 v131

/-- The columns moved `k` to the left, zeros let in, under a mask. -/
def kFwd (k n : ℕ) (hs : (T2 32 8192).Slices ![0, k] (T2 32 n)) (hc : Shape.Concatenates [T2 32 n, T2 32 k] (T2 32 8192) 1)
    (hb : (T2 1 8192).Broadcasts (T2 32 8192)) (M : FVec Ideal (T2 1 8192) .f32) (h : FVec Ideal (T2 32 8192) .f32) : FVec Ideal (T2 32 8192) .f32 :=
  have cst_46 : Ideal .f32 := Scalar.ofBits .f32 0x00000000#32
  have v128 : FVec Ideal (T2 32 k) .f32 := broadcast (T2 32 k) cst_46
  have v129 : FVec Ideal (T2 32 n) .f32 := extractStridedSlice (T2 32 n) ![0, k] h hs
  have v130 : FVec Ideal (T2 32 8192) .f32 := concatenate (T2 32 8192) 1 [⟨T2 32 n, v129⟩, ⟨T2 32 k, v128⟩] hc
  have v131 : FVec Ideal (T2 32 8192) .f32 := broadcastTo (T2 32 8192) M hb
  mulf v130 v131

/-- Columns moved right, at one place. -/
theorem kBack_apply (k n : ℕ) (hs : (T2 32 8192).Slices ![0, 0] (T2 32 n)) (hc : Shape.Concatenates [T2 32 k, T2 32 n] (T2 32 8192) 1)
    (hb : (T2 1 8192).Broadcasts (T2 32 8192)) (M : FVec Ideal (T2 1 8192) .f32) (h : FVec Ideal (T2 32 8192) .f32) (c : Fin 32) (j : Fin 8192) :
    kBack k n hs hc hb M h (ix2 c j) = (if hk : k ≤ (j : ℕ) then h (ix2 c ⟨j - k, by omega⟩) else 0) * M (ix2 0 j) := by
  pointwise [kBack]
  by_cases hk : k ≤ (j : ℕ)
  · rw [dif_neg (by omega), dif_pos hk]
  · rw [dif_pos (by omega), dif_neg hk]

/-- Columns moved left, at one place. -/
theorem kFwd_apply (k n : ℕ) (hn : k + n = 8192) (hs : (T2 32 8192).Slices ![0, k] (T2 32 n)) (hc : Shape.Concatenates [T2 32 n, T2 32 k] (T2 32 8192) 1)
    (hb : (T2 1 8192).Broadcasts (T2 32 8192)) (M : FVec Ideal (T2 1 8192) .f32) (h : FVec Ideal (T2 32 8192) .f32) (c : Fin 32) (j : Fin 8192) :
    kFwd k n hs hc hb M h (ix2 c j) = (if hk : (j : ℕ) + k < 8192 then h (ix2 c ⟨j + k, hk⟩) else 0) * M (ix2 0 j) := by
  pointwise [kFwd]
  by_cases hk : (j : ℕ) + k < 8192
  · rw [dif_pos (by omega), dif_pos hk]
    congr 3
    exact Fin.ext (Nat.add_comm _ _)
  · rw [dif_neg (by omega), dif_neg hk]

/-- A masked copy moved right is the tap of the images. -/
theorem kBack_tap (k n : ℕ) (hs : (T2 32 8192).Slices ![0, 0] (T2 32 n)) (hc : Shape.Concatenates [T2 32 k, T2 32 n] (T2 32 8192) 1)
    (hb : (T2 1 8192).Broadcasts (T2 32 8192)) (M : FVec Ideal (T2 1 8192) .f32) (h : FVec Ideal (T2 32 8192) .f32) (ky kx : Fin 3)
    (hk : k + 32 * ky + kx = 33) (hM : IsMask M ky kx) (c : Fin 32) (b : Fin 8) (y x : Fin 32) :
    kBack k n hs hc hb M h (ix2 c (col b y x)) = tap (kimg h) b c y x ky kx := by
  rw [kBack_apply, hM, tap]
  by_cases hi : inside y x ky kx
  · have : k ≤ ((col b y x : Fin 8192) : ℕ) := by simp only; omega
    rw [if_pos hi, dif_pos hi, dif_pos this, mul_one]
    unfold kimg
    congr 2
    apply Fin.ext
    simp only
    omega
  · rw [if_neg hi, dif_neg hi, mul_zero]

/-- A masked copy moved left is the tap of the images. -/
theorem kFwd_tap (k n : ℕ) (hn : k + n = 8192) (hs : (T2 32 8192).Slices ![0, k] (T2 32 n)) (hc : Shape.Concatenates [T2 32 n, T2 32 k] (T2 32 8192) 1)
    (hb : (T2 1 8192).Broadcasts (T2 32 8192)) (M : FVec Ideal (T2 1 8192) .f32) (h : FVec Ideal (T2 32 8192) .f32) (ky kx : Fin 3)
    (hk : 33 + k = 32 * ky + kx) (hM : IsMask M ky kx) (c : Fin 32) (b : Fin 8) (y x : Fin 32) :
    kFwd k n hs hc hb M h (ix2 c (col b y x)) = tap (kimg h) b c y x ky kx := by
  rw [kFwd_apply k n hn, hM, tap]
  by_cases hi : inside y x ky kx
  · have : ((col b y x : Fin 8192) : ℕ) + k < 8192 := by simp only; omega
    rw [if_pos hi, dif_pos hi, dif_pos this, mul_one]
    unfold kimg
    congr 2
    apply Fin.ext
    simp only
    omega
  · rw [if_neg hi, dif_neg hi, mul_zero]

/-- The tap at the pixel itself. -/
theorem tap_centre (h : Img) (b : Fin 8) (c y x : Fin 32) : tap h b c y x 1 1 = h b c y x := by
  have : inside y x 1 1 := by unfold inside; simp; omega
  rw [tap, dif_pos this]
  rfl

/-- The nine masks. -/
structure Masks where
  m00 : FVec Ideal (T2 1 8192) .f32
  m01 : FVec Ideal (T2 1 8192) .f32
  m02 : FVec Ideal (T2 1 8192) .f32
  m10 : FVec Ideal (T2 1 8192) .f32
  m12 : FVec Ideal (T2 1 8192) .f32
  m20 : FVec Ideal (T2 1 8192) .f32
  m21 : FVec Ideal (T2 1 8192) .f32
  m22 : FVec Ideal (T2 1 8192) .f32

/-- They are the masks of their taps. -/
structure Masks.Good (M : Masks) : Prop where
  g00 : IsMask M.m00 0 0
  g01 : IsMask M.m01 0 1
  g02 : IsMask M.m02 0 2
  g10 : IsMask M.m10 1 0
  g12 : IsMask M.m12 1 2
  g20 : IsMask M.m20 2 0
  g21 : IsMask M.m21 2 1
  g22 : IsMask M.m22 2 2

/-- A piece of equal pieces stacked by rows. -/
theorem piece_rows {a b R m : ℕ} (xs : List ((s : Shape) × (s.Idx → EReal))) (h : Shape.Concatenates (xs.map (·.1)) (T2 R b) 0)
    (hall : xs.map (·.1) = List.replicate m (T2 a b)) (k : ℕ) (hk : k < xs.length) (x : (T2 a b).Idx → EReal) (hx : xs[k] = ⟨T2 a b, x⟩)
    (i : Fin a) (j : Fin b) (r : Fin R) (hr : (r : ℕ) = k * a + i) : concatenate (T2 R b) 0 xs h (ix2 r j) = x (ix2 i j) := by
  have hm : xs.length = m := by simpa using congrArg List.length hall
  refine concatenate_apply_piece (t := T2 R b) 0 xs h (ix2 r j) k hk (T2 a b) x hx rfl (k * a) ?_ (ix2 i j) ?_ ?_
  · rw [List.map_take, hall, List.take_replicate, List.map_replicate, List.sum_replicate, Nat.min_eq_left (by omega)]
    rfl
  · intro b' hb'
    match b' with
    | 0 => exact absurd rfl hb'
    | 1 => rfl
  · exact hr.symm

/-- A piece of equal pieces side by side. -/
theorem piece_cols {a b R m : ℕ} (xs : List ((s : Shape) × (s.Idx → EReal))) (h : Shape.Concatenates (xs.map (·.1)) (T2 a R) 1)
    (hall : xs.map (·.1) = List.replicate m (T2 a b)) (k : ℕ) (hk : k < xs.length) (x : (T2 a b).Idx → EReal) (hx : xs[k] = ⟨T2 a b, x⟩)
    (i : Fin a) (j : Fin b) (r : Fin R) (hr : (r : ℕ) = k * b + j) : concatenate (T2 a R) 1 xs h (ix2 i r) = x (ix2 i j) := by
  have hm : xs.length = m := by simpa using congrArg List.length hall
  refine concatenate_apply_piece (t := T2 a R) 1 xs h (ix2 i r) k hk (T2 a b) x hx rfl (k * b) ?_ (ix2 i j) ?_ ?_
  · rw [List.map_take, hall, List.take_replicate, List.map_replicate, List.sum_replicate, Nat.min_eq_left (by omega)]
    rfl
  · intro b' hb'
    match b' with
    | 0 => rfl
    | 1 => exact absurd rfl hb'
  · exact hr.symm

/-- The copies. -/
def kPieces (M : Masks) (h : FVec Ideal S32x8192 .f32) : List ((s : Shape) × (s.Idx → EReal)) :=
    [⟨S32x8192, kBack 33 8159 slices_S32x8192_o0_0_S32x8159 concatenates_S32x33_S32x8159_S32x8192_d1 broadcasts_S1x8192_S32x8192 M.m00 h⟩,
     ⟨S32x8192, kBack 32 8160 slices_S32x8192_o0_0_S32x8160 concatenates_S32x32_S32x8160_S32x8192_d1 broadcasts_S1x8192_S32x8192 M.m01 h⟩,
     ⟨S32x8192, kBack 31 8161 slices_S32x8192_o0_0_S32x8161 concatenates_S32x31_S32x8161_S32x8192_d1 broadcasts_S1x8192_S32x8192 M.m02 h⟩,
     ⟨S32x8192, kBack 1 8191 slices_S32x8192_o0_0_S32x8191 concatenates_S32x1_S32x8191_S32x8192_d1 broadcasts_S1x8192_S32x8192 M.m10 h⟩,
     ⟨S32x8192, h⟩,
     ⟨S32x8192, kFwd 1 8191 slices_S32x8192_o0_1_S32x8191 concatenates_S32x8191_S32x1_S32x8192_d1 broadcasts_S1x8192_S32x8192 M.m12 h⟩,
     ⟨S32x8192, kFwd 31 8161 slices_S32x8192_o0_31_S32x8161 concatenates_S32x8161_S32x31_S32x8192_d1 broadcasts_S1x8192_S32x8192 M.m20 h⟩,
     ⟨S32x8192, kFwd 32 8160 slices_S32x8192_o0_32_S32x8160 concatenates_S32x8160_S32x32_S32x8192_d1 broadcasts_S1x8192_S32x8192 M.m21 h⟩,
     ⟨S32x8192, kFwd 33 8159 slices_S32x8192_o0_33_S32x8159 concatenates_S32x8159_S32x33_S32x8192_d1 broadcasts_S1x8192_S32x8192 M.m22 h⟩]

/-- The stacked copies. -/
def kStack (M : Masks) (h : FVec Ideal S32x8192 .f32) : FVec Ideal S288x8192 .bf16 :=
  concatenate S288x8192 0 (kPieces M h)
    concatenates_S32x8192_S32x8192_S32x8192_S32x8192_S32x8192_S32x8192_S32x8192_S32x8192_S32x8192_S288x8192_d0

/-- The row of the stack that holds a tap of a channel. -/
abbrev tapRow (ky kx : Fin 3) (c : Fin 32) : Fin 288 := ⟨(ky * 3 + kx) * 32 + c, by omega⟩

/-- The stack at one place is a tap. -/
theorem kStack_apply (M : Masks) (hM : M.Good) (h : FVec Ideal S32x8192 .f32) (ky kx : Fin 3) (c : Fin 32) (b : Fin 8) (y x : Fin 32) :
    kStack M h (ix2 (tapRow ky kx c) (col b y x)) = tap (kimg h) b c y x ky kx := by
  have key : ∀ (k : ℕ) (hk : k < 9) (X : (T2 32 8192).Idx → EReal) (hx : (kPieces M h)[k]'hk = ⟨T2 32 8192, X⟩) (hr : (tapRow ky kx c : ℕ) = k * 32 + c)
      (e : X (ix2 c (col b y x)) = tap (kimg h) b c y x ky kx), kStack M h (ix2 (tapRow ky kx c) (col b y x)) = tap (kimg h) b c y x ky kx :=
    fun k hk X hx hr e => (piece_rows (m := 9) (kPieces M h) _ rfl k hk X hx c (col b y x) _ hr).trans e
  fin_cases ky <;> fin_cases kx
  · exact key 0 (by norm_num) _ rfl rfl (kBack_tap _ _ _ _ _ _ _ _ _ (by simp) hM.g00 _ _ _ _)
  · exact key 1 (by norm_num) _ rfl rfl (kBack_tap _ _ _ _ _ _ _ _ _ (by simp) hM.g01 _ _ _ _)
  · exact key 2 (by norm_num) _ rfl rfl (kBack_tap _ _ _ _ _ _ _ _ _ (by simp) hM.g02 _ _ _ _)
  · exact key 3 (by norm_num) _ rfl rfl (kBack_tap _ _ _ _ _ _ _ _ _ (by simp) hM.g10 _ _ _ _)
  · exact key 4 (by norm_num) _ rfl rfl (tap_centre (kimg h) b c y x).symm
  · exact key 5 (by norm_num) _ rfl rfl (kFwd_tap _ _ (by norm_num) _ _ _ _ _ _ _ (by simp) hM.g12 _ _ _ _)
  · exact key 6 (by norm_num) _ rfl rfl (kFwd_tap _ _ (by norm_num) _ _ _ _ _ _ _ (by simp) hM.g20 _ _ _ _)
  · exact key 7 (by norm_num) _ rfl rfl (kFwd_tap _ _ (by norm_num) _ _ _ _ _ _ _ (by simp) hM.g21 _ _ _ _)
  · exact key 8 (by norm_num) _ rfl rfl (kFwd_tap _ _ (by norm_num) _ _ _ _ _ _ _ (by simp) hM.g22 _ _ _ _)

/-- The filter as one matrix product with the stack. -/
def kConv (M : Masks) (h : FVec Ideal S32x8192 .f32) (w : Vec Ideal S32x288 .bf16) : FVec Ideal S32x8192 .f32 :=
  matmul dot_S32x288_S288x8192_S32x8192_1_0_0_1_n_n none (show FVec Ideal S32x288 .bf16 from shapeCast S32x288 w shapeCasts_S32x288_S32x288) (kStack M h) (constant S32x8192 .f32 0x00000000#32)

/-- Sums over the rows of the stack. -/
theorem sum_tapRow (f : Fin 288 → EReal) : ∑ k, f k = ∑ ky : Fin 3, ∑ kx : Fin 3, ∑ c : Fin 32, f (tapRow ky kx c) := by
  let e : Fin 3 × Fin 3 × Fin 32 ≃ Fin 288 :=
    { toFun := fun t => tapRow t.1 t.2.1 t.2.2
      invFun := fun k => (⟨k / 96, by omega⟩, ⟨k / 32 % 3, by omega⟩, ⟨k % 32, by omega⟩)
      left_inv := by
        rintro ⟨ky, kx, c⟩
        simp only [Prod.mk.injEq]
        exact ⟨Fin.ext (by simp only; omega), Fin.ext (by simp only; omega), Fin.ext (by simp only; omega)⟩
      right_inv := by
        intro k
        exact Fin.ext (by simp only; omega) }
  rw [← e.sum_comp, Fintype.sum_prod_type]
  refine Finset.sum_congr rfl fun ky _ => ?_
  rw [Fintype.sum_prod_type]
  rfl

/-- Half the image and half the filtered image. -/
def kPhi (M : Masks) (h : FVec Ideal S32x8192 .f32) (w : Vec Ideal S32x288 .bf16) (bi : Vec Ideal S32x1 .f32) : FVec Ideal S32x8192 .f32 :=
  k0_pay93 (F := Ideal) h (kConv M h w) bi

/-- It is the filter of the images. -/
theorem kPhi_apply (M : Masks) (hM : M.Good) (h : FVec Ideal S32x8192 .f32) (w : Vec Ideal S32x288 .bf16) (bi : Vec Ideal S32x1 .f32) :
    kimg (kPhi M h w bi) = phi (fun o c ky kx => w (ix2 o (tapRow ky kx c))) (fun o => bi (ix2 o 0)) (kimg h) := by
  funext b o y x
  have hd : kConv M h w (ix2 o (col b y x)) = ∑ ky : Fin 3, ∑ kx : Fin 3, ∑ c : Fin 32, w (ix2 o (tapRow ky kx c)) * tap (kimg h) b c y x ky kx := by
    have : kConv M h w (ix2 o (col b y x)) = ∑ k : Fin 288, w (ix2 o k) * kStack M h (ix2 k (col b y x)) := by
      pointwise [kConv]
    rw [this, sum_tapRow]
    refine Finset.sum_congr rfl fun ky _ => Finset.sum_congr rfl fun kx _ => Finset.sum_congr rfl fun c _ => ?_
    rw [kStack_apply M hM]
  show k0_pay93 (F := Ideal) h (kConv M h w) bi (ix2 o (col b y x)) = _
  pointwise [k0_pay93]
  rw [hd]
  rfl

end Cert.Msvq

end
-- ==== Proof.KernC.lean ====
/-
  The kernel's pooling and resizing by tables, and its loss, on arrays whose columns are pixels.
-/
module

public import proofs.«01_k».proof.Proof.KernB

@[expose] public section

set_option maxRecDepth 16384

noncomputable section

namespace Cert.Msvq

open Idealize.ShloMosaic

/-- Place `j` of block `i` among `a` blocks of `b`. -/
abbrev at2 {a b n : ℕ} (h : n = a * b) (i : Fin a) (j : Fin b) : Fin n :=
  ⟨i * b + j, by
    have := i.2; have := j.2
    calc (i : ℕ) * b + j < i * b + b := by omega
      _ = (i + 1) * b := by ring
      _ ≤ a * b := Nat.mul_le_mul_right b (by omega)
      _ = n := h.symm⟩

/-- A sum over blocks. -/
theorem sum_at2 {M : Type*} [AddCommMonoid M] {a b n : ℕ} (h : n = a * b) (f : Fin n → M) : ∑ k, f k = ∑ i : Fin a, ∑ j : Fin b, f (at2 h i j) := by
  subst h
  rw [← finProdFinEquiv.sum_comp, Fintype.sum_prod_type]
  refine Finset.sum_congr rfl fun i _ => Finset.sum_congr rfl fun j _ => congrArg f (Fin.ext ?_)
  show (j : ℕ) + b * i = i * b + j
  ring

/-- The row of a cell of an image. -/
abbrev cel {p m n : ℕ} (hm : m = p * p) (hn : n = 8 * m) (b : Fin 8) (i j : Fin p) : Fin n := at2 hn b (at2 hm i j)

/-- A column of an image as a place among 1024. -/
abbrev px (y x : Fin 32) : Fin 1024 := at2 (by norm_num) y x

/-- A pooling table of one image. -/
def IsPool {p f m : ℕ} (h : p * f = 32) (hm : m = p * p) (P : FVec Ideal (T2 1024 m) .f32) : Prop :=
  ∀ (i' : Fin p) (u : Fin f) (j' : Fin p) (v : Fin f) (i j : Fin p), P (ix2 (px (pix h i' u) (pix h j' v)) (at2 hm i j)) = if i' = i ∧ j' = j then 1 else 0

/-- A pooling table of the eight images. -/
def IsPool8 {p f m n : ℕ} (h : p * f = 32) (hm : m = p * p) (hn : n = 8 * m) (P : FVec Ideal (T2 8192 n) .f32) : Prop :=
  ∀ (b' : Fin 8) (i' : Fin p) (u : Fin f) (j' : Fin p) (v : Fin f) (b : Fin 8) (i j : Fin p),
    P (ix2 (col b' (pix h i' u) (pix h j' v)) (cel hm hn b i j)) = if b' = b ∧ i' = i ∧ j' = j then 1 else 0

/-- A sum over an image against a pooling table is the sum over the cell. -/
theorem sum_pool {p f : ℕ} (h : p * f = 32) (Z : Fin 32 → Fin 32 → EReal) (i j : Fin p) (P : Fin 32 → Fin 32 → EReal)
    (hP : ∀ (i' : Fin p) (u : Fin f) (j' : Fin p) (v : Fin f), P (pix h i' u) (pix h j' v) = if i' = i ∧ j' = j then 1 else 0) :
    ∑ y, ∑ x, Z y x * P y x = ∑ u : Fin f, ∑ v : Fin f, Z (pix h i u) (pix h j v) := by
  rw [sum_at2 h.symm]
  rw [Finset.sum_eq_single i]
  · refine Finset.sum_congr rfl fun u _ => ?_
    rw [sum_at2 h.symm, Finset.sum_eq_single j]
    · refine Finset.sum_congr rfl fun v _ => ?_
      have := hP i u j v
      rw [if_pos ⟨rfl, rfl⟩] at this
      rw [show P (at2 h.symm i u) (at2 h.symm j v) = 1 from this, mul_one]
    · intro j' _ hj
      refine Finset.sum_eq_zero fun v _ => ?_
      have := hP i u j' v
      rw [if_neg (fun e => hj e.2)] at this
      rw [show P (at2 h.symm i u) (at2 h.symm j' v) = 0 from this, mul_zero]
    · exact fun hj => absurd (Finset.mem_univ _) hj
  · intro i' _ hi
    refine Finset.sum_eq_zero fun u _ => ?_
    rw [sum_at2 h.symm]
    refine Finset.sum_eq_zero fun j' _ => Finset.sum_eq_zero fun v _ => ?_
    have := hP i' u j' v
    rw [if_neg (fun e => hi e.1)] at this
    rw [show P (at2 h.symm i' u) (at2 h.symm j' v) = 0 from this, mul_zero]
  · exact fun hi => absurd (Finset.mem_univ _) hi

/-- Eight pieces side by side. -/
def eight {m : ℕ} (f : Fin 8 → (T2 32 m).Idx → EReal) : List ((s : Shape) × (s.Idx → EReal)) :=
  [⟨T2 32 m, f 0⟩, ⟨T2 32 m, f 1⟩, ⟨T2 32 m, f 2⟩, ⟨T2 32 m, f 3⟩, ⟨T2 32 m, f 4⟩, ⟨T2 32 m, f 5⟩, ⟨T2 32 m, f 6⟩, ⟨T2 32 m, f 7⟩]

/-- Eight pieces side by side, at one place. -/
theorem eight_apply {m n : ℕ} (hn : n = 8 * m) (f : Fin 8 → (T2 32 m).Idx → EReal) (h : Shape.Concatenates ((eight f).map (·.1)) (T2 32 n) 1)
    (b : Fin 8) (t : Fin m) (c : Fin 32) : concatenate (T2 32 n) 1 (eight f) h (ix2 c (at2 hn b t)) = f b (ix2 c t) := by
  refine piece_cols (m := 8) (eight f) h rfl b.val b.2 (f b) ?_ c t _ rfl
  match b with
  | 0 => rfl
  | 1 => rfl
  | 2 => rfl
  | 3 => rfl
  | 4 => rfl
  | 5 => rfl
  | 6 => rfl
  | 7 => rfl

/-- Pooling image by image: the sums of the cells as rows, times a constant. -/
def kPool {m n : ℕ} (d : DotDims (T2 32 1024) (T2 1024 m) (T2 32 m)) (hs : ∀ b : Fin 8, (T2 32 8192).Slices ![0, (b : ℕ) * 1024] (T2 32 1024))
    (hc : Shape.Concatenates [T2 32 m, T2 32 m, T2 32 m, T2 32 m, T2 32 m, T2 32 m, T2 32 m, T2 32 m] (T2 32 n) 1) (ht : (T2 32 n).Transposes [1, 0] (T2 n 32)) (k : BitVec 32)
    (z : FVec Ideal (T2 32 8192) .f32) (P : FVec Ideal (T2 1024 m) .f32) : FVec Ideal (T2 n 32) .f32 :=
  have v474 : FVec Ideal (T2 32 n) .f32 := concatenate (T2 32 n) 1
    (eight fun b => matmul (F := Ideal) (φ₁ := .f32) (φ₂ := .f32) d (some .fp32) (extractStridedSlice (T2 32 1024) ![0, (b : ℕ) * 1024] z (hs b)) P (constant (T2 32 m) .f32 0x00000000#32)) hc
  have cst : Ideal .f32 := Scalar.ofBits .f32 k
  have v475 : FVec Ideal (T2 32 n) .f32 := broadcast (T2 32 n) cst
  have v476 : FVec Ideal (T2 32 n) .f32 := mulf v474 v475
  transpose (T2 n 32) [1, 0] v476 ht

/-- Pooling image by image, at one place. -/
theorem kPool_apply {p f m n : ℕ} (h : p * f = 32) (hm : m = p * p) (hn : n = 8 * m) (hn1 : n ≠ 1) (d : DotDims (T2 32 1024) (T2 1024 m) (T2 32 m)) (hd : DotReads d)
    (hs : ∀ b : Fin 8, (T2 32 8192).Slices ![0, (b : ℕ) * 1024] (T2 32 1024))
    (hc : Shape.Concatenates [T2 32 m, T2 32 m, T2 32 m, T2 32 m, T2 32 m, T2 32 m, T2 32 m, T2 32 m] (T2 32 n) 1) (ht : (T2 32 n).Transposes [1, 0] (T2 n 32)) (k : BitVec 32)
    (z : FVec Ideal (T2 32 8192) .f32) (P : FVec Ideal (T2 1024 m) .f32) (hP : IsPool h hm P) (b : Fin 8) (i j : Fin p) (c : Fin 32) :
    kPool d hs hc ht k z P (ix2 (cel hm hn b i j) c) = (∑ u : Fin f, ∑ v : Fin f, kimg z b c (pix h i u) (pix h j v)) * Ideal.ofBits .f32 k := by
  have e : ∀ hc', concatenate (T2 32 n) 1 (eight fun b => matmul (F := Ideal) (φ₁ := .f32) (φ₂ := .f32) d (some .fp32) (extractStridedSlice (T2 32 1024) ![0, (b : ℕ) * 1024] z (hs b)) P (constant (T2 32 m) .f32 0x00000000#32)) hc' (ix2 c (cel hm hn b i j))
      = ∑ u : Fin f, ∑ v : Fin f, kimg z b c (pix h i u) (pix h j v) := by
    intro hc'
    refine (eight_apply hn _ hc' b (at2 hm i j) c).trans ?_
    show Ideal.matmul d _ _ (constant (F := Ideal) (T2 32 m) .f32 0x00000000#32) _ = _
    rw [hd, sum_at2 (a := 32) (b := 32) (by norm_num), ← sum_pool h (kimg z b c) i j (fun y x => P (ix2 (px y x) (at2 hm i j))) (fun i' u j' v => hP i' u j' v i j)]
    have : (constant (F := Ideal) (T2 32 m) .f32 0x00000000#32) (ix2 c (at2 hm i j)) = (0 : EReal) := by pointwise []
    rw [this, zero_add]
    refine Finset.sum_congr rfl fun y _ => Finset.sum_congr rfl fun x _ => ?_
    congr 1
    pointwise []
    unfold kimg
    congr 2
    exact Fin.ext (by simp only; omega)
  unfold kPool
  dsimp only
  generalize hX : concatenate (T2 32 n) 1 (eight _) hc = X
  have eX : X (ix2 c (cel hm hn b i j)) = ∑ u : Fin f, ∑ v : Fin f, kimg z b c (pix h i u) (pix h j v) := by rw [← hX]; exact e hc
  rw [← eX]
  pointwise []

/-- Pooling all images at once: the sums of the cells as rows, times a constant. -/
def kPool8 {n : ℕ} (d : DotDims (T2 32 8192) (T2 8192 n) (T2 32 n)) (ht : (T2 32 n).Transposes [1, 0] (T2 n 32)) (hp : (T2 8192 n).ShapeCasts (T2 8192 n)) (k : BitVec 32)
    (z : FVec Ideal (T2 32 8192) .f32) (P : FVec Ideal (T2 8192 n) .f32) : FVec Ideal (T2 n 32) .f32 :=
  have v203 : FVec Ideal (T2 8192 n) .f32 := shapeCast (T2 8192 n) P hp
  have v204 : FVec Ideal (T2 32 n) .f32 := matmul d (some .fp32) z v203 (constant (T2 32 n) .f32 0x00000000#32)
  have cst : Ideal .f32 := Scalar.ofBits .f32 k
  have v475 : FVec Ideal (T2 32 n) .f32 := broadcast (T2 32 n) cst
  have v476 : FVec Ideal (T2 32 n) .f32 := mulf v204 v475
  transpose (T2 n 32) [1, 0] v476 ht

/-- Pooling all images at once, at one place. -/
theorem kPool8_apply {p f m n : ℕ} (h : p * f = 32) (hm : m = p * p) (hn : n = 8 * m) (hn1 : n ≠ 1) (d : DotDims (T2 32 8192) (T2 8192 n) (T2 32 n)) (hd : DotReads d)
    (ht : (T2 32 n).Transposes [1, 0] (T2 n 32)) (hp : (T2 8192 n).ShapeCasts (T2 8192 n)) (k : BitVec 32)
    (z : FVec Ideal (T2 32 8192) .f32) (P : FVec Ideal (T2 8192 n) .f32) (hP : IsPool8 h hm hn P) (b : Fin 8) (i j : Fin p) (c : Fin 32) :
    kPool8 d ht hp k z P (ix2 (cel hm hn b i j) c) = (∑ u : Fin f, ∑ v : Fin f, kimg z b c (pix h i u) (pix h j v)) * Ideal.ofBits .f32 k := by
  unfold kPool8
  dsimp only
  generalize hX : matmul (F := Ideal) (φ₁ := .f32) (φ₂ := .f32) d (some .fp32) z (shapeCast (T2 8192 n) P hp) (constant (T2 32 n) .f32 0x00000000#32) = X
  have eX : X (ix2 c (cel hm hn b i j)) = ∑ u : Fin f, ∑ v : Fin f, kimg z b c (pix h i u) (pix h j v) := by
    rw [← hX, shapeCast_self]
    show Ideal.matmul d _ _ (constant (F := Ideal) (T2 32 n) .f32 0x00000000#32) _ = _
    have : (constant (F := Ideal) (T2 32 n) .f32 0x00000000#32) (ix2 c (cel hm hn b i j)) = (0 : EReal) := by pointwise []
    rw [hd, this, zero_add, sum_at2 (a := 8) (b := 1024) (by norm_num), Finset.sum_eq_single b]
    · rw [sum_at2 (a := 32) (b := 32) (by norm_num), ← sum_pool h (kimg z b c) i j (fun y x => P (ix2 (col b y x) (cel hm hn b i j)))
        (fun i' u j' v => (hP b i' u j' v b i j).trans (by simp only [true_and]))]
      refine Finset.sum_congr rfl fun y _ => Finset.sum_congr rfl fun x _ => ?_
      unfold kimg
      have e : (at2 (by norm_num : 8192 = 8 * 1024) b (at2 (by norm_num : 1024 = 32 * 32) y x)) = col b y x := Fin.ext (by simp only; omega)
      rw [e]
    · intro b' _ hb
      rw [sum_at2 (a := 32) (b := 32) (by norm_num), sum_at2 h.symm]
      refine Finset.sum_eq_zero fun i' _ => Finset.sum_eq_zero fun u _ => ?_
      rw [sum_at2 h.symm]
      refine Finset.sum_eq_zero fun j' _ => Finset.sum_eq_zero fun v _ => ?_
      have e : (at2 (by norm_num : 8192 = 8 * 1024) b' (at2 (by norm_num : 1024 = 32 * 32) (pix h i' u) (pix h j' v))) = col b' (pix h i' u) (pix h j' v) := Fin.ext (by simp only; omega)
      have := hP b' i' u j' v b i j
      rw [if_neg (fun q => hb q.1)] at this
      rw [show (at2 (by norm_num : 8192 = 8 * 1024) b' (at2 (by norm_num : 1024 = 32 * 32) (at2 h.symm i' u) (at2 h.symm j' v))) = col b' (pix h i' u) (pix h j' v) from e, this, mul_zero]
    · exact fun hb => absurd (Finset.mem_univ _) hb
  rw [← eX]
  pointwise []

end Cert.Msvq

end
-- ==== Proof.RefA.lean ====
/-
  The reference's search of one scale, as a function of the residual image and the scale: pooled rows, distances, the
  first least index and the codes taken at it.
-/
module

public import proofs.«01_k».proof.Proof.Spec
public import Idealize.ShloMosaic.Lib.IdealHost

@[expose] public section

set_option maxRecDepth 16384

noncomputable section

namespace Cert.Msvq

open Idealize.ShloMosaic

abbrev T0 : Shape := ⟨0, ![]⟩
abbrev T3 (a b c : ℕ) : Shape := ⟨3, ![a, b, c]⟩
abbrev T4 (a b c d : ℕ) : Shape := ⟨4, ![a, b, c, d]⟩
abbrev T6 (a b c d e f : ℕ) : Shape := ⟨6, ![a, b, c, d, e, f]⟩

/-- An array of images as a function of image, channel, row and column. -/
def img (Z : FVec Ideal (T4 8 32 32 32) .f32) : Img := fun b c y x => Z (ix4 b c y x)

variable {n p f : ℕ}

/-- The reference's distances of the rows to the codes. -/
def rDist (h1 : (T2 n 32).ReducesTo [1] (T1 n)) (hu : 0 < T0.numel)
    (h2 : (T1 n).BroadcastsInDim (T2 n 1) ![0]) (h3 : (T2 8192 32).ReducesTo [1] (T1 8192))
    (h4 : (T1 8192).BroadcastsInDim (T2 1 8192) ![1]) (h5 : (T2 n 1).BroadcastsInDim (T2 n 8192) ![0, 1])
    (h6 : (T2 1 8192).BroadcastsInDim (T2 n 8192) ![0, 1]) (h7 : (T2 8192 32).Transposes [1, 0] (T2 32 8192))
    (d : DotDims (T2 n 32) (T2 32 8192) (T2 n 8192)) (h8 : T0.BroadcastsInDim (T2 n 8192) ![])
    (r : FVec Ideal (T2 n 32) .f32) (e : FVec Ideal (T2 8192 32) .f32) : FVec Ideal (T2 n 8192) .f32 :=
  Host.sqrt (maximumf (broadcastInDim (T2 n 8192) ![] h8 (id (constant T0 .f32 0x00000000#32)))
    (subf (addf (broadcastInDim (T2 n 8192) ![0, 1] h5 (broadcastInDim (T2 n 1) ![0] h2 (Host.reduceAdd (mulf r r) (constant T0 .f32 0x00000000#32) h1 hu)))
        (broadcastInDim (T2 n 8192) ![0, 1] h6 (broadcastInDim (T2 1 8192) ![1] h4 (Host.reduceAdd (mulf e e) (constant T0 .f32 0x00000000#32) h3 hu))))
      (mulf (broadcastInDim (T2 n 8192) ![] h8 (constant T0 .f32 0x40000000#32)) (Host.dotGeneral d none r (transpose (T2 32 8192) [1, 0] e h7)))))

/-- The reference's distance of a row and a code. -/
theorem rDist_apply (hn : n ≠ 1) (h1 hu h2 h3 h4 h5 h6 h7 d h8) (hd : DotReads d) (r : FVec Ideal (T2 n 32) .f32) (e : FVec Ideal (T2 8192 32) .f32)
    (a : Fin n) (i : Fin 8192) :
    rDist h1 hu h2 h3 h4 h5 h6 h7 d h8 r e (ix2 a i) = dist (fun l => r (ix2 a l)) (fun l => e (ix2 i l)) := by
  pointwise [rDist, hn, id]
  rw [hd]
  pointwise [dist]
  rw [max_comm]

/-- The reference's first least index of each row. -/
def rIdx (h1 : (T2 n 8192).ReducesTo [1] (T1 n)) (hu : 0 < T0.numel) (h2 : (T1 n).BroadcastsInDim (T2 n 1) ![0])
    (h5 : (T2 n 1).BroadcastsInDim (T2 n 8192) ![0, 1]) (h8 : T0.BroadcastsInDim (T2 n 8192) ![])
    (D : FVec Ideal (T2 n 8192) .f32) : IVec (T1 n) 32 :=
  Host.reduce IntOp.minsi (select (cmpf .oeq D (broadcastInDim (T2 n 8192) ![0, 1] h5 (broadcastInDim (T2 n 1) ![0] h2
      (Host.reduce FloatOps.minimumf D (constant T0 .f32 0x7F800000#32) h1 hu))))
    (iotaInDim (T2 n 8192) 32 1) (broadcastInDim (T2 n 8192) ![] h8 (constantI T0 32 8192#32))) (constantI T0 32 2147483647#32) h1 hu

/-- It is the code nearest to the row. -/
theorem rIdx_apply (hn : n ≠ 1) (h1 hu h2 h5 h8) (D : FVec Ideal (T2 n 8192) .f32) (a : Fin n) (r : Fin 32 → EReal) (e : ℕ → Fin 32 → EReal)
    (hD : ∀ i : Fin 8192, D (ix2 a i) = dist r (e i)) :
    rIdx h1 hu h2 h5 h8 D (ix1 a) = BitVec.ofNat 32 (near e r) := by
  pointwise [rIdx, hn]
  have hf := first_spec (fun i => dist r (e i)) 8192 (by norm_num)
  rw [ofBits_top, fold_min_eq hf (fun x => D (ix2 a x)) hD]
  exact fold_minsi_eq (by norm_num) hf _ fun x => by rw [hD]

/-- The dimension numbers of taking rows of a table at a block of indices. -/
abbrev tkDims (p : ℕ) (wf : GatherDims.WF (T2 8192 32) (T4 8 p p 1) (T4 8 p p 32) [3] [0] [] [0] [] 3 ![1, 32]) :
    GatherDims (T2 8192 32) (T4 8 p p 1) (T4 8 p p 32) where
  offsetDims := [3]
  collapsedSliceDims := [0]
  operandBatchingDims := []
  startIndicesBatchingDims := []
  startIndexMap := [0]
  indexVectorDim := 3
  sliceSizes := ![1, 32]
  wf := wf

/-- Taking a row at a word that holds a row's number. -/
theorem gather_tk (wf) (x : FVec Ideal (T2 8192 32) .f32) (idx : IVec (T4 8 p p 1) 32) (b : Fin 8) (i j : Fin p) (c : Fin 32)
    (k : Fin 8192) (hk : idx (ix4 b i j 0) = BitVec.ofNat 32 k) : Host.gather (tkDims p wf) x idx (ix4 b i j c) = x (ix2 k c) := by
  unfold Host.gather
  congr 1
  funext a
  refine Fin.ext ?_
  show (tkDims p wf).start (ix4 b i j c) idx a + (tkDims p wf).batchCoord (ix4 b i j c) a + (tkDims p wf).offCoord (ix4 b i j c) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  have hk' := k.2
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (tkDims p wf).startIndexMap from List.mem_singleton.mpr rfl)]
    have hsi : (tkDims p wf).siIdx (ix4 b i j c) ⟨List.idxOf (0 : Fin 2) (tkDims p wf).startIndexMap,
        List.idxOf_lt_length_iff.2 (List.mem_singleton.mpr rfl)⟩ = ix4 b i j 0 := by
      funext b; refine Fin.ext ?_
      match b with
      | ⟨0, _⟩ => rfl
      | ⟨1, _⟩ => rfl
      | ⟨2, _⟩ => rfl
      | ⟨3, _⟩ => rfl
    rw [hsi, hk, toInt_small _ (by omega)]
    show min ((k : ℕ) : ℤ).toNat (8192 - 1) = (k : ℕ)
    rw [Int.toNat_natCast]; omega
  · unfold GatherDims.start GatherDims.offCoord
    rw [dif_neg (show ¬ (1 : Fin 2) ∈ (tkDims p wf).startIndexMap from fun h => absurd (List.mem_singleton.mp h) (by decide)), dif_pos (show (1 : Fin 2) ∈ (tkDims p wf).sKept from
      (GatherDims.mem_sKept _ _).mpr ⟨fun h => absurd (List.mem_singleton.mp h) (by decide), List.not_mem_nil⟩)]
    exact Nat.zero_add _

/-- The reference's take: a negative index wraps, an index outside the table gives the not-a-number. -/
def rTake (h0 : T0.BroadcastsInDim (T3 8 p p) ![]) (h1 : (T3 8 p p).BroadcastsInDim (T4 8 p p 1) ![0, 1, 2])
    (h2 : T0.BroadcastsInDim (T4 8 p p 1) ![]) (h3 : (T1 1).BroadcastsInDim (T4 1 1 1 1) ![3])
    (h4 : (T4 1 1 1 1).BroadcastsInDim (T4 8 p p 1) ![0, 1, 2, 3]) (h5 : (T4 8 p p 1).ReducesTo [3] (T3 8 p p)) (hu : 0 < T0.numel)
    (wf : GatherDims.WF (T2 8192 32) (T4 8 p p 1) (T4 8 p p 32) [3] [0] [] [0] [] 3 ![1, 32]) (h6 : (T3 8 p p).BroadcastsInDim (T4 8 p p 32) ![0, 1, 2]) (h7 : T0.BroadcastsInDim (T4 8 p p 32) ![])
    (e : FVec Ideal (T2 8192 32) .f32) (idx : IVec (T3 8 p p) 32) : FVec Ideal (T4 8 p p 32) .f32 :=
  let v5 : IVec (T4 8 p p 1) 32 := broadcastInDim (T4 8 p p 1) ![0, 1, 2] h1
    (select (cmpi .slt idx (broadcastInDim (T3 8 p p) ![] h0 (constantI T0 32 0#32)))
      (addi idx (broadcastInDim (T3 8 p p) ![] h0 (constantI T0 32 8192#32))) idx)
  select (broadcastInDim (T4 8 p p 32) ![0, 1, 2] h6
      (Host.reduce IntOp.andi (andi (cmpi .sge v5 (broadcastInDim (T4 8 p p 1) ![] h2 (constantI T0 32 0#32)))
        (cmpi .sle v5 (broadcastInDim (T4 8 p p 1) ![0, 1, 2, 3] h4 (broadcastInDim (T4 1 1 1 1) ![3] h3 (constantI (T1 1) 32 8191#32)))))
        (constantI T0 1 1#1) h5 hu))
    (Host.gather (tkDims p wf) e v5) (broadcastInDim (T4 8 p p 32) ![] h7 (constant T0 .f32 0x7FC00000#32))

/-- The take at a word that holds a code's number is that code. -/
theorem rTake_apply (h0 h1 h2 h3 h4 h5 hu wf h6 h7) (e : FVec Ideal (T2 8192 32) .f32) (idx : IVec (T3 8 p p) 32)
    (b : Fin 8) (i j : Fin p) (c : Fin 32) (k : Fin 8192) (hk : idx (ix3 b i j) = BitVec.ofNat 32 k) :
    rTake h0 h1 h2 h3 h4 h5 hu wf h6 h7 e idx (ix4 b i j c) = e (ix2 k c) := by
  have hk' := k.2
  have hs := toInt_small k (by omega)
  have h1' : IntOp.cmpi CmpIPredicate.slt (BitVec.ofNat 32 (k : ℕ)) 0#32 = 0#1 := by
    show BitVec.ofBool (BitVec.slt _ _) = _
    rw [BitVec.slt_eq_decide, hs, decide_eq_false (by simp)]; rfl
  have h2' : IntOp.cmpi CmpIPredicate.sge (BitVec.ofNat 32 (k : ℕ)) 0#32 = 1#1 := by
    show BitVec.ofBool (BitVec.sle _ _) = _
    rw [BitVec.sle_eq_decide, hs, decide_eq_true (by simp)]; rfl
  have h3' : IntOp.cmpi CmpIPredicate.sle (BitVec.ofNat 32 (k : ℕ)) 8191#32 = 1#1 := by
    show BitVec.ofBool (BitVec.sle _ _) = _
    rw [BitVec.sle_eq_decide, hs, decide_eq_true (by show (k : ℤ) ≤ 8191; omega)]; rfl
  have hg := gather_tk wf e (broadcastInDim (T4 8 p p 1) ![0, 1, 2] h1
    (select (cmpi .slt idx (broadcastInDim (T3 8 p p) ![] h0 (constantI T0 32 0#32)))
      (addi idx (broadcastInDim (T3 8 p p) ![] h0 (constantI T0 32 8192#32))) idx)) b i j c k
    (by rcases eq_or_ne p 1 with rfl | hp
        · obtain rfl : i = 0 := Subsingleton.elim _ _
          obtain rfl : j = 0 := Subsingleton.elim _ _
          pointwise [hk, h1']
        · pointwise [hp, hk, h1'])
  rcases eq_or_ne p 1 with rfl | hp
  · obtain rfl : i = 0 := Subsingleton.elim _ _
    obtain rfl : j = 0 := Subsingleton.elim _ _
    pointwise [rTake, hk, h1', h2', h3', hg]
    rfl
  · pointwise [rTake, hp, hk, h1', h2', h3', hg]
    rfl

/-- The reference's pooled rows. -/
def rRows (h1 : (T4 8 32 32 32).ShapeCasts (T6 8 32 p f p f)) (h2 : (T6 8 32 p f p f).ReducesTo [3, 5] (T4 8 32 p p)) (hu : 0 < T0.numel)
    (h3 : T0.BroadcastsInDim (T4 8 32 p p) ![]) (h4 : (T4 8 32 p p).Transposes [0, 2, 3, 1] (T4 8 p p 32))
    (h5 : (T4 8 p p 32).ShapeCasts (T2 n 32)) (k : BitVec 32) (Z : FVec Ideal (T4 8 32 32 32) .f32) : FVec Ideal (T2 n 32) .f32 :=
  shapeCast (T2 n 32) (transpose (T4 8 p p 32) [0, 2, 3, 1] (Host.divf (Host.reduceAdd (shapeCast (T6 8 32 p f p f) Z h1)
    (constant T0 .f32 0x00000000#32) h2 hu) (broadcastInDim (T4 8 32 p p) ![] h3 (constant T0 .f32 k))) h4) h5

/-- The indices that a sum along the fourth and the sixth of six axes gathers. -/
theorem fiber_35 {a0 a1 a2 a3 a4 a5 : ℕ} (h : (T6 a0 a1 a2 a3 a4 a5).ReducesTo [3, 5] (T4 a0 a1 a2 a4)) (b : Fin a0) (c : Fin a1) (i : Fin a2) (j : Fin a4)
    (x : (T6 a0 a1 a2 a3 a4 a5).Idx) :
    h.drop x = ix4 b c i j ↔ ∃ k : Fin a3 × Fin a5, ix6 b c i k.1 j k.2 = x := by
  constructor
  · intro e
    refine ⟨(x 3, x 5), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => exact (congrArg Fin.val (congrFun e 3)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl

/-- The host's sum along the fourth and the sixth of six axes. -/
theorem hostReduceAdd_35 {a0 a1 a2 a3 a4 a5 : ℕ} (h : (T6 a0 a1 a2 a3 a4 a5).ReducesTo [3, 5] (T4 a0 a1 a2 a4)) (b : Fin a0) (c : Fin a1) (i : Fin a2) (j : Fin a4)
    (v : (T6 a0 a1 a2 a3 a4 a5).Idx → EReal) (init : EReal) :
    Ideal.hostReduceAdd h v init (ix4 b c i j) = init + ∑ u : Fin a3, ∑ w : Fin a5, v (ix6 b c i u j w) := by
  unfold Ideal.hostReduceAdd
  congr 1
  refine (Finset.sum_filter_eq_sum_of_fiber _ (fun k : Fin a3 × Fin a5 => ix6 b c i k.1 j k.2)
    (fun _ _ e => Prod.ext (congrFun e 3) (congrFun e 5)) (fiber_35 h b c i j) v).trans ?_
  simp only [Fintype.sum_prod_type]

/-- A pixel's place within the cells of its image. -/
theorem reshape_cells (h : p * f = 32) (h1 : (T4 8 32 32 32).ShapeCasts (T6 8 32 p f p f)) (b : Fin 8) (c : Fin 32) (i j : Fin p) (u v : Fin f) :
    Shape.reshapeEquiv h1 (ix6 b c i u j v) = ix4 b c (pix h i u) (pix h j v) := by
  apply Shape.reshapeEquiv_eq_of_rowMajor
  rw [Shape.rowMajor_val_four]
  show ((b.val * 32 + c.val) * 32 + (i.val * f + u.val)) * 32 + (j.val * f + v.val) = (Shape.rowMajorPi ![8, 32, p, f, p, f] (ix6 b c i u j v)).val
  simp only [Shape.rowMajorPi_succ_val, Shape.rowMajorPi_zero, Fin.prod_univ_succ, Fin.prod_univ_zero]
  show _ = b.val * (32 * (p * (f * (p * (f * 1))))) + (c.val * (p * (f * (p * (f * 1)))) + (i.val * (f * (p * (f * 1))) + (u.val * (p * (f * 1)) + (j.val * (f * 1) + (v.val * 1 + 0)))))
  rw [show p * (f * (p * (f * 1))) = 1024 by calc p * (f * (p * (f * 1))) = (p * f) * (p * f) := by ring
                                                  _ = 1024 := by rw [h],
    show f * (p * (f * 1)) = f * 32 by rw [← h]; ring, show p * (f * 1) = 32 by rw [← h]; ring]
  ring

/-- A row of the pooled rows is a cell of the pooled image. -/
theorem rRows_apply (h : p * f = 32) (h1 : (T4 8 32 32 32).ShapeCasts (T6 8 32 p f p f)) (h2 hu h3 h4 h5) (k : BitVec 32)
    (Z : FVec Ideal (T4 8 32 32 32) .f32) (a : Fin n) (b : Fin 8) (i j : Fin p) (ha : (a : ℕ) = (b * p + i) * p + j) (c : Fin 32) :
    rRows h1 h2 hu h3 h4 h5 k Z (ix2 a c) = pool h k (img Z) b i j c := by
  have hr : Shape.reshapeEquiv h5 (ix2 a c) = ix4 b i j c := by
    apply Shape.reshapeEquiv_eq_of_rowMajor
    rw [Shape.rowMajor_val_two, Shape.rowMajor_val_four]
    show ((b.val * p + i.val) * p + j.val) * 32 + c.val = a.val * 32 + c.val
    rw [ha]
  pointwise [rRows, hr]
  rw [hostReduceAdd_35]
  pointwise [reshape_cells h]
  rfl

/-- The last scale's rows: the image's pixels. -/
def rRowsLast (h4 : (T4 8 32 32 32).Transposes [0, 2, 3, 1] (T4 8 32 32 32)) (h5 : (T4 8 32 32 32).ShapeCasts (T2 n 32))
    (Z : FVec Ideal (T4 8 32 32 32) .f32) : FVec Ideal (T2 n 32) .f32 :=
  shapeCast (T2 n 32) (transpose (T4 8 32 32 32) [0, 2, 3, 1] Z h4) h5

/-- A row of them is a pixel of the image. -/
theorem rRowsLast_apply (h4 h5) (Z : FVec Ideal (T4 8 32 32 32) .f32) (a : Fin n) (b : Fin 8) (i j : Fin 32)
    (ha : (a : ℕ) = (b * 32 + i) * 32 + j) (c : Fin 32) : rRowsLast h4 h5 Z (ix2 a c) = whole (img Z) b i j c := by
  have hr : Shape.reshapeEquiv h5 (ix2 a c) = ix4 b i j c := by
    apply Shape.reshapeEquiv_eq_of_rowMajor
    rw [Shape.rowMajor_val_two, Shape.rowMajor_val_four]
    show ((b.val * 32 + i.val) * 32 + j.val) * 32 + c.val = a.val * 32 + c.val
    rw [ha]
  pointwise [rRowsLast, hr]
  rfl

/-- Words per row as words per cell. -/
theorem reshape_idx (h : (T1 n).ShapeCasts (T3 8 p p)) (w : IVec (T1 n) 32) (a : Fin n) (b : Fin 8) (i j : Fin p)
    (ha : (a : ℕ) = (b * p + i) * p + j) : shapeCast (T3 8 p p) w h (ix3 b i j) = w (ix1 a) := by
  have hr : Shape.reshapeEquiv h (ix3 b i j) = ix1 a := by
    apply Shape.reshapeEquiv_eq_of_rowMajor
    rw [Shape.rowMajor_val_one, Shape.rowMajor_val_three]
    exact ha
  pointwise [hr]

/-- Words per cell as a column. -/
theorem reshape_out (h : (T3 8 p p).ShapeCasts (T2 n 1)) (w : IVec (T3 8 p p) 32) (a : Fin n) (b : Fin 8) (i j : Fin p)
    (ha : (a : ℕ) = (b * p + i) * p + j) : shapeCast (T2 n 1) w h (ix2 a 0) = w (ix3 b i j) := by
  have hr : Shape.reshapeEquiv h (ix2 a 0) = ix3 b i j := by
    apply Shape.reshapeEquiv_eq_of_rowMajor
    rw [Shape.rowMajor_val_two, Shape.rowMajor_val_three]
    show (b.val * p + i.val) * p + j.val = a.val * 1 + 0
    omega
  pointwise [hr]

/-- The taken codes, with the channel before the cell. -/
theorem transpose_cells (h : (T4 8 p p 32).Transposes [0, 3, 1, 2] (T4 8 32 p p)) (q : FVec Ideal (T4 8 p p 32) .f32) (b : Fin 8) (c : Fin 32) (i j : Fin p) :
    transpose (T4 8 32 p p) [0, 3, 1, 2] q h (ix4 b c i j) = q (ix4 b i j c) := by
  pointwise []

end Cert.Msvq

end
-- ==== Proof.RefB.lean ====
/-
  The reference's resizing, filter and loss, as functions of the scale's weights and codes and of the residual images.
-/
module

public import proofs.«01_k».proof.Proof.RefA

@[expose] public section

set_option maxRecDepth 16384

noncomputable section

namespace Cert.Msvq

open Idealize.ShloMosaic

variable {p : ℕ}

/-- The cubic kernel at a distance, as both programs spell it. -/
def cubic (x : EReal) : EReal :=
  Scalar.select (Ideal.cmp .oge x (Ideal.ofBits .f32 0x40000000#32)) (0 : EReal)
    (Scalar.select (Ideal.cmp .oge x (Ideal.ofBits .f32 0x3F800000#32))
      (((Ideal.ofBits .f32 0xBF000000#32 * x + Ideal.ofBits .f32 0x40200000#32) * x - Ideal.ofBits .f32 0x40800000#32) * x + Ideal.ofBits .f32 0x40000000#32)
      (((Ideal.ofBits .f32 0x3FC00000#32 * x - Ideal.ofBits .f32 0x40200000#32) * x) * x + 1))

/-- The cubic kernel between the `y`-th of 32 samples and the `i`-th input, at `k` inputs per sample. -/
def rawWeight (k : EReal) (i : ℕ) (y : Fin 32) : EReal :=
  let d := (((((BitVec.ofNat 32 y).toInt : ℝ) : EReal) + Ideal.ofBits .f32 0x3F000000#32) * k - Ideal.ofBits .f32 0x3F000000#32
    - (((BitVec.ofNat 32 i).toInt : ℝ) : EReal))
  cubic (max d (-d))

/-- The weights normalised over the inputs. -/
def weight (p : ℕ) (k : EReal) (i : Fin p) (y : Fin 32) : EReal :=
  Ideal.div (rawWeight k i y) (Scalar.select (Ideal.cmp .une (∑ l : Fin p, rawWeight k l y) 0) (∑ l : Fin p, rawWeight k l y) (((1#32 : BitVec 32).toInt : ℝ) : EReal))

/-- The reference's sample positions, as a row. -/
def rSamples (h0 : T0.BroadcastsInDim (T1 32) ![]) (h1 : (T1 32).BroadcastsInDim (T2 1 32) ![1]) (k : BitVec 32) : FVec Ideal (T2 1 32) .f32 :=
  broadcastInDim (T2 1 32) ![1] h1 (subf (mulf (addf (sitofp .f32 (iotaInDim (T1 32) 32 0)) (broadcastInDim (T1 32) ![] h0 (constant T0 .f32 0x3F000000#32)))
    (broadcastInDim (T1 32) ![] h0 (constant T0 .f32 k))) (broadcastInDim (T1 32) ![] h0 (constant T0 .f32 0x3F000000#32)))

/-- The reference's cubic kernel of a table of distances. -/
def rCubic (h : T0.BroadcastsInDim (T2 p 32) ![]) (x : FVec Ideal (T2 p 32) .f32) : FVec Ideal (T2 p 32) .f32 :=
  let B := fun k : BitVec 32 => broadcastInDim (T2 p 32) ![] h (constant (F := Ideal) T0 .f32 k)
  select (cmpf .oge x (B 0x40000000#32)) (broadcastInDim (T2 p 32) ![] h (id (constant T0 .f32 0x00000000#32)))
    (select (cmpf .oge x (B 0x3F800000#32))
      (addf (mulf (subf (mulf (addf (mulf (B 0xBF000000#32) x) (B 0x40200000#32)) x) (B 0x40800000#32)) x) (B 0x40000000#32))
      (addf (mulf (mulf (subf (mulf (B 0x3FC00000#32) x) (B 0x40200000#32)) x) x) (B 0x3F800000#32)))

/-- It is the cubic kernel at each entry. -/
theorem rCubic_apply (h : T0.BroadcastsInDim (T2 p 32) ![]) (x : FVec Ideal (T2 p 32) .f32) (j) : rCubic h x j = cubic (x j) := by
  have h0 : (Ideal.ofBits .f32 0x00000000#32 : EReal) = 0 := by simp
  have h1 : (Ideal.ofBits .f32 0x3F800000#32 : EReal) = 1 := by simp
  unfold cubic
  rw [← h0, ← h1]
  rfl

/-- The sum over the inputs, or one where it is zero. -/
def rTotal (h0 : T0.BroadcastsInDim (T2 1 32) ![]) (h1 : (T2 p 32).ReducesTo [0] (T1 32)) (hu : 0 < T0.numel)
    (h2 : (T1 32).BroadcastsInDim (T2 1 32) ![1]) (w : FVec Ideal (T2 p 32) .f32) : FVec Ideal (T2 1 32) .f32 :=
  let t := broadcastInDim (T2 1 32) ![1] h2 (Host.reduceAdd w (constant T0 .f32 0x00000000#32) h1 hu)
  select (cmpf .une t (broadcastInDim (T2 1 32) ![] h0 (constant T0 .f32 0x00000000#32))) t
    (broadcastInDim (T2 1 32) ![] h0 (sitofp .f32 (constantI T0 32 1#32)))

/-- It is the sum down the column, or one. -/
theorem rTotal_apply (h0 h1 hu h2) (w : FVec Ideal (T2 p 32) .f32) (y : Fin 32) :
    rTotal h0 h1 hu h2 w (ix2 0 y) = Scalar.select (Ideal.cmp .une (∑ l : Fin p, w (ix2 l y)) 0) (∑ l : Fin p, w (ix2 l y)) (((1#32 : BitVec 32).toInt : ℝ) : EReal) := by
  have e : broadcastInDim (T2 1 32) ![1] h2 (Host.reduceAdd w (constant T0 .f32 0x00000000#32) h1 hu) (ix2 0 y) = ∑ l : Fin p, w (ix2 l y) := by
    pointwise []
  have hz : (Ideal.ofBits .f32 0x00000000#32 : EReal) = 0 := by simp
  rw [← e, ← hz]
  rfl

/-- Its entries are the samples' positions. -/
theorem rSamples_apply (h0 h1) (k : BitVec 32) (y : Fin 32) : rSamples h0 h1 k (ix2 0 y) =
    ((((BitVec.ofNat 32 y).toInt : ℝ) : EReal) + Ideal.ofBits .f32 0x3F000000#32) * Ideal.ofBits .f32 k - Ideal.ofBits .f32 0x3F000000#32 := by
  pointwise [rSamples]
  rfl

/-- The reference's weights at more than one input. -/
def rWeights (h0 : T0.BroadcastsInDim (T1 32) ![]) (h1 : (T1 32).BroadcastsInDim (T2 1 32) ![1]) (h2 : (T2 1 32).BroadcastsInDim (T2 p 32) ![0, 1])
    (h3 : (T1 p).BroadcastsInDim (T2 p 1) ![0]) (h4 : (T2 p 1).BroadcastsInDim (T2 p 32) ![0, 1]) (h5 : T0.BroadcastsInDim (T2 p 32) ![])
    (h6 : T0.BroadcastsInDim (T2 1 32) ![]) (h7 : (T2 p 32).ReducesTo [0] (T1 32)) (hu : 0 < T0.numel) (k : BitVec 32) : FVec Ideal (T2 p 32) .f32 :=
  let w := rCubic h5 (Host.absf (subf (broadcastInDim (T2 p 32) ![0, 1] h2 (rSamples h0 h1 k))
    (broadcastInDim (T2 p 32) ![0, 1] h4 (broadcastInDim (T2 p 1) ![0] h3 (sitofp .f32 (iotaInDim (T1 p) 32 0))))))
  Host.divf w (broadcastInDim (T2 p 32) ![0, 1] h2 (rTotal h6 h7 hu h1 w))

/-- They are the normalised cubic weights. -/
theorem rWeights_apply (hp : p ≠ 1) (h0 h1 h2 h3 h4 h5 h6 h7 hu) (k : BitVec 32) (i : Fin p) (y : Fin 32) :
    rWeights h0 h1 h2 h3 h4 h5 h6 h7 hu k (ix2 i y) = weight p (Ideal.ofBits .f32 k) i y := by
  have e : ∀ l : Fin p, rCubic h5 (Host.absf (subf (broadcastInDim (T2 p 32) ![0, 1] h2 (rSamples h0 h1 k))
      (broadcastInDim (T2 p 32) ![0, 1] h4 (broadcastInDim (T2 p 1) ![0] h3 (sitofp .f32 (iotaInDim (T1 p) 32 0)))))) (ix2 l y)
      = rawWeight (Ideal.ofBits .f32 k) l y := by
    intro l
    rw [rCubic_apply, rawWeight, ← rSamples_apply h0 h1]
    dsimp only
    congr 1
    pointwise [hp]
    rfl
  have e2 : ∀ z : FVec Ideal (T2 1 32) .f32, broadcastInDim (T2 p 32) ![0, 1] h2 z (ix2 i y) = z (ix2 0 y) := by
    intro z; pointwise [hp]
  unfold rWeights weight
  show Ideal.div _ _ = _
  rw [e2, rTotal_apply]
  simp only [e]

/-- The reference's weights at one input. -/
def rWeights1 (h0 : T0.BroadcastsInDim (T1 32) ![]) (h1 : (T1 32).BroadcastsInDim (T2 1 32) ![1])
    (h3 : (T1 1).BroadcastsInDim (T2 1 1) ![0]) (h4 : (T2 1 1).BroadcastsInDim (T2 1 32) ![0, 1]) (h5 : T0.BroadcastsInDim (T2 1 32) ![])
    (h7 : (T2 1 32).ReducesTo [0] (T1 32)) (hu : 0 < T0.numel) (k : BitVec 32) : FVec Ideal (T2 1 32) .f32 :=
  let w := rCubic h5 (Host.absf (subf (rSamples h0 h1 k)
    (broadcastInDim (T2 1 32) ![0, 1] h4 (broadcastInDim (T2 1 1) ![0] h3 (sitofp .f32 (iotaInDim (T1 1) 32 0))))))
  Host.divf w (rTotal h5 h7 hu h1 w)

/-- They are the normalised cubic weights. -/
theorem rWeights1_apply (h0 h1 h3 h4 h5 h7 hu) (k : BitVec 32) (y : Fin 32) :
    rWeights1 h0 h1 h3 h4 h5 h7 hu k (ix2 0 y) = weight 1 (Ideal.ofBits .f32 k) 0 y := by
  have e : ∀ l : Fin 1, rCubic h5 (Host.absf (subf (rSamples h0 h1 k)
      (broadcastInDim (T2 1 32) ![0, 1] h4 (broadcastInDim (T2 1 1) ![0] h3 (sitofp .f32 (iotaInDim (T1 1) 32 0)))))) (ix2 l y)
      = rawWeight (Ideal.ofBits .f32 k) l y := by
    intro l
    obtain rfl : l = 0 := Subsingleton.elim _ _
    rw [rCubic_apply, rawWeight, ← rSamples_apply h0 h1]
    dsimp only
    congr 1
  unfold rWeights1 weight
  show Ideal.div _ _ = _
  rw [rTotal_apply]
  simp only [e]

/-- The reference's resizing. -/
def rResize (d1 : DotDims (T2 p 32) (T4 8 32 p p) (T4 32 8 32 p)) (h1 : (T4 32 8 32 p).Transposes [1, 2, 0, 3] (T4 8 32 32 p))
    (d2 : DotDims (T4 8 32 32 p) (T2 p 32) (T4 8 32 32 32)) (a : FVec Ideal (T2 p 32) .f32) (q : FVec Ideal (T4 8 32 p p) .f32) :
    FVec Ideal (T4 8 32 32 32) .f32 :=
  Host.dotGeneral d2 none (transpose (T4 8 32 32 p) [1, 2, 0, 3] (Host.dotGeneral d1 none a q) h1) a

/-- The dimension numbers of the product along the rows. -/
abbrev RowsReads (d1 : DotDims (T2 p 32) (T4 8 32 p p) (T4 32 8 32 p)) : Prop :=
  ∀ (a : (T2 p 32).Idx → EReal) (q : (T4 8 32 p p).Idx → EReal) (z : (T4 32 8 32 p).Idx → EReal) (y : Fin 32) (b : Fin 8) (c : Fin 32) (j : Fin p),
    Ideal.matmul d1 a q z (ix4 y b c j) = z (ix4 y b c j) + ∑ i : Fin p, a (ix2 i y) * q (ix4 b c i j)

/-- The dimension numbers of the product along the columns. -/
abbrev ColsReads (d2 : DotDims (T4 8 32 32 p) (T2 p 32) (T4 8 32 32 32)) : Prop :=
  ∀ (q : (T4 8 32 32 p).Idx → EReal) (a : (T2 p 32).Idx → EReal) (z : (T4 8 32 32 32).Idx → EReal) (b : Fin 8) (c y x : Fin 32),
    Ideal.matmul d2 q a z (ix4 b c y x) = z (ix4 b c y x) + ∑ j : Fin p, q (ix4 b c y j) * a (ix2 j x)

/-- The reference's resizing is the resizing of the cells. -/
theorem rResize_apply (d1 h1 d2) (hd1 : RowsReads d1) (hd2 : ColsReads d2) (a : FVec Ideal (T2 p 32) .f32) (q : FVec Ideal (T4 8 32 p p) .f32)
    (w : Fin p → Fin 32 → EReal) (Q : Cells p) (ha : ∀ i y, a (ix2 i y) = w i y) (hq : ∀ b c i j, q (ix4 b c i j) = Q b i j c) :
    img (rResize d1 h1 d2 a q) = resize w Q := by
  funext b c y x
  unfold img rResize resize
  show Ideal.matmul d2 _ _ (fun _ => 0) _ = _
  rw [hd2]
  simp only [zero_add]
  refine Finset.sum_congr rfl fun j _ => ?_
  rw [ha]
  congr 1
  pointwise []
  show Ideal.matmul d1 _ _ (fun _ => 0) _ = _
  rw [hd1]
  simp only [zero_add, ha, hq]

end Cert.Msvq

end
-- ==== Proof.RefC.lean ====
/-
  The reference's filter, update and loss of one scale, as functions of the resized image.
-/
module

public import proofs.«01_k».proof.Proof.RefB
public import Idealize.ShloMosaic.Lib.KernelVsHost

@[expose] public section

set_option maxRecDepth 16384

noncomputable section

namespace Cert.Msvq

open Idealize.ShloMosaic

/-- The image with a border of zeros. -/
def rPad (h : (T4 8 32 32 32).Pads (![0, 0, 1, 1] : Fin 4 → ℕ) ![0, 0, 1, 1] ![0, 0, 0, 0] (T4 8 32 34 34)) (hu : 0 < T0.numel)
    (x : FVec Ideal (T4 8 32 32 32) .f32) : FVec Ideal (T4 8 32 34 34) .f32 :=
  pad (T4 8 32 34 34) ![0, 0, 1, 1] ![0, 0, 1, 1] ![0, 0, 0, 0] x (sitofp .f32 (constantI T0 32 0#32)) h hu

/-- A bordered image shifted by a tap is that tap. -/
theorem rPad_apply (h hu) (x : FVec Ideal (T4 8 32 32 32) .f32) (ky kx : Fin 3)
    (hs : (T4 8 32 34 34).Slices ![0, 0, (ky : ℕ), (kx : ℕ)] (T4 8 32 32 32)) (b : Fin 8) (c y x' : Fin 32) :
    extractStridedSlice (T4 8 32 32 32) ![0, 0, (ky : ℕ), (kx : ℕ)] (rPad h hu x) hs (ix4 b c y x') = tap (img x) b c y x' ky kx := by
  have e : extractStridedSlice (T4 8 32 32 32) ![0, 0, (ky : ℕ), (kx : ℕ)] (rPad h hu x) hs (ix4 b c y x')
      = rPad h hu x (ix4 b c ⟨y + ky, by omega⟩ ⟨x' + kx, by omega⟩) := by
    pointwise []
    refine congrArg _ (funext fun a => Fin.ext ?_)
    fin_cases a <;> simp [Nat.add_comm]
  rw [e]
  unfold tap
  by_cases hh : (1 ≤ (y : ℕ) + ky ∧ (y : ℕ) + ky < 33) ∧ (1 ≤ (x' : ℕ) + kx ∧ (x' : ℕ) + kx < 33)
  · rw [dif_pos hh]
    refine pad_apply_of_inside _ _ _ _ _ _ _ _ (ix4 b c ⟨y + ky - 1, by omega⟩ ⟨x' + kx - 1, by omega⟩) fun a => ?_
    fin_cases a
    · simp
    · simp
    · show (y : ℕ) + ky = 1 + (y + ky - 1) * (0 + 1); omega
    · show (x' : ℕ) + kx = 1 + (x' + kx - 1) * (0 + 1); omega
  · rw [dif_neg hh]
    have z : (sitofp (F := Ideal) .f32 (constantI T0 32 0#32) (Shape.Idx.first hu)) = 0 := by
      show (((0#32 : BitVec 32).toInt : ℝ) : EReal) = 0
      simp
    rw [← z]
    rcases not_and_or.1 hh with h1 | h1
    · refine pad_apply_of_not_inside _ _ _ _ _ _ _ _ 2 fun h2 => h1 ?_
      have a : 1 ≤ (y : ℕ) + ky := h2.1
      have b : ((y : ℕ) + ky - 1) / (0 + 1) < 32 := h2.2.2
      omega
    · refine pad_apply_of_not_inside _ _ _ _ _ _ _ _ 3 fun h2 => h1 ?_
      have a : 1 ≤ (x' : ℕ) + kx := h2.1
      have b : ((x' : ℕ) + kx - 1) / (0 + 1) < 32 := h2.2.2
      omega

/-- The dimension numbers of a tap's product over the channels. -/
abbrev TapReads (d : DotDims (T4 8 32 32 32) (T2 32 32) (T4 8 32 32 32)) : Prop :=
  ∀ (q : (T4 8 32 32 32).Idx → EReal) (a : (T2 32 32).Idx → EReal) (z : (T4 8 32 32 32).Idx → EReal) (b : Fin 8) (y x o : Fin 32),
    Ideal.matmul d q a z (ix4 b y x o) = z (ix4 b y x o) + ∑ c : Fin 32, q (ix4 b c y x) * a (ix2 o c)

/-- The facts the filter's operations cite. -/
structure ConvFacts : Prop where
  pd : (T4 8 32 32 32).Pads (![0, 0, 1, 1] : Fin 4 → ℕ) ![0, 0, 1, 1] ![0, 0, 0, 0] (T4 8 32 34 34)
  hu : 0 < T0.numel
  sx : ∀ ky kx : Fin 3, (T4 8 32 34 34).Slices ![0, 0, (ky : ℕ), (kx : ℕ)] (T4 8 32 32 32)
  sw : ∀ ky kx : Fin 3, (T4 32 32 3 3).Slices ![0, 0, (ky : ℕ), (kx : ℕ)] (T4 32 32 1 1)
  cw : (T4 32 32 1 1).ShapeCasts (T2 32 32)
  tr : (T4 8 32 32 32).Transposes [0, 3, 1, 2] (T4 8 32 32 32)
  b0 : T0.BroadcastsInDim (T4 8 32 32 32) ![]
  b1 : (T1 32).BroadcastsInDim (T4 1 32 1 1) ![1]
  b2 : (T4 1 32 1 1).BroadcastsInDim (T4 8 32 32 32) ![0, 1, 2, 3]

variable (H : ConvFacts) (d : DotDims (T4 8 32 32 32) (T2 32 32) (T4 8 32 32 32))

/-- One tap of the reference's filter. -/
def rTap (w : FVec Ideal (T4 32 32 3 3) .f32) (x : FVec Ideal (T4 8 32 34 34) .f32) (ky kx : Fin 3) : FVec Ideal (T4 8 32 32 32) .f32 :=
  transpose (T4 8 32 32 32) [0, 3, 1, 2] (Host.dotGeneral d none (extractStridedSlice (T4 8 32 32 32) ![0, 0, (ky : ℕ), (kx : ℕ)] x (H.sx ky kx))
    (shapeCast (T2 32 32) (extractStridedSlice (T4 32 32 1 1) ![0, 0, (ky : ℕ), (kx : ℕ)] w (H.sw ky kx)) H.cw)) H.tr

/-- It is the sum over the channels of the tap times its weight. -/
theorem rTap_apply (hd : TapReads d) (w : FVec Ideal (T4 32 32 3 3) .f32) (x : FVec Ideal (T4 8 32 32 32) .f32) (ky kx : Fin 3) (b : Fin 8) (o y x' : Fin 32) :
    rTap H d w (rPad H.pd H.hu x) ky kx (ix4 b o y x') = ∑ c : Fin 32, w (ix4 o c ky kx) * tap (img x) b c y x' ky kx := by
  have e : ∀ q : FVec Ideal (T4 8 32 32 32) .f32, transpose (T4 8 32 32 32) [0, 3, 1, 2] q H.tr (ix4 b o y x') = q (ix4 b y x' o) := by
    intro q; pointwise []
  unfold rTap
  rw [e]
  show Ideal.matmul d _ _ (fun _ => 0) _ = _
  rw [hd, zero_add]
  refine Finset.sum_congr rfl fun c _ => ?_
  rw [rPad_apply, mul_comm]
  congr 1
  have e : Shape.reshapeEquiv H.cw (ix2 o c) = ix4 o c 0 0 := by
    refine Shape.reshapeEquiv_eq_of_rowMajor _ ?_
    rw [Shape.rowMajor_val_two, Shape.rowMajor_val_four]
    show (((o : ℕ) * 32 + c) * 1 + 0) * 1 + 0 = (o : ℕ) * 32 + c
    omega
  show extractStridedSlice (T4 32 32 1 1) ![0, 0, (ky : ℕ), (kx : ℕ)] w (H.sw ky kx) (Shape.reshapeEquiv H.cw (ix2 o c)) = _
  rw [e]
  pointwise []

/-- The filter with bias. -/
def rConv (w : FVec Ideal (T4 32 32 3 3) .f32) (bi : FVec Ideal (T1 32) .f32) (h : FVec Ideal (T4 8 32 32 32) .f32) : FVec Ideal (T4 8 32 32 32) .f32 :=
  let x := rPad H.pd H.hu h
  addf (addf (addf (addf (addf (addf (addf (addf (addf (addf (broadcastInDim (T4 8 32 32 32) ![] H.b0 (constant T0 .f32 0x00000000#32))
    (rTap H d w x 0 0)) (rTap H d w x 0 1)) (rTap H d w x 0 2)) (rTap H d w x 1 0)) (rTap H d w x 1 1)) (rTap H d w x 1 2))
    (rTap H d w x 2 0)) (rTap H d w x 2 1)) (rTap H d w x 2 2))
    (broadcastInDim (T4 8 32 32 32) ![0, 1, 2, 3] H.b2 (broadcastInDim (T4 1 32 1 1) ![1] H.b1 bi))

/-- It is the filter with bias of the image. -/
theorem rConv_apply (hd : TapReads d) (w bi) (h : FVec Ideal (T4 8 32 32 32) .f32) :
    img (rConv H d w bi h) = conv (fun o c ky kx => w (ix4 o c ky kx)) (fun o => bi (ix1 o)) (img h) := by
  funext b o y x
  have hb : broadcastInDim (T4 8 32 32 32) ![0, 1, 2, 3] H.b2 (broadcastInDim (T4 1 32 1 1) ![1] H.b1 bi) (ix4 b o y x) = bi (ix1 o) := by
    pointwise []
  have hz : broadcastInDim (T4 8 32 32 32) ![] H.b0 (constant (F := Ideal) T0 .f32 0x00000000#32) (ix4 b o y x) = 0 := by
    pointwise []
  unfold img rConv conv
  show _ + _ + _ + _ + _ + _ + _ + _ + _ + _ + _ = _
  rw [hb, hz]
  simp only [rTap_apply H d hd]
  simp only [Fin.sum_univ_three, zero_add, add_assoc]
  rfl

/-- Half the image and half the filtered image. -/
def rPhi (w : FVec Ideal (T4 32 32 3 3) .f32) (bi : FVec Ideal (T1 32) .f32) (h : FVec Ideal (T4 8 32 32 32) .f32) : FVec Ideal (T4 8 32 32 32) .f32 :=
  let half := broadcastInDim (T4 8 32 32 32) ![] H.b0 (constant (F := Ideal) T0 .f32 0x3F000000#32)
  addf (mulf h half) (mulf (rConv H d w bi h) half)

/-- It is `phi` of the image. -/
theorem rPhi_apply (hd : TapReads d) (w bi) (h : FVec Ideal (T4 8 32 32 32) .f32) :
    img (rPhi H d w bi h) = phi (fun o c ky kx => w (ix4 o c ky kx)) (fun o => bi (ix1 o)) (img h) := by
  unfold phi
  rw [← rConv_apply H d hd]
  rfl

/-- The sum of squares of a difference. -/
def rSq (h : (T4 8 32 32 32).ReducesTo [0, 1, 2, 3] T0) (hu : 0 < T0.numel) (a z : FVec Ideal (T4 8 32 32 32) .f32) : FVec Ideal T0 .f32 :=
  Host.reduceAdd (mulf (subf a z) (subf a z)) (constant T0 .f32 0x00000000#32) h hu

/-- It is `sq` of the two images. -/
theorem rSq_apply (h hu) (a z : FVec Ideal (T4 8 32 32 32) .f32) : rSq h hu a z ix0 = sq (img a) (img z) := by
  unfold rSq sq img
  show Ideal.hostReduceAdd h _ _ _ = _
  rw [Ideal.hostReduceAdd_total h (fun b => b.elim0), sum_idx4]
  show (Ideal.ofBits .f32 0x00000000#32 : EReal) + _ = _
  have hz : (Ideal.ofBits .f32 0x00000000#32 : EReal) = 0 := by simp
  rw [hz, zero_add]
  rfl

/-- The loss with one scale's mean squared difference `s` added to `l`. -/
def more (l s : EReal) : EReal :=
  (l + Ideal.div s (Ideal.ofBits .f32 0x48800000#32) * Ideal.ofBits .f32 0x3E800000#32) + Ideal.div s (Ideal.ofBits .f32 0x48800000#32)

/-- The reference's loss with one scale added. -/
def rMore (h : (T4 8 32 32 32).ReducesTo [0, 1, 2, 3] T0) (hu : 0 < T0.numel) (l : FVec Ideal T0 .f32) (a z : FVec Ideal (T4 8 32 32 32) .f32) : FVec Ideal T0 .f32 :=
  addf (addf l (mulf (Host.divf (rSq h hu a z) (constant T0 .f32 0x48800000#32)) (constant T0 .f32 0x3E800000#32)))
    (Host.divf (rSq h hu a z) (constant T0 .f32 0x48800000#32))

/-- It is the loss with the scale's mean squared difference added. -/
theorem rMore_apply (h hu) (l : FVec Ideal T0 .f32) (a z : FVec Ideal (T4 8 32 32 32) .f32) :
    rMore h hu l a z ix0 = more (l ix0) (sq (img a) (img z)) := by
  unfold more
  rw [← rSq_apply h hu]
  rfl

end Cert.Msvq

end
-- ==== Proof.KernD.lean ====
/-
  The kernel's resizing by tables and its loss, on arrays whose columns are pixels.
-/
module

public import proofs.«01_k».proof.Proof.KernC
public import proofs.«01_k».proof.Proof.RefC

@[expose] public section

set_option maxRecDepth 16384

noncomputable section

namespace Cert.Msvq

open Idealize.ShloMosaic Cert.KernelIdeal Cert.KernelIdeal.Gen

/-- A plain matrix product from zeros, at one place. -/
theorem matmul_zero {a k b : ℕ} (d : DotDims (T2 a k) (T2 k b) (T2 a b)) (hd : DotReads d) (p : Option ContractPrecision) (l : FVec Ideal (T2 a k) .f32) (r : FVec Ideal (T2 k b) .f32)
    (i : Fin a) (j : Fin b) : matmul d p l r (constant (T2 a b) .f32 0x00000000#32) (ix2 i j) = ∑ x : Fin k, l (ix2 i x) * r (ix2 x j) := by
  show Ideal.matmul d _ _ (constant (F := Ideal) (T2 a b) .f32 0x00000000#32) _ = _
  have : (constant (F := Ideal) (T2 a b) .f32 0x00000000#32) (ix2 i j) = (0 : EReal) := by pointwise []
  rw [hd, this, zero_add]

/-- A table that spreads cell rows over image rows. -/
def IsRowTable {p m s : ℕ} (hm : m = p * p) (hs : s = 32 * p) (a : Fin p → Fin 32 → EReal) (M : FVec Ideal (T2 m s) .f32) : Prop :=
  ∀ (i j : Fin p) (y : Fin 32) (j' : Fin p), M (ix2 (at2 hm i j) (at2 hs y j')) = if j = j' then a i y else 0

/-- A table that spreads cell columns over image columns. -/
def IsColTable {p s : ℕ} (hs : s = 32 * p) (a : Fin p → Fin 32 → EReal) (M : FVec Ideal (T2 s 1024) .f32) : Prop :=
  ∀ (y : Fin 32) (j : Fin p) (y' x : Fin 32), M (ix2 (at2 hs y j) (px y' x)) = if y = y' then a j x else 0

/-- Resizing image by image through the two tables. -/
def kResize {m n s : ℕ} (d1 : DotDims (T2 32 m) (T2 m s) (T2 32 s)) (d2 : DotDims (T2 32 s) (T2 s 1024) (T2 32 1024))
    (ht : (T2 n 32).Transposes [1, 0] (T2 32 n)) (h1 : (T2 m s).ShapeCasts (T2 m s)) (h2 : (T2 s 1024).ShapeCasts (T2 s 1024))
    (hs : ∀ b : Fin 8, (T2 32 n).Slices ![0, (b : ℕ) * m] (T2 32 m))
    (hc : Shape.Concatenates [T2 32 1024, T2 32 1024, T2 32 1024, T2 32 1024, T2 32 1024, T2 32 1024, T2 32 1024, T2 32 1024] (T2 32 8192) 1)
    (q : FVec Ideal (T2 n 32) .f32) (m1 : FVec Ideal (T2 m s) .f32) (m2 : FVec Ideal (T2 s 1024) .f32) : FVec Ideal (T2 32 8192) .f32 :=
  concatenate (T2 32 8192) 1
    (eight fun b => matmul (F := Ideal) (φ₁ := .f32) (φ₂ := .f32) d2 (some .fp32)
      (show FVec Ideal (T2 32 s) .f32 from matmul (F := Ideal) (φ₁ := .f32) (φ₂ := .f32) d1 (some .fp32)
        (extractStridedSlice (T2 32 m) ![0, (b : ℕ) * m] (transpose (T2 32 n) [1, 0] q ht) (hs b)) (shapeCast (T2 m s) m1 h1) (constant (T2 32 s) .f32 0x00000000#32))
      (shapeCast (T2 s 1024) m2 h2) (constant (T2 32 1024) .f32 0x00000000#32)) hc

/-- Resizing image by image is resizing the cells. -/
theorem kResize_apply {p m n s : ℕ} (hm : m = p * p) (hn : n = 8 * m) (hss : s = 32 * p) (hn1 : n ≠ 1) (d1 : DotDims (T2 32 m) (T2 m s) (T2 32 s)) (d2 : DotDims (T2 32 s) (T2 s 1024) (T2 32 1024))
    (hd1 : DotReads d1) (hd2 : DotReads d2)
    (ht : (T2 n 32).Transposes [1, 0] (T2 32 n)) (h1 : (T2 m s).ShapeCasts (T2 m s)) (h2 : (T2 s 1024).ShapeCasts (T2 s 1024))
    (hs : ∀ b : Fin 8, (T2 32 n).Slices ![0, (b : ℕ) * m] (T2 32 m))
    (hc : Shape.Concatenates [T2 32 1024, T2 32 1024, T2 32 1024, T2 32 1024, T2 32 1024, T2 32 1024, T2 32 1024, T2 32 1024] (T2 32 8192) 1)
    (q : FVec Ideal (T2 n 32) .f32) (m1 : FVec Ideal (T2 m s) .f32) (m2 : FVec Ideal (T2 s 1024) .f32) (a : Fin p → Fin 32 → EReal)
    (hm1 : IsRowTable hm hss a m1) (hm2 : IsColTable hss a m2) :
    kimg (kResize d1 d2 ht h1 h2 hs hc q m1 m2) = resize a (fun b i j c => q (ix2 (cel hm hn b i j) c)) := by
  funext b c y x
  have ec : col b y x = at2 (by norm_num : 8192 = 8 * 1024) b (px y x) := Fin.ext (by simp only; omega)
  show kResize d1 d2 ht h1 h2 hs hc q m1 m2 (ix2 c (col b y x)) = _
  rw [ec]
  refine (eight_apply (by norm_num) _ hc b (px y x) c).trans ?_
  rw [matmul_zero d2 hd2, shapeCast_self, shapeCast_self, sum_at2 hss, Finset.sum_eq_single y]
  · unfold resize
    refine Finset.sum_congr rfl fun j _ => ?_
    rw [hm2 y j y x, if_pos rfl]
    congr 1
    show matmul d1 _ _ _ _ _ = _
    rw [matmul_zero d1 hd1, sum_at2 hm]
    refine Finset.sum_congr rfl fun i _ => ?_
    rw [Finset.sum_eq_single j]
    · rw [hm1 i j y j, if_pos rfl, mul_comm]
      congr 1
      pointwise []
    · intro j' _ hj
      rw [hm1 i j' y j, if_neg hj, mul_zero]
    · exact fun hj => absurd (Finset.mem_univ _) hj
  · intro y' _ hy
    refine Finset.sum_eq_zero fun j _ => ?_
    rw [hm2 y' j y x, if_neg hy, mul_zero]
  · exact fun hy => absurd (Finset.mem_univ _) hy

/-- A table that spreads the single cell of each image over it. -/
def IsSpread (a : Fin 1 → Fin 32 → EReal) (U : FVec Ideal (T2 8 8192) .f32) : Prop :=
  ∀ (b b' : Fin 8) (y x : Fin 32), U (ix2 b (col b' y x)) = if b = b' then a 0 y * a 0 x else 0

/-- Spreading the single cell of each image is resizing it. -/
theorem spread_apply (q : FVec Ideal S8x32 .f32) (U : FVec Ideal S8x8192 .f32) (a : Fin 1 → Fin 32 → EReal) (hU : IsSpread a U) :
    kimg (k0_pay71 (F := Ideal) (k0_pay70 (F := Ideal) q) U) = resize a (fun b i j c => q (ix2 (cel (p := 1) (m := 1) (n := 8) rfl rfl b i j) c)) := by
  funext b c y x
  have hd : DotReads dot_S32x8_S8x8192_S32x8192_1_0_0_1_n_n := by intro l r c i j; pointwise
  unfold k0_pay71
  show matmul _ _ _ _ _ (ix2 c (col b y x)) = _
  rw [matmul_zero _ hd, shapeCast_self, Finset.sum_eq_single b]
  · rw [hU b b y x, if_pos rfl]
    unfold resize
    rw [Fin.sum_univ_one, Fin.sum_univ_one]
    pointwise [k0_pay70]
    rw [← mul_assoc, mul_comm (q _) (a 0 y)]
    congr 3
    congr 1
    exact Fin.ext (show (b : ℕ) = (b : ℕ) * 1 + (0 * 1 + 0) by omega)
  · intro b' _ hb
    rw [hU b' b y x, if_neg hb, mul_zero]
  · exact fun hb => absurd (Finset.mem_univ _) hb

/-- The sum of squares of a difference, over all columns. -/
def kSq (z : FVec Ideal S32x8192 .f32) (zh : FVec Ideal S32x8192 .f32) : FVec Ideal S1 .f32 :=
  have v192 : FVec Ideal S32x8192 .f32 := subf zh z
  have v193 : FVec Ideal S32x8192 .f32 := mulf v192 v192
  have v194 : FVec Ideal S1x32x8192 .f32 := shapeCast S1x32x8192 v193 shapeCasts_S32x8192_S1x32x8192
  multiReduction .add [1, 2] S1 v194 0x00000000#32 reduces_S1x32x8192_S1 (.inl rfl) rfl

/-- It is the sum of squares of the images. -/
theorem kSq_apply (z : FVec Ideal S32x8192 .f32) (zh : FVec Ideal S32x8192 .f32) : kSq z zh (ix1 0) = sq (kimg zh) (kimg z) := by
  have e : kSq z zh (ix1 0) = ∑ c : Fin 32, ∑ j : Fin 8192, (zh (ix2 c j) - z (ix2 c j)) * (zh (ix2 c j) - z (ix2 c j)) := by
    pointwise [kSq]
  have e2 : ∀ c : Fin 32, ∑ j : Fin 8192, (zh (ix2 c j) - z (ix2 c j)) * (zh (ix2 c j) - z (ix2 c j))
      = ∑ b : Fin 8, ∑ y : Fin 32, ∑ x : Fin 32, (kimg zh b c y x - kimg z b c y x) * (kimg zh b c y x - kimg z b c y x) := by
    intro c
    rw [sum_at2 (a := 8) (b := 1024) (by norm_num)]
    refine Finset.sum_congr rfl fun b _ => ?_
    rw [sum_at2 (a := 32) (b := 32) (by norm_num)]
    refine Finset.sum_congr rfl fun y _ => Finset.sum_congr rfl fun x _ => ?_
    have e : (at2 (by norm_num : 8192 = 8 * 1024) b (at2 (by norm_num : 1024 = 32 * 32) y x)) = col b y x := Fin.ext (by simp only; omega)
    rw [e]
    rfl
  rw [e]
  unfold sq
  rw [Finset.sum_congr rfl fun c _ => e2 c, Finset.sum_comm]

/-- One more term of the kernel's loss. -/
def kMore (z : FVec Ideal S32x8192 .f32) (zh : FVec Ideal S32x8192 .f32) (l : FVec Ideal S1x1 .f32) : FVec Ideal S1x1 .f32 :=
  k0_pay179 (F := Ideal) l (kSq z zh)

/-- The kernel's one constant in place of the mean and the two weights. -/
theorem more_eq (l s : EReal) : l + s * Ideal.ofBits .f32 0x36A00000#32 = more l s := by
  unfold more
  have e1 : (Ideal.ofBits .f32 0x48800000#32 : EReal) = ((262144 : ℝ) : EReal) := by
    simp [Ideal.ofBits, Ideal.ieee, -EReal.coe_mul]; norm_num
  have e2 : (Ideal.ofBits .f32 0x3E800000#32 : EReal) = ((1/4 : ℝ) : EReal) := by
    simp [Ideal.ofBits, Ideal.ieee, -EReal.coe_mul]; norm_num
  have e3 : (Ideal.ofBits .f32 0x36A00000#32 : EReal) = ((5/4 * (1/262144) : ℝ) : EReal) := by
    simp [Ideal.ofBits, Ideal.ieee, -EReal.coe_mul]; norm_num
  rw [e1, e2, e3, Ideal.div_coe (by norm_num)]
  have h0 : ((0 : ℝ) : EReal) ≤ ((1/4 : ℝ) : EReal) := by exact_mod_cast (by norm_num : (0:ℝ) ≤ 1/4)
  have h : s * ((5/4 * (1/262144) : ℝ) : EReal) = s * ((1/262144 : ℝ) : EReal) * ((1/4 : ℝ) : EReal) + s * ((1/262144 : ℝ) : EReal) := by
    have e4 : ((5/4 * (1/262144) : ℝ) : EReal) = ((1/262144 : ℝ) : EReal) * (((1/4 : ℝ) : EReal) + 1) := by
      norm_cast; norm_num
    rw [e4, ← mul_assoc, EReal.left_distrib_of_nonneg h0 (by norm_num), mul_one]
  rw [h, add_assoc]

/-- It is the loss with the scale's mean squared difference added. -/
theorem kMore_apply (z : FVec Ideal S32x8192 .f32) (zh : FVec Ideal S32x8192 .f32) (l : FVec Ideal S1x1 .f32) :
    kMore z zh l (ix2 0 0) = more (l (ix2 0 0)) (sq (kimg zh) (kimg z)) := by
  rw [← more_eq, ← kSq_apply]
  pointwise [kMore, k0_pay179]

end Cert.Msvq

end
-- ==== Proof.KernE.lean ====
/-
  The payloads of the kernel's six scales, each equal to the functions of the earlier modules: pooled rows, resized
  codes, the filtered image, the running sum, the running residual and the loss.
-/
module

public import proofs.«01_k».proof.Proof.KernD

@[expose] public section

set_option maxRecDepth 16384

noncomputable section

namespace Cert.Msvq

open Idealize.ShloMosaic Cert.KernelIdeal Cert.KernelIdeal.Gen

/-- The images are eight runs of columns. -/
theorem slices1024 : ∀ b : Fin 8, (T2 32 8192).Slices ![0, (b : ℕ) * 1024] (T2 32 1024) := by decide

/-- Eight runs of four columns. -/
theorem slices4 : ∀ b : Fin 8, (T2 32 32).Slices ![0, (b : ℕ) * 4] (T2 32 4) := by decide

/-- Eight runs of sixteen columns. -/
theorem slices16 : ∀ b : Fin 8, (T2 32 128).Slices ![0, (b : ℕ) * 16] (T2 32 16) := by decide

/-- Eight runs of 64 columns. -/
theorem slices64 : ∀ b : Fin 8, (T2 32 512).Slices ![0, (b : ℕ) * 64] (T2 32 64) := by decide

/-- Eight runs of 256 columns. -/
theorem slices256 : ∀ b : Fin 8, (T2 32 2048).Slices ![0, (b : ℕ) * 256] (T2 32 256) := by decide

/-- The pooled rows of the first scale. -/
theorem rows1 (z : FVec Ideal S32x8192 .f32) (P : Vec Ideal S8192x8 .f32) :
    k0_pay65 (F := Ideal) z P = kPool8 dot_S32x8192_S8192x8_S32x8_1_0_0_1_n_n transposes_S32x8_p1_0_S8x32 shapeCasts_S8192x8_S8192x8 0x3A800000#32 z P := rfl

/-- The first sum. -/
theorem sum1 (M : Masks) (q : FVec Ideal S32x8 .f32) (U : Vec Ideal S8x8192 .f32) (zh : FVec Ideal S32x8192 .f32) (w : Vec Ideal S32x288 .bf16) (b : Vec Ideal S32x1 .f32) :
    k0_pay82 (F := Ideal) zh (k0_pay71 q U) (k0_pay72 M.m00 q U) (k0_pay73 M.m01 q U) (k0_pay74 M.m02 q U) (k0_pay75 M.m10 q U) (k0_pay76 q U) (k0_pay77 M.m12 q U) (k0_pay78 M.m20 q U) (k0_pay79 M.m21 q U) (k0_pay80 M.m22 q U) w b = addf zh (kPhi M (k0_pay71 q U) w b) := rfl

/-- The first residual. -/
theorem res1 (M : Masks) (q : FVec Ideal S32x8 .f32) (U : Vec Ideal S8x8192 .f32) (zr : FVec Ideal S32x8192 .f32) (w : Vec Ideal S32x288 .bf16) (b : Vec Ideal S32x1 .f32) :
    k0_pay83 (F := Ideal) zr (k0_pay71 q U) (k0_pay72 M.m00 q U) (k0_pay73 M.m01 q U) (k0_pay74 M.m02 q U) (k0_pay75 M.m10 q U) (k0_pay76 q U) (k0_pay77 M.m12 q U) (k0_pay78 M.m20 q U) (k0_pay79 M.m21 q U) (k0_pay80 M.m22 q U) w b = subf zr (kPhi M (k0_pay71 q U) w b) := rfl

/-- The first loss. -/
theorem loss1 (M : Masks) (q : FVec Ideal S32x8 .f32) (U : Vec Ideal S8x8192 .f32) (z : FVec Ideal S32x8192 .f32) (zh : FVec Ideal S32x8192 .f32) (l : FVec Ideal S1x1 .f32) (w : Vec Ideal S32x288 .bf16) (b : Vec Ideal S32x1 .f32) :
    k0_pay84 (F := Ideal) z zh l (k0_pay71 q U) (k0_pay72 M.m00 q U) (k0_pay73 M.m01 q U) (k0_pay74 M.m02 q U) (k0_pay75 M.m10 q U) (k0_pay76 q U) (k0_pay77 M.m12 q U) (k0_pay78 M.m20 q U) (k0_pay79 M.m21 q U) (k0_pay80 M.m22 q U) w b = kMore z (addf zh (kPhi M (k0_pay71 q U) w b)) l := rfl

/-- The pooled rows of the second scale. -/
theorem rows2 (M : Masks) (q : FVec Ideal S32x8 .f32) (U : Vec Ideal S8x8192 .f32) (zr : FVec Ideal S32x8192 .f32) (w : Vec Ideal S32x288 .bf16) (b : Vec Ideal S32x1 .f32) (P : Vec Ideal S8192x32 .f32) :
    k0_pay85 (F := Ideal) zr (k0_pay71 q U) (k0_pay72 M.m00 q U) (k0_pay73 M.m01 q U) (k0_pay74 M.m02 q U) (k0_pay75 M.m10 q U) (k0_pay76 q U) (k0_pay77 M.m12 q U) (k0_pay78 M.m20 q U) (k0_pay79 M.m21 q U) (k0_pay80 M.m22 q U) w b P = kPool8 dot_S32x8192_S8192x32_S32x32_1_0_0_1_n_n transposes_S32x32_p1_0_S32x32 shapeCasts_S8192x32_S8192x32 0x3B800000#32 (subf zr (kPhi M (k0_pay71 q U) w b)) P := rfl

/-- The second resized image. -/
theorem image2 (q : FVec Ideal S32x32 .f32) (m1 : Vec Ideal S4x64 .f32) (m2 : Vec Ideal S64x1024 .f32) :
    k0_pay90 (F := Ideal) q m1 m2 = kResize dot_S32x4_S4x64_S32x64_1_0_0_1_n_n dot_S32x64_S64x1024_S32x1024_1_0_0_1_n_n transposes_S32x32_p1_0_S32x32 shapeCasts_S4x64_S4x64 shapeCasts_S64x1024_S64x1024 slices4 concatenates_S32x1024_S32x1024_S32x1024_S32x1024_S32x1024_S32x1024_S32x1024_S32x1024_S32x8192_d1 q m1 m2 := rfl

/-- The second filter. -/
theorem conv2 (M : Masks) (q : FVec Ideal S32x32 .f32) (m1 : Vec Ideal S4x64 .f32) (m2 : Vec Ideal S64x1024 .f32) (w : Vec Ideal S32x288 .bf16) :
    k0_pay92 (F := Ideal) M.m01 M.m02 M.m10 M.m12 M.m20 M.m21 M.m22 (k0_pay90 q m1 m2) (k0_pay91 M.m00 q m1 m2) w = kConv M (k0_pay90 q m1 m2) w := rfl

/-- The second sum. -/
theorem sum2 (M : Masks) (h : FVec Ideal S32x8192 .f32) (zh : FVec Ideal S32x8192 .f32) (w : Vec Ideal S32x288 .bf16) (b : Vec Ideal S32x1 .f32) :
    k0_pay94 (F := Ideal) zh h (kConv M h w) b = addf zh (kPhi M h w b) := rfl

/-- The second residual. -/
theorem res2 (M : Masks) (h : FVec Ideal S32x8192 .f32) (zr : FVec Ideal S32x8192 .f32) (w : Vec Ideal S32x288 .bf16) (b : Vec Ideal S32x1 .f32) :
    k0_pay95 (F := Ideal) zr h (kConv M h w) b = subf zr (kPhi M h w b) := rfl

/-- The second loss. -/
theorem loss2 (M : Masks) (h : FVec Ideal S32x8192 .f32) (z : FVec Ideal S32x8192 .f32) (zh : FVec Ideal S32x8192 .f32) (l : FVec Ideal S1x1 .f32) (w : Vec Ideal S32x288 .bf16) (b : Vec Ideal S32x1 .f32) :
    k0_pay96 (F := Ideal) z zh l h (kConv M h w) b = kMore z (addf zh (kPhi M h w b)) l := rfl

/-- The pooled rows of the third scale. -/
theorem rows3 (M : Masks) (h : FVec Ideal S32x8192 .f32) (zr : FVec Ideal S32x8192 .f32) (w : Vec Ideal S32x288 .bf16) (b : Vec Ideal S32x1 .f32) (P : Vec Ideal S1024x16 .f32) :
    k0_pay97 (F := Ideal) zr h (kConv M h w) b P = kPool dot_S32x1024_S1024x16_S32x16_1_0_0_1_n_n slices1024 concatenates_S32x16_S32x16_S32x16_S32x16_S32x16_S32x16_S32x16_S32x16_S32x128_d1 transposes_S32x128_p1_0_S128x32 0x3C800000#32 (subf zr (kPhi M h w b)) (shapeCast S1024x16 P shapeCasts_S1024x16_S1024x16) := rfl

/-- The third resized image. -/
theorem image3 (q : FVec Ideal S128x32 .f32) (m1 : Vec Ideal S16x128 .f32) (m2 : Vec Ideal S128x1024 .f32)  :
    k0_pay113 (F := Ideal) (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1) = kResize dot_S32x16_S16x128_S32x128_1_0_0_1_n_n dot_S32x128_S128x1024_S32x1024_1_0_0_1_n_n transposes_S128x32_p1_0_S32x128 shapeCasts_S16x128_S16x128 shapeCasts_S128x1024_S128x1024 slices16 concatenates_S32x1024_S32x1024_S32x1024_S32x1024_S32x1024_S32x1024_S32x1024_S32x1024_S32x8192_d1 q m1 m2 := rfl

/-- The third sum. -/
theorem sum3 (M : Masks) (q : FVec Ideal S128x32 .f32) (m1 : Vec Ideal S16x128 .f32) (m2 : Vec Ideal S128x1024 .f32) (zh : FVec Ideal S32x8192 .f32) (w : Vec Ideal S32x288 .bf16) (b : Vec Ideal S32x1 .f32) :
    k0_pay124 (F := Ideal) M.m22 zh (k0_pay113 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay114 M.m00 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay115 M.m01 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay116 M.m02 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay117 M.m10 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay118 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay119 M.m12 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay120 M.m20 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay121 M.m21 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) k0_pay122 w b = addf zh (kPhi M (k0_pay113 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) w b) := rfl

/-- The third residual. -/
theorem res3 (M : Masks) (q : FVec Ideal S128x32 .f32) (m1 : Vec Ideal S16x128 .f32) (m2 : Vec Ideal S128x1024 .f32) (zr : FVec Ideal S32x8192 .f32) (w : Vec Ideal S32x288 .bf16) (b : Vec Ideal S32x1 .f32) :
    k0_pay125 (F := Ideal) M.m22 zr (k0_pay113 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay114 M.m00 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay115 M.m01 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay116 M.m02 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay117 M.m10 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay118 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay119 M.m12 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay120 M.m20 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay121 M.m21 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) k0_pay122 w b = subf zr (kPhi M (k0_pay113 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) w b) := rfl

/-- The third loss. -/
theorem loss3 (M : Masks) (q : FVec Ideal S128x32 .f32) (m1 : Vec Ideal S16x128 .f32) (m2 : Vec Ideal S128x1024 .f32) (z : FVec Ideal S32x8192 .f32) (zh : FVec Ideal S32x8192 .f32) (l : FVec Ideal S1x1 .f32) (w : Vec Ideal S32x288 .bf16) (b : Vec Ideal S32x1 .f32) :
    k0_pay126 (F := Ideal) z M.m22 zh l (k0_pay113 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay114 M.m00 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay115 M.m01 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay116 M.m02 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay117 M.m10 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay118 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay119 M.m12 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay120 M.m20 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) (k0_pay121 M.m21 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) k0_pay122 w b = kMore z (addf zh (kPhi M (k0_pay113 (k0_pay103 q) (k0_pay104 m1) (k0_pay105 m2) (k0_pay106 q m1 m2) (k0_pay107 q m1 m2) (k0_pay108 q m1 m2) (k0_pay109 q m1 m2) (k0_pay110 q m1 m2) (k0_pay111 q m1 m2) (k0_pay112 q m1)) w b)) l := rfl

/-- The pooled rows of the fourth scale. -/
theorem rows4 (m : FVec Ideal S1x8192 .f32) (zr h : FVec Ideal S32x8192 .f32) (s1 s2 s3 s4 s5 s6 s7 s8 : FVec Ideal S32x8192 .bf16) (o : FVec Ideal S32x33 .f32) (w : Vec Ideal S32x288 .bf16) (b : Vec Ideal S32x1 .f32) (P : Vec Ideal S1024x64 .f32) :
    k0_pay134 (F := Ideal) (k0_pay125 m zr h s1 s2 s3 s4 s5 s6 s7 s8 o w b) (k0_pay127 P) (k0_pay128 m zr h s1 s2 s3 s4 s5 s6 s7 s8 o w b P) (k0_pay129 m zr h s1 s2 s3 s4 s5 s6 s7 s8 o w b P) (k0_pay130 m zr h s1 s2 s3 s4 s5 s6 s7 s8 o w b P) (k0_pay131 m zr h s1 s2 s3 s4 s5 s6 s7 s8 o w b P) (k0_pay132 m zr h s1 s2 s3 s4 s5 s6 s7 s8 o w b P) (k0_pay133 m zr h s1 s2 s3 s4 s5 s6 s7 s8 o w b) (constant S32x64 .f32 0#32) = kPool dot_S32x1024_S1024x64_S32x64_1_0_0_1_n_n slices1024 concatenates_S32x64_S32x64_S32x64_S32x64_S32x64_S32x64_S32x64_S32x64_S32x512_d1 transposes_S32x512_p1_0_S512x32 0x3D800000#32 (k0_pay125 m zr h s1 s2 s3 s4 s5 s6 s7 s8 o w b) (shapeCast S1024x64 P shapeCasts_S1024x64_S1024x64) := rfl

/-- The fourth resized image. -/
theorem image4 (q : FVec Ideal S512x32 .f32) (m1 : Vec Ideal S64x256 .f32) (m2 : Vec Ideal S256x1024 .f32)  :
    k0_pay146 (F := Ideal) (k0_pay139 q) (k0_pay140 m1) (k0_pay141 m2) (k0_pay142 q m1 m2) (k0_pay143 q m1 m2) (k0_pay144 q m1 m2) (k0_pay145 q m1) (constant S32x1024 .f32 0#32) = kResize dot_S32x64_S64x256_S32x256_1_0_0_1_n_n dot_S32x256_S256x1024_S32x1024_1_0_0_1_n_n transposes_S512x32_p1_0_S32x512 shapeCasts_S64x256_S64x256 shapeCasts_S256x1024_S256x1024 slices64 concatenates_S32x1024_S32x1024_S32x1024_S32x1024_S32x1024_S32x1024_S32x1024_S32x1024_S32x8192_d1 q m1 m2 := rfl

/-- The fourth sum. -/
theorem sum4 (M : Masks) (q : FVec Ideal S512x32 .f32) (m1 : Vec Ideal S64x256 .f32) (m2 : Vec Ideal S256x1024 .f32) (zh : FVec Ideal S32x8192 .f32) (w : Vec Ideal S32x288 .bf16) (b : Vec Ideal S32x1 .f32) :
    k0_pay155 (F := Ideal) M.m20 M.m21 M.m22 zh (k0_pay146 (k0_pay139 q) (k0_pay140 m1) (k0_pay141 m2) (k0_pay142 q m1 m2) (k0_pay143 q m1 m2) (k0_pay144 q m1 m2) (k0_pay145 q m1) (constant S32x1024 .f32 0#32)) (k0_pay147 M.m00 (k0_pay139 q) (k0_pay140 m1) (k0_pay141 m2) (k0_pay142 q m1 m2) (k0_pay143 q m1 m2) (k0_pay144 q m1 m2) (k0_pay145 q m1) (constant S32x1024 .f32 0#32)) (k0_pay148 M.m01 (k0_pay139 q) (k0_pay140 m1) (k0_pay141 m2) (k0_pay142 q m1 m2) (k0_pay143 q m1 m2) (k0_pay144 q m1 m2) (k0_pay145 q m1) (constant S32x1024 .f32 0#32)) (k0_pay149 M.m02 (k0_pay139 q) (k0_pay140 m1) (k0_pay141 m2) (k0_pay142 q m1 m2) (k0_pay143 q m1 m2) (k0_pay144 q m1 m2) (k0_pay145 q m1) (constant S32x1024 .f32 0#32)) (k0_pay150 M.m10 (k0_pay139 q) (k0_pay140 m1) (k0_pay141 m2) (k0_pay142 q m1 m2) (k0_pay143 q m1 m2) (k0_pay144 q m1 m2) (k0_pay145 q m1) (constant S32x1024 .f32 0#32)) (k0_pay151 (k0_pay139 q) (k0_pay140 m1) (k0_pay141 m2) (k0_pay142 q m1 m2) (k0_pay143 q m1 m2) (k0_pay144 q m1 m2) (k0_pay145 q m1) (constant S32x1024 .f32 0#32)) (k0_pay152 M.m12 (k0_pay139 q) (k0_pay140 m1) (k0_pay141 m2) (k0_pay142 q m1 m2) (k0_pay143 q m1 m2) (k0_pay144 q m1 m2) (k0_pay145 q m1) (constant S32x1024 .f32 0#32)) k0_pay153 w b = addf zh (kPhi M (k0_pay146 (k0_pay139 q) (k0_pay140 m1) (k0_pay141 m2) (k0_pay142 q m1 m2) (k0_pay143 q m1 m2) (k0_pay144 q m1 m2) (k0_pay145 q m1) (constant S32x1024 .f32 0#32)) w b) := rfl

/-- The fourth residual. -/
theorem res4 (M : Masks) (q : FVec Ideal S512x32 .f32) (m1 : Vec Ideal S64x256 .f32) (m2 : Vec Ideal S256x1024 .f32) (zr : FVec Ideal S32x8192 .f32) (w : Vec Ideal S32x288 .bf16) (b : Vec Ideal S32x1 .f32) :
    k0_pay156 (F := Ideal) M.m20 M.m21 M.m22 zr (k0_pay146 (k0_pay139 q) (k0_pay140 m1) (k0_pay141 m2) (k0_pay142 q m1 m2) (k0_pay143 q m1 m2) (k0_pay144 q m1 m2) (k0_pay145 q m1) (constant S32x1024 .f32 0#32)) (k0_pay147 M.m00 (k0_pay139 q) (k0_pay140 m1) (k0_pay141 m2) (k0_pay142 q m1 m2) (k0_pay143 q m1 m2) (k0_pay144 q m1 m2) (k0_pay145 q m1) (constant S32x1024 .f32 0#32)) (k0_pay148 M.m01 (k0_pay139 q) (k0_pay140 m1) (k0_pay141 m2) (k0_pay142 q m1 m2) (k0_pay143 q m1 m2) (k0_pay144 q m1 m2) (k0_pay145 q m1) (constant S32x1024 .f32 0#32)) (k0_pay149 M.m02 (k0_pay139 q) (k0_pay140 m1) (k0_pay141 m2) (k0_pay142 q m1 m2) (k0_pay143 q m1 m2) (k0_pay144 q m1 m2) (k0_pay145 q m1) (constant S32x1024 .f32 0#32)) (k0_pay150 M.m10 (k0_pay139 q) (k0_pay140 m1) (k0_pay141 m2) (k0_pay142 q m1 m2) (k0_pay143 q m1 m2) (k0_pay144 q m1 m2) (k0_pay145 q m1) (constant S32x1024 .f32 0#32)) (k0_pay151 (k0_pay139 q) (k0_pay140 m1) (k0_pay141 m2) (k0_pay142 q m1 m2) (k0_pay143 q m1 m2) (k0_pay144 q m1 m2) (k0_pay145 q m1) (constant S32x1024 .f32 0#32)) (k0_pay152 M.m12 (k0_pay139 q) (k0_pay140 m1) (k0_pay141 m2) (k0_pay142 q m1 m2) (k0_pay143 q m1 m2) (k0_pay144 q m1 m2) (k0_pay145 q m1) (constant S32x1024 .f32 0#32)) k0_pay153 w b = subf zr (kPhi M (k0_pay146 (k0_pay139 q) (k0_pay140 m1) (k0_pay141 m2) (k0_pay142 q m1 m2) (k0_pay143 q m1 m2) (k0_pay144 q m1 m2) (k0_pay145 q m1) (constant S32x1024 .f32 0#32)) w b) := rfl

/-- The fourth loss. -/
theorem loss4 (M : Masks) (q : FVec Ideal S512x32 .f32) (m1 : Vec Ideal S64x256 .f32) (m2 : Vec Ideal S256x1024 .f32) (z : FVec Ideal S32x8192 .f32) (zh : FVec Ideal S32x8192 .f32) (l : FVec Ideal S1x1 .f32) (w : Vec Ideal S32x288 .bf16) (b : Vec Ideal S32x1 .f32) :
    k0_pay157 (F := Ideal) z M.m20 M.m21 M.m22 zh l (k0_pay146 (k0_pay139 q) (k0_pay140 m1) (k0_pay141 m2) (k0_pay142 q m1 m2) (k0_pay143 q m1 m2) (k0_pay144 q m1 m2) (k0_pay145 q m1) (constant S32x1024 .f32 0#32)) (k0_pay147 M.m00 (k0_pay139 q) (k0_pay140 m1) (k0_pay141 m2) (k0_pay142 q m1 m2) (k0_pay143 q m1 m2) (k0_pay144 q m1 m2) (k0_pay145 q m1) (constant S32x1024 .f32 0#32)) (k0_pay148 M.m01 (k0_pay139 q) (k0_pay140 m1) (k0_pay141 m2) (k0_pay142 q m1 m2) (k0_pay143 q m1 m2) (k0_pay144 q m1 m2) (k0_pay145 q m1) (constant S32x1024 .f32 0#32)) (k0_pay149 M.m02 (k0_pay139 q) (k0_pay140 m1) (k0_pay141 m2) (k0_pay142 q m1 m2) (k0_pay143 q m1 m2) (k0_pay144 q m1 m2) (k0_pay145 q m1) (constant S32x1024 .f32 0#32)) (k0_pay150 M.m10 (k0_pay139 q) (k0_pay140 m1) (k0_pay141 m2) (k0_pay142 q m1 m2) (k0_pay143 q m1 m2) (k0_pay144 q m1 m2) (k0_pay145 q m1) (constant S32x1024 .f32 0#32)) (k0_pay151 (k0_pay139 q) (k0_pay140 m1) (k0_pay141 m2) (k0_pay142 q m1 m2) (k0_pay143 q m1 m2) (k0_pay144 q m1 m2) (k0_pay145 q m1) (constant S32x1024 .f32 0#32)) (k0_pay152 M.m12 (k0_pay139 q) (k0_pay140 m1) (k0_pay141 m2) (k0_pay142 q m1 m2) (k0_pay143 q m1 m2) (k0_pay144 q m1 m2) (k0_pay145 q m1) (constant S32x1024 .f32 0#32)) k0_pay153 w b = kMore z (addf zh (kPhi M (k0_pay146 (k0_pay139 q) (k0_pay140 m1) (k0_pay141 m2) (k0_pay142 q m1 m2) (k0_pay143 q m1 m2) (k0_pay144 q m1 m2) (k0_pay145 q m1) (constant S32x1024 .f32 0#32)) w b)) l := rfl

/-- The pooled rows of the fifth scale. -/
theorem rows5 (m20 m21 m22 : FVec Ideal S1x8192 .f32) (zr h : FVec Ideal S32x8192 .f32) (s1 s2 s3 s4 s5 s6 : FVec Ideal S32x8192 .bf16) (o : FVec Ideal S32x31 .f32) (w : Vec Ideal S32x288 .bf16) (b : Vec Ideal S32x1 .f32) (P : Vec Ideal S1024x256 .f32) :
    k0_pay160 (F := Ideal) (k0_pay156 m20 m21 m22 zr h s1 s2 s3 s4 s5 s6 o w b) (k0_pay158 P) (k0_pay159 m20 m21 m22 zr h s1 s2 s3 s4 s5 s6 o w b P) = kPool dot_S32x1024_S1024x256_S32x256_1_0_0_1_n_n slices1024 concatenates_S32x256_S32x256_S32x256_S32x256_S32x256_S32x256_S32x256_S32x256_S32x2048_d1 transposes_S32x2048_p1_0_S2048x32 0x3E800000#32 (k0_pay156 m20 m21 m22 zr h s1 s2 s3 s4 s5 s6 o w b) (shapeCast S1024x256 P shapeCasts_S1024x256_S1024x256) := rfl

/-- The fifth resized image. -/
theorem image5 (q : FVec Ideal S2048x32 .f32) (m1 : Vec Ideal S256x512 .f32) (m2 : Vec Ideal S512x1024 .f32)  :
    k0_pay169 (F := Ideal) (k0_pay165 q) (k0_pay166 m1) (k0_pay167 m2) (k0_pay168 q m1 m2) = kResize dot_S32x256_S256x512_S32x512_1_0_0_1_n_n dot_S32x512_S512x1024_S32x1024_1_0_0_1_n_n transposes_S2048x32_p1_0_S32x2048 shapeCasts_S256x512_S256x512 shapeCasts_S512x1024_S512x1024 slices256 concatenates_S32x1024_S32x1024_S32x1024_S32x1024_S32x1024_S32x1024_S32x1024_S32x1024_S32x8192_d1 q m1 m2 := rfl

/-- The fifth sum. -/
theorem sum5 (M : Masks) (q : FVec Ideal S2048x32 .f32) (m1 : Vec Ideal S256x512 .f32) (m2 : Vec Ideal S512x1024 .f32) (zh : FVec Ideal S32x8192 .f32) (w : Vec Ideal S32x288 .bf16) (b : Vec Ideal S32x1 .f32) :
    k0_pay176 (F := Ideal) M.m10 M.m12 M.m20 M.m21 M.m22 zh (k0_pay169 (k0_pay165 q) (k0_pay166 m1) (k0_pay167 m2) (k0_pay168 q m1 m2)) (k0_pay170 M.m00 (k0_pay165 q) (k0_pay166 m1) (k0_pay167 m2) (k0_pay168 q m1 m2)) (k0_pay171 M.m01 (k0_pay165 q) (k0_pay166 m1) (k0_pay167 m2) (k0_pay168 q m1 m2)) (k0_pay172 M.m02 (k0_pay165 q) (k0_pay166 m1) (k0_pay167 m2) (k0_pay168 q m1 m2)) k0_pay173 (k0_pay174 (k0_pay165 q) (k0_pay166 m1) (k0_pay167 m2) (k0_pay168 q m1 m2)) w b = addf zh (kPhi M (k0_pay169 (k0_pay165 q) (k0_pay166 m1) (k0_pay167 m2) (k0_pay168 q m1 m2)) w b) := rfl

/-- The fifth residual. -/
theorem res5 (M : Masks) (q : FVec Ideal S2048x32 .f32) (m1 : Vec Ideal S256x512 .f32) (m2 : Vec Ideal S512x1024 .f32) (zr : FVec Ideal S32x8192 .f32) (w : Vec Ideal S32x288 .bf16) (b : Vec Ideal S32x1 .f32) :
    k0_pay177 (F := Ideal) M.m10 M.m12 M.m20 M.m21 M.m22 zr (k0_pay169 (k0_pay165 q) (k0_pay166 m1) (k0_pay167 m2) (k0_pay168 q m1 m2)) (k0_pay170 M.m00 (k0_pay165 q) (k0_pay166 m1) (k0_pay167 m2) (k0_pay168 q m1 m2)) (k0_pay171 M.m01 (k0_pay165 q) (k0_pay166 m1) (k0_pay167 m2) (k0_pay168 q m1 m2)) (k0_pay172 M.m02 (k0_pay165 q) (k0_pay166 m1) (k0_pay167 m2) (k0_pay168 q m1 m2)) k0_pay173 (k0_pay174 (k0_pay165 q) (k0_pay166 m1) (k0_pay167 m2) (k0_pay168 q m1 m2)) w b = subf zr (kPhi M (k0_pay169 (k0_pay165 q) (k0_pay166 m1) (k0_pay167 m2) (k0_pay168 q m1 m2)) w b) := rfl

/-- The fifth loss. -/
theorem loss5 (M : Masks) (q : FVec Ideal S2048x32 .f32) (m1 : Vec Ideal S256x512 .f32) (m2 : Vec Ideal S512x1024 .f32) (z : FVec Ideal S32x8192 .f32) (zh : FVec Ideal S32x8192 .f32) (l : FVec Ideal S1x1 .f32) (w : Vec Ideal S32x288 .bf16) (b : Vec Ideal S32x1 .f32) :
    k0_pay179 (F := Ideal) l (k0_pay178 z M.m10 M.m12 M.m20 M.m21 M.m22 zh (k0_pay169 (k0_pay165 q) (k0_pay166 m1) (k0_pay167 m2) (k0_pay168 q m1 m2)) (k0_pay170 M.m00 (k0_pay165 q) (k0_pay166 m1) (k0_pay167 m2) (k0_pay168 q m1 m2)) (k0_pay171 M.m01 (k0_pay165 q) (k0_pay166 m1) (k0_pay167 m2) (k0_pay168 q m1 m2)) (k0_pay172 M.m02 (k0_pay165 q) (k0_pay166 m1) (k0_pay167 m2) (k0_pay168 q m1 m2)) k0_pay173 (k0_pay174 (k0_pay165 q) (k0_pay166 m1) (k0_pay167 m2) (k0_pay168 q m1 m2)) w b) = kMore z (addf zh (kPhi M (k0_pay169 (k0_pay165 q) (k0_pay166 m1) (k0_pay167 m2) (k0_pay168 q m1 m2)) w b)) l := rfl

/-- The last sum. -/
theorem sum6 (M : Masks) (q q' : FVec Ideal S4096x32 .f32) (zh : FVec Ideal S32x8192 .f32) (w : Vec Ideal S32x288 .bf16) (b : Vec Ideal S32x1 .f32) :
    k0_pay1 (F := Ideal) zh (k0_pay191 q q') (k0_pay194 M.m01 M.m02 M.m10 M.m12 M.m20 M.m21 M.m22 (k0_pay191 q q') (k0_pay192 M.m00 q q') k0_pay193 w) (k0_pay195 b) = addf zh (kPhi M (k0_pay191 q q') w b) := rfl

/-- The last loss, divided. -/
theorem loss6 (M : Masks) (q q' : FVec Ideal S4096x32 .f32) (z : FVec Ideal S32x8192 .f32) (zh : FVec Ideal S32x8192 .f32) (l : FVec Ideal S1x1 .f32) (w : Vec Ideal S32x288 .bf16) (b : Vec Ideal S32x1 .f32) :
    k0_pay2 (F := Ideal) z zh l (k0_pay191 q q') (k0_pay194 M.m01 M.m02 M.m10 M.m12 M.m20 M.m21 M.m22 (k0_pay191 q q') (k0_pay192 M.m00 q q') k0_pay193 w) (k0_pay195 b) = divf (kMore z (addf zh (kPhi M (k0_pay191 q q') w b)) l) (broadcast S1x1 (Scalar.ofBits .f32 0x40C00000#32)) := rfl

end Cert.Msvq

end
-- ==== Proof.Chain.lean ====
/-
  The quantiser scale by scale: each scale's update, the running residual, sum and loss, and that on real arguments every
  residual is real, so that every distance is finite.
-/
module

public import proofs.«01_k».proof.Proof.RefC

@[expose] public section

set_option maxRecDepth 16384

noncomputable section

namespace Cert.Msvq

open Idealize.ShloMosaic

/-- A real number among the extended reals. -/
def IsR (x : EReal) : Prop := ∃ r : ℝ, x = (r : EReal)

namespace IsR

variable {x y : EReal}

/-- Zero is real. -/
theorem zero : IsR 0 := ⟨0, EReal.coe_zero.symm⟩

/-- One is real. -/
theorem one : IsR 1 := ⟨1, EReal.coe_one.symm⟩

/-- Sums of reals are real. -/
theorem add (hx : IsR x) (hy : IsR y) : IsR (x + y) := by
  obtain ⟨a, rfl⟩ := hx; obtain ⟨b, rfl⟩ := hy
  exact ⟨a + b, (EReal.coe_add a b).symm⟩

/-- Negatives of reals are real. -/
theorem neg (hx : IsR x) : IsR (-x) := by
  obtain ⟨a, rfl⟩ := hx
  exact ⟨-a, (EReal.coe_neg a).symm⟩

/-- Differences of reals are real. -/
theorem sub (hx : IsR x) (hy : IsR y) : IsR (x - y) := by
  obtain ⟨a, rfl⟩ := hx; obtain ⟨b, rfl⟩ := hy
  exact ⟨a - b, (EReal.coe_sub a b).symm⟩

/-- Products of reals are real. -/
theorem mul (hx : IsR x) (hy : IsR y) : IsR (x * y) := by
  obtain ⟨a, rfl⟩ := hx; obtain ⟨b, rfl⟩ := hy
  exact ⟨a * b, (EReal.coe_mul a b).symm⟩

/-- The greater of two reals is real. -/
theorem max (hx : IsR x) (hy : IsR y) : IsR (max x y) := by
  rcases max_choice x y with h | h <;> rw [h] <;> assumption

/-- Finite sums of reals are real. -/
theorem sum {ι : Type*} [Fintype ι] (f : ι → EReal) (h : ∀ i, IsR (f i)) : IsR (∑ i, f i) :=
  Finset.sum_induction f IsR (fun _ _ => add) zero fun i _ => h i

/-- Quotients of reals by reals other than zero are real. -/
theorem div (hx : IsR x) (hy : IsR y) (h : y ≠ 0) : IsR (Ideal.div x y) := by
  obtain ⟨b, rfl⟩ := hy
  rw [Ideal.div_coe (by exact_mod_cast h)]
  exact hx.mul ⟨_, rfl⟩

/-- A choice between reals is real. -/
theorem choice (c : BitVec 1) (hx : IsR x) (hy : IsR y) : IsR (Scalar.select c x y) := by
  unfold Scalar.select; split <;> assumption

/-- A float word with an exponent below the greatest is real. -/
theorem word (b : BitVec 32) (h : (b.extractLsb' 23 8).toNat ≠ 255) : IsR (Ideal.ofBits .f32 b) := by
  show IsR (Ideal.ieee 8 23 b)
  unfold Ideal.ieee
  dsimp only
  rw [if_neg (by simpa using h)]
  split
  · exact ⟨_, rfl⟩
  · exact ⟨_, rfl⟩

end IsR

/-- A batch of images with real pixels. -/
def RealImg (A : Img) : Prop := ∀ b c y x, IsR (A b c y x)

/-- The cubic kernel is real at reals. -/
theorem cubic_real {x : EReal} (hx : IsR x) : IsR (cubic x) := by
  have w : ∀ b : BitVec 32, (b.extractLsb' 23 8).toNat ≠ 255 → IsR (Ideal.ofBits .f32 b) := IsR.word
  unfold cubic
  exact .choice _ .zero (.choice _
    (((((((w _ (by decide)).mul hx).add (w _ (by decide))).mul hx).sub (w _ (by decide))).mul hx).add (w _ (by decide)))
    ((((((w _ (by decide)).mul hx).sub (w _ (by decide))).mul hx).mul hx).add .one))

/-- The raw weights are real. -/
theorem rawWeight_real {k : EReal} (hk : IsR k) (i : ℕ) (y : Fin 32) : IsR (rawWeight k i y) := by
  unfold rawWeight
  have h : IsR ((((BitVec.ofNat 32 y).toInt : ℝ) : EReal) + Ideal.ofBits .f32 0x3F000000#32) := IsR.add ⟨_, rfl⟩ (.word _ (by decide))
  have hd := ((h.mul hk).sub (.word 0x3F000000#32 (by decide))).sub ⟨_, rfl⟩ (y := (((BitVec.ofNat 32 i).toInt : ℝ) : EReal))
  exact cubic_real (hd.max hd.neg)

/-- The weights are real. -/
theorem weight_real (p : ℕ) {k : EReal} (hk : IsR k) (i : Fin p) (y : Fin 32) : IsR (weight p k i y) := by
  unfold weight
  have hs : IsR (∑ l : Fin p, rawWeight k l y) := .sum _ fun l => rawWeight_real hk l y
  refine (rawWeight_real hk i y).div (.choice _ hs ⟨_, rfl⟩) ?_
  generalize (∑ l : Fin p, rawWeight k l y) = s
  unfold Scalar.select
  split
  · next h =>
    intro e
    rw [e] at h
    exact absurd h (by simp [Ideal.cmp])
  · norm_num

/-- A tap of real images is real. -/
theorem tap_real {h : Img} (hh : RealImg h) (b : Fin 8) (c y x : Fin 32) (ky kx : Fin 3) : IsR (tap h b c y x ky kx) := by
  unfold tap
  split
  · exact hh _ _ _ _
  · exact .zero

/-- The filter's half and half of real images is real. -/
theorem phi_real {w : Fin 32 → Fin 32 → Fin 3 → Fin 3 → EReal} {bi : Fin 32 → EReal} {h : Img} (hw : ∀ o c ky kx, IsR (w o c ky kx))
    (hb : ∀ o, IsR (bi o)) (hh : RealImg h) : RealImg (phi w bi h) := fun b o y x =>
  ((hh b o y x).mul (.word _ (by decide))).add
    (((IsR.sum _ fun ky => IsR.sum _ fun kx => IsR.sum _ fun c => (hw o c ky kx).mul (tap_real hh b c y x ky kx)).add (hb o)).mul (.word _ (by decide)))

/-- The arguments, and the words of one scale. -/
structure Net where
  Z : Img
  e : ℕ → Fin 32 → EReal
  w : Fin 4 → Fin 32 → Fin 32 → Fin 3 → Fin 3 → EReal
  bi : Fin 4 → Fin 32 → EReal

/-- The arguments are real. -/
structure Net.Real (N : Net) : Prop where
  hZ : RealImg N.Z
  he : ∀ i l, IsR (N.e i l)
  hw : ∀ j o c ky kx, IsR (N.w j o c ky kx)
  hb : ∀ j o, IsR (N.bi j o)

/-- The sum of two batches. -/
def plus (A B : Img) : Img := fun b c y x => A b c y x + B b c y x

/-- The difference of two batches. -/
def minus (A B : Img) : Img := fun b c y x => A b c y x - B b c y x

namespace Net

variable (N : Net)

/-- The update of a scale of `p` cells a side: pool, take the nearest codes, resize, filter. -/
def step {p f : ℕ} (h : p * f = 32) (kc kw : BitVec 32) (j : Fin 4) (R : Img) : Img :=
  phi (N.w j) (N.bi j) (resize (weight p (Ideal.ofBits .f32 kw)) (quant N.e (pool h kc R)))

/-- The update of the last scale, whose cells are the pixels. -/
def last (R : Img) : Img := phi (N.w 3) (N.bi 3) (unwhole (quant N.e (whole R)))

/-- The cells of the first scale. -/
def c1 : Cells 1 := pool (f := 32) rfl 0x44800000#32 N.Z
/-- The first update. -/
def s1 : Img := N.step (p := 1) (f := 32) rfl 0x44800000#32 0x3D000000#32 0 N.Z
/-- The first residual. -/
def r1 : Img := minus N.Z N.s1
/-- The first sum. -/
def h1 : Img := plus (fun _ _ _ _ => 0) N.s1
/-- The first loss. -/
def l1 : EReal := more 0 (sq N.h1 N.Z)
/-- The cells of the second scale. -/
def c2 : Cells 2 := pool (f := 16) rfl 0x43800000#32 N.r1
/-- The second update. -/
def s2 : Img := N.step (p := 2) (f := 16) rfl 0x43800000#32 0x3D800000#32 0 N.r1
/-- The second residual. -/
def r2 : Img := minus N.r1 N.s2
/-- The second sum. -/
def h2 : Img := plus N.h1 N.s2
/-- The second loss. -/
def l2 : EReal := more N.l1 (sq N.h2 N.Z)
/-- The cells of the third scale. -/
def c3 : Cells 4 := pool (f := 8) rfl 0x42800000#32 N.r2
/-- The third update. -/
def s3 : Img := N.step (p := 4) (f := 8) rfl 0x42800000#32 0x3E000000#32 1 N.r2
/-- The third residual. -/
def r3 : Img := minus N.r2 N.s3
/-- The third sum. -/
def h3 : Img := plus N.h2 N.s3
/-- The third loss. -/
def l3 : EReal := more N.l2 (sq N.h3 N.Z)
/-- The cells of the fourth scale. -/
def c4 : Cells 8 := pool (f := 4) rfl 0x41800000#32 N.r3
/-- The fourth update. -/
def s4 : Img := N.step (p := 8) (f := 4) rfl 0x41800000#32 0x3E800000#32 2 N.r3
/-- The fourth residual. -/
def r4 : Img := minus N.r3 N.s4
/-- The fourth sum. -/
def h4 : Img := plus N.h3 N.s4
/-- The fourth loss. -/
def l4 : EReal := more N.l3 (sq N.h4 N.Z)
/-- The cells of the fifth scale. -/
def c5 : Cells 16 := pool (f := 2) rfl 0x40800000#32 N.r4
/-- The fifth update. -/
def s5 : Img := N.step (p := 16) (f := 2) rfl 0x40800000#32 0x3F000000#32 3 N.r4
/-- The fifth residual. -/
def r5 : Img := minus N.r4 N.s5
/-- The fifth sum. -/
def h5 : Img := plus N.h4 N.s5
/-- The fifth loss. -/
def l5 : EReal := more N.l4 (sq N.h5 N.Z)
/-- The cells of the last scale. -/
def c6 : Cells 32 := whole N.r5
/-- The last update. -/
def s6 : Img := N.last N.r5
/-- The last sum. -/
def h6 : Img := plus N.h5 N.s6
/-- The loss. -/
def l6 : EReal := Ideal.div (more N.l5 (sq N.h6 N.Z)) (Ideal.ofBits .f32 0x40C00000#32)

variable {N} (hN : N.Real)

include hN

/-- The updates are real, whatever the residual. -/
theorem step_real {p f : ℕ} (h : p * f = 32) (kc kw : BitVec 32) (hk : (kw.extractLsb' 23 8).toNat ≠ 255) (j : Fin 4) (R : Img) :
    RealImg (N.step h kc kw j R) :=
  phi_real (hN.hw j) (hN.hb j) fun _ _ _ _ => .sum _ fun j' =>
    (IsR.sum _ fun i => (weight_real p (.word kw hk) i _).mul (hN.he _ _)).mul (weight_real p (.word kw hk) j' _)

/-- The last update is real. -/
theorem last_real (R : Img) : RealImg (N.last R) := phi_real (hN.hw 3) (hN.hb 3) fun _ _ _ _ => hN.he _ _

/-- The first residual is real. -/
theorem r1_real : RealImg N.r1 := fun b c y x => (hN.hZ b c y x).sub (step_real hN _ _ _ (by decide) _ _ b c y x)

/-- The second residual is real. -/
theorem r2_real : RealImg N.r2 := fun b c y x => (r1_real hN b c y x).sub (step_real hN _ _ _ (by decide) _ _ b c y x)

/-- The third residual is real. -/
theorem r3_real : RealImg N.r3 := fun b c y x => (r2_real hN b c y x).sub (step_real hN _ _ _ (by decide) _ _ b c y x)

/-- The fourth residual is real. -/
theorem r4_real : RealImg N.r4 := fun b c y x => (r3_real hN b c y x).sub (step_real hN _ _ _ (by decide) _ _ b c y x)

/-- The fifth residual is real. -/
theorem r5_real : RealImg N.r5 := fun b c y x => (r4_real hN b c y x).sub (step_real hN _ _ _ (by decide) _ _ b c y x)

/-- The last sum is real. -/
theorem h6_real : RealImg N.h6 := fun b c y x =>
  ((((((IsR.zero).add (step_real hN _ _ _ (by decide) _ _ b c y x)).add (step_real hN _ _ _ (by decide) _ _ b c y x)).add
    (step_real hN _ _ _ (by decide) _ _ b c y x)).add (step_real hN _ _ _ (by decide) _ _ b c y x)).add (step_real hN _ _ _ (by decide) _ _ b c y x)).add
    (last_real hN _ b c y x)

/-- Taking the input off the last sum and adding it again changes nothing. -/
theorem h6_back (b : Fin 8) (c y x : Fin 32) : N.h6 b c y x - N.Z b c y x + N.Z b c y x = N.h6 b c y x := by
  obtain ⟨a, ha⟩ := h6_real hN b c y x
  obtain ⟨z, hz⟩ := hN.hZ b c y x
  rw [ha, hz, ← EReal.coe_sub, ← EReal.coe_add, sub_add_cancel]

/-- A real row's distances to the codes are finite. -/
theorem dist_lt {r : Fin 32 → EReal} (hr : ∀ l, IsR (r l)) (i : ℕ) : dist r (N.e i) < ⊤ := by
  have h : IsR (max ((∑ l, r l * r l) + (∑ l, N.e i l * N.e i l) - Ideal.ofBits FTy.f32 1073741824#32 * ∑ l, r l * N.e i l) 0) :=
    (((IsR.sum _ fun l => (hr l).mul (hr l)).add (.sum _ fun l => (hN.he i l).mul (hN.he i l))).sub
      ((IsR.word _ (by decide)).mul (.sum _ fun l => (hr l).mul (hN.he i l)))).max .zero
  unfold dist
  obtain ⟨a, ha⟩ := h
  rw [ha]
  show (if a < 0 then (⊥ : EReal) else (Real.sqrt a : EReal)) < ⊤
  split
  · exact bot_lt_top
  · exact EReal.coe_lt_top _

omit hN in
/-- Cells of a real image are real. -/
theorem pool_real {p f : ℕ} (h : p * f = 32) (kc : BitVec 32) (hk : IsR (Ideal.ofBits .f32 kc)) (h0 : Ideal.ofBits .f32 kc ≠ 0) {R : Img} (hR : RealImg R)
    (b : Fin 8) (i j : Fin p) (c : Fin 32) : IsR (pool h kc R b i j c) :=
  (IsR.sum _ fun _ => IsR.sum _ fun _ => hR _ _ _ _).div hk h0

end Net

/-- Multiplying by the reciprocal word is dividing by the word. -/
theorem scale_eq (k k' : BitVec 32) (y : ℝ) (hy : y ≠ 0) (hk : (Ideal.ofBits .f32 k : EReal) = (y : EReal)) (hk' : (Ideal.ofBits .f32 k' : EReal) = ((1 / y : ℝ) : EReal))
    (x : EReal) : x * Ideal.ofBits .f32 k' = Ideal.div x (Ideal.ofBits .f32 k) := by
  rw [hk, hk', Ideal.div_coe hy]

/-- The words 1024 and 1/1024. -/
theorem scale1 (x : EReal) : x * Ideal.ofBits .f32 0x3A800000#32 = Ideal.div x (Ideal.ofBits .f32 0x44800000#32) :=
  scale_eq _ _ 1024 (by norm_num) (by simp [Ideal.ofBits, Ideal.ieee, -EReal.coe_mul]; norm_num) (by simp [Ideal.ofBits, Ideal.ieee, -EReal.coe_mul]; norm_num) x

/-- The words 256 and 1/256. -/
theorem scale2 (x : EReal) : x * Ideal.ofBits .f32 0x3B800000#32 = Ideal.div x (Ideal.ofBits .f32 0x43800000#32) :=
  scale_eq _ _ 256 (by norm_num) (by simp [Ideal.ofBits, Ideal.ieee, -EReal.coe_mul]; norm_num) (by simp [Ideal.ofBits, Ideal.ieee, -EReal.coe_mul]; norm_num) x

/-- The words 64 and 1/64. -/
theorem scale3 (x : EReal) : x * Ideal.ofBits .f32 0x3C800000#32 = Ideal.div x (Ideal.ofBits .f32 0x42800000#32) :=
  scale_eq _ _ 64 (by norm_num) (by simp [Ideal.ofBits, Ideal.ieee, -EReal.coe_mul]; norm_num) (by simp [Ideal.ofBits, Ideal.ieee, -EReal.coe_mul]; norm_num) x

/-- The words 16 and 1/16. -/
theorem scale4 (x : EReal) : x * Ideal.ofBits .f32 0x3D800000#32 = Ideal.div x (Ideal.ofBits .f32 0x41800000#32) :=
  scale_eq _ _ 16 (by norm_num) (by simp [Ideal.ofBits, Ideal.ieee, -EReal.coe_mul]; norm_num) (by simp [Ideal.ofBits, Ideal.ieee, -EReal.coe_mul]; norm_num) x

/-- The words 4 and 1/4. -/
theorem scale5 (x : EReal) : x * Ideal.ofBits .f32 0x3E800000#32 = Ideal.div x (Ideal.ofBits .f32 0x40800000#32) :=
  scale_eq _ _ 4 (by norm_num) (by simp [Ideal.ofBits, Ideal.ieee, -EReal.coe_mul]; norm_num) (by simp [Ideal.ofBits, Ideal.ieee, -EReal.coe_mul]; norm_num) x

/-- A word that is a real other than zero. -/
theorem word_ne (k : BitVec 32) (y : ℝ) (hy : y ≠ 0) (hk : (Ideal.ofBits .f32 k : EReal) = (y : EReal)) : Ideal.ofBits .f32 k ≠ 0 := by
  rw [hk]; exact_mod_cast hy

namespace Net

variable {N : Net} (hN : N.Real)

include hN

/-- The first cells are real. -/
theorem c1_real (b : Fin 8) (i j : Fin 1) (c : Fin 32) : IsR (N.c1 b i j c) :=
  pool_real _ _ (.word _ (by decide)) (word_ne _ 1024 (by norm_num) (by simp [Ideal.ofBits, Ideal.ieee, -EReal.coe_mul]; norm_num)) hN.hZ b i j c

/-- The second cells are real. -/
theorem c2_real (b : Fin 8) (i j : Fin 2) (c : Fin 32) : IsR (N.c2 b i j c) :=
  pool_real _ _ (.word _ (by decide)) (word_ne _ 256 (by norm_num) (by simp [Ideal.ofBits, Ideal.ieee, -EReal.coe_mul]; norm_num)) (r1_real hN) b i j c

/-- The third cells are real. -/
theorem c3_real (b : Fin 8) (i j : Fin 4) (c : Fin 32) : IsR (N.c3 b i j c) :=
  pool_real _ _ (.word _ (by decide)) (word_ne _ 64 (by norm_num) (by simp [Ideal.ofBits, Ideal.ieee, -EReal.coe_mul]; norm_num)) (r2_real hN) b i j c

/-- The fourth cells are real. -/
theorem c4_real (b : Fin 8) (i j : Fin 8) (c : Fin 32) : IsR (N.c4 b i j c) :=
  pool_real _ _ (.word _ (by decide)) (word_ne _ 16 (by norm_num) (by simp [Ideal.ofBits, Ideal.ieee, -EReal.coe_mul]; norm_num)) (r3_real hN) b i j c

/-- The fifth cells are real. -/
theorem c5_real (b : Fin 8) (i j : Fin 16) (c : Fin 32) : IsR (N.c5 b i j c) :=
  pool_real _ _ (.word _ (by decide)) (word_ne _ 4 (by norm_num) (by simp [Ideal.ofBits, Ideal.ieee, -EReal.coe_mul]; norm_num)) (r4_real hN) b i j c

/-- The last cells are real. -/
theorem c6_real (b : Fin 8) (i j : Fin 32) (c : Fin 32) : IsR (N.c6 b i j c) := r5_real hN b c i j

end Net

end Cert.Msvq

end
-- ==== Proof.Searches.lean ====
/-
  The seven searches of the kernel's loops: each loop's carried value after its 64 trips, read at a row, is the best code of
  all 8192.
-/
module

public import Idealize.ShloMosaic.Lib.WholeRead
public import proofs.«01_k».proof.Proof.Search
public import proofs.«01_k».proof.Proof.Gen.KernelIdeal.Loops

@[expose] public section

set_option maxRecDepth 16384

noncomputable section

namespace Cert.Msvq

open Idealize.ShloMosaic Cert.KernelIdeal Cert.KernelIdeal.Gen

/-- The table of codes as a function of the code's number. -/
def code (x : FVec Ideal (T2 8192 32) .f32) (i : ℕ) (l : Fin 32) : EReal := if h : i < 8192 then x (ix2 ⟨i, h⟩ l) else 0

/-- The loops' counter as a word. -/
theorem iv_word (k : ℕ) : Scf.iv 0#32 1#32 k = BitVec.ofNat 32 k := by
  simp [Scf.iv]

/-- A word of a small number, as an index. -/
theorem off_val (k : ℕ) (hk : k < 64) : (Scalar.indexCast (BitVec.ofNat 32 (128 * k))).toNat = 128 * k := by
  show (BitVec.ofNat 32 (128 * k)).toNat = _
  rw [BitVec.toNat_ofNat, Nat.mod_eq_of_lt (by omega)]

/-- The offsets of a chunk's two loads. -/
theorem loop_off (k : ℕ) (hk : k < 64) :
    ![(Scalar.indexCast (Scalar.muli (Scf.iv 0#32 1#32 k) 128#32)).toNat, 0] = ![128 * k, 0]
      ∧ ![0, (Scalar.indexCast (Scalar.muli (Scf.iv 0#32 1#32 k) 128#32)).toNat] = ![0, 128 * k] := by
  rw [iv_word, muli_word, off_val k hk]; exact ⟨rfl, rfl⟩

/-- A chunk of the codes, loaded from the table. -/
theorem load_codes {m : Memref sig .tc .vmem S8192x32 .f32} (h : m.IsWhole) (x : FVec Ideal (T2 8192 32) .f32) (o : Fin 2 → ℕ) (hin)
    (k : ℕ) (hk : k < 64) (ho : o = ![128 * k, 0]) (j : Fin 128) (l : Fin 32) :
    View.readAt (Elt Ideal) m.view (Rect.unit (s := S8192x32) o S128x32.size hin).toLoadRect (h.unread x) (ix2 j l) = code x (128 * k + j) l := by
  subst ho
  rw [h.readAt_unread]
  unfold code
  rw [dif_pos (by have := j.2; omega)]
  congr 1
  funext a
  fin_cases a <;> apply Fin.ext <;> simp [LoadRect.idx, Rect.toLoadRect, Rect.unit, ix2]

/-- A chunk of the codes, loaded from the transposed table. -/
theorem load_codes_t {m : Memref sig .tc .vmem S32x8192 .f32} (h : m.IsWhole) (x : FVec Ideal (T2 32 8192) .f32) (o : Fin 2 → ℕ) (hin)
    (k : ℕ) (hk : k < 64) (ho : o = ![0, 128 * k]) (j : Fin 128) (l : Fin 32) (x1 : FVec Ideal (T2 8192 32) .f32)
    (ht : ∀ l i, x (ix2 l i) = x1 (ix2 i l)) :
    View.readAt (Elt Ideal) m.view (Rect.unit (s := S32x8192) o S32x128.size hin).toLoadRect (h.unread x) (ix2 l j) = code x1 (128 * k + j) l := by
  subst ho
  rw [h.readAt_unread]
  unfold code
  rw [dif_pos (by have := j.2; omega), ← ht]
  congr 1
  funext a
  fin_cases a <;> apply Fin.ext <;> simp [LoadRect.idx, Rect.toLoadRect, Rect.unit, ix2]

/-- A run of the search over all chunks. -/
theorem search_all {n : ℕ} (f : ℕ → FVec Ideal (T2 n 1) .f32 × IVec (T2 n 1) 32 × FVec Ideal (T2 n 32) .f32)
    (e : ℕ → Fin 32 → EReal) (a : Fin n) (r : Fin 32 → EReal)
    (h0 : Best (fun i => dist r (e i)) e 0 ((f 0).1 (ix2 a 0)) ((f 0).2.1 (ix2 a 0)) fun l => (f 0).2.2 (ix2 a l))
    (hs : ∀ k, k < 64 → Best (fun i => dist r (e i)) e (128 * k) ((f k).1 (ix2 a 0)) ((f k).2.1 (ix2 a 0)) (fun l => (f k).2.2 (ix2 a l)) →
      Best (fun i => dist r (e i)) e (128 * (k + 1)) ((f (k + 1)).1 (ix2 a 0)) ((f (k + 1)).2.1 (ix2 a 0)) fun l => (f (k + 1)).2.2 (ix2 a l)) :
    (f 64).2.1 (ix2 a 0) = BitVec.ofNat 32 (first (fun i => dist r (e i)) 8192 (by norm_num))
      ∧ ∀ l, (f 64).2.2 (ix2 a l) = e (first (fun i => dist r (e i)) 8192 (by norm_num)) l := by
  have h : ∀ k, k ≤ 64 → Best (fun i => dist r (e i)) e (128 * k) ((f k).1 (ix2 a 0)) ((f k).2.1 (ix2 a 0)) fun l => (f k).2.2 (ix2 a l) := by
    intro k
    induction k with
    | zero => exact fun _ => h0
    | succ k ih => exact fun hk => hs k (by omega) (ih (by omega))
  have := (h 64 le_rfl).done (by norm_num)
  exact ⟨this.1, fun l => congrFun this.2 l⟩

/-- How the rows' product with the codes reads its operands. -/
theorem loop1_dot : DotReads dot_S8x32_S32x128_S8x128_1_0_0_1_n_n := by
  intro l r c i j; pointwise

/-- How the marks' product with the codes reads its operands. -/
theorem loop1_dot' : DotReads dot_S8x128_S128x32_S8x32_1_0_0_1_n_n := by
  intro l r c i j; pointwise

/-- Loop 1: after its 64 trips each row holds the least index of a nearest code, and that code. -/
theorem loop1 (𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v42 v58 c30_i32_24 v109 x1 x2 init) (a : Fin 8) (r : Fin 32 → EReal)
    (hr : ∀ l, k0_pay65 v1 v109 (ix2 a l) = r l)
    (hrr : k0_pay66 v1 v109 (ix2 a 0) = ∑ l, r l * r l)
    (ht : ∀ l i, x2 (ix2 l i) = x1 (ix2 i l)) (hfin : ∀ i < 8192, dist r (code x1 i) < ⊤)
    (h0 : init.1 (ix2 a 0) = ⊤) :
    (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v42 v58 c30_i32_24 v109 (harg1.unread x1) (harg2.unread x2) init 64).2.1 (ix2 a 0)
        = BitVec.ofNat 32 (first (fun i => dist r (code x1 i)) 8192 (by norm_num))
      ∧ ∀ l, (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v42 v58 c30_i32_24 v109 (harg1.unread x1) (harg2.unread x2) init 64).2.2 (ix2 a l)
        = code x1 (first (fun i => dist r (code x1 i)) 8192 (by norm_num)) l := by
  obtain rfl : r = fun l => _ := funext fun l => (hr l).symm
  refine search_all (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v42 v58 c30_i32_24 v109 (harg1.unread x1) (harg2.unread x2) init) (code x1) a _ ?_ fun k hk hb => ?_
  · rw [st_k0_t1_zero]
    exact Or.inl ⟨rfl, h0⟩
  · have := cStep_best (by norm_num) _ loop1_dot _ loop1_dot'  reduces_S128x32_S128 shapeCasts_S128_S128x1 transposes_S128x1_p1_0_S1x128
      broadcasts_S8x1_S8x128 broadcasts_S1x128_S8x128 bitsLt_bf16_f32 shapeCasts_S32x128_S32x128 reduces_S8x128_S8 shapeCasts_S8_S8x1
      iota_S8x128_d1_w32 natLt_1_32 shapeCasts_S8x1_S8x1 broadcasts_S8x1_S8x32 (k0_pay65 v1 v109) (k0_pay66 v1 v109) k hk
      (View.readAt (Elt Ideal) arg1.view (Rect.unit (s := S8192x32) (k0_off1 ⟨k, hk⟩) S128x32.size (k0_off1_inb ⟨k, hk⟩)).toLoadRect (harg1.unread x1))
      (View.readAt (Elt Ideal) arg2.view (Rect.unit (s := S32x8192) (k0_off2 ⟨k, hk⟩) S32x128.size (k0_off2_inb ⟨k, hk⟩)).toLoadRect (harg2.unread x2)) _ (code x1) a hrr
      ?_ ?_ hfin hb
    · have h := st_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v42 v58 c30_i32_24 v109 (harg1.unread x1) (harg2.unread x2) init ⟨k, hk⟩
      unfold tripR_k0_t1 trip_k0_t1 at h
      rw [h]
      rw [← iv_word] at this
      exact this
    · exact fun j l => load_codes harg1 x1 _ _ k hk (loop_off k hk).1 j l
    · exact fun j l => load_codes_t harg2 x2 _ _ k hk (loop_off k hk).2 j l x1 ht

/-- How the rows' product with the codes reads its operands. -/
theorem loop2_dot : DotReads dot_S32x32_S32x128_S32x128_1_0_0_1_n_n := by
  intro l r c i j; pointwise

/-- How the marks' product with the codes reads its operands. -/
theorem loop2_dot' : DotReads dot_S32x128_S128x32_S32x32_1_0_0_1_n_n := by
  intro l r c i j; pointwise

/-- Loop 2: after its 64 trips each row holds the least index of a nearest code, and that code. -/
theorem loop2 (𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v107 v108 v127 v133 v139 v145 v151 v152 v158 v164 v170 v176 v178 v181 v202 x1 x2 init) (a : Fin 32) (r : Fin 32 → EReal)
    (hr : ∀ l, k0_pay85 v1 v127 v133 v139 v145 v151 v152 v158 v164 v170 v176 v178 v181 v202 (ix2 a l) = r l)
    (hrr : k0_pay86 v1 v127 v133 v139 v145 v151 v152 v158 v164 v170 v176 v178 v181 v202 (ix2 a 0) = ∑ l, r l * r l)
    (ht : ∀ l i, x2 (ix2 l i) = x1 (ix2 i l)) (hfin : ∀ i < 8192, dist r (code x1 i) < ⊤)
    (h0 : init.1 (ix2 a 0) = ⊤) :
    (st_k0_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v107 v108 v127 v133 v139 v145 v151 v152 v158 v164 v170 v176 v178 v181 v202 (harg1.unread x1) (harg2.unread x2) init 64).2.1 (ix2 a 0)
        = BitVec.ofNat 32 (first (fun i => dist r (code x1 i)) 8192 (by norm_num))
      ∧ ∀ l, (st_k0_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v107 v108 v127 v133 v139 v145 v151 v152 v158 v164 v170 v176 v178 v181 v202 (harg1.unread x1) (harg2.unread x2) init 64).2.2 (ix2 a l)
        = code x1 (first (fun i => dist r (code x1 i)) 8192 (by norm_num)) l := by
  obtain rfl : r = fun l => _ := funext fun l => (hr l).symm
  refine search_all (st_k0_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v107 v108 v127 v133 v139 v145 v151 v152 v158 v164 v170 v176 v178 v181 v202 (harg1.unread x1) (harg2.unread x2) init) (code x1) a _ ?_ fun k hk hb => ?_
  · rw [st_k0_t2_zero]
    exact Or.inl ⟨rfl, h0⟩
  · have := cStep_best (by norm_num) _ loop2_dot _ loop2_dot'  reduces_S128x32_S128 shapeCasts_S128_S128x1 transposes_S128x1_p1_0_S1x128
      broadcasts_S32x1_S32x128 broadcasts_S1x128_S32x128 bitsLt_bf16_f32 shapeCasts_S32x128_S32x128 reduces_S32x128_S32 shapeCasts_S32_S32x1
      iota_S32x128_d1_w32 natLt_1_32 shapeCasts_S32x1_S32x1 broadcasts_S32x1_S32x32 (k0_pay85 v1 v127 v133 v139 v145 v151 v152 v158 v164 v170 v176 v178 v181 v202) (k0_pay86 v1 v127 v133 v139 v145 v151 v152 v158 v164 v170 v176 v178 v181 v202) k hk
      (View.readAt (Elt Ideal) arg1.view (Rect.unit (s := S8192x32) (k0_off3 ⟨k, hk⟩) S128x32.size (k0_off3_inb ⟨k, hk⟩)).toLoadRect (harg1.unread x1))
      (View.readAt (Elt Ideal) arg2.view (Rect.unit (s := S32x8192) (k0_off4 ⟨k, hk⟩) S32x128.size (k0_off4_inb ⟨k, hk⟩)).toLoadRect (harg2.unread x2)) _ (code x1) a hrr
      ?_ ?_ hfin hb
    · have h := st_k0_t2_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v107 v108 v127 v133 v139 v145 v151 v152 v158 v164 v170 v176 v178 v181 v202 (harg1.unread x1) (harg2.unread x2) init ⟨k, hk⟩
      unfold tripR_k0_t2 trip_k0_t2 at h
      rw [h]
      rw [← iv_word] at this
      exact this
    · exact fun j l => load_codes harg1 x1 _ _ k hk (loop_off k hk).1 j l
    · exact fun j l => load_codes_t harg2 x2 _ _ k hk (loop_off k hk).2 j l x1 ht

/-- How the rows' product with the codes reads its operands. -/
theorem loop3_dot : DotReads dot_S128x32_S32x128_S128x128_1_0_0_1_n_n := by
  intro l r c i j; pointwise

/-- How the marks' product with the codes reads its operands. -/
theorem loop3_dot' : DotReads dot_S128x128_S128x32_S128x32_1_0_0_1_n_n := by
  intro l r c i j; pointwise

/-- Loop 3: after its 64 trips each row holds the least index of a nearest code, and that code. -/
theorem loop3 (𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v342 v343 x1 x2 init) (a : Fin 128) (r : Fin 32 → EReal)
    (hr : ∀ l, v342 (ix2 a l) = r l)
    (hrr : k0_pay99 v343 (ix2 a 0) = ∑ l, r l * r l)
    (ht : ∀ l i, x2 (ix2 l i) = x1 (ix2 i l)) (hfin : ∀ i < 8192, dist r (code x1 i) < ⊤)
    (h0 : init.1 (ix2 a 0) = ⊤) :
    (st_k0_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v342 v343 (harg1.unread x1) (harg2.unread x2) init 64).2.1 (ix2 a 0)
        = BitVec.ofNat 32 (first (fun i => dist r (code x1 i)) 8192 (by norm_num))
      ∧ ∀ l, (st_k0_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v342 v343 (harg1.unread x1) (harg2.unread x2) init 64).2.2 (ix2 a l)
        = code x1 (first (fun i => dist r (code x1 i)) 8192 (by norm_num)) l := by
  obtain rfl : r = fun l => _ := funext fun l => (hr l).symm
  refine search_all (st_k0_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v342 v343 (harg1.unread x1) (harg2.unread x2) init) (code x1) a _ ?_ fun k hk hb => ?_
  · rw [st_k0_t3_zero]
    exact Or.inl ⟨rfl, h0⟩
  · have := cStep_best (by norm_num) _ loop3_dot _ loop3_dot'  reduces_S128x32_S128 shapeCasts_S128_S128x1 transposes_S128x1_p1_0_S1x128
      broadcasts_S128x1_S128x128 broadcasts_S1x128_S128x128 bitsLt_bf16_f32 shapeCasts_S32x128_S32x128 reduces_S128x128_S128 shapeCasts_S128_S128x1
      iota_S128x128_d1_w32 natLt_1_32 shapeCasts_S128x1_S128x1 broadcasts_S128x1_S128x32 v342 (k0_pay99 v343) k hk
      (View.readAt (Elt Ideal) arg1.view (Rect.unit (s := S8192x32) (k0_off5 ⟨k, hk⟩) S128x32.size (k0_off5_inb ⟨k, hk⟩)).toLoadRect (harg1.unread x1))
      (View.readAt (Elt Ideal) arg2.view (Rect.unit (s := S32x8192) (k0_off6 ⟨k, hk⟩) S32x128.size (k0_off6_inb ⟨k, hk⟩)).toLoadRect (harg2.unread x2)) _ (code x1) a hrr
      ?_ ?_ hfin hb
    · have h := st_k0_t3_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v342 v343 (harg1.unread x1) (harg2.unread x2) init ⟨k, hk⟩
      unfold tripR_k0_t3 trip_k0_t3 at h
      rw [h]
      rw [← iv_word] at this
      exact this
    · exact fun j l => load_codes harg1 x1 _ _ k hk (loop_off k hk).1 j l
    · exact fun j l => load_codes_t harg2 x2 _ _ k hk (loop_off k hk).2 j l x1 ht

/-- How the rows' product with the codes reads its operands. -/
theorem loop4_dot : DotReads dot_S512x32_S32x128_S512x128_1_0_0_1_n_n := by
  intro l r c i j; pointwise

/-- How the marks' product with the codes reads its operands. -/
theorem loop4_dot' : DotReads dot_S512x128_S128x32_S512x32_1_0_0_1_n_n := by
  intro l r c i j; pointwise

/-- Loop 4: after its 64 trips each row holds the least index of a nearest code, and that code. -/
theorem loop4 (𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v445 v457 v459 v461 v463 v465 v467 v468 cst_179 x1 x2 init) (a : Fin 512) (r : Fin 32 → EReal)
    (hr : ∀ l, k0_pay134 v445 v457 v459 v461 v463 v465 v467 v468 cst_179 (ix2 a l) = r l)
    (hrr : k0_pay135 v445 v457 v459 v461 v463 v465 v467 v468 cst_179 (ix2 a 0) = ∑ l, r l * r l)
    (ht : ∀ l i, x2 (ix2 l i) = x1 (ix2 i l)) (hfin : ∀ i < 8192, dist r (code x1 i) < ⊤)
    (h0 : init.1 (ix2 a 0) = ⊤) :
    (st_k0_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v445 v457 v459 v461 v463 v465 v467 v468 cst_179 (harg1.unread x1) (harg2.unread x2) init 64).2.1 (ix2 a 0)
        = BitVec.ofNat 32 (first (fun i => dist r (code x1 i)) 8192 (by norm_num))
      ∧ ∀ l, (st_k0_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v445 v457 v459 v461 v463 v465 v467 v468 cst_179 (harg1.unread x1) (harg2.unread x2) init 64).2.2 (ix2 a l)
        = code x1 (first (fun i => dist r (code x1 i)) 8192 (by norm_num)) l := by
  obtain rfl : r = fun l => _ := funext fun l => (hr l).symm
  refine search_all (st_k0_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v445 v457 v459 v461 v463 v465 v467 v468 cst_179 (harg1.unread x1) (harg2.unread x2) init) (code x1) a _ ?_ fun k hk hb => ?_
  · rw [st_k0_t4_zero]
    exact Or.inl ⟨rfl, h0⟩
  · have := cStep_best (by norm_num) _ loop4_dot _ loop4_dot'  reduces_S128x32_S128 shapeCasts_S128_S128x1 transposes_S128x1_p1_0_S1x128
      broadcasts_S512x1_S512x128 broadcasts_S1x128_S512x128 bitsLt_bf16_f32 shapeCasts_S32x128_S32x128 reduces_S512x128_S512 shapeCasts_S512_S512x1
      iota_S512x128_d1_w32 natLt_1_32 shapeCasts_S512x1_S512x1 broadcasts_S512x1_S512x32 (k0_pay134 v445 v457 v459 v461 v463 v465 v467 v468 cst_179) (k0_pay135 v445 v457 v459 v461 v463 v465 v467 v468 cst_179) k hk
      (View.readAt (Elt Ideal) arg1.view (Rect.unit (s := S8192x32) (k0_off7 ⟨k, hk⟩) S128x32.size (k0_off7_inb ⟨k, hk⟩)).toLoadRect (harg1.unread x1))
      (View.readAt (Elt Ideal) arg2.view (Rect.unit (s := S32x8192) (k0_off8 ⟨k, hk⟩) S32x128.size (k0_off8_inb ⟨k, hk⟩)).toLoadRect (harg2.unread x2)) _ (code x1) a hrr
      ?_ ?_ hfin hb
    · have h := st_k0_t4_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v445 v457 v459 v461 v463 v465 v467 v468 cst_179 (harg1.unread x1) (harg2.unread x2) init ⟨k, hk⟩
      unfold tripR_k0_t4 trip_k0_t4 at h
      rw [h]
      rw [← iv_word] at this
      exact this
    · exact fun j l => load_codes harg1 x1 _ _ k hk (loop_off k hk).1 j l
    · exact fun j l => load_codes_t harg2 x2 _ _ k hk (loop_off k hk).2 j l x1 ht

/-- How the rows' product with the codes reads its operands. -/
theorem loop5_dot : DotReads dot_S2048x32_S32x128_S2048x128_1_0_0_1_n_n := by
  intro l r c i j; pointwise

/-- How the marks' product with the codes reads its operands. -/
theorem loop5_dot' : DotReads dot_S2048x128_S128x32_S2048x32_1_0_0_1_n_n := by
  intro l r c i j; pointwise

/-- Loop 5: after its 64 trips each row holds the least index of a nearest code, and that code. -/
theorem loop5 (𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v580 v592 v594 x1 x2 init) (a : Fin 2048) (r : Fin 32 → EReal)
    (hr : ∀ l, k0_pay160 v580 v592 v594 (ix2 a l) = r l)
    (hrr : k0_pay161 v580 v592 v594 (ix2 a 0) = ∑ l, r l * r l)
    (ht : ∀ l i, x2 (ix2 l i) = x1 (ix2 i l)) (hfin : ∀ i < 8192, dist r (code x1 i) < ⊤)
    (h0 : init.1 (ix2 a 0) = ⊤) :
    (st_k0_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v580 v592 v594 (harg1.unread x1) (harg2.unread x2) init 64).2.1 (ix2 a 0)
        = BitVec.ofNat 32 (first (fun i => dist r (code x1 i)) 8192 (by norm_num))
      ∧ ∀ l, (st_k0_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v580 v592 v594 (harg1.unread x1) (harg2.unread x2) init 64).2.2 (ix2 a l)
        = code x1 (first (fun i => dist r (code x1 i)) 8192 (by norm_num)) l := by
  obtain rfl : r = fun l => _ := funext fun l => (hr l).symm
  refine search_all (st_k0_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v580 v592 v594 (harg1.unread x1) (harg2.unread x2) init) (code x1) a _ ?_ fun k hk hb => ?_
  · rw [st_k0_t5_zero]
    exact Or.inl ⟨rfl, h0⟩
  · have := cStep_best (by norm_num) _ loop5_dot _ loop5_dot'  reduces_S128x32_S128 shapeCasts_S128_S128x1 transposes_S128x1_p1_0_S1x128
      broadcasts_S2048x1_S2048x128 broadcasts_S1x128_S2048x128 bitsLt_bf16_f32 shapeCasts_S32x128_S32x128 reduces_S2048x128_S2048 shapeCasts_S2048_S2048x1
      iota_S2048x128_d1_w32 natLt_1_32 shapeCasts_S2048x1_S2048x1 broadcasts_S2048x1_S2048x32 (k0_pay160 v580 v592 v594) (k0_pay161 v580 v592 v594) k hk
      (View.readAt (Elt Ideal) arg1.view (Rect.unit (s := S8192x32) (k0_off9 ⟨k, hk⟩) S128x32.size (k0_off9_inb ⟨k, hk⟩)).toLoadRect (harg1.unread x1))
      (View.readAt (Elt Ideal) arg2.view (Rect.unit (s := S32x8192) (k0_off10 ⟨k, hk⟩) S32x128.size (k0_off10_inb ⟨k, hk⟩)).toLoadRect (harg2.unread x2)) _ (code x1) a hrr
      ?_ ?_ hfin hb
    · have h := st_k0_t5_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v580 v592 v594 (harg1.unread x1) (harg2.unread x2) init ⟨k, hk⟩
      unfold tripR_k0_t5 trip_k0_t5 at h
      rw [h]
      rw [← iv_word] at this
      exact this
    · exact fun j l => load_codes harg1 x1 _ _ k hk (loop_off k hk).1 j l
    · exact fun j l => load_codes_t harg2 x2 _ _ k hk (loop_off k hk).2 j l x1 ht

/-- How the rows' product with the codes reads its operands. -/
theorem loop6_dot : DotReads dot_S4096x32_S32x128_S4096x128_1_0_0_1_n_n := by
  intro l r c i j; pointwise

/-- How the marks' product with the codes reads its operands. -/
theorem loop6_dot' : DotReads dot_S4096x128_S128x32_S4096x32_1_0_0_1_n_n := by
  intro l r c i j; pointwise

/-- Loop 6: after its 64 trips each row holds the least index of a nearest code, and that code. -/
theorem loop6 (𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v65 v590 v715 v719 x1 x2 init) (a : Fin 4096) (r : Fin 32 → EReal)
    (hr : ∀ l, k0_pay180 v715 (ix2 a l) = r l)
    (hrr : k0_pay181 v715 (ix2 a 0) = ∑ l, r l * r l)
    (ht : ∀ l i, x2 (ix2 l i) = x1 (ix2 i l)) (hfin : ∀ i < 8192, dist r (code x1 i) < ⊤)
    (h0 : init.1 (ix2 a 0) = ⊤) :
    (st_k0_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v65 v590 v715 v719 (harg1.unread x1) (harg2.unread x2) init 64).2.1 (ix2 a 0)
        = BitVec.ofNat 32 (first (fun i => dist r (code x1 i)) 8192 (by norm_num))
      ∧ ∀ l, (st_k0_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v65 v590 v715 v719 (harg1.unread x1) (harg2.unread x2) init 64).2.2 (ix2 a l)
        = code x1 (first (fun i => dist r (code x1 i)) 8192 (by norm_num)) l := by
  obtain rfl : r = fun l => _ := funext fun l => (hr l).symm
  refine search_all (st_k0_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v65 v590 v715 v719 (harg1.unread x1) (harg2.unread x2) init) (code x1) a _ ?_ fun k hk hb => ?_
  · rw [st_k0_t6_zero]
    exact Or.inl ⟨rfl, h0⟩
  · have := cStep_best (by norm_num) _ loop6_dot _ loop6_dot'  reduces_S128x32_S128 shapeCasts_S128_S128x1 transposes_S128x1_p1_0_S1x128
      broadcasts_S4096x1_S4096x128 broadcasts_S1x128_S4096x128 bitsLt_bf16_f32 shapeCasts_S32x128_S32x128 reduces_S4096x128_S4096 shapeCasts_S4096_S4096x1
      iota_S4096x128_d1_w32 natLt_1_32 shapeCasts_S4096x1_S4096x1 broadcasts_S4096x1_S4096x32 (k0_pay180 v715) (k0_pay181 v715) k hk
      (View.readAt (Elt Ideal) arg1.view (Rect.unit (s := S8192x32) (k0_off11 ⟨k, hk⟩) S128x32.size (k0_off11_inb ⟨k, hk⟩)).toLoadRect (harg1.unread x1))
      (View.readAt (Elt Ideal) arg2.view (Rect.unit (s := S32x8192) (k0_off12 ⟨k, hk⟩) S32x128.size (k0_off12_inb ⟨k, hk⟩)).toLoadRect (harg2.unread x2)) _ (code x1) a hrr
      ?_ ?_ hfin hb
    · have h := st_k0_t6_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v65 v590 v715 v719 (harg1.unread x1) (harg2.unread x2) init ⟨k, hk⟩
      unfold tripR_k0_t6 trip_k0_t6 at h
      rw [h]
      rw [← iv_word] at this
      exact this
    · exact fun j l => load_codes harg1 x1 _ _ k hk (loop_off k hk).1 j l
    · exact fun j l => load_codes_t harg2 x2 _ _ k hk (loop_off k hk).2 j l x1 ht

/-- How the rows' product with the codes reads its operands. -/
theorem loop7_dot : DotReads dot_S4096x32_S32x128_S4096x128_1_0_0_1_n_n := by
  intro l r c i j; pointwise

/-- How the marks' product with the codes reads its operands. -/
theorem loop7_dot' : DotReads dot_S4096x128_S128x32_S4096x32_1_0_0_1_n_n := by
  intro l r c i j; pointwise

/-- Loop 7: after its 64 trips each row holds the least index of a nearest code, and that code. -/
theorem loop7 (𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v65 v590 v715 v719 x1 x2 init) (a : Fin 4096) (r : Fin 32 → EReal)
    (hr : ∀ l, k0_pay185 v715 (ix2 a l) = r l)
    (hrr : k0_pay186 v715 (ix2 a 0) = ∑ l, r l * r l)
    (ht : ∀ l i, x2 (ix2 l i) = x1 (ix2 i l)) (hfin : ∀ i < 8192, dist r (code x1 i) < ⊤)
    (h0 : init.1 (ix2 a 0) = ⊤) :
    (st_k0_t7 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v65 v590 v715 v719 (harg1.unread x1) (harg2.unread x2) init 64).2.1 (ix2 a 0)
        = BitVec.ofNat 32 (first (fun i => dist r (code x1 i)) 8192 (by norm_num))
      ∧ ∀ l, (st_k0_t7 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v65 v590 v715 v719 (harg1.unread x1) (harg2.unread x2) init 64).2.2 (ix2 a l)
        = code x1 (first (fun i => dist r (code x1 i)) 8192 (by norm_num)) l := by
  obtain rfl : r = fun l => _ := funext fun l => (hr l).symm
  refine search_all (st_k0_t7 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v65 v590 v715 v719 (harg1.unread x1) (harg2.unread x2) init) (code x1) a _ ?_ fun k hk hb => ?_
  · rw [st_k0_t7_zero]
    exact Or.inl ⟨rfl, h0⟩
  · have := cStep_best (by norm_num) _ loop7_dot _ loop7_dot'  reduces_S128x32_S128 shapeCasts_S128_S128x1 transposes_S128x1_p1_0_S1x128
      broadcasts_S4096x1_S4096x128 broadcasts_S1x128_S4096x128 bitsLt_bf16_f32 shapeCasts_S32x128_S32x128 reduces_S4096x128_S4096 shapeCasts_S4096_S4096x1
      iota_S4096x128_d1_w32 natLt_1_32 shapeCasts_S4096x1_S4096x1 broadcasts_S4096x1_S4096x32 (k0_pay185 v715) (k0_pay186 v715) k hk
      (View.readAt (Elt Ideal) arg1.view (Rect.unit (s := S8192x32) (k0_off13 ⟨k, hk⟩) S128x32.size (k0_off13_inb ⟨k, hk⟩)).toLoadRect (harg1.unread x1))
      (View.readAt (Elt Ideal) arg2.view (Rect.unit (s := S32x8192) (k0_off14 ⟨k, hk⟩) S32x128.size (k0_off14_inb ⟨k, hk⟩)).toLoadRect (harg2.unread x2)) _ (code x1) a hrr
      ?_ ?_ hfin hb
    · have h := st_k0_t7_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v65 v590 v715 v719 (harg1.unread x1) (harg2.unread x2) init ⟨k, hk⟩
      unfold tripR_k0_t7 trip_k0_t7 at h
      rw [h]
      rw [← iv_word] at this
      exact this
    · exact fun j l => load_codes harg1 x1 _ _ k hk (loop_off k hk).1 j l
    · exact fun j l => load_codes_t harg2 x2 _ _ k hk (loop_off k hk).2 j l x1 ht

end Cert.Msvq
end
-- ==== Proof.Open0.lean ====
/-
  The kernel's body over any buffers: its buffers and inputs in one structure, the values its run binds, and the masks of its filter.
-/
module

public import proofs.«01_k».proof.Proof.KernE
public import proofs.«01_k».proof.Proof.Chain
public import proofs.«01_k».proof.Proof.Searches
public import proofs.«01_k».proof.Proof.IdealRun

@[expose] public section

set_option maxRecDepth 16384

noncomputable section

namespace Cert.Msvq

open Idealize.ShloMosaic Idealize.ShloMosaic.TcCoe Cert.KernelIdeal Cert.KernelIdeal.Gen Cert.KernelIdeal.Gen.kernelRun0_A

/-- The body's buffers, and what the inputs' hold. -/
structure Args where
  c : Dev nD
  arg0 : Memref sig .tc .vmem S32x8192 .f32
  harg0 : arg0.IsWhole
  arg1 : Memref sig .tc .vmem S8192x32 .f32
  harg1 : arg1.IsWhole
  arg2 : Memref sig .tc .vmem S32x8192 .f32
  harg2 : arg2.IsWhole
  arg3 : Memref sig .tc .vmem S32x288 .bf16
  harg3 : arg3.IsWhole
  arg4 : Memref sig .tc .vmem S32x288 .bf16
  harg4 : arg4.IsWhole
  arg5 : Memref sig .tc .vmem S32x288 .bf16
  harg5 : arg5.IsWhole
  arg6 : Memref sig .tc .vmem S32x288 .bf16
  harg6 : arg6.IsWhole
  arg7 : Memref sig .tc .vmem S32x1 .f32
  harg7 : arg7.IsWhole
  arg8 : Memref sig .tc .vmem S32x1 .f32
  harg8 : arg8.IsWhole
  arg9 : Memref sig .tc .vmem S32x1 .f32
  harg9 : arg9.IsWhole
  arg10 : Memref sig .tc .vmem S32x1 .f32
  harg10 : arg10.IsWhole
  arg11 : Memref sig .tc .vmem S8192x8 .f32
  harg11 : arg11.IsWhole
  arg12 : Memref sig .tc .vmem S8192x32 .f32
  harg12 : arg12.IsWhole
  arg13 : Memref sig .tc .vmem S1024x16 .f32
  harg13 : arg13.IsWhole
  arg14 : Memref sig .tc .vmem S1024x64 .f32
  harg14 : arg14.IsWhole
  arg15 : Memref sig .tc .vmem S1024x256 .f32
  harg15 : arg15.IsWhole
  arg16 : Memref sig .tc .vmem S4x64 .f32
  harg16 : arg16.IsWhole
  arg17 : Memref sig .tc .vmem S16x128 .f32
  harg17 : arg17.IsWhole
  arg18 : Memref sig .tc .vmem S64x256 .f32
  harg18 : arg18.IsWhole
  arg19 : Memref sig .tc .vmem S256x512 .f32
  harg19 : arg19.IsWhole
  arg20 : Memref sig .tc .vmem S64x1024 .f32
  harg20 : arg20.IsWhole
  arg21 : Memref sig .tc .vmem S128x1024 .f32
  harg21 : arg21.IsWhole
  arg22 : Memref sig .tc .vmem S256x1024 .f32
  harg22 : arg22.IsWhole
  arg23 : Memref sig .tc .vmem S512x1024 .f32
  harg23 : arg23.IsWhole
  arg24 : Memref sig .tc .vmem S8x8192 .f32
  harg24 : arg24.IsWhole
  arg25 : Memref sig .tc .vmem S32x8192 .f32
  harg25 : arg25.IsWhole
  arg26 : Memref sig .tc .vmem S1x1 .f32
  harg26 : arg26.IsWhole
  arg27 : Memref sig .tc .vmem S8x1 .i32
  harg27 : arg27.IsWhole
  arg28 : Memref sig .tc .vmem S32x1 .i32
  harg28 : arg28.IsWhole
  arg29 : Memref sig .tc .vmem S128x1 .i32
  harg29 : arg29.IsWhole
  arg30 : Memref sig .tc .vmem S512x1 .i32
  harg30 : arg30.IsWhole
  arg31 : Memref sig .tc .vmem S2048x1 .i32
  harg31 : arg31.IsWhole
  arg32 : Memref sig .tc .vmem S8192x1 .i32
  harg32 : arg32.IsWhole
  x0 : Vec Ideal S32x8192 .f32
  x1 : Vec Ideal S8192x32 .f32
  x2 : Vec Ideal S32x8192 .f32
  x3 : Vec Ideal S32x288 .bf16
  x4 : Vec Ideal S32x288 .bf16
  x5 : Vec Ideal S32x288 .bf16
  x6 : Vec Ideal S32x288 .bf16
  x7 : Vec Ideal S32x1 .f32
  x8 : Vec Ideal S32x1 .f32
  x9 : Vec Ideal S32x1 .f32
  x10 : Vec Ideal S32x1 .f32
  x11 : Vec Ideal S8192x8 .f32
  x12 : Vec Ideal S8192x32 .f32
  x13 : Vec Ideal S1024x16 .f32
  x14 : Vec Ideal S1024x64 .f32
  x15 : Vec Ideal S1024x256 .f32
  x16 : Vec Ideal S4x64 .f32
  x17 : Vec Ideal S16x128 .f32
  x18 : Vec Ideal S64x256 .f32
  x19 : Vec Ideal S256x512 .f32
  x20 : Vec Ideal S64x1024 .f32
  x21 : Vec Ideal S128x1024 .f32
  x22 : Vec Ideal S256x1024 .f32
  x23 : Vec Ideal S512x1024 .f32
  x24 : Vec Ideal S8x8192 .f32

namespace Args

/-- A value at the buffers. -/
abbrev use {β : Type} (A : Args) (f : ∀ (c : Dev nD) (arg0 : Memref sig .tc .vmem S32x8192 .f32) (_ : arg0.IsWhole) (arg1 : Memref sig .tc .vmem S8192x32 .f32) (_ : arg1.IsWhole) (arg2 : Memref sig .tc .vmem S32x8192 .f32) (_ : arg2.IsWhole) (arg3 : Memref sig .tc .vmem S32x288 .bf16) (_ : arg3.IsWhole) (arg4 : Memref sig .tc .vmem S32x288 .bf16) (_ : arg4.IsWhole) (arg5 : Memref sig .tc .vmem S32x288 .bf16) (_ : arg5.IsWhole) (arg6 : Memref sig .tc .vmem S32x288 .bf16) (_ : arg6.IsWhole) (arg7 : Memref sig .tc .vmem S32x1 .f32) (_ : arg7.IsWhole) (arg8 : Memref sig .tc .vmem S32x1 .f32) (_ : arg8.IsWhole) (arg9 : Memref sig .tc .vmem S32x1 .f32) (_ : arg9.IsWhole) (arg10 : Memref sig .tc .vmem S32x1 .f32) (_ : arg10.IsWhole) (arg11 : Memref sig .tc .vmem S8192x8 .f32) (_ : arg11.IsWhole) (arg12 : Memref sig .tc .vmem S8192x32 .f32) (_ : arg12.IsWhole) (arg13 : Memref sig .tc .vmem S1024x16 .f32) (_ : arg13.IsWhole) (arg14 : Memref sig .tc .vmem S1024x64 .f32) (_ : arg14.IsWhole) (arg15 : Memref sig .tc .vmem S1024x256 .f32) (_ : arg15.IsWhole) (arg16 : Memref sig .tc .vmem S4x64 .f32) (_ : arg16.IsWhole) (arg17 : Memref sig .tc .vmem S16x128 .f32) (_ : arg17.IsWhole) (arg18 : Memref sig .tc .vmem S64x256 .f32) (_ : arg18.IsWhole) (arg19 : Memref sig .tc .vmem S256x512 .f32) (_ : arg19.IsWhole) (arg20 : Memref sig .tc .vmem S64x1024 .f32) (_ : arg20.IsWhole) (arg21 : Memref sig .tc .vmem S128x1024 .f32) (_ : arg21.IsWhole) (arg22 : Memref sig .tc .vmem S256x1024 .f32) (_ : arg22.IsWhole) (arg23 : Memref sig .tc .vmem S512x1024 .f32) (_ : arg23.IsWhole) (arg24 : Memref sig .tc .vmem S8x8192 .f32) (_ : arg24.IsWhole) (arg25 : Memref sig .tc .vmem S32x8192 .f32) (_ : arg25.IsWhole) (arg26 : Memref sig .tc .vmem S1x1 .f32) (_ : arg26.IsWhole) (arg27 : Memref sig .tc .vmem S8x1 .i32) (_ : arg27.IsWhole) (arg28 : Memref sig .tc .vmem S32x1 .i32) (_ : arg28.IsWhole) (arg29 : Memref sig .tc .vmem S128x1 .i32) (_ : arg29.IsWhole) (arg30 : Memref sig .tc .vmem S512x1 .i32) (_ : arg30.IsWhole) (arg31 : Memref sig .tc .vmem S2048x1 .i32) (_ : arg31.IsWhole) (arg32 : Memref sig .tc .vmem S8192x1 .i32) (_ : arg32.IsWhole), β) : β :=
  f A.c A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32

/-- A value at the buffers whose type mentions the codes' two buffers. -/
abbrev run {β : Memref sig .tc .vmem S8192x32 .f32 → Memref sig .tc .vmem S32x8192 .f32 → Type} (A : Args) (f : ∀ (c : Dev nD) (arg0 : Memref sig .tc .vmem S32x8192 .f32) (_ : arg0.IsWhole) (arg1 : Memref sig .tc .vmem S8192x32 .f32) (_ : arg1.IsWhole) (arg2 : Memref sig .tc .vmem S32x8192 .f32) (_ : arg2.IsWhole) (arg3 : Memref sig .tc .vmem S32x288 .bf16) (_ : arg3.IsWhole) (arg4 : Memref sig .tc .vmem S32x288 .bf16) (_ : arg4.IsWhole) (arg5 : Memref sig .tc .vmem S32x288 .bf16) (_ : arg5.IsWhole) (arg6 : Memref sig .tc .vmem S32x288 .bf16) (_ : arg6.IsWhole) (arg7 : Memref sig .tc .vmem S32x1 .f32) (_ : arg7.IsWhole) (arg8 : Memref sig .tc .vmem S32x1 .f32) (_ : arg8.IsWhole) (arg9 : Memref sig .tc .vmem S32x1 .f32) (_ : arg9.IsWhole) (arg10 : Memref sig .tc .vmem S32x1 .f32) (_ : arg10.IsWhole) (arg11 : Memref sig .tc .vmem S8192x8 .f32) (_ : arg11.IsWhole) (arg12 : Memref sig .tc .vmem S8192x32 .f32) (_ : arg12.IsWhole) (arg13 : Memref sig .tc .vmem S1024x16 .f32) (_ : arg13.IsWhole) (arg14 : Memref sig .tc .vmem S1024x64 .f32) (_ : arg14.IsWhole) (arg15 : Memref sig .tc .vmem S1024x256 .f32) (_ : arg15.IsWhole) (arg16 : Memref sig .tc .vmem S4x64 .f32) (_ : arg16.IsWhole) (arg17 : Memref sig .tc .vmem S16x128 .f32) (_ : arg17.IsWhole) (arg18 : Memref sig .tc .vmem S64x256 .f32) (_ : arg18.IsWhole) (arg19 : Memref sig .tc .vmem S256x512 .f32) (_ : arg19.IsWhole) (arg20 : Memref sig .tc .vmem S64x1024 .f32) (_ : arg20.IsWhole) (arg21 : Memref sig .tc .vmem S128x1024 .f32) (_ : arg21.IsWhole) (arg22 : Memref sig .tc .vmem S256x1024 .f32) (_ : arg22.IsWhole) (arg23 : Memref sig .tc .vmem S512x1024 .f32) (_ : arg23.IsWhole) (arg24 : Memref sig .tc .vmem S8x8192 .f32) (_ : arg24.IsWhole) (arg25 : Memref sig .tc .vmem S32x8192 .f32) (_ : arg25.IsWhole) (arg26 : Memref sig .tc .vmem S1x1 .f32) (_ : arg26.IsWhole) (arg27 : Memref sig .tc .vmem S8x1 .i32) (_ : arg27.IsWhole) (arg28 : Memref sig .tc .vmem S32x1 .i32) (_ : arg28.IsWhole) (arg29 : Memref sig .tc .vmem S128x1 .i32) (_ : arg29.IsWhole) (arg30 : Memref sig .tc .vmem S512x1 .i32) (_ : arg30.IsWhole) (arg31 : Memref sig .tc .vmem S2048x1 .i32) (_ : arg31.IsWhole) (arg32 : Memref sig .tc .vmem S8192x1 .i32) (_ : arg32.IsWhole), β arg1 arg2) : β A.arg1 A.arg2 :=
  f A.c A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32

variable (A : Args)

/-- Input 0 as the body loads it. -/
abbrev y0 : Vec Ideal S32x8192 .f32 := View.readAt (Elt Ideal) A.arg0.view (Rect.unit ![0, 0] S32x8192.size inb_S32x8192_S32x8192_0_0).toLoadRect (A.harg0.unread A.x0)

/-- Input 3 as the body loads it. -/
abbrev y3 : Vec Ideal S32x288 .bf16 := View.readAt (Elt Ideal) A.arg3.view (Rect.unit ![0, 0] S32x288.size inb_S32x288_S32x288_0_0).toLoadRect (A.harg3.unread A.x3)

/-- Input 4 as the body loads it. -/
abbrev y4 : Vec Ideal S32x288 .bf16 := View.readAt (Elt Ideal) A.arg4.view (Rect.unit ![0, 0] S32x288.size inb_S32x288_S32x288_0_0).toLoadRect (A.harg4.unread A.x4)

/-- Input 5 as the body loads it. -/
abbrev y5 : Vec Ideal S32x288 .bf16 := View.readAt (Elt Ideal) A.arg5.view (Rect.unit ![0, 0] S32x288.size inb_S32x288_S32x288_0_0).toLoadRect (A.harg5.unread A.x5)

/-- Input 6 as the body loads it. -/
abbrev y6 : Vec Ideal S32x288 .bf16 := View.readAt (Elt Ideal) A.arg6.view (Rect.unit ![0, 0] S32x288.size inb_S32x288_S32x288_0_0).toLoadRect (A.harg6.unread A.x6)

/-- Input 7 as the body loads it. -/
abbrev y7 : Vec Ideal S32x1 .f32 := View.readAt (Elt Ideal) A.arg7.view (Rect.unit ![0, 0] S32x1.size inb_S32x1_S32x1_0_0).toLoadRect (A.harg7.unread A.x7)

/-- Input 8 as the body loads it. -/
abbrev y8 : Vec Ideal S32x1 .f32 := View.readAt (Elt Ideal) A.arg8.view (Rect.unit ![0, 0] S32x1.size inb_S32x1_S32x1_0_0).toLoadRect (A.harg8.unread A.x8)

/-- Input 9 as the body loads it. -/
abbrev y9 : Vec Ideal S32x1 .f32 := View.readAt (Elt Ideal) A.arg9.view (Rect.unit ![0, 0] S32x1.size inb_S32x1_S32x1_0_0).toLoadRect (A.harg9.unread A.x9)

/-- Input 10 as the body loads it. -/
abbrev y10 : Vec Ideal S32x1 .f32 := View.readAt (Elt Ideal) A.arg10.view (Rect.unit ![0, 0] S32x1.size inb_S32x1_S32x1_0_0).toLoadRect (A.harg10.unread A.x10)

/-- Input 11 as the body loads it. -/
abbrev y11 : Vec Ideal S8192x8 .f32 := View.readAt (Elt Ideal) A.arg11.view (Rect.unit ![0, 0] S8192x8.size inb_S8192x8_S8192x8_0_0).toLoadRect (A.harg11.unread A.x11)

/-- Input 12 as the body loads it. -/
abbrev y12 : Vec Ideal S8192x32 .f32 := View.readAt (Elt Ideal) A.arg12.view (Rect.unit ![0, 0] S8192x32.size inb_S8192x32_S8192x32_0_0).toLoadRect (A.harg12.unread A.x12)

/-- Input 13 as the body loads it. -/
abbrev y13 : Vec Ideal S1024x16 .f32 := View.readAt (Elt Ideal) A.arg13.view (Rect.unit ![0, 0] S1024x16.size inb_S1024x16_S1024x16_0_0).toLoadRect (A.harg13.unread A.x13)

/-- Input 14 as the body loads it. -/
abbrev y14 : Vec Ideal S1024x64 .f32 := View.readAt (Elt Ideal) A.arg14.view (Rect.unit ![0, 0] S1024x64.size inb_S1024x64_S1024x64_0_0).toLoadRect (A.harg14.unread A.x14)

/-- Input 15 as the body loads it. -/
abbrev y15 : Vec Ideal S1024x256 .f32 := View.readAt (Elt Ideal) A.arg15.view (Rect.unit ![0, 0] S1024x256.size inb_S1024x256_S1024x256_0_0).toLoadRect (A.harg15.unread A.x15)

/-- Input 16 as the body loads it. -/
abbrev y16 : Vec Ideal S4x64 .f32 := View.readAt (Elt Ideal) A.arg16.view (Rect.unit ![0, 0] S4x64.size inb_S4x64_S4x64_0_0).toLoadRect (A.harg16.unread A.x16)

/-- Input 17 as the body loads it. -/
abbrev y17 : Vec Ideal S16x128 .f32 := View.readAt (Elt Ideal) A.arg17.view (Rect.unit ![0, 0] S16x128.size inb_S16x128_S16x128_0_0).toLoadRect (A.harg17.unread A.x17)

/-- Input 18 as the body loads it. -/
abbrev y18 : Vec Ideal S64x256 .f32 := View.readAt (Elt Ideal) A.arg18.view (Rect.unit ![0, 0] S64x256.size inb_S64x256_S64x256_0_0).toLoadRect (A.harg18.unread A.x18)

/-- Input 19 as the body loads it. -/
abbrev y19 : Vec Ideal S256x512 .f32 := View.readAt (Elt Ideal) A.arg19.view (Rect.unit ![0, 0] S256x512.size inb_S256x512_S256x512_0_0).toLoadRect (A.harg19.unread A.x19)

/-- Input 20 as the body loads it. -/
abbrev y20 : Vec Ideal S64x1024 .f32 := View.readAt (Elt Ideal) A.arg20.view (Rect.unit ![0, 0] S64x1024.size inb_S64x1024_S64x1024_0_0).toLoadRect (A.harg20.unread A.x20)

/-- Input 21 as the body loads it. -/
abbrev y21 : Vec Ideal S128x1024 .f32 := View.readAt (Elt Ideal) A.arg21.view (Rect.unit ![0, 0] S128x1024.size inb_S128x1024_S128x1024_0_0).toLoadRect (A.harg21.unread A.x21)

/-- Input 22 as the body loads it. -/
abbrev y22 : Vec Ideal S256x1024 .f32 := View.readAt (Elt Ideal) A.arg22.view (Rect.unit ![0, 0] S256x1024.size inb_S256x1024_S256x1024_0_0).toLoadRect (A.harg22.unread A.x22)

/-- Input 23 as the body loads it. -/
abbrev y23 : Vec Ideal S512x1024 .f32 := View.readAt (Elt Ideal) A.arg23.view (Rect.unit ![0, 0] S512x1024.size inb_S512x1024_S512x1024_0_0).toLoadRect (A.harg23.unread A.x23)

/-- Input 24 as the body loads it. -/
abbrev y24 : Vec Ideal S8x8192 .f32 := View.readAt (Elt Ideal) A.arg24.view (Rect.unit ![0, 0] S8x8192.size inb_S8x8192_S8x8192_0_0).toLoadRect (A.harg24.unread A.x24)

/-- A whole buffer loaded whole reads its contents. -/
theorem load_whole {s : Shape} {t : EltTy} (m : Memref sig .tc .vmem s t) (h : m.IsWhole) (x : Vec Ideal s t) (off : Fin s.rank → ℕ) (h0 : off = fun _ => 0) (i0 : ∀ a, off a + s.size a ≤ s.size a) :
    View.readAt (Elt Ideal) m.view (Rect.unit off s.size i0).toLoadRect (h.unread x) = x := by
  rw [View.readAt_eq_ld, h.read_unread]
  exact View.ld_unit_zero h0 _ _

/-- Bound value 0 of the run. -/
abbrev r0 := sl.r (F := Ideal) A.c A.arg0 A.harg0 A.x0

/-- What search loop 1 ends with. -/
abbrev t1 := A.run (fun c => st_k0_t1 (F := Ideal) Variants.none c none) A.r0 k0_pay53 sl.r_1 30#32 A.y11 (A.harg1.unread A.x1) (A.harg2.unread A.x2) (k0_pay67, k0_pay68, k0_pay69) 64

/-- Bound value 7 of the run. -/
abbrev r7 := A.use (sl.r_7 (F := Ideal)) A.x0 A.x1 A.x2 A.x11

/-- Bound value 9 of the run. -/
abbrev r9 := A.use (sl.r_9 (F := Ideal)) A.x0 A.x1 A.x2 A.x11 A.x24

/-- Bound value 19 of the run. -/
abbrev r19 := A.use (sl.r_19 (F := Ideal)) A.x0 A.x1 A.x2 A.x3 A.x7 A.x11 A.x24

/-- Bound value 20 of the run. -/
abbrev r20 := A.use (sl.r_20 (F := Ideal)) A.x0 A.x1 A.x2 A.x3 A.x7 A.x11 A.x24

/-- Bound value 21 of the run. -/
abbrev r21 := A.use (sl.r_21 (F := Ideal)) A.x0 A.x1 A.x2 A.x3 A.x7 A.x11 A.x24

/-- What search loop 2 ends with. -/
abbrev t2 := A.run (fun c => st_k0_t2 (F := Ideal) Variants.none c none) A.r0 k0_pay63 k0_pay64 (A.use (sl.r_9 (F := Ideal)) A.x0 A.x1 A.x2 A.x11 A.x24) (A.use (sl.r_10 (F := Ideal)) A.x0 A.x1 A.x2 A.x11 A.x24) (A.use (sl.r_11 (F := Ideal)) A.x0 A.x1 A.x2 A.x11 A.x24) (A.use (sl.r_12 (F := Ideal)) A.x0 A.x1 A.x2 A.x11 A.x24) (A.use (sl.r_13 (F := Ideal)) A.x0 A.x1 A.x2 A.x11 A.x24) (A.use (sl.r_14 (F := Ideal)) A.x0 A.x1 A.x2 A.x11 A.x24) (A.use (sl.r_15 (F := Ideal)) A.x0 A.x1 A.x2 A.x11 A.x24) (A.use (sl.r_16 (F := Ideal)) A.x0 A.x1 A.x2 A.x11 A.x24) (A.use (sl.r_17 (F := Ideal)) A.x0 A.x1 A.x2 A.x11 A.x24) (A.use (sl.r_18 (F := Ideal)) A.x0 A.x1 A.x2 A.x11 A.x24) A.y3 A.y7 A.y12 (A.harg1.unread A.x1) (A.harg2.unread A.x2) (k0_pay87, k0_pay88, k0_pay89) 64

/-- Bound value 24 of the run. -/
abbrev r24 := A.use (sl.r_24 (F := Ideal)) A.x0 A.x1 A.x2 A.x3 A.x7 A.x11 A.x12 A.x16 A.x20 A.x24

/-- Bound value 26 of the run. -/
abbrev r26 := A.use (sl.r_26 (F := Ideal)) A.x0 A.x1 A.x2 A.x3 A.x7 A.x11 A.x12 A.x16 A.x20 A.x24

/-- Bound value 27 of the run. -/
abbrev r27 := A.use (sl.r_27 (F := Ideal)) A.x0 A.x1 A.x2 A.x3 A.x7 A.x11 A.x12 A.x16 A.x20 A.x24

/-- Bound value 28 of the run. -/
abbrev r28 := A.use (sl.r_28 (F := Ideal)) A.x0 A.x1 A.x2 A.x3 A.x7 A.x11 A.x12 A.x16 A.x20 A.x24

/-- Bound value 29 of the run. -/
abbrev r29 := A.use (sl.r_29 (F := Ideal)) A.x0 A.x1 A.x2 A.x3 A.x7 A.x11 A.x12 A.x16 A.x20 A.x24

/-- Bound value 30 of the run. -/
abbrev r30 := A.use (sl.r_30 (F := Ideal)) A.x0 A.x1 A.x2 A.x3 A.x7 A.x11 A.x12 A.x13 A.x16 A.x20 A.x24

/-- Bound value 31 of the run. -/
abbrev r31 := A.use (sl.r_31 (F := Ideal)) A.x0 A.x1 A.x2 A.x3 A.x7 A.x11 A.x12 A.x13 A.x16 A.x20 A.x24

/-- What search loop 3 ends with. -/
abbrev t3 := A.run (fun c => st_k0_t3 (F := Ideal) Variants.none c none) A.r30 A.r31 (A.harg1.unread A.x1) (A.harg2.unread A.x2) (k0_pay100, k0_pay101, k0_pay102) 64

/-- Bound value 42 of the run. -/
abbrev r42 := A.use (sl.r_42 (F := Ideal)) A.x0 A.x1 A.x2 A.x3 A.x7 A.x11 A.x12 A.x13 A.x16 A.x17 A.x20 A.x21 A.x24

/-- Bound value 43 of the run. -/
abbrev r43 := A.use (sl.r_43 (F := Ideal)) A.x0 A.x1 A.x2 A.x3 A.x7 A.x11 A.x12 A.x13 A.x16 A.x17 A.x20 A.x21 A.x24

/-- Bound value 44 of the run. -/
abbrev r44 := A.use (sl.r_44 (F := Ideal)) A.x0 A.x1 A.x2 A.x3 A.x7 A.x11 A.x12 A.x13 A.x16 A.x17 A.x20 A.x21 A.x24

/-- Bound value 45 of the run. -/
abbrev r45 := A.use (sl.r_45 (F := Ideal)) A.x0 A.x1 A.x2 A.x3 A.x7 A.x11 A.x12 A.x13 A.x16 A.x17 A.x20 A.x21 A.x24

/-- Bound value 46 of the run. -/
abbrev r46 := A.use (sl.r_46 (F := Ideal)) A.x0 A.x1 A.x2 A.x3 A.x7 A.x11 A.x12 A.x13 A.x16 A.x17 A.x20 A.x21 A.x24

/-- Bound value 47 of the run. -/
abbrev r47 := A.use (sl.r_47 (F := Ideal)) A.x0 A.x1 A.x2 A.x3 A.x7 A.x11 A.x12 A.x13 A.x16 A.x17 A.x20 A.x21 A.x24

/-- Bound value 48 of the run. -/
abbrev r48 := A.use (sl.r_48 (F := Ideal)) A.x0 A.x1 A.x2 A.x3 A.x7 A.x11 A.x12 A.x13 A.x16 A.x17 A.x20 A.x21 A.x24

/-- Bound value 49 of the run. -/
abbrev r49 := A.use (sl.r_49 (F := Ideal)) A.x0 A.x1 A.x2 A.x3 A.x7 A.x11 A.x12 A.x13 A.x16 A.x17 A.x20 A.x21 A.x24

/-- Bound value 50 of the run. -/
abbrev r50 := A.use (sl.r_50 (F := Ideal)) A.x0 A.x1 A.x2 A.x3 A.x7 A.x11 A.x12 A.x13 A.x16 A.x17 A.x20 A.x21 A.x24

/-- Bound value 51 of the run. -/
abbrev r51 := A.use (sl.r_51 (F := Ideal)) A.x0 A.x1 A.x2 A.x3 A.x4 A.x7 A.x8 A.x11 A.x12 A.x13 A.x16 A.x17 A.x20 A.x21 A.x24

/-- Bound value 52 of the run. -/
abbrev r52 := A.use (sl.r_52 (F := Ideal)) A.x0 A.x1 A.x2 A.x3 A.x4 A.x7 A.x8 A.x11 A.x12 A.x13 A.x16 A.x17 A.x20 A.x21 A.x24

/-- Bound value 53 of the run. -/
abbrev r53 := A.use (sl.r_53 (F := Ideal)) A.x0 A.x1 A.x2 A.x3 A.x4 A.x7 A.x8 A.x11 A.x12 A.x13 A.x16 A.x17 A.x20 A.x21 A.x24

/-- Bound value 54 of the run. -/
abbrev r54 := sl.r_54 (F := Ideal) A.c A.arg14 A.harg14 A.x14

/-- Bound value 55 of the run. -/
abbrev r55 := A.use (sl.r_55 (F := Ideal)) A.x0 A.x1 A.x2 A.x3 A.x4 A.x7 A.x8 A.x11 A.x12 A.x13 A.x14 A.x16 A.x17 A.x20 A.x21 A.x24

/-- Bound value 56 of the run. -/
abbrev r56 := A.use (sl.r_56 (F := Ideal)) A.x0 A.x1 A.x2 A.x3 A.x4 A.x7 A.x8 A.x11 A.x12 A.x13 A.x14 A.x16 A.x17 A.x20 A.x21 A.x24

/-- Bound value 57 of the run. -/
abbrev r57 := A.use (sl.r_57 (F := Ideal)) A.x0 A.x1 A.x2 A.x3 A.x4 A.x7 A.x8 A.x11 A.x12 A.x13 A.x14 A.x16 A.x17 A.x20 A.x21 A.x24

/-- Bound value 58 of the run. -/
abbrev r58 := A.use (sl.r_58 (F := Ideal)) A.x0 A.x1 A.x2 A.x3 A.x4 A.x7 A.x8 A.x11 A.x12 A.x13 A.x14 A.x16 A.x17 A.x20 A.x21 A.x24

/-- Bound value 59 of the run. -/
abbrev r59 := A.use (sl.r_59 (F := Ideal)) A.x0 A.x1 A.x2 A.x3 A.x4 A.x7 A.x8 A.x11 A.x12 A.x13 A.x14 A.x16 A.x17 A.x20 A.x21 A.x24

/-- Bound value 60 of the run. -/
abbrev r60 := A.use (sl.r_60 (F := Ideal)) A.x0 A.x1 A.x2 A.x3 A.x4 A.x7 A.x8 A.x11 A.x12 A.x13 A.x16 A.x17 A.x20 A.x21 A.x24

/-- What search loop 4 ends with. -/
abbrev t4 := A.run (fun c => st_k0_t4 (F := Ideal) Variants.none c none) A.r52 A.r54 A.r55 A.r56 A.r57 A.r58 A.r59 A.r60 (sl.cst_179 (F := Ideal)) (A.harg1.unread A.x1) (A.harg2.unread A.x2) (k0_pay136, k0_pay137, k0_pay138) 64

/-- Bound value 68 of the run. -/
abbrev r68 := A.use (sl.r_68 (F := Ideal)) A.x0 A.x1 A.x2 A.x3 A.x4 A.x7 A.x8 A.x11 A.x12 A.x13 A.x14 A.x16 A.x17 A.x18 A.x20 A.x21 A.x22 A.x24

/-- Bound value 69 of the run. -/
abbrev r69 := A.use (sl.r_69 (F := Ideal)) A.x0 A.x1 A.x2 A.x3 A.x4 A.x7 A.x8 A.x11 A.x12 A.x13 A.x14 A.x16 A.x17 A.x18 A.x20 A.x21 A.x22 A.x24

/-- Bound value 70 of the run. -/
abbrev r70 := A.use (sl.r_70 (F := Ideal)) A.x0 A.x1 A.x2 A.x3 A.x4 A.x7 A.x8 A.x11 A.x12 A.x13 A.x14 A.x16 A.x17 A.x18 A.x20 A.x21 A.x22 A.x24

/-- Bound value 71 of the run. -/
abbrev r71 := A.use (sl.r_71 (F := Ideal)) A.x0 A.x1 A.x2 A.x3 A.x4 A.x7 A.x8 A.x11 A.x12 A.x13 A.x14 A.x16 A.x17 A.x18 A.x20 A.x21 A.x22 A.x24

/-- Bound value 72 of the run. -/
abbrev r72 := A.use (sl.r_72 (F := Ideal)) A.x0 A.x1 A.x2 A.x3 A.x4 A.x7 A.x8 A.x11 A.x12 A.x13 A.x14 A.x16 A.x17 A.x18 A.x20 A.x21 A.x22 A.x24

/-- Bound value 73 of the run. -/
abbrev r73 := A.use (sl.r_73 (F := Ideal)) A.x0 A.x1 A.x2 A.x3 A.x4 A.x7 A.x8 A.x11 A.x12 A.x13 A.x14 A.x16 A.x17 A.x18 A.x20 A.x21 A.x22 A.x24

/-- Bound value 74 of the run. -/
abbrev r74 := A.use (sl.r_74 (F := Ideal)) A.x0 A.x1 A.x2 A.x3 A.x4 A.x7 A.x8 A.x11 A.x12 A.x13 A.x14 A.x16 A.x17 A.x18 A.x20 A.x21 A.x22 A.x24

/-- Bound value 75 of the run. -/
abbrev r75 := A.use (sl.r_75 (F := Ideal)) A.x0 A.x1 A.x2 A.x3 A.x4 A.x5 A.x7 A.x8 A.x9 A.x11 A.x12 A.x13 A.x14 A.x16 A.x17 A.x18 A.x20 A.x21 A.x22 A.x24

/-- Bound value 76 of the run. -/
abbrev r76 := A.use (sl.r_76 (F := Ideal)) A.x0 A.x1 A.x2 A.x3 A.x4 A.x5 A.x7 A.x8 A.x9 A.x11 A.x12 A.x13 A.x14 A.x16 A.x17 A.x18 A.x20 A.x21 A.x22 A.x24

/-- Bound value 77 of the run. -/
abbrev r77 := A.use (sl.r_77 (F := Ideal)) A.x0 A.x1 A.x2 A.x3 A.x4 A.x5 A.x7 A.x8 A.x9 A.x11 A.x12 A.x13 A.x14 A.x16 A.x17 A.x18 A.x20 A.x21 A.x22 A.x24

/-- Bound value 78 of the run. -/
abbrev r78 := sl.r_78 (F := Ideal) A.c A.arg15 A.harg15 A.x15

/-- Bound value 79 of the run. -/
abbrev r79 := A.use (sl.r_79 (F := Ideal)) A.x0 A.x1 A.x2 A.x3 A.x4 A.x5 A.x7 A.x8 A.x9 A.x11 A.x12 A.x13 A.x14 A.x15 A.x16 A.x17 A.x18 A.x20 A.x21 A.x22 A.x24

/-- What search loop 5 ends with. -/
abbrev t5 := A.run (fun c => st_k0_t5 (F := Ideal) Variants.none c none) A.r76 A.r78 A.r79 (A.harg1.unread A.x1) (A.harg2.unread A.x2) (k0_pay162, k0_pay163, k0_pay164) 64

/-- Bound value 84 of the run. -/
abbrev r84 := A.use (sl.r_84 (F := Ideal)) A.x0 A.x1 A.x2 A.x3 A.x4 A.x5 A.x7 A.x8 A.x9 A.x11 A.x12 A.x13 A.x14 A.x15 A.x16 A.x17 A.x18 A.x19 A.x20 A.x21 A.x22 A.x23 A.x24

/-- Bound value 89 of the run. -/
abbrev r89 := A.use (sl.r_89 (F := Ideal)) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24

/-- Bound value 90 of the run. -/
abbrev r90 := A.use (sl.r_90 (F := Ideal)) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24

/-- Bound value 91 of the run. -/
abbrev r91 := A.use (sl.r_91 (F := Ideal)) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24

/-- Bound value 92 of the run. -/
abbrev r92 := A.use (sl.r_92 (F := Ideal)) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24

/-- What search loop 6 ends with. -/
abbrev t6 := A.run (fun c => st_k0_t6 (F := Ideal) Variants.none c none) (sl.r_2 (F := Ideal)) A.r77 A.r90 A.r91 (A.harg1.unread A.x1) (A.harg2.unread A.x2) (k0_pay182, k0_pay183, k0_pay184) 64

/-- What search loop 7 ends with. -/
abbrev t7 := A.run (fun c => st_k0_t7 (F := Ideal) Variants.none c none) (sl.r_2 (F := Ideal)) A.r77 A.r90 A.r91 (A.harg1.unread A.x1) (A.harg2.unread A.x2) (k0_pay187, k0_pay188, k0_pay189) 64

/-- Bound value 93 of the run. -/
abbrev r93 := A.use (sl.r_93 (F := Ideal)) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24

/-- Bound value 94 of the run. -/
abbrev r94 := A.use (sl.r_94 (F := Ideal)) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24

/-- Bound value 95 of the run. -/
abbrev r95 := A.use (sl.r_95 (F := Ideal)) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24

/-- Bound value 96 of the run. -/
abbrev r96 := sl.r_96 (F := Ideal) A.c A.arg10 A.harg10 A.x10

end Args

/-- The eight masks of the body. -/
def kMasks : Masks := ⟨sl.r_2, k0_pay56 k0_pay53, sl.r_3, sl.r_4, sl.r_5, sl.r_6, k0_pay61 k0_pay53, k0_pay62 k0_pay53 sl.r_1⟩

/-- The row numbers of the pixels. -/
theorem rows_good : IsRows k0_pay53 := fun b y x => by
  rw [rows_apply]; congr 1; show (b * 1024 + y * 32 + x : ℕ) / 32 % 32 = y; omega

/-- The column numbers of the pixels. -/
theorem cols_good : IsCols (k0_pay54 sl.v2 32#32 0#32) := fun b y x => by
  rw [cols_apply _ (fun j => by simp only [sl.v2]; pointwise)]; congr 1; show (b * 1024 + y * 32 + x : ℕ) % 32 = x; omega

/-- The body's masks are those of the taps. -/
theorem kMasks_good : kMasks.Good where
  g00 := mask00 _ _ rows_good cols_good
  g01 := mask01 sl.v2 _ rows_good cols_good
  g02 := mask02 _ _ rows_good cols_good
  g10 := mask10 _ k0_pay53 rows_good cols_good
  g12 := mask12 _ k0_pay53 rows_good cols_good
  g20 := mask20 _ _ rows_good cols_good
  g21 := mask21 sl.v2 _ rows_good cols_good
  g22 := mask22 _ _ rows_good cols_good

/-- What the body's inputs hold, for a net of filters and codes: each input a table of its kind. -/
structure Ins (N : Net) (A : Args) : Prop where
  real : N.Real
  z : kimg A.y0 = N.Z
  e : code A.x1 = N.e
  t : ∀ l i, A.x2 (ix2 l i) = A.x1 (ix2 i l)
  w0 : ∀ o c ky kx, A.y3 (ix2 o (tapRow ky kx c)) = N.w 0 o c ky kx
  w1 : ∀ o c ky kx, A.y4 (ix2 o (tapRow ky kx c)) = N.w 1 o c ky kx
  w2 : ∀ o c ky kx, A.y5 (ix2 o (tapRow ky kx c)) = N.w 2 o c ky kx
  w3 : ∀ o c ky kx, A.y6 (ix2 o (tapRow ky kx c)) = N.w 3 o c ky kx
  b0 : ∀ o, A.y7 (ix2 o 0) = N.bi 0 o
  b1 : ∀ o, A.y8 (ix2 o 0) = N.bi 1 o
  b2 : ∀ o, A.y9 (ix2 o 0) = N.bi 2 o
  b3 : ∀ o, A.y10 (ix2 o 0) = N.bi 3 o
  p1 : IsPool8 (p := 1) (f := 32) (m := 1) (n := 8) rfl rfl rfl A.y11
  p2 : IsPool8 (p := 2) (f := 16) (m := 4) (n := 32) rfl rfl rfl A.y12
  p4 : IsPool (p := 4) (f := 8) (m := 16) rfl rfl A.y13
  p8 : IsPool (p := 8) (f := 4) (m := 64) rfl rfl A.y14
  p16 : IsPool (p := 16) (f := 2) (m := 256) rfl rfl A.y15
  u1 : IsSpread (weight 1 (Ideal.ofBits .f32 0x3D000000#32)) A.y24
  a2 : IsRowTable (p := 2) (m := 4) (s := 64) rfl rfl (weight 2 (Ideal.ofBits .f32 0x3D800000#32)) A.y16
  a4 : IsRowTable (p := 4) (m := 16) (s := 128) rfl rfl (weight 4 (Ideal.ofBits .f32 0x3E000000#32)) A.y17
  a8 : IsRowTable (p := 8) (m := 64) (s := 256) rfl rfl (weight 8 (Ideal.ofBits .f32 0x3E800000#32)) A.y18
  a16 : IsRowTable (p := 16) (m := 256) (s := 512) rfl rfl (weight 16 (Ideal.ofBits .f32 0x3F000000#32)) A.y19
  c2 : IsColTable (p := 2) (s := 64) rfl (weight 2 (Ideal.ofBits .f32 0x3D800000#32)) A.y20
  c4 : IsColTable (p := 4) (s := 128) rfl (weight 4 (Ideal.ofBits .f32 0x3E000000#32)) A.y21
  c8 : IsColTable (p := 8) (s := 256) rfl (weight 8 (Ideal.ofBits .f32 0x3E800000#32)) A.y22
  c16 : IsColTable (p := 16) (s := 512) rfl (weight 16 (Ideal.ofBits .f32 0x3F000000#32)) A.y23

/-- The squares of each row summed. -/
theorem squares_apply {n : ℕ} (hn : n ≠ 1) (h1 : (T2 n 32).Reduces [1] (T1 n)) (h2 : (T1 n).ShapeCasts (T2 n 1)) (v : FVec Ideal (T2 n 32) .f32) (a : Fin n)
    (r : Fin 32 → EReal) (hr : ∀ l, v (ix2 a l) = r l) :
    shapeCast (T2 n 1) (multiReduction (F := Ideal) (φ := .f32) .add [1] (T1 n) (mulf v v) 0x00000000#32 h1 (.inl rfl) rfl) h2 (ix2 a 0) = ∑ l, r l * r l := by
  pointwise [hn, hr, reshape_col]

/-- The filtered half-and-half image of a net's filter. -/
theorem phi_net (N : Net) (j : Fin 4) (h : FVec Ideal S32x8192 .f32) (w : Vec Ideal S32x288 .bf16) (b : Vec Ideal S32x1 .f32) (H : Img)
    (hh : kimg h = H) (hw : ∀ o c ky kx, w (ix2 o (tapRow ky kx c)) = N.w j o c ky kx) (hb : ∀ o, b (ix2 o 0) = N.bi j o) :
    kimg (kPhi kMasks h w b) = phi (N.w j) (N.bi j) H := by
  rw [kPhi_apply _ kMasks_good, hh]; simp only [hw, hb]

end Cert.Msvq
-- ==== Proof.Open1.lean ====
/-
  Scale 1 of the kernel's body: what its search finds, and the sum, residual and loss it leaves.
-/
module

public import proofs.«01_k».proof.Proof.Open0

@[expose] public section

set_option maxRecDepth 16384

noncomputable section

namespace Cert.Msvq

open Idealize.ShloMosaic Idealize.ShloMosaic.TcCoe Cert.KernelIdeal Cert.KernelIdeal.Gen Cert.KernelIdeal.Gen.kernelRun0_A

/-- The first scale of the body computes that of the net. -/
theorem stage1 (N : Net) (A : Args) (I : Ins N A) :
    (∀ b i j, A.t1.2.1 (ix2 (cel (p := 1) (m := 1) (n := 8) rfl rfl b i j) 0) = BitVec.ofNat 32 (near N.e (N.c1 b i j)))
      ∧ kimg A.r19 = N.h1 ∧ kimg A.r20 = N.r1 ∧ A.r21 (ix2 0 0) = N.l1 := by
  have hz : kimg A.r0 = N.Z := (congrArg kimg (shapeCast_self A.y0 _)).trans I.z
  have hrow : ∀ b i j l, _ = N.c1 b i j l := fun b i j l => (congrFun (rows1 A.r0 A.y11) (ix2 (cel (p := 1) (m := 1) (n := 8) rfl rfl b i j) l)).trans ((kPool8_apply (p := 1) (f := 32) (m := 1) (n := 8) rfl rfl rfl (by norm_num) _ (by intro l r c i j; pointwise) _ _ _ A.r0 A.y11 I.p1 b i j l).trans (by rw [hz]; exact scale1 _))
  have hs : ∀ b i j, A.t1.2.1 (ix2 (cel (p := 1) (m := 1) (n := 8) rfl rfl b i j) 0) = BitVec.ofNat 32 (near (code A.x1) (N.c1 b i j)) ∧ ∀ l, A.t1.2.2 (ix2 (cel (p := 1) (m := 1) (n := 8) rfl rfl b i j) l) = code A.x1 (near (code A.x1) (N.c1 b i j)) l :=
    fun b i j => loop1 Variants.none A.c none _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ A.x1 A.x2 (k0_pay67, k0_pay68, k0_pay69) (cel (p := 1) (m := 1) (n := 8) rfl rfl b i j) (N.c1 b i j) (hrow b i j)
      (squares_apply (by norm_num) reduces_S8x32_S8 shapeCasts_S8_S8x1 _ _ _ (hrow b i j)) I.t (fun q _ => by rw [I.e]; exact N.dist_lt I.real (N.c1_real I.real b i j) q) rfl
  simp only [I.e] at hs
  have hi : kimg (k0_pay71 A.r7 A.y24) = resize (weight 1 (Ideal.ofBits .f32 0x3D000000#32)) (quant N.e N.c1) := (spread_apply A.t1.2.2 A.y24 _ I.u1).trans (congrArg (resize _) (by funext b i j l; exact (hs b i j).2 l))
  have hp : kimg (kPhi kMasks (k0_pay71 A.r7 A.y24) A.y3 A.y7) = N.s1 := phi_net N 0 _ _ _ _ hi I.w0 I.b0
  have eS : A.r19 = addf k0_pay63 (kPhi kMasks (k0_pay71 A.r7 A.y24) A.y3 A.y7) := sum1 kMasks A.r7 A.y24 k0_pay63 A.y3 A.y7
  have eZ : A.r20 = subf A.r0 (kPhi kMasks (k0_pay71 A.r7 A.y24) A.y3 A.y7) := res1 kMasks A.r7 A.y24 A.r0 A.y3 A.y7
  have eL : A.r21 = kMore A.r0 (addf k0_pay63 (kPhi kMasks (k0_pay71 A.r7 A.y24) A.y3 A.y7)) k0_pay64 := loss1 kMasks A.r7 A.y24 A.r0 k0_pay63 k0_pay64 A.y3 A.y7
  have hh : kimg k0_pay63 = fun _ _ _ _ => 0 := by funext b c y x; pointwise [kimg, k0_pay63]
  have hl : k0_pay64 (F := Ideal) (ix2 0 0) = 0 := by pointwise [k0_pay64]
  refine ⟨fun b i j => (hs b i j).1, (congrArg kimg eS).trans (congrArg₂ plus hh hp), (congrArg kimg eZ).trans (congrArg₂ minus hz hp), (congrFun eL _).trans ((kMore_apply _ _ _).trans (congrArg₂ more hl (congrArg₂ sq (congrArg₂ plus hh hp) hz)))⟩

end Cert.Msvq
-- ==== Proof.Open2.lean ====
/-
  Scale 2 of the kernel's body: what its search finds, and the sum, residual and loss it leaves.
-/
module

public import proofs.«01_k».proof.Proof.Open0

@[expose] public section

set_option maxRecDepth 16384

noncomputable section

namespace Cert.Msvq

open Idealize.ShloMosaic Idealize.ShloMosaic.TcCoe Cert.KernelIdeal Cert.KernelIdeal.Gen Cert.KernelIdeal.Gen.kernelRun0_A

/-- The second scale of the body computes that of the net. -/
theorem stage2 (N : Net) (A : Args) (I : Ins N A) (hh : kimg A.r19 = N.h1) (hr : kimg A.r20 = N.r1) (hl : A.r21 (ix2 0 0) = N.l1) :
    (∀ b i j, A.t2.2.1 (ix2 (cel (p := 2) (m := 4) (n := 32) rfl rfl b i j) 0) = BitVec.ofNat 32 (near N.e (N.c2 b i j)))
      ∧ kimg A.r27 = N.h2 ∧ kimg A.r28 = N.r2 ∧ A.r29 (ix2 0 0) = N.l2 := by
  have hz : kimg A.r0 = N.Z := (congrArg kimg (shapeCast_self A.y0 _)).trans I.z
  have eR : A.r20 = subf A.r0 (kPhi kMasks (k0_pay71 A.r7 A.y24) A.y3 A.y7) := res1 kMasks A.r7 A.y24 A.r0 A.y3 A.y7
  rw [eR] at hr
  have hrow : ∀ b i j l, _ = N.c2 b i j l := fun b i j l => (congrFun (rows2 kMasks A.r7 A.y24 A.r0 A.y3 A.y7 A.y12) (ix2 (cel (p := 2) (m := 4) (n := 32) rfl rfl b i j) l)).trans ((kPool8_apply (p := 2) (f := 16) (m := 4) (n := 32) rfl rfl rfl (by norm_num) _ (by intro l r c i j; pointwise) _ _ _ (subf A.r0 (kPhi kMasks (k0_pay71 A.r7 A.y24) A.y3 A.y7)) A.y12 I.p2 b i j l).trans (by rw [hr]; exact scale2 _))
  have hs : ∀ b i j, A.t2.2.1 (ix2 (cel (p := 2) (m := 4) (n := 32) rfl rfl b i j) 0) = BitVec.ofNat 32 (near (code A.x1) (N.c2 b i j)) ∧ ∀ l, A.t2.2.2 (ix2 (cel (p := 2) (m := 4) (n := 32) rfl rfl b i j) l) = code A.x1 (near (code A.x1) (N.c2 b i j)) l :=
    fun b i j => loop2 Variants.none A.c none _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ A.x1 A.x2 (k0_pay87, k0_pay88, k0_pay89) (cel (p := 2) (m := 4) (n := 32) rfl rfl b i j) (N.c2 b i j) (hrow b i j)
      (squares_apply (by norm_num) reduces_S32x32_S32 shapeCasts_S32_S32x1 _ _ _ (hrow b i j)) I.t (fun q _ => by rw [I.e]; exact N.dist_lt I.real (N.c2_real I.real b i j) q) rfl
  simp only [I.e] at hs
  have hi : kimg A.r24 = resize (weight 2 (Ideal.ofBits .f32 0x3D800000#32)) (quant N.e N.c2) :=
    (congrArg kimg (image2 A.t2.2.2 A.y16 A.y20)).trans ((kResize_apply (p := 2) (m := 4) (n := 32) (s := 64) rfl rfl rfl (by norm_num) _ _ (by intro l r c i j; pointwise) (by intro l r c i j; pointwise) _ _ _ _ _ A.t2.2.2 A.y16 A.y20 _ I.a2 I.c2).trans (congrArg (resize _) (by funext b i j l; exact (hs b i j).2 l)))
  have hp : kimg (kPhi kMasks A.r24 A.y3 A.y7) = N.s2 := phi_net N 0 _ _ _ _ hi I.w0 I.b0
  have eC : A.r26 = kConv kMasks A.r24 A.y3 := conv2 kMasks A.t2.2.2 A.y16 A.y20 A.y3
  have eS : A.r27 = addf A.r19 (kPhi kMasks A.r24 A.y3 A.y7) := (congrArg (fun q => k0_pay94 A.r19 A.r24 q A.y7) eC).trans (sum2 kMasks A.r24 A.r19 A.y3 A.y7)
  have eZ : A.r28 = subf A.r20 (kPhi kMasks A.r24 A.y3 A.y7) := (congrArg (fun q => k0_pay95 A.r20 A.r24 q A.y7) eC).trans (res2 kMasks A.r24 A.r20 A.y3 A.y7)
  have eL : A.r29 = kMore A.r0 (addf A.r19 (kPhi kMasks A.r24 A.y3 A.y7)) A.r21 := (congrArg (fun q => k0_pay96 A.r0 A.r19 A.r21 A.r24 q A.y7) eC).trans (loss2 kMasks A.r24 A.r0 A.r19 A.r21 A.y3 A.y7)
  refine ⟨fun b i j => (hs b i j).1, (congrArg kimg eS).trans (congrArg₂ plus hh hp), (congrArg kimg eZ).trans (congrArg₂ minus ((congrArg kimg eR).trans hr) hp), (congrFun eL _).trans ((kMore_apply _ _ _).trans (congrArg₂ more hl (congrArg₂ sq (congrArg₂ plus hh hp) hz)))⟩

end Cert.Msvq
-- ==== Proof.Open3.lean ====
/-
  Scale 3 of the kernel's body: what its search finds, and the sum, residual and loss it leaves.
-/
module

public import proofs.«01_k».proof.Proof.Open0

@[expose] public section

set_option maxRecDepth 16384

noncomputable section

namespace Cert.Msvq

open Idealize.ShloMosaic Idealize.ShloMosaic.TcCoe Cert.KernelIdeal Cert.KernelIdeal.Gen Cert.KernelIdeal.Gen.kernelRun0_A

/-- The third scale of the body computes that of the net. -/
theorem stage3 (N : Net) (A : Args) (I : Ins N A) (hh : kimg A.r27 = N.h2) (hr : kimg A.r28 = N.r2) (hl : A.r29 (ix2 0 0) = N.l2) :
    (∀ b i j, A.t3.2.1 (ix2 (cel (p := 4) (m := 16) (n := 128) rfl rfl b i j) 0) = BitVec.ofNat 32 (near N.e (N.c3 b i j)))
      ∧ kimg A.r51 = N.h3 ∧ kimg A.r52 = N.r3 ∧ A.r53 (ix2 0 0) = N.l3 := by
  have hz : kimg A.r0 = N.Z := (congrArg kimg (shapeCast_self A.y0 _)).trans I.z
  have eC : A.r26 = kConv kMasks A.r24 A.y3 := conv2 kMasks A.t2.2.2 A.y16 A.y20 A.y3
  have eR : A.r28 = subf A.r20 (kPhi kMasks A.r24 A.y3 A.y7) := (congrArg (fun q => k0_pay95 A.r20 A.r24 q A.y7) eC).trans (res2 kMasks A.r24 A.r20 A.y3 A.y7)
  rw [eR] at hr
  have hP : IsPool (p := 4) (f := 8) (m := 16) rfl rfl (shapeCast S1024x16 A.y13 shapeCasts_S1024x16_S1024x16) := by rw [shapeCast_self]; exact I.p4
  have hrow : ∀ b i j l, _ = N.c3 b i j l := fun b i j l => (congrFun ((congrArg (fun q => k0_pay97 A.r20 A.r24 q A.y7 A.y13) eC).trans (rows3 kMasks A.r24 A.r20 A.y3 A.y7 A.y13)) (ix2 (cel (p := 4) (m := 16) (n := 128) rfl rfl b i j) l)).trans ((kPool_apply (p := 4) (f := 8) (m := 16) (n := 128) rfl rfl rfl (by norm_num) _ (by intro l r c i j; pointwise) _ _ _ _ (subf A.r20 (kPhi kMasks A.r24 A.y3 A.y7)) _ hP b i j l).trans (by rw [hr]; exact scale3 _))
  have hs : ∀ b i j, A.t3.2.1 (ix2 (cel (p := 4) (m := 16) (n := 128) rfl rfl b i j) 0) = BitVec.ofNat 32 (near (code A.x1) (N.c3 b i j)) ∧ ∀ l, A.t3.2.2 (ix2 (cel (p := 4) (m := 16) (n := 128) rfl rfl b i j) l) = code A.x1 (near (code A.x1) (N.c3 b i j)) l :=
    fun b i j => loop3 Variants.none A.c none _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ A.x1 A.x2 (k0_pay100, k0_pay101, k0_pay102) (cel (p := 4) (m := 16) (n := 128) rfl rfl b i j) (N.c3 b i j) (hrow b i j)
      (squares_apply (by norm_num) reduces_S128x32_S128 shapeCasts_S128_S128x1 _ _ _ (hrow b i j)) I.t (fun q _ => by rw [I.e]; exact N.dist_lt I.real (N.c3_real I.real b i j) q) rfl
  simp only [I.e] at hs
  have hi : kimg A.r42 = resize (weight 4 (Ideal.ofBits .f32 0x3E000000#32)) (quant N.e N.c3) :=
    (congrArg kimg (image3 A.t3.2.2 A.y17 A.y21)).trans ((kResize_apply (p := 4) (m := 16) (n := 128) (s := 128) rfl rfl rfl (by norm_num) _ _ (by intro l r c i j; pointwise) (by intro l r c i j; pointwise) _ _ _ _ _ A.t3.2.2 A.y17 A.y21 _ I.a4 I.c4).trans (congrArg (resize _) (by funext b i j l; exact (hs b i j).2 l)))
  have hp : kimg (kPhi kMasks A.r42 A.y4 A.y8) = N.s3 := phi_net N 1 _ _ _ _ hi I.w1 I.b1
  have eS : A.r51 = addf A.r27 (kPhi kMasks A.r42 A.y4 A.y8) := sum3 kMasks A.t3.2.2 A.y17 A.y21 A.r27 A.y4 A.y8
  have eZ : A.r52 = subf A.r28 (kPhi kMasks A.r42 A.y4 A.y8) := res3 kMasks A.t3.2.2 A.y17 A.y21 A.r28 A.y4 A.y8
  have eL : A.r53 = kMore A.r0 (addf A.r27 (kPhi kMasks A.r42 A.y4 A.y8)) A.r29 := loss3 kMasks A.t3.2.2 A.y17 A.y21 A.r0 A.r27 A.r29 A.y4 A.y8
  refine ⟨fun b i j => (hs b i j).1, (congrArg kimg eS).trans (congrArg₂ plus hh hp), (congrArg kimg eZ).trans (congrArg₂ minus ((congrArg kimg eR).trans hr) hp), (congrFun eL _).trans ((kMore_apply _ _ _).trans (congrArg₂ more hl (congrArg₂ sq (congrArg₂ plus hh hp) hz)))⟩

end Cert.Msvq
-- ==== Proof.Open4.lean ====
/-
  Scale 4 of the kernel's body: what its search finds, and the sum, residual and loss it leaves.
-/
module

public import proofs.«01_k».proof.Proof.Open0

@[expose] public section

set_option maxRecDepth 16384

noncomputable section

namespace Cert.Msvq

open Idealize.ShloMosaic Idealize.ShloMosaic.TcCoe Cert.KernelIdeal Cert.KernelIdeal.Gen Cert.KernelIdeal.Gen.kernelRun0_A

/-- The fourth scale of the body computes that of the net. -/
theorem stage4 (N : Net) (A : Args) (I : Ins N A) (hh : kimg A.r51 = N.h3) (hr : kimg A.r52 = N.r3) (hl : A.r53 (ix2 0 0) = N.l3) :
    (∀ b i j, A.t4.2.1 (ix2 (cel (p := 8) (m := 64) (n := 512) rfl rfl b i j) 0) = BitVec.ofNat 32 (near N.e (N.c4 b i j)))
      ∧ kimg A.r75 = N.h4 ∧ kimg A.r76 = N.r4 ∧ A.r77 (ix2 0 0) = N.l4 := by
  have hz : kimg A.r0 = N.Z := (congrArg kimg (shapeCast_self A.y0 _)).trans I.z
  have hP : IsPool (p := 8) (f := 4) (m := 64) rfl rfl (shapeCast S1024x64 A.y14 shapeCasts_S1024x64_S1024x64) := by rw [shapeCast_self]; exact I.p8
  have hrow : ∀ b i j l, _ = N.c4 b i j l := fun b i j l => (congrFun (rows4 kMasks.m22 A.r28 A.r42 A.r43 A.r44 A.r45 A.r46 A.r47 A.r48 A.r49 A.r50 k0_pay122 A.y4 A.y8 A.y14) (ix2 (cel (p := 8) (m := 64) (n := 512) rfl rfl b i j) l)).trans ((kPool_apply (p := 8) (f := 4) (m := 64) (n := 512) rfl rfl rfl (by norm_num) _ (by intro l r c i j; pointwise) _ _ _ _ A.r52 _ hP b i j l).trans (by rw [hr]; exact scale4 _))
  have hs : ∀ b i j, A.t4.2.1 (ix2 (cel (p := 8) (m := 64) (n := 512) rfl rfl b i j) 0) = BitVec.ofNat 32 (near (code A.x1) (N.c4 b i j)) ∧ ∀ l, A.t4.2.2 (ix2 (cel (p := 8) (m := 64) (n := 512) rfl rfl b i j) l) = code A.x1 (near (code A.x1) (N.c4 b i j)) l :=
    fun b i j => loop4 Variants.none A.c none _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ A.x1 A.x2 (k0_pay136, k0_pay137, k0_pay138) (cel (p := 8) (m := 64) (n := 512) rfl rfl b i j) (N.c4 b i j) (hrow b i j)
      (squares_apply (by norm_num) reduces_S512x32_S512 shapeCasts_S512_S512x1 _ _ _ (hrow b i j)) I.t (fun q _ => by rw [I.e]; exact N.dist_lt I.real (N.c4_real I.real b i j) q) rfl
  simp only [I.e] at hs
  have hi : kimg A.r68 = resize (weight 8 (Ideal.ofBits .f32 0x3E800000#32)) (quant N.e N.c4) :=
    (congrArg kimg (image4 A.t4.2.2 A.y18 A.y22)).trans ((kResize_apply (p := 8) (m := 64) (n := 512) (s := 256) rfl rfl rfl (by norm_num) _ _ (by intro l r c i j; pointwise) (by intro l r c i j; pointwise) _ _ _ _ _ A.t4.2.2 A.y18 A.y22 _ I.a8 I.c8).trans (congrArg (resize _) (by funext b i j l; exact (hs b i j).2 l)))
  have hp : kimg (kPhi kMasks A.r68 A.y5 A.y9) = N.s4 := phi_net N 2 _ _ _ _ hi I.w2 I.b2
  have eS : A.r75 = addf A.r51 (kPhi kMasks A.r68 A.y5 A.y9) := sum4 kMasks A.t4.2.2 A.y18 A.y22 A.r51 A.y5 A.y9
  have eZ : A.r76 = subf A.r52 (kPhi kMasks A.r68 A.y5 A.y9) := res4 kMasks A.t4.2.2 A.y18 A.y22 A.r52 A.y5 A.y9
  have eL : A.r77 = kMore A.r0 (addf A.r51 (kPhi kMasks A.r68 A.y5 A.y9)) A.r53 := loss4 kMasks A.t4.2.2 A.y18 A.y22 A.r0 A.r51 A.r53 A.y5 A.y9
  refine ⟨fun b i j => (hs b i j).1, (congrArg kimg eS).trans (congrArg₂ plus hh hp), (congrArg kimg eZ).trans (congrArg₂ minus hr hp), (congrFun eL _).trans ((kMore_apply _ _ _).trans (congrArg₂ more hl (congrArg₂ sq (congrArg₂ plus hh hp) hz)))⟩

end Cert.Msvq
-- ==== Proof.Open5.lean ====
/-
  Scale 5 of the kernel's body: what its search finds, and the sum, residual and loss it leaves.
-/
module

public import proofs.«01_k».proof.Proof.Open0

@[expose] public section

set_option maxRecDepth 16384

noncomputable section

namespace Cert.Msvq

open Idealize.ShloMosaic Idealize.ShloMosaic.TcCoe Cert.KernelIdeal Cert.KernelIdeal.Gen Cert.KernelIdeal.Gen.kernelRun0_A

/-- The fifth scale of the body computes that of the net. -/
theorem stage5 (N : Net) (A : Args) (I : Ins N A) (hh : kimg A.r75 = N.h4) (hr : kimg A.r76 = N.r4) (hl : A.r77 (ix2 0 0) = N.l4) :
    (∀ b i j, A.t5.2.1 (ix2 (cel (p := 16) (m := 256) (n := 2048) rfl rfl b i j) 0) = BitVec.ofNat 32 (near N.e (N.c5 b i j)))
      ∧ kimg A.r89 = N.h5 ∧ kimg A.r90 = N.r5 ∧ A.r92 (ix2 0 0) = N.l5 := by
  have hz : kimg A.r0 = N.Z := (congrArg kimg (shapeCast_self A.y0 _)).trans I.z
  have hP : IsPool (p := 16) (f := 2) (m := 256) rfl rfl (shapeCast S1024x256 A.y15 shapeCasts_S1024x256_S1024x256) := by rw [shapeCast_self]; exact I.p16
  have hrow : ∀ b i j l, _ = N.c5 b i j l := fun b i j l => (congrFun (rows5 kMasks.m20 kMasks.m21 kMasks.m22 A.r52 A.r68 A.r69 A.r70 A.r71 A.r72 A.r73 A.r74 k0_pay153 A.y5 A.y9 A.y15) (ix2 (cel (p := 16) (m := 256) (n := 2048) rfl rfl b i j) l)).trans ((kPool_apply (p := 16) (f := 2) (m := 256) (n := 2048) rfl rfl rfl (by norm_num) _ (by intro l r c i j; pointwise) _ _ _ _ A.r76 _ hP b i j l).trans (by rw [hr]; exact scale5 _))
  have hs : ∀ b i j, A.t5.2.1 (ix2 (cel (p := 16) (m := 256) (n := 2048) rfl rfl b i j) 0) = BitVec.ofNat 32 (near (code A.x1) (N.c5 b i j)) ∧ ∀ l, A.t5.2.2 (ix2 (cel (p := 16) (m := 256) (n := 2048) rfl rfl b i j) l) = code A.x1 (near (code A.x1) (N.c5 b i j)) l :=
    fun b i j => loop5 Variants.none A.c none _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ A.x1 A.x2 (k0_pay162, k0_pay163, k0_pay164) (cel (p := 16) (m := 256) (n := 2048) rfl rfl b i j) (N.c5 b i j) (hrow b i j)
      (squares_apply (by norm_num) reduces_S2048x32_S2048 shapeCasts_S2048_S2048x1 _ _ _ (hrow b i j)) I.t (fun q _ => by rw [I.e]; exact N.dist_lt I.real (N.c5_real I.real b i j) q) rfl
  simp only [I.e] at hs
  have hi : kimg A.r84 = resize (weight 16 (Ideal.ofBits .f32 0x3F000000#32)) (quant N.e N.c5) :=
    (congrArg kimg (image5 A.t5.2.2 A.y19 A.y23)).trans ((kResize_apply (p := 16) (m := 256) (n := 2048) (s := 512) rfl rfl rfl (by norm_num) _ _ (by intro l r c i j; pointwise) (by intro l r c i j; pointwise) _ _ _ _ _ A.t5.2.2 A.y19 A.y23 _ I.a16 I.c16).trans (congrArg (resize _) (by funext b i j l; exact (hs b i j).2 l)))
  have hp : kimg (kPhi kMasks A.r84 A.y6 A.y10) = N.s5 := phi_net N 3 _ _ _ _ hi I.w3 I.b3
  have eS : A.r89 = addf A.r75 (kPhi kMasks A.r84 A.y6 A.y10) := sum5 kMasks A.t5.2.2 A.y19 A.y23 A.r75 A.y6 A.y10
  have eZ : A.r90 = subf A.r76 (kPhi kMasks A.r84 A.y6 A.y10) := res5 kMasks A.t5.2.2 A.y19 A.y23 A.r76 A.y6 A.y10
  have eL : A.r92 = kMore A.r0 (addf A.r75 (kPhi kMasks A.r84 A.y6 A.y10)) A.r77 := loss5 kMasks A.t5.2.2 A.y19 A.y23 A.r0 A.r75 A.r77 A.y6 A.y10
  refine ⟨fun b i j => (hs b i j).1, (congrArg kimg eS).trans (congrArg₂ plus hh hp), (congrArg kimg eZ).trans (congrArg₂ minus hr hp), (congrFun eL _).trans ((kMore_apply _ _ _).trans (congrArg₂ more hl (congrArg₂ sq (congrArg₂ plus hh hp) hz)))⟩

end Cert.Msvq
-- ==== Proof.Open6.lean ====
/-
  Scale 6 of the kernel's body: what its search finds, and the sum, residual and loss it leaves.
-/
module

public import proofs.«01_k».proof.Proof.Open0

@[expose] public section

set_option maxRecDepth 16384

noncomputable section

namespace Cert.Msvq

open Idealize.ShloMosaic Idealize.ShloMosaic.TcCoe Cert.KernelIdeal Cert.KernelIdeal.Gen Cert.KernelIdeal.Gen.kernelRun0_A

/-- The second of two arrays stacked by rows. -/
theorem below {α : Type} {m n : ℕ} (x y : (T2 m 1).Idx → α) (h : Shape.Concatenates [T2 m 1, T2 m 1] (T2 n 1) 0) (q : Fin n) (r : Fin m) (hq : (r : ℕ) + m = q) :
    concatenate (T2 n 1) 0 [⟨T2 m 1, x⟩, ⟨T2 m 1, y⟩] h (ix2 q 0) = y (ix2 r 0) :=
  concatenate_pair_apply_right (t := T2 n 1) (s₁ := T2 m 1) (s₂ := T2 m 1) 0 x y h (ix2 q 0) rfl rfl (ix2 r 0) (by intro q hq; fin_cases q <;> first | exact absurd rfl hq | rfl) hq

/-- The second of two arrays side by side. -/
theorem beside {α : Type} {m n : ℕ} (x y : (T2 32 m).Idx → α) (h : Shape.Concatenates [T2 32 m, T2 32 m] (T2 32 n) 1) (c : Fin 32) (q : Fin n) (r : Fin m) (hq : (r : ℕ) + m = q) :
    concatenate (T2 32 n) 1 [⟨T2 32 m, x⟩, ⟨T2 32 m, y⟩] h (ix2 c q) = y (ix2 c r) :=
  concatenate_pair_apply_right (t := T2 32 n) (s₁ := T2 32 m) (s₂ := T2 32 m) 1 x y h (ix2 c q) rfl rfl (ix2 c r) (by intro q hq; fin_cases q <;> first | exact absurd rfl hq | rfl) hq

/-- A row of the first half. -/
theorem half6 (X : FVec Ideal S32x8192 .f32) (q : Fin 8192) (h : (q : ℕ) < 4096) (l : Fin 32) : k0_pay180 (F := Ideal) X (ix2 ⟨q, h⟩ l) = X (ix2 l q) := by
  pointwise [k0_pay180]

/-- A row of the second half. -/
theorem half7 (X : FVec Ideal S32x8192 .f32) (q : Fin 8192) (h : 4096 ≤ (q : ℕ)) (l : Fin 32) : k0_pay185 (F := Ideal) X (ix2 ⟨q - 4096, by omega⟩ l) = X (ix2 l q) := by
  pointwise [k0_pay185]
  exact congrArg (fun k => X (ix2 l k)) (Fin.ext (Nat.add_sub_cancel' h))

/-- The search over the first half of the pixels. -/
theorem search6 (N : Net) (A : Args) (I : Ins N A) (hr : kimg A.r90 = N.r5) (b : Fin 8) (i j : Fin 32) (h : ((col b i j : Fin 8192) : ℕ) < 4096) :
    A.t6.2.1 (ix2 ⟨col b i j, h⟩ 0) = BitVec.ofNat 32 (near N.e (N.c6 b i j)) ∧ ∀ l, A.t6.2.2 (ix2 ⟨col b i j, h⟩ l) = quant N.e N.c6 b i j l := by
  have hrow : ∀ l, k0_pay180 A.r90 (ix2 ⟨col b i j, h⟩ l) = N.c6 b i j l := fun l => by
    exact (half6 A.r90 (col b i j) h l).trans (congrFun (congrFun (congrFun (congrFun hr b) l) i) j)
  have hs : A.t6.2.1 (ix2 ⟨col b i j, h⟩ 0) = BitVec.ofNat 32 (near (code A.x1) (N.c6 b i j)) ∧ ∀ l, A.t6.2.2 (ix2 ⟨col b i j, h⟩ l) = code A.x1 (near (code A.x1) (N.c6 b i j)) l := loop6 Variants.none A.c none _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (sl.r_2 (F := Ideal)) A.r77 A.r90 A.r91 A.x1 A.x2 (k0_pay182, k0_pay183, k0_pay184) ⟨col b i j, h⟩ (N.c6 b i j) hrow
    (squares_apply (by norm_num) reduces_S4096x32_S4096 shapeCasts_S4096_S4096x1 _ _ _ hrow) I.t (fun q _ => by rw [I.e]; exact N.dist_lt I.real (N.c6_real I.real b i j) q) rfl
  simp only [I.e] at hs
  exact hs

/-- The search over the second half of the pixels. -/
theorem search7 (N : Net) (A : Args) (I : Ins N A) (hr : kimg A.r90 = N.r5) (b : Fin 8) (i j : Fin 32) (h : 4096 ≤ ((col b i j : Fin 8192) : ℕ)) :
    A.t7.2.1 (ix2 ⟨(col b i j : ℕ) - 4096, by have := (col b i j).2; omega⟩ 0) = BitVec.ofNat 32 (near N.e (N.c6 b i j)) ∧ ∀ l, A.t7.2.2 (ix2 ⟨(col b i j : ℕ) - 4096, by have := (col b i j).2; omega⟩ l) = quant N.e N.c6 b i j l := by
  have hrow : ∀ l, k0_pay185 A.r90 (ix2 ⟨(col b i j : ℕ) - 4096, by have := (col b i j).2; omega⟩ l) = N.c6 b i j l := fun l => by
    exact (half7 A.r90 (col b i j) h l).trans (congrFun (congrFun (congrFun (congrFun hr b) l) i) j)
  have hs : A.t7.2.1 (ix2 ⟨(col b i j : ℕ) - 4096, by have := (col b i j).2; omega⟩ 0) = BitVec.ofNat 32 (near (code A.x1) (N.c6 b i j)) ∧ ∀ l, A.t7.2.2 (ix2 ⟨(col b i j : ℕ) - 4096, by have := (col b i j).2; omega⟩ l) = code A.x1 (near (code A.x1) (N.c6 b i j)) l := loop7 Variants.none A.c none _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (sl.r_2 (F := Ideal)) A.r77 A.r90 A.r91 A.x1 A.x2 (k0_pay187, k0_pay188, k0_pay189) ⟨(col b i j : ℕ) - 4096, by have := (col b i j).2; omega⟩ (N.c6 b i j) hrow
    (squares_apply (by norm_num) reduces_S4096x32_S4096 shapeCasts_S4096_S4096x1 _ _ _ hrow) I.t (fun q _ => by rw [I.e]; exact N.dist_lt I.real (N.c6_real I.real b i j) q) rfl
  simp only [I.e] at hs
  exact hs

/-- The indices of the two halves put together. -/
theorem indices6 (N : Net) (A : Args) (I : Ins N A) (hr : kimg A.r90 = N.r5) (b : Fin 8) (i j : Fin 32) :
    k0_pay190 A.t6.2.1 A.t7.2.1 (ix2 (col b i j) 0) = BitVec.ofNat 32 (near N.e (N.c6 b i j)) := by
  by_cases h : ((col b i j : Fin 8192) : ℕ) < 4096
  · exact (concatenate_pair_apply_left (t := T2 8192 1) (s₁ := T2 4096 1) (s₂ := T2 4096 1) 0 A.t6.2.1 A.t7.2.1 concatenates_S4096x1_S4096x1_S8192x1_d0 (ix2 (col b i j) 0) rfl (ix2 ⟨col b i j, h⟩ 0) (by intro q; fin_cases q <;> rfl)).trans (search6 N A I hr b i j h).1
  · exact (below A.t6.2.1 A.t7.2.1 concatenates_S4096x1_S4096x1_S8192x1_d0 (col b i j) ⟨(col b i j : ℕ) - 4096, by have := (col b i j).2; omega⟩ (Nat.sub_add_cancel (Nat.le_of_not_lt h))).trans (search7 N A I hr b i j (by omega)).1

/-- The codes of the two halves put together. -/
theorem image6 (N : Net) (A : Args) (I : Ins N A) (hr : kimg A.r90 = N.r5) : kimg A.r93 = unwhole (quant N.e N.c6) := by
  funext b c y x
  show k0_pay191 A.t6.2.2 A.t7.2.2 (ix2 c (col b y x)) = quant N.e N.c6 b y x c
  by_cases h : ((col b y x : Fin 8192) : ℕ) < 4096
  · rw [← (search6 N A I hr b y x h).2 c]
    exact (concatenate_pair_apply_left (t := T2 32 8192) (s₁ := T2 32 4096) (s₂ := T2 32 4096) 1 (transpose S32x4096 [1, 0] A.t6.2.2 transposes_S4096x32_p1_0_S32x4096) (transpose S32x4096 [1, 0] A.t7.2.2 transposes_S4096x32_p1_0_S32x4096) concatenates_S32x4096_S32x4096_S32x8192_d1 (ix2 c (col b y x)) rfl (ix2 c ⟨col b y x, h⟩) (by intro q; fin_cases q <;> rfl)).trans (by generalize A.t6 = X; pointwise)
  · rw [← (search7 N A I hr b y x (by omega)).2 c]
    exact (beside (transpose S32x4096 [1, 0] A.t6.2.2 transposes_S4096x32_p1_0_S32x4096) (transpose S32x4096 [1, 0] A.t7.2.2 transposes_S4096x32_p1_0_S32x4096) concatenates_S32x4096_S32x4096_S32x8192_d1 c (col b y x) ⟨(col b y x : ℕ) - 4096, by have := (col b y x).2; omega⟩ (Nat.sub_add_cancel (Nat.le_of_not_lt h))).trans (by generalize A.t7 = X; pointwise)

/-- The last scale of the body computes that of the net, and the loss its own. -/
theorem stage6 (N : Net) (A : Args) (I : Ins N A) (hh : kimg A.r89 = N.h5) (hr : kimg A.r90 = N.r5) (hl : A.r92 (ix2 0 0) = N.l5) :
    (∀ b i j, k0_pay190 A.t6.2.1 A.t7.2.1 (ix2 (col b i j) 0) = BitVec.ofNat 32 (near N.e (N.c6 b i j)))
      ∧ kimg (k0_pay1 A.r89 A.r93 A.r95 A.r96) = N.h6 ∧ k0_pay2 A.r0 A.r89 A.r92 A.r93 A.r95 A.r96 (ix2 0 0) = N.l6 := by
  have hz : kimg A.r0 = N.Z := (congrArg kimg (shapeCast_self A.y0 _)).trans I.z
  have hp : kimg (kPhi kMasks A.r93 A.y6 A.y10) = N.s6 := phi_net N 3 _ _ _ _ (image6 N A I hr) I.w3 I.b3
  have eS : k0_pay1 A.r89 A.r93 A.r95 A.r96 = addf A.r89 (kPhi kMasks A.r93 A.y6 A.y10) := sum6 kMasks A.t6.2.2 A.t7.2.2 A.r89 A.y6 A.y10
  have eL : k0_pay2 A.r0 A.r89 A.r92 A.r93 A.r95 A.r96 = divf (kMore A.r0 (addf A.r89 (kPhi kMasks A.r93 A.y6 A.y10)) A.r92) (broadcast S1x1 (Scalar.ofBits .f32 0x40C00000#32)) :=
    loss6 kMasks A.t6.2.2 A.t7.2.2 A.r0 A.r89 A.r92 A.y6 A.y10
  refine ⟨indices6 N A I hr, (congrArg kimg eS).trans (congrArg₂ plus hh hp), (congrFun eL _).trans ?_⟩
  exact congrArg (fun q => Ideal.div q (Ideal.ofBits .f32 0x40C00000#32)) ((kMore_apply _ _ _).trans (congrArg₂ more hl (congrArg₂ sq (congrArg₂ plus hh hp) hz)))

end Cert.Msvq
-- ==== Proof.Open7.lean ====
/-
  The kernel's body over buffers holding the tables of a net: what it leaves in each of its eight results.
-/
module

public import proofs.«01_k».proof.Proof.Open1
public import proofs.«01_k».proof.Proof.Open2
public import proofs.«01_k».proof.Proof.Open3
public import proofs.«01_k».proof.Proof.Open4
public import proofs.«01_k».proof.Proof.Open5
public import proofs.«01_k».proof.Proof.Open6
public import proofs.«01_k».proof.Proof.IdealFrame

@[expose] public section

set_option maxRecDepth 16384

noncomputable section

namespace Cert.Msvq

open Idealize.ShloMosaic Idealize.ShloMosaic.TcCoe Cert.KernelIdeal Cert.KernelIdeal.Gen Cert.KernelIdeal.Gen.kernelRun0_A

variable (A : Args)

/-- The run leaves the sum of the scales. -/
theorem out25 : A.use (out0_A_25 (F := Ideal)) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 = k0_pay1 A.r89 A.r93 A.r95 A.r96 := by
  unfold Args.use out0_A_25
  rw [View.read_writes_eq_canon _ _ _ (cover0_A_25 (F := Ideal) A.c A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.x0 A.x1 A.x2 A.x3 A.x4 A.x5 A.x6 A.x7 A.x8 A.x9 A.x10 A.x11 A.x12 A.x13 A.x14 A.x15 A.x16 A.x17 A.x18 A.x19 A.x20 A.x21 A.x22 A.x23 A.x24)]
  unfold kernelRun0_A
  dsimp only
  exact View.canon_cons_unit_zero (by funext a; fin_cases a <;> rfl) _ _ _

/-- The run leaves the loss. -/
theorem out26 : A.use (out0_A_26 (F := Ideal)) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 = k0_pay2 A.r0 A.r89 A.r92 A.r93 A.r95 A.r96 := by
  unfold Args.use out0_A_26
  rw [View.read_writes_eq_canon _ _ _ (cover0_A_26 (F := Ideal) A.c A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.x0 A.x1 A.x2 A.x3 A.x4 A.x5 A.x6 A.x7 A.x8 A.x9 A.x10 A.x11 A.x12 A.x13 A.x14 A.x15 A.x16 A.x17 A.x18 A.x19 A.x20 A.x21 A.x22 A.x23 A.x24)]
  unfold kernelRun0_A
  dsimp only
  exact View.canon_cons_unit_zero (by funext a; fin_cases a <;> rfl) _ _ _

/-- The run leaves the indices of scale 1. -/
theorem out27 : A.use (out0_A_27 (F := Ideal)) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 = A.t1.2.1 := by
  unfold Args.use out0_A_27
  rw [View.read_writes_eq_canon _ _ _ (cover0_A_27 (F := Ideal) A.c A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.x0 A.x1 A.x2 A.x3 A.x4 A.x5 A.x6 A.x7 A.x8 A.x9 A.x10 A.x11 A.x12 A.x13 A.x14 A.x15 A.x16 A.x17 A.x18 A.x19 A.x20 A.x21 A.x22 A.x23 A.x24)]
  unfold kernelRun0_A
  dsimp only
  exact View.canon_cons_unit_zero (by funext a; fin_cases a <;> rfl) _ _ _

/-- The run leaves the indices of scale 2. -/
theorem out28 : A.use (out0_A_28 (F := Ideal)) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 = A.t2.2.1 := by
  unfold Args.use out0_A_28
  rw [View.read_writes_eq_canon _ _ _ (cover0_A_28 (F := Ideal) A.c A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.x0 A.x1 A.x2 A.x3 A.x4 A.x5 A.x6 A.x7 A.x8 A.x9 A.x10 A.x11 A.x12 A.x13 A.x14 A.x15 A.x16 A.x17 A.x18 A.x19 A.x20 A.x21 A.x22 A.x23 A.x24)]
  unfold kernelRun0_A
  dsimp only
  exact View.canon_cons_unit_zero (by funext a; fin_cases a <;> rfl) _ _ _

/-- The run leaves the indices of scale 3. -/
theorem out29 : A.use (out0_A_29 (F := Ideal)) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 = A.t3.2.1 := by
  unfold Args.use out0_A_29
  rw [View.read_writes_eq_canon _ _ _ (cover0_A_29 (F := Ideal) A.c A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.x0 A.x1 A.x2 A.x3 A.x4 A.x5 A.x6 A.x7 A.x8 A.x9 A.x10 A.x11 A.x12 A.x13 A.x14 A.x15 A.x16 A.x17 A.x18 A.x19 A.x20 A.x21 A.x22 A.x23 A.x24)]
  unfold kernelRun0_A
  dsimp only
  exact View.canon_cons_unit_zero (by funext a; fin_cases a <;> rfl) _ _ _

/-- The run leaves the indices of scale 4. -/
theorem out30 : A.use (out0_A_30 (F := Ideal)) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 = A.t4.2.1 := by
  unfold Args.use out0_A_30
  rw [View.read_writes_eq_canon _ _ _ (cover0_A_30 (F := Ideal) A.c A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.x0 A.x1 A.x2 A.x3 A.x4 A.x5 A.x6 A.x7 A.x8 A.x9 A.x10 A.x11 A.x12 A.x13 A.x14 A.x15 A.x16 A.x17 A.x18 A.x19 A.x20 A.x21 A.x22 A.x23 A.x24)]
  unfold kernelRun0_A
  dsimp only
  exact View.canon_cons_unit_zero (by funext a; fin_cases a <;> rfl) _ _ _

/-- The run leaves the indices of scale 5. -/
theorem out31 : A.use (out0_A_31 (F := Ideal)) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 = A.t5.2.1 := by
  unfold Args.use out0_A_31
  rw [View.read_writes_eq_canon _ _ _ (cover0_A_31 (F := Ideal) A.c A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.x0 A.x1 A.x2 A.x3 A.x4 A.x5 A.x6 A.x7 A.x8 A.x9 A.x10 A.x11 A.x12 A.x13 A.x14 A.x15 A.x16 A.x17 A.x18 A.x19 A.x20 A.x21 A.x22 A.x23 A.x24)]
  unfold kernelRun0_A
  dsimp only
  exact View.canon_cons_unit_zero (by funext a; fin_cases a <;> rfl) _ _ _

/-- The run leaves the indices of scale 6. -/
theorem out32 : A.use (out0_A_32 (F := Ideal)) A.x0 A.x1 A.x2 A.x3 A.x4 A.x5 A.x6 A.x7 A.x8 A.x9 A.x10 A.x11 A.x12 A.x13 A.x14 A.x15 A.x16 A.x17 A.x18 A.x19 A.x20 A.x21 A.x22 A.x23 A.x24 = k0_pay190 A.t6.2.1 A.t7.2.1 := by
  unfold Args.use out0_A_32
  rw [View.read_writes_eq_canon _ _ _ (cover0_A_32 (F := Ideal) A.c A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.x0 A.x1 A.x2 A.x3 A.x4 A.x5 A.x6 A.x7 A.x8 A.x9 A.x10 A.x11 A.x12 A.x13 A.x14 A.x15 A.x16 A.x17 A.x18 A.x19 A.x20 A.x21 A.x22 A.x23 A.x24)]
  unfold kernelRun0_A
  dsimp only
  exact View.canon_cons_unit_zero (by funext a; fin_cases a <;> rfl) _ _ _

/-- A body whose inputs are a net's tables computes the net: the six searches' indices, the sum of the updates, and the loss. -/
theorem body_net (N : Net) (I : Ins N A) :
    (∀ b i j, A.t1.2.1 (ix2 (cel (p := 1) (m := 1) (n := 8) rfl rfl b i j) 0) = BitVec.ofNat 32 (near N.e (N.c1 b i j)))
    ∧ (∀ b i j, A.t2.2.1 (ix2 (cel (p := 2) (m := 4) (n := 32) rfl rfl b i j) 0) = BitVec.ofNat 32 (near N.e (N.c2 b i j)))
    ∧ (∀ b i j, A.t3.2.1 (ix2 (cel (p := 4) (m := 16) (n := 128) rfl rfl b i j) 0) = BitVec.ofNat 32 (near N.e (N.c3 b i j)))
    ∧ (∀ b i j, A.t4.2.1 (ix2 (cel (p := 8) (m := 64) (n := 512) rfl rfl b i j) 0) = BitVec.ofNat 32 (near N.e (N.c4 b i j)))
    ∧ (∀ b i j, A.t5.2.1 (ix2 (cel (p := 16) (m := 256) (n := 2048) rfl rfl b i j) 0) = BitVec.ofNat 32 (near N.e (N.c5 b i j)))
    ∧ (∀ b i j, k0_pay190 A.t6.2.1 A.t7.2.1 (ix2 (col b i j) 0) = BitVec.ofNat 32 (near N.e (N.c6 b i j)))
    ∧ kimg (k0_pay1 A.r89 A.r93 A.r95 A.r96) = N.h6
    ∧ k0_pay2 A.r0 A.r89 A.r92 A.r93 A.r95 A.r96 (ix2 0 0) = N.l6 := by
  obtain ⟨i1, h1, r1, l1⟩ := stage1 N A I
  obtain ⟨i2, h2, r2, l2⟩ := stage2 N A I h1 r1 l1
  obtain ⟨i3, h3, r3, l3⟩ := stage3 N A I h2 r2 l2
  obtain ⟨i4, h4, r4, l4⟩ := stage4 N A I h3 r3 l3
  obtain ⟨i5, h5, r5, l5⟩ := stage5 N A I h4 r4 l4
  obtain ⟨i6, h6, l6⟩ := stage6 N A I h5 r5 l5
  exact ⟨i1, i2, i3, i4, i5, i6, h6, l6⟩

end Cert.Msvq
-- ==== Proof.End0.lean ====
/-
  The buffers of the launch.
-/
module

public import proofs.«01_k».proof.Proof.Open7
public import proofs.«01_k».proof.Proof.IdealValue
public import Idealize.ShloMosaic.Lib.Pipeline.ValueKit.Point

@[expose] public section

set_option maxRecDepth 16384
set_option maxHeartbeats 2000000

noncomputable section

namespace Cert.Msvq

open Idealize.ShloMosaic Idealize.ShloMosaic.TcCoe Cert.KernelIdeal Cert.KernelIdeal.Gen Cert.KernelIdeal.Gen.kernelRun0_A

variable (m : (b : Loc nD τ sig) → Buf (Elt Ideal) b) (c : Dev nD)

/-- The launch's one point. -/
abbrev point0 : Fin cfg0.N := ⟨0, by decide⟩

/-- The body's buffers at the launch's one point. -/
def launchArgs : Args where
  c := c
  arg0 := ms0_0 point0
  harg0 := hs0_0 point0
  arg1 := ms0_1 point0
  harg1 := hs0_1 point0
  arg2 := ms0_2 point0
  harg2 := hs0_2 point0
  arg3 := ms0_3 point0
  harg3 := hs0_3 point0
  arg4 := ms0_4 point0
  harg4 := hs0_4 point0
  arg5 := ms0_5 point0
  harg5 := hs0_5 point0
  arg6 := ms0_6 point0
  harg6 := hs0_6 point0
  arg7 := ms0_7 point0
  harg7 := hs0_7 point0
  arg8 := ms0_8 point0
  harg8 := hs0_8 point0
  arg9 := ms0_9 point0
  harg9 := hs0_9 point0
  arg10 := ms0_10 point0
  harg10 := hs0_10 point0
  arg11 := ms0_11 point0
  harg11 := hs0_11 point0
  arg12 := ms0_12 point0
  harg12 := hs0_12 point0
  arg13 := ms0_13 point0
  harg13 := hs0_13 point0
  arg14 := ms0_14 point0
  harg14 := hs0_14 point0
  arg15 := ms0_15 point0
  harg15 := hs0_15 point0
  arg16 := ms0_16 point0
  harg16 := hs0_16 point0
  arg17 := ms0_17 point0
  harg17 := hs0_17 point0
  arg18 := ms0_18 point0
  harg18 := hs0_18 point0
  arg19 := ms0_19 point0
  harg19 := hs0_19 point0
  arg20 := ms0_20 point0
  harg20 := hs0_20 point0
  arg21 := ms0_21 point0
  harg21 := hs0_21 point0
  arg22 := ms0_22 point0
  harg22 := hs0_22 point0
  arg23 := ms0_23 point0
  harg23 := hs0_23 point0
  arg24 := ms0_24 point0
  harg24 := hs0_24 point0
  arg25 := ms0_25 point0
  harg25 := hs0_25 point0
  arg26 := ms0_26 point0
  harg26 := hs0_26 point0
  arg27 := ms0_27 point0
  harg27 := hs0_27 point0
  arg28 := ms0_28 point0
  harg28 := hs0_28 point0
  arg29 := ms0_29 point0
  harg29 := hs0_29 point0
  arg30 := ms0_30 point0
  harg30 := hs0_30 point0
  arg31 := ms0_31 point0
  harg31 := hs0_31 point0
  arg32 := ms0_32 point0
  harg32 := hs0_32 point0
  x0 := iblk m c 0 point0
  x1 := iblk m c 1 point0
  x2 := iblk m c 2 point0
  x3 := iblk m c 3 point0
  x4 := iblk m c 4 point0
  x5 := iblk m c 5 point0
  x6 := iblk m c 6 point0
  x7 := iblk m c 7 point0
  x8 := iblk m c 8 point0
  x9 := iblk m c 9 point0
  x10 := iblk m c 10 point0
  x11 := iblk m c 11 point0
  x12 := iblk m c 12 point0
  x13 := iblk m c 13 point0
  x14 := iblk m c 14 point0
  x15 := iblk m c 15 point0
  x16 := iblk m c 16 point0
  x17 := iblk m c 17 point0
  x18 := iblk m c 18 point0
  x19 := iblk m c 19 point0
  x20 := iblk m c 20 point0
  x21 := iblk m c 21 point0
  x22 := iblk m c 22 point0
  x23 := iblk m c 23 point0
  x24 := iblk m c 24 point0

end Cert.Msvq

end
-- ==== Proof.End4.lean ====
/-
  What the launch leaves in its results.
-/
module

public import proofs.«01_k».proof.Proof.End0

@[expose] public section

set_option maxRecDepth 16384
set_option maxHeartbeats 2000000

noncomputable section

namespace Cert.Msvq

open Idealize.ShloMosaic Idealize.ShloMosaic.TcCoe Cert.KernelIdeal Cert.KernelIdeal.Gen Cert.KernelIdeal.Gen.kernelRun0_A

variable (m : (b : Loc nD τ sig) → Buf (Elt Ideal) b) (c : Dev nD)

/-- The sum of the scales, as the body leaves them. -/
theorem left25 : (outsAt0 m c point0).1 = k0_pay1 (launchArgs m c).r89 (launchArgs m c).r93 (launchArgs m c).r95 (launchArgs m c).r96 := by
  refine Eq.trans ?_ (out25 (launchArgs m c))
  unfold outsAt0 Args.use launchArgs
  dsimp only

/-- The launch's array is what the body leaves. -/
theorem final25 (W : FVec Ideal S32x8192 .f32) (h : (outsAt0 m c point0).1 = W) : (dats m 0 c).arrAt 25 cfg0.N = W := by
  refine (dats m 0 c).arrAt_eq_of_after_last 25 point0 (by decide +kernel) _ fun j => ?_
  rw [after0_25, h]
  rfl

/-- The loss, as the body leaves them. -/
theorem left26 : (outsAt0 m c point0).2.1 = k0_pay2 (launchArgs m c).r0 (launchArgs m c).r89 (launchArgs m c).r92 (launchArgs m c).r93 (launchArgs m c).r95 (launchArgs m c).r96 := by
  refine Eq.trans ?_ (out26 (launchArgs m c))
  unfold outsAt0 Args.use launchArgs
  dsimp only

/-- The launch's array is what the body leaves. -/
theorem final26 (W : FVec Ideal S1x1 .f32) (h : (outsAt0 m c point0).2.1 = W) : (dats m 0 c).arrAt 26 cfg0.N = W := by
  refine (dats m 0 c).arrAt_eq_of_after_last 26 point0 (by decide +kernel) _ fun j => ?_
  rw [after0_26, h]
  rfl

/-- The indices of scale 1, as the body leaves them. -/
theorem left27 : (outsAt0 m c point0).2.2.1 = (launchArgs m c).t1.2.1 := by
  refine Eq.trans ?_ (out27 (launchArgs m c))
  unfold outsAt0 Args.use launchArgs
  dsimp only

/-- The launch's array is what the body leaves. -/
theorem final27 (W : IVec S8x1 32) (h : (outsAt0 m c point0).2.2.1 = W) : (dats m 0 c).arrAt 27 cfg0.N = W := by
  refine (dats m 0 c).arrAt_eq_of_after_last 27 point0 (by decide +kernel) _ fun j => ?_
  rw [after0_27, h]
  rfl

/-- The indices of scale 2, as the body leaves them. -/
theorem left28 : (outsAt0 m c point0).2.2.2.1 = (launchArgs m c).t2.2.1 := by
  refine Eq.trans ?_ (out28 (launchArgs m c))
  unfold outsAt0 Args.use launchArgs
  dsimp only

/-- The launch's array is what the body leaves. -/
theorem final28 (W : IVec S32x1 32) (h : (outsAt0 m c point0).2.2.2.1 = W) : (dats m 0 c).arrAt 28 cfg0.N = W := by
  refine (dats m 0 c).arrAt_eq_of_after_last 28 point0 (by decide +kernel) _ fun j => ?_
  rw [after0_28, h]
  rfl

/-- The indices of scale 3, as the body leaves them. -/
theorem left29 : (outsAt0 m c point0).2.2.2.2.1 = (launchArgs m c).t3.2.1 := by
  refine Eq.trans ?_ (out29 (launchArgs m c))
  unfold outsAt0 Args.use launchArgs
  dsimp only

/-- The launch's array is what the body leaves. -/
theorem final29 (W : IVec S128x1 32) (h : (outsAt0 m c point0).2.2.2.2.1 = W) : (dats m 0 c).arrAt 29 cfg0.N = W := by
  refine (dats m 0 c).arrAt_eq_of_after_last 29 point0 (by decide +kernel) _ fun j => ?_
  rw [after0_29, h]
  rfl

/-- The indices of scale 4, as the body leaves them. -/
theorem left30 : (outsAt0 m c point0).2.2.2.2.2.1 = (launchArgs m c).t4.2.1 := by
  refine Eq.trans ?_ (out30 (launchArgs m c))
  unfold outsAt0 Args.use launchArgs
  dsimp only

/-- The launch's array is what the body leaves. -/
theorem final30 (W : IVec S512x1 32) (h : (outsAt0 m c point0).2.2.2.2.2.1 = W) : (dats m 0 c).arrAt 30 cfg0.N = W := by
  refine (dats m 0 c).arrAt_eq_of_after_last 30 point0 (by decide +kernel) _ fun j => ?_
  rw [after0_30, h]
  rfl

/-- The indices of scale 5, as the body leaves them. -/
theorem left31 : (outsAt0 m c point0).2.2.2.2.2.2.1 = (launchArgs m c).t5.2.1 := by
  refine Eq.trans ?_ (out31 (launchArgs m c))
  unfold outsAt0 Args.use launchArgs
  dsimp only

/-- The launch's array is what the body leaves. -/
theorem final31 (W : IVec S2048x1 32) (h : (outsAt0 m c point0).2.2.2.2.2.2.1 = W) : (dats m 0 c).arrAt 31 cfg0.N = W := by
  refine (dats m 0 c).arrAt_eq_of_after_last 31 point0 (by decide +kernel) _ fun j => ?_
  rw [after0_31, h]
  rfl

/-- The indices of scale 6, as the body leaves them. -/
theorem left32 : (outsAt0 m c point0).2.2.2.2.2.2.2 = k0_pay190 (launchArgs m c).t6.2.1 (launchArgs m c).t7.2.1 := by
  refine Eq.trans ?_ (out32 (launchArgs m c))
  unfold outsAt0 Args.use launchArgs
  dsimp only

/-- The launch's array is what the body leaves. -/
theorem final32 (W : IVec S8192x1 32) (h : (outsAt0 m c point0).2.2.2.2.2.2.2 = W) : (dats m 0 c).arrAt 32 cfg0.N = W := by
  refine (dats m 0 c).arrAt_eq_of_after_last 32 point0 (by decide +kernel) _ fun j => ?_
  rw [after0_32, h]
  rfl

end Cert.Msvq

end
-- ==== Proof.End1.lean ====
/-
  What the first of the launch's inputs hold.
-/
module

public import proofs.«01_k».proof.Proof.End0

@[expose] public section

set_option maxRecDepth 16384
set_option maxHeartbeats 2000000

noncomputable section

namespace Cert.Msvq

open Idealize.ShloMosaic Idealize.ShloMosaic.TcCoe Cert.KernelIdeal Cert.KernelIdeal.Gen Cert.KernelIdeal.Gen.kernelRun0_A

variable (m : (b : Loc nD τ sig) → Buf (Elt Ideal) b) (c : Dev nD)

/-- Window 0's block is its whole array. -/
theorem whole0 (t : Fin cfg0.N) (G : (⟨S32x8192, .f32⟩ : BufTy).Contents (Elt Ideal)) : (((cfg0.win 0).blk t).view.read (Elt Ideal) G : FVec Ideal S32x8192 .f32) = G := by
  have e : ∀ t : Fin cfg0.N, win0_0.index t = ![0, 0] := (by decide +kernel : ∀ t : Fin grid0.N, win0_0.index t = ![0, 0])
  funext i
  blk_ext! [e]

/-- Input 0 holds the whole of its array. -/
theorem input0 : (launchArgs m c).x0 = (V m c main_v1 : FVec Ideal S32x8192 .f32) := by
  unfold launchArgs
  dsimp only
  unfold iblk
  exact whole0 point0 (V m c main_v1)

/-- Window 1's block is its whole array. -/
theorem whole1 (t : Fin cfg0.N) (G : (⟨S8192x32, .f32⟩ : BufTy).Contents (Elt Ideal)) : (((cfg0.win 1).blk t).view.read (Elt Ideal) G : FVec Ideal S8192x32 .f32) = G := by
  have e : ∀ t : Fin cfg0.N, win0_1.index t = ![0, 0] := (by decide +kernel : ∀ t : Fin grid0.N, win0_1.index t = ![0, 0])
  funext i
  blk_ext! [e]

/-- Input 1 holds the whole of its array. -/
theorem input1 : (launchArgs m c).x1 = (V m c main_arg1 : FVec Ideal S8192x32 .f32) := by
  unfold launchArgs
  dsimp only
  unfold iblk
  exact whole1 point0 (V m c main_arg1)

/-- Window 2's block is its whole array. -/
theorem whole2 (t : Fin cfg0.N) (G : (⟨S32x8192, .f32⟩ : BufTy).Contents (Elt Ideal)) : (((cfg0.win 2).blk t).view.read (Elt Ideal) G : FVec Ideal S32x8192 .f32) = G := by
  have e : ∀ t : Fin cfg0.N, win0_2.index t = ![0, 0] := (by decide +kernel : ∀ t : Fin grid0.N, win0_2.index t = ![0, 0])
  funext i
  blk_ext! [e]

/-- Input 2 holds the whole of its array. -/
theorem input2 : (launchArgs m c).x2 = (V m c main_v2 : FVec Ideal S32x8192 .f32) := by
  unfold launchArgs
  dsimp only
  unfold iblk
  exact whole2 point0 (V m c main_v2)

/-- Window 3's block is its whole array. -/
theorem whole3 (t : Fin cfg0.N) (G : (⟨S32x288, .bf16⟩ : BufTy).Contents (Elt Ideal)) : (((cfg0.win 3).blk t).view.read (Elt Ideal) G : FVec Ideal S32x288 .bf16) = G := by
  have e : ∀ t : Fin cfg0.N, win0_3.index t = ![0, 0] := (by decide +kernel : ∀ t : Fin grid0.N, win0_3.index t = ![0, 0])
  funext i
  blk_ext! [e]

/-- Input 3 holds the whole of its array. -/
theorem input3 : (launchArgs m c).x3 = (V m c main_v6 : FVec Ideal S32x288 .bf16) := by
  unfold launchArgs
  dsimp only
  unfold iblk
  exact whole3 point0 (V m c main_v6)

/-- Window 4's block is its whole array. -/
theorem whole4 (t : Fin cfg0.N) (G : (⟨S32x288, .bf16⟩ : BufTy).Contents (Elt Ideal)) : (((cfg0.win 4).blk t).view.read (Elt Ideal) G : FVec Ideal S32x288 .bf16) = G := by
  have e : ∀ t : Fin cfg0.N, win0_4.index t = ![0, 0] := (by decide +kernel : ∀ t : Fin grid0.N, win0_4.index t = ![0, 0])
  funext i
  blk_ext! [e]

/-- Input 4 holds the whole of its array. -/
theorem input4 : (launchArgs m c).x4 = (V m c main_v10 : FVec Ideal S32x288 .bf16) := by
  unfold launchArgs
  dsimp only
  unfold iblk
  exact whole4 point0 (V m c main_v10)

/-- Window 5's block is its whole array. -/
theorem whole5 (t : Fin cfg0.N) (G : (⟨S32x288, .bf16⟩ : BufTy).Contents (Elt Ideal)) : (((cfg0.win 5).blk t).view.read (Elt Ideal) G : FVec Ideal S32x288 .bf16) = G := by
  have e : ∀ t : Fin cfg0.N, win0_5.index t = ![0, 0] := (by decide +kernel : ∀ t : Fin grid0.N, win0_5.index t = ![0, 0])
  funext i
  blk_ext! [e]

/-- Input 5 holds the whole of its array. -/
theorem input5 : (launchArgs m c).x5 = (V m c main_v14 : FVec Ideal S32x288 .bf16) := by
  unfold launchArgs
  dsimp only
  unfold iblk
  exact whole5 point0 (V m c main_v14)

/-- Window 6's block is its whole array. -/
theorem whole6 (t : Fin cfg0.N) (G : (⟨S32x288, .bf16⟩ : BufTy).Contents (Elt Ideal)) : (((cfg0.win 6).blk t).view.read (Elt Ideal) G : FVec Ideal S32x288 .bf16) = G := by
  have e : ∀ t : Fin cfg0.N, win0_6.index t = ![0, 0] := (by decide +kernel : ∀ t : Fin grid0.N, win0_6.index t = ![0, 0])
  funext i
  blk_ext! [e]

/-- Input 6 holds the whole of its array. -/
theorem input6 : (launchArgs m c).x6 = (V m c main_v18 : FVec Ideal S32x288 .bf16) := by
  unfold launchArgs
  dsimp only
  unfold iblk
  exact whole6 point0 (V m c main_v18)

/-- Window 7's block is its whole array. -/
theorem whole7 (t : Fin cfg0.N) (G : (⟨S32x1, .f32⟩ : BufTy).Contents (Elt Ideal)) : (((cfg0.win 7).blk t).view.read (Elt Ideal) G : FVec Ideal S32x1 .f32) = G := by
  have e : ∀ t : Fin cfg0.N, win0_7.index t = ![0, 0] := (by decide +kernel : ∀ t : Fin grid0.N, win0_7.index t = ![0, 0])
  funext i
  blk_ext! [e]

/-- Input 7 holds the whole of its array. -/
theorem input7 : (launchArgs m c).x7 = (V m c main_v19 : FVec Ideal S32x1 .f32) := by
  unfold launchArgs
  dsimp only
  unfold iblk
  exact whole7 point0 (V m c main_v19)

end Cert.Msvq

end
-- ==== Proof.End2.lean ====
/-
  What the next of the launch's inputs hold.
-/
module

public import proofs.«01_k».proof.Proof.End0

@[expose] public section

set_option maxRecDepth 16384
set_option maxHeartbeats 2000000

noncomputable section

namespace Cert.Msvq

open Idealize.ShloMosaic Idealize.ShloMosaic.TcCoe Cert.KernelIdeal Cert.KernelIdeal.Gen Cert.KernelIdeal.Gen.kernelRun0_A

variable (m : (b : Loc nD τ sig) → Buf (Elt Ideal) b) (c : Dev nD)

/-- Window 8's block is its whole array. -/
theorem whole8 (t : Fin cfg0.N) (G : (⟨S32x1, .f32⟩ : BufTy).Contents (Elt Ideal)) : (((cfg0.win 8).blk t).view.read (Elt Ideal) G : FVec Ideal S32x1 .f32) = G := by
  have e : ∀ t : Fin cfg0.N, win0_8.index t = ![0, 0] := (by decide +kernel : ∀ t : Fin grid0.N, win0_8.index t = ![0, 0])
  funext i
  blk_ext! [e]

/-- Input 8 holds the whole of its array. -/
theorem input8 : (launchArgs m c).x8 = (V m c main_v20 : FVec Ideal S32x1 .f32) := by
  unfold launchArgs
  dsimp only
  unfold iblk
  exact whole8 point0 (V m c main_v20)

/-- Window 9's block is its whole array. -/
theorem whole9 (t : Fin cfg0.N) (G : (⟨S32x1, .f32⟩ : BufTy).Contents (Elt Ideal)) : (((cfg0.win 9).blk t).view.read (Elt Ideal) G : FVec Ideal S32x1 .f32) = G := by
  have e : ∀ t : Fin cfg0.N, win0_9.index t = ![0, 0] := (by decide +kernel : ∀ t : Fin grid0.N, win0_9.index t = ![0, 0])
  funext i
  blk_ext! [e]

/-- Input 9 holds the whole of its array. -/
theorem input9 : (launchArgs m c).x9 = (V m c main_v21 : FVec Ideal S32x1 .f32) := by
  unfold launchArgs
  dsimp only
  unfold iblk
  exact whole9 point0 (V m c main_v21)

/-- Window 10's block is its whole array. -/
theorem whole10 (t : Fin cfg0.N) (G : (⟨S32x1, .f32⟩ : BufTy).Contents (Elt Ideal)) : (((cfg0.win 10).blk t).view.read (Elt Ideal) G : FVec Ideal S32x1 .f32) = G := by
  have e : ∀ t : Fin cfg0.N, win0_10.index t = ![0, 0] := (by decide +kernel : ∀ t : Fin grid0.N, win0_10.index t = ![0, 0])
  funext i
  blk_ext! [e]

/-- Input 10 holds the whole of its array. -/
theorem input10 : (launchArgs m c).x10 = (V m c main_v22 : FVec Ideal S32x1 .f32) := by
  unfold launchArgs
  dsimp only
  unfold iblk
  exact whole10 point0 (V m c main_v22)

/-- Window 11's block is its whole array. -/
theorem whole11 (t : Fin cfg0.N) (G : (⟨S8192x8, .f32⟩ : BufTy).Contents (Elt Ideal)) : (((cfg0.win 11).blk t).view.read (Elt Ideal) G : FVec Ideal S8192x8 .f32) = G := by
  have e : ∀ t : Fin cfg0.N, win0_11.index t = ![0, 0] := (by decide +kernel : ∀ t : Fin grid0.N, win0_11.index t = ![0, 0])
  funext i
  blk_ext! [e]

/-- Input 11 holds the whole of its array. -/
theorem input11 : (launchArgs m c).x11 = (V m c main_v54 : FVec Ideal S8192x8 .f32) := by
  unfold launchArgs
  dsimp only
  unfold iblk
  exact whole11 point0 (V m c main_v54)

/-- Window 12's block is its whole array. -/
theorem whole12 (t : Fin cfg0.N) (G : (⟨S8192x32, .f32⟩ : BufTy).Contents (Elt Ideal)) : (((cfg0.win 12).blk t).view.read (Elt Ideal) G : FVec Ideal S8192x32 .f32) = G := by
  have e : ∀ t : Fin cfg0.N, win0_12.index t = ![0, 0] := (by decide +kernel : ∀ t : Fin grid0.N, win0_12.index t = ![0, 0])
  funext i
  blk_ext! [e]

/-- Input 12 holds the whole of its array. -/
theorem input12 : (launchArgs m c).x12 = (V m c main_v59 : FVec Ideal S8192x32 .f32) := by
  unfold launchArgs
  dsimp only
  unfold iblk
  exact whole12 point0 (V m c main_v59)

/-- Window 13's block is its whole array. -/
theorem whole13 (t : Fin cfg0.N) (G : (⟨S1024x16, .f32⟩ : BufTy).Contents (Elt Ideal)) : (((cfg0.win 13).blk t).view.read (Elt Ideal) G : FVec Ideal S1024x16 .f32) = G := by
  have e : ∀ t : Fin cfg0.N, win0_13.index t = ![0, 0] := (by decide +kernel : ∀ t : Fin grid0.N, win0_13.index t = ![0, 0])
  funext i
  blk_ext! [e]

/-- Input 13 holds the whole of its array. -/
theorem input13 : (launchArgs m c).x13 = (V m c main_v63 : FVec Ideal S1024x16 .f32) := by
  unfold launchArgs
  dsimp only
  unfold iblk
  exact whole13 point0 (V m c main_v63)

/-- Window 14's block is its whole array. -/
theorem whole14 (t : Fin cfg0.N) (G : (⟨S1024x64, .f32⟩ : BufTy).Contents (Elt Ideal)) : (((cfg0.win 14).blk t).view.read (Elt Ideal) G : FVec Ideal S1024x64 .f32) = G := by
  have e : ∀ t : Fin cfg0.N, win0_14.index t = ![0, 0] := (by decide +kernel : ∀ t : Fin grid0.N, win0_14.index t = ![0, 0])
  funext i
  blk_ext! [e]

/-- Input 14 holds the whole of its array. -/
theorem input14 : (launchArgs m c).x14 = (V m c main_v67 : FVec Ideal S1024x64 .f32) := by
  unfold launchArgs
  dsimp only
  unfold iblk
  exact whole14 point0 (V m c main_v67)

/-- Window 15's block is its whole array. -/
theorem whole15 (t : Fin cfg0.N) (G : (⟨S1024x256, .f32⟩ : BufTy).Contents (Elt Ideal)) : (((cfg0.win 15).blk t).view.read (Elt Ideal) G : FVec Ideal S1024x256 .f32) = G := by
  have e : ∀ t : Fin cfg0.N, win0_15.index t = ![0, 0] := (by decide +kernel : ∀ t : Fin grid0.N, win0_15.index t = ![0, 0])
  funext i
  blk_ext! [e]

/-- Input 15 holds the whole of its array. -/
theorem input15 : (launchArgs m c).x15 = (V m c main_v71 : FVec Ideal S1024x256 .f32) := by
  unfold launchArgs
  dsimp only
  unfold iblk
  exact whole15 point0 (V m c main_v71)

end Cert.Msvq

end
-- ==== Proof.End3.lean ====
/-
  What the last of the launch's inputs hold.
-/
module

public import proofs.«01_k».proof.Proof.End0

@[expose] public section

set_option maxRecDepth 16384
set_option maxHeartbeats 2000000

noncomputable section

namespace Cert.Msvq

open Idealize.ShloMosaic Idealize.ShloMosaic.TcCoe Cert.KernelIdeal Cert.KernelIdeal.Gen Cert.KernelIdeal.Gen.kernelRun0_A

variable (m : (b : Loc nD τ sig) → Buf (Elt Ideal) b) (c : Dev nD)

/-- Window 16's block is its whole array. -/
theorem whole16 (t : Fin cfg0.N) (G : (⟨S4x64, .f32⟩ : BufTy).Contents (Elt Ideal)) : (((cfg0.win 16).blk t).view.read (Elt Ideal) G : FVec Ideal S4x64 .f32) = G := by
  have e : ∀ t : Fin cfg0.N, win0_16.index t = ![0, 0] := (by decide +kernel : ∀ t : Fin grid0.N, win0_16.index t = ![0, 0])
  funext i
  blk_ext! [e]

/-- Input 16 holds the whole of its array. -/
theorem input16 : (launchArgs m c).x16 = (V m c main_v163 : FVec Ideal S4x64 .f32) := by
  unfold launchArgs
  dsimp only
  unfold iblk
  exact whole16 point0 (V m c main_v163)

/-- Window 17's block is its whole array. -/
theorem whole17 (t : Fin cfg0.N) (G : (⟨S16x128, .f32⟩ : BufTy).Contents (Elt Ideal)) : (((cfg0.win 17).blk t).view.read (Elt Ideal) G : FVec Ideal S16x128 .f32) = G := by
  have e : ∀ t : Fin cfg0.N, win0_17.index t = ![0, 0] := (by decide +kernel : ∀ t : Fin grid0.N, win0_17.index t = ![0, 0])
  funext i
  blk_ext! [e]

/-- Input 17 holds the whole of its array. -/
theorem input17 : (launchArgs m c).x17 = (V m c main_v167 : FVec Ideal S16x128 .f32) := by
  unfold launchArgs
  dsimp only
  unfold iblk
  exact whole17 point0 (V m c main_v167)

/-- Window 18's block is its whole array. -/
theorem whole18 (t : Fin cfg0.N) (G : (⟨S64x256, .f32⟩ : BufTy).Contents (Elt Ideal)) : (((cfg0.win 18).blk t).view.read (Elt Ideal) G : FVec Ideal S64x256 .f32) = G := by
  have e : ∀ t : Fin cfg0.N, win0_18.index t = ![0, 0] := (by decide +kernel : ∀ t : Fin grid0.N, win0_18.index t = ![0, 0])
  funext i
  blk_ext! [e]

/-- Input 18 holds the whole of its array. -/
theorem input18 : (launchArgs m c).x18 = (V m c main_v171 : FVec Ideal S64x256 .f32) := by
  unfold launchArgs
  dsimp only
  unfold iblk
  exact whole18 point0 (V m c main_v171)

/-- Window 19's block is its whole array. -/
theorem whole19 (t : Fin cfg0.N) (G : (⟨S256x512, .f32⟩ : BufTy).Contents (Elt Ideal)) : (((cfg0.win 19).blk t).view.read (Elt Ideal) G : FVec Ideal S256x512 .f32) = G := by
  have e : ∀ t : Fin cfg0.N, win0_19.index t = ![0, 0] := (by decide +kernel : ∀ t : Fin grid0.N, win0_19.index t = ![0, 0])
  funext i
  blk_ext! [e]

/-- Input 19 holds the whole of its array. -/
theorem input19 : (launchArgs m c).x19 = (V m c main_v175 : FVec Ideal S256x512 .f32) := by
  unfold launchArgs
  dsimp only
  unfold iblk
  exact whole19 point0 (V m c main_v175)

/-- Window 20's block is its whole array. -/
theorem whole20 (t : Fin cfg0.N) (G : (⟨S64x1024, .f32⟩ : BufTy).Contents (Elt Ideal)) : (((cfg0.win 20).blk t).view.read (Elt Ideal) G : FVec Ideal S64x1024 .f32) = G := by
  have e : ∀ t : Fin cfg0.N, win0_20.index t = ![0, 0] := (by decide +kernel : ∀ t : Fin grid0.N, win0_20.index t = ![0, 0])
  funext i
  blk_ext! [e]

/-- Input 20 holds the whole of its array. -/
theorem input20 : (launchArgs m c).x20 = (V m c main_v165 : FVec Ideal S64x1024 .f32) := by
  unfold launchArgs
  dsimp only
  unfold iblk
  exact whole20 point0 (V m c main_v165)

/-- Window 21's block is its whole array. -/
theorem whole21 (t : Fin cfg0.N) (G : (⟨S128x1024, .f32⟩ : BufTy).Contents (Elt Ideal)) : (((cfg0.win 21).blk t).view.read (Elt Ideal) G : FVec Ideal S128x1024 .f32) = G := by
  have e : ∀ t : Fin cfg0.N, win0_21.index t = ![0, 0] := (by decide +kernel : ∀ t : Fin grid0.N, win0_21.index t = ![0, 0])
  funext i
  blk_ext! [e]

/-- Input 21 holds the whole of its array. -/
theorem input21 : (launchArgs m c).x21 = (V m c main_v169 : FVec Ideal S128x1024 .f32) := by
  unfold launchArgs
  dsimp only
  unfold iblk
  exact whole21 point0 (V m c main_v169)

/-- Window 22's block is its whole array. -/
theorem whole22 (t : Fin cfg0.N) (G : (⟨S256x1024, .f32⟩ : BufTy).Contents (Elt Ideal)) : (((cfg0.win 22).blk t).view.read (Elt Ideal) G : FVec Ideal S256x1024 .f32) = G := by
  have e : ∀ t : Fin cfg0.N, win0_22.index t = ![0, 0] := (by decide +kernel : ∀ t : Fin grid0.N, win0_22.index t = ![0, 0])
  funext i
  blk_ext! [e]

/-- Input 22 holds the whole of its array. -/
theorem input22 : (launchArgs m c).x22 = (V m c main_v173 : FVec Ideal S256x1024 .f32) := by
  unfold launchArgs
  dsimp only
  unfold iblk
  exact whole22 point0 (V m c main_v173)

/-- Window 23's block is its whole array. -/
theorem whole23 (t : Fin cfg0.N) (G : (⟨S512x1024, .f32⟩ : BufTy).Contents (Elt Ideal)) : (((cfg0.win 23).blk t).view.read (Elt Ideal) G : FVec Ideal S512x1024 .f32) = G := by
  have e : ∀ t : Fin cfg0.N, win0_23.index t = ![0, 0] := (by decide +kernel : ∀ t : Fin grid0.N, win0_23.index t = ![0, 0])
  funext i
  blk_ext! [e]

/-- Input 23 holds the whole of its array. -/
theorem input23 : (launchArgs m c).x23 = (V m c main_v177 : FVec Ideal S512x1024 .f32) := by
  unfold launchArgs
  dsimp only
  unfold iblk
  exact whole23 point0 (V m c main_v177)

/-- Window 24's block is its whole array. -/
theorem whole24 (t : Fin cfg0.N) (G : (⟨S8x8192, .f32⟩ : BufTy).Contents (Elt Ideal)) : (((cfg0.win 24).blk t).view.read (Elt Ideal) G : FVec Ideal S8x8192 .f32) = G := by
  have e : ∀ t : Fin cfg0.N, win0_24.index t = ![0, 0] := (by decide +kernel : ∀ t : Fin grid0.N, win0_24.index t = ![0, 0])
  funext i
  blk_ext! [e]

/-- Input 24 holds the whole of its array. -/
theorem input24 : (launchArgs m c).x24 = (V m c main_v180 : FVec Ideal S8x8192 .f32) := by
  unfold launchArgs
  dsimp only
  unfold iblk
  exact whole24 point0 (V m c main_v180)

end Cert.Msvq

end
-- ==== Proof.TabA.lean ====
/-
  The tables the kernel's host code lays out, as functions of the arguments, read entry by entry.
-/
module

public import proofs.«01_k».proof.Proof.RefC
public import proofs.«01_k».proof.Proof.KernD

@[expose] public section

set_option maxRecDepth 16384

noncomputable section

namespace Cert.Msvq

open Idealize.ShloMosaic

variable {a b c d r s p f : ℕ}

/-- A place along an axis, which is place zero where the axis has size one. -/
theorem keep {n : ℕ} (i : Fin n) : (i : ℕ) = if n = 1 then 0 else (i : ℕ) := by
  split_ifs
  · omega
  · rfl

/-- The host code's Kronecker product. -/
def kKron (h1 : (T2 a b).BroadcastsInDim (T4 a 1 b 1) ![0, 2]) (h2 : (T2 c d).BroadcastsInDim (T4 1 c 1 d) ![1, 3])
    (h3 : (T4 a 1 b 1).BroadcastsInDim (T4 a c b d) ![0, 1, 2, 3]) (h4 : (T4 1 c 1 d).BroadcastsInDim (T4 a c b d) ![0, 1, 2, 3])
    (h5 : (T4 a c b d).ShapeCasts (T2 r s)) (A : FVec Ideal (T2 a b) .f32) (B : FVec Ideal (T2 c d) .f32) : FVec Ideal (T2 r s) .f32 :=
  shapeCast (T2 r s) (mulf (broadcastInDim (T4 a c b d) ![0, 1, 2, 3] h3 (broadcastInDim (T4 a 1 b 1) ![0, 2] h1 A))
    (broadcastInDim (T4 a c b d) ![0, 1, 2, 3] h4 (broadcastInDim (T4 1 c 1 d) ![1, 3] h2 B))) h5

/-- An entry is a product of two entries. -/
theorem kKron_apply (h1 h2 h3 h4 h5) (A : FVec Ideal (T2 a b) .f32) (B : FVec Ideal (T2 c d) .f32) (hr : r = a * c) (hs : s = b * d)
    (i : Fin a) (k : Fin c) (j : Fin b) (l : Fin d) :
    kKron (r := r) (s := s) h1 h2 h3 h4 h5 A B (ix2 (at2 hr i k) (at2 hs j l)) = A (ix2 i j) * B (ix2 k l) := by
  have hq : Shape.reshapeEquiv h5 (ix2 (at2 hr i k) (at2 hs j l)) = ix4 i k j l := by
    apply Shape.reshapeEquiv_eq_of_rowMajor
    rw [Shape.rowMajor_val_two, Shape.rowMajor_val_four]
    show ((i.val * c + k.val) * b + j.val) * d + l.val = (i.val * c + k.val) * s + (j.val * d + l.val)
    rw [hs]; ring
  unfold kKron shapeCast
  rw [hq]
  show _ * _ = _
  rw [broadcastInDim_apply _ h3 _ _ (ix4 i 0 j 0), broadcastInDim_apply _ h1 _ _ (ix2 i j), broadcastInDim_apply _ h4 _ _ (ix4 0 k 0 l),
    broadcastInDim_apply _ h2 _ _ (ix2 k l)]
  all_goals
    intro x
    fin_cases x <;> first | rfl | exact keep _

/-- The host code's identity matrix. -/
def kEye (h : T0.BroadcastsInDim (T2 a a) ![]) : FVec Ideal (T2 a a) .f32 :=
  uitofp .f32 (cmpi .eq (addi (iotaInDim (T2 a a) 32 0) (broadcastInDim (T2 a a) ![] h (constantI T0 32 0#32))) (iotaInDim (T2 a a) 32 1))

/-- It is one on the diagonal and zero off it. -/
theorem kEye_apply (h) (ha : a < 2 ^ 32) (i j : Fin a) : kEye h (ix2 i j) = if i = j then 1 else 0 := by
  have e : kEye h (ix2 i j) = (((BitVec.ofBool (BitVec.ofNat 32 i + 0#32 == BitVec.ofNat 32 j)).toNat : ℝ) : EReal) := rfl
  have hj : (BitVec.ofNat 32 i + 0#32 == BitVec.ofNat 32 j) = decide (i = j) := by
    rw [BitVec.add_zero, Bool.eq_iff_iff, beq_iff_eq, decide_eq_true_eq, ← BitVec.toNat_inj, BitVec.toNat_ofNat, BitVec.toNat_ofNat,
      Nat.mod_eq_of_lt (lt_trans i.isLt ha), Nat.mod_eq_of_lt (lt_trans j.isLt ha), Fin.ext_iff]
  rw [e, hj]
  by_cases hij : i = j <;> simp [hij]

/-- The host code's repetition of a matrix's rows. -/
def kRep (h1 : (T2 p p).BroadcastsInDim (T3 p 1 p) ![0, 2]) (h2 : (T3 p 1 p).BroadcastsInDim (T3 p f p) ![0, 1, 2])
    (h3 : (T3 p f p).ShapeCasts (T2 32 p)) (A : FVec Ideal (T2 p p) .f32) : FVec Ideal (T2 32 p) .f32 :=
  shapeCast (T2 32 p) (broadcastInDim (T3 p f p) ![0, 1, 2] h2 (broadcastInDim (T3 p 1 p) ![0, 2] h1 A)) h3

/-- A row of a group is the row the group repeats. -/
theorem kRep_apply (h1 h2 h3) (A : FVec Ideal (T2 p p) .f32) (hr : p * f = 32) (i : Fin p) (u : Fin f) (j : Fin p) :
    kRep (f := f) h1 h2 h3 A (ix2 (pix hr i u) j) = A (ix2 i j) := by
  have hq : Shape.reshapeEquiv h3 (ix2 (pix hr i u) j) = ix3 i u j := by
    apply Shape.reshapeEquiv_eq_of_rowMajor
    rw [Shape.rowMajor_val_two, Shape.rowMajor_val_three]
    rfl
  unfold kRep shapeCast
  rw [hq, broadcastInDim_apply _ h2 _ _ (ix3 i 0 j), broadcastInDim_apply _ h1 _ _ (ix2 i j)]
  all_goals
    intro x
    fin_cases x <;> first | rfl | exact keep _

/-- A transposed matrix. -/
theorem swap_apply (h : (T2 a b).Transposes [1, 0] (T2 b a)) (A : FVec Ideal (T2 a b) .f32) (i : Fin b) (j : Fin a) :
    transpose (T2 b a) [1, 0] A h (ix2 i j) = A (ix2 j i) := by
  pointwise []

/-- The cubic kernel of a table of distances. -/
def kCubic (h : T0.BroadcastsInDim (T3 5 16 32) ![]) (x : FVec Ideal (T3 5 16 32) .f32) : FVec Ideal (T3 5 16 32) .f32 :=
  let B := fun k : BitVec 32 => broadcastInDim (T3 5 16 32) ![] h (constant (F := Ideal) T0 .f32 k)
  select (cmpf .oge x (B 0x40000000#32)) (broadcastInDim (T3 5 16 32) ![] h (id (constant T0 .f32 0x00000000#32)))
    (select (cmpf .oge x (B 0x3F800000#32))
      (addf (mulf (subf (mulf (addf (mulf (B 0xBF000000#32) x) (B 0x40200000#32)) x) (B 0x40800000#32)) x) (B 0x40000000#32))
      (addf (mulf (mulf (subf (mulf (B 0x3FC00000#32) x) (B 0x40200000#32)) x) x) (B 0x3F800000#32)))

/-- It is the cubic kernel at each entry. -/
theorem kCubic_apply (h) (x : FVec Ideal (T3 5 16 32) .f32) (j) : kCubic h x j = cubic (x j) := by
  have h0 : (Ideal.ofBits .f32 0x00000000#32 : EReal) = 0 := by simp
  have h1 : (Ideal.ofBits .f32 0x3F800000#32 : EReal) = 1 := by simp
  unfold cubic
  rw [← h0, ← h1]
  rfl

/-- The host code's cubic weights of the five scales. -/
def kRaw (h1 : T0.BroadcastsInDim (T1 32) ![]) (h2 : (T1 32).BroadcastsInDim (T2 1 32) ![1]) (h3 : (T1 5).BroadcastsInDim (T2 5 1) ![0])
    (h4 : (T2 1 32).BroadcastsInDim (T2 5 32) ![0, 1]) (h5 : (T2 5 1).BroadcastsInDim (T2 5 32) ![0, 1]) (h6 : T0.BroadcastsInDim (T2 5 32) ![])
    (h7 : (T2 5 32).BroadcastsInDim (T3 5 1 32) ![0, 2]) (h8 : (T1 16).BroadcastsInDim (T3 1 16 1) ![1])
    (h9 : (T3 5 1 32).BroadcastsInDim (T3 5 16 32) ![0, 1, 2]) (h10 : (T3 1 16 1).BroadcastsInDim (T3 5 16 32) ![0, 1, 2])
    (h11 : T0.BroadcastsInDim (T3 5 16 32) ![]) (K : FVec Ideal (T1 5) .f32) : FVec Ideal (T3 5 16 32) .f32 :=
  kCubic h11 (Host.absf (subf (broadcastInDim (T3 5 16 32) ![0, 1, 2] h9 (broadcastInDim (T3 5 1 32) ![0, 2] h7
      (subf (mulf (broadcastInDim (T2 5 32) ![0, 1] h4 (broadcastInDim (T2 1 32) ![1] h2 (addf (sitofp .f32 (iotaInDim (T1 32) 32 0))
        (broadcastInDim (T1 32) ![] h1 (constant T0 .f32 0x3F000000#32)))))
        (broadcastInDim (T2 5 32) ![0, 1] h5 (broadcastInDim (T2 5 1) ![0] h3 K))) (broadcastInDim (T2 5 32) ![] h6 (constant T0 .f32 0x3F000000#32)))))
    (broadcastInDim (T3 5 16 32) ![0, 1, 2] h10 (broadcastInDim (T3 1 16 1) ![1] h8 (sitofp .f32 (iotaInDim (T1 16) 32 0))))))

/-- They are the cubic weights at the scale's step. -/
theorem kRaw_apply (h1 h2 h3 h4 h5 h6 h7 h8 h9 h10 h11) (K : FVec Ideal (T1 5) .f32) (q : Fin 5) (i : Fin 16) (y : Fin 32) :
    kRaw h1 h2 h3 h4 h5 h6 h7 h8 h9 h10 h11 K (ix3 q i y) = rawWeight (K (ix1 q)) i y := by
  rw [kRaw, kCubic_apply, rawWeight]
  dsimp only
  congr 1
  pointwise []
  rfl

/-- One scale's weights among the five scales'. -/
def kPart (o : ℕ) (h1 : (T3 5 16 32).Slices ![o, 0, 0] (T3 1 p 32)) (h2 : (T3 1 p 32).ShapeCasts (T2 p 32)) (W : FVec Ideal (T3 5 16 32) .f32) : FVec Ideal (T2 p 32) .f32 :=
  shapeCast (T2 p 32) (extractStridedSlice (T3 1 p 32) ![o, 0, 0] W h1) h2

/-- An entry of the scale's weights. -/
theorem kPart_apply (o : Fin 5) (hp : p ≤ 16) (h1 h2) (W : FVec Ideal (T3 5 16 32) .f32) (i : Fin p) (y : Fin 32) :
    kPart o h1 h2 W (ix2 i y) = W (ix3 o (Fin.castLE hp i) y) := by
  have hq : Shape.reshapeEquiv h2 (ix2 i y) = ix3 0 i y := by
    apply Shape.reshapeEquiv_eq_of_rowMajor
    rw [Shape.rowMajor_val_two, Shape.rowMajor_val_three]
    show (0 * p + i.val) * 32 + y.val = i.val * 32 + y.val
    omega
  unfold kPart shapeCast
  rw [hq]
  unfold extractStridedSlice
  congr 1
  funext x
  apply Fin.ext
  fin_cases x <;> simp

/-- The host code's normalised weights of a scale, sample by input. -/
def kNorm (h0 : T0.BroadcastsInDim (T2 1 32) ![]) (h1 : (T2 p 32).ReducesTo [0] (T1 32)) (hu : 0 < T0.numel) (h2 : (T1 32).BroadcastsInDim (T2 1 32) ![1]) (h3 : (T2 1 32).BroadcastsInDim (T2 p 32) ![0, 1]) (h4 : (T2 p 32).Transposes [1, 0] (T2 32 p)) (w : FVec Ideal (T2 p 32) .f32) : FVec Ideal (T2 32 p) .f32 :=
  transpose (T2 32 p) [1, 0] (Host.divf w (broadcastInDim (T2 p 32) ![0, 1] h3 (rTotal h0 h1 hu h2 w))) h4

/-- They are the scale's weights. -/
theorem kNorm_apply (hp : p ≠ 1) (h0 h1 hu h2 h3 h4) (w : FVec Ideal (T2 p 32) .f32) (k : EReal) (hw : ∀ i y, w (ix2 i y) = rawWeight k i y) (y : Fin 32) (i : Fin p) :
    kNorm h0 h1 hu h2 h3 h4 w (ix2 y i) = weight p k i y := by
  have e2 : ∀ z : FVec Ideal (T2 1 32) .f32, broadcastInDim (T2 p 32) ![0, 1] h3 z (ix2 i y) = z (ix2 0 y) := by
    intro z; pointwise [hp]
  unfold kNorm weight
  rw [swap_apply]
  show Ideal.div _ _ = _
  rw [e2, rTotal_apply]
  simp only [hw]

/-- The host code's normalised weights of the scale of one input. -/
def kNorm1 (h0 : T0.BroadcastsInDim (T2 1 32) ![]) (h1 : (T2 1 32).ReducesTo [0] (T1 32)) (hu : 0 < T0.numel) (h2 : (T1 32).BroadcastsInDim (T2 1 32) ![1]) (h4 : (T2 1 32).Transposes [1, 0] (T2 32 1)) (w : FVec Ideal (T2 1 32) .f32) : FVec Ideal (T2 32 1) .f32 :=
  transpose (T2 32 1) [1, 0] (Host.divf w (rTotal h0 h1 hu h2 w)) h4

/-- They are the scale's weights. -/
theorem kNorm1_apply (h0 h1 hu h2 h4) (w : FVec Ideal (T2 1 32) .f32) (k : EReal) (hw : ∀ i y, w (ix2 i y) = rawWeight k i y) (y : Fin 32) :
    kNorm1 h0 h1 hu h2 h4 w (ix2 y 0) = weight 1 k 0 y := by
  unfold kNorm1 weight
  rw [swap_apply]
  show Ideal.div _ _ = _
  rw [rTotal_apply]
  simp only [hw]

/-- The host code's filter table. -/
def kFilter (h1 : (T4 32 32 3 3).Transposes [2, 3, 1, 0] (T4 3 3 32 32)) (h2 : (T4 3 3 32 32).ShapeCasts (T2 288 32)) (h3 : (T2 288 32).Transposes [1, 0] (T2 32 288))
    (w : FVec Ideal (T4 32 32 3 3) .f32) : FVec Ideal (T2 32 288) .f32 :=
  transpose (T2 32 288) [1, 0] (shapeCast (T2 288 32) (transpose (T4 3 3 32 32) [2, 3, 1, 0] w h1) h2) h3

/-- An entry of the filter table is a filter's tap. -/
theorem kFilter_apply (h1 h2 h3) (w : FVec Ideal (T4 32 32 3 3) .f32) (o c : Fin 32) (ky kx : Fin 3) :
    kFilter h1 h2 h3 w (ix2 o (tapRow ky kx c)) = w (ix4 o c ky kx) := by
  have hq : Shape.reshapeEquiv h2 (ix2 (tapRow ky kx c) o) = ix4 ky kx c o := by
    apply Shape.reshapeEquiv_eq_of_rowMajor
    rw [Shape.rowMajor_val_two, Shape.rowMajor_val_four]
    show ((ky.val * 3 + kx.val) * 32 + c.val) * 32 + o.val = ((ky.val * 3 + kx.val) * 32 + c.val) * 32 + o.val
    rfl
  unfold kFilter
  rw [swap_apply]
  unfold shapeCast
  rw [hq]
  pointwise []

/-- The host code's image, channel by channel. -/
def kChannels (h1 : (T4 8 32 32 32).Transposes [1, 0, 2, 3] (T4 32 8 32 32)) (h2 : (T4 32 8 32 32).ShapeCasts (T2 32 8192)) (z : FVec Ideal (T4 8 32 32 32) .f32) : FVec Ideal (T2 32 8192) .f32 :=
  shapeCast (T2 32 8192) (transpose (T4 32 8 32 32) [1, 0, 2, 3] z h1) h2

/-- It holds the image's pixels. -/
theorem kChannels_apply (h1 h2) (z : FVec Ideal (T4 8 32 32 32) .f32) : kimg (kChannels h1 h2 z) = img z := by
  funext b c y x
  have hq : Shape.reshapeEquiv h2 (ix2 c (col b y x)) = ix4 c b y x := by
    apply Shape.reshapeEquiv_eq_of_rowMajor
    rw [Shape.rowMajor_val_two, Shape.rowMajor_val_four]
    show ((c.val * 8 + b.val) * 32 + y.val) * 32 + x.val = c.val * 8192 + (b.val * 1024 + y.val * 32 + x.val)
    ring
  unfold kimg kChannels shapeCast img
  rw [hq]
  pointwise []

/-- A bias as a column. -/
theorem column_apply (h : (T1 32).ShapeCasts (T2 32 1)) (w : FVec Ideal (T1 32) .f32) (o : Fin 32) : shapeCast (T2 32 1) w h (ix2 o 0) = w (ix1 o) := by
  have hq : Shape.reshapeEquiv h (ix2 o 0) = ix1 o := by
    apply Shape.reshapeEquiv_eq_of_rowMajor
    rw [Shape.rowMajor_val_two, Shape.rowMajor_val_one]
    show o.val = o.val * 1 + 0
    omega
  unfold shapeCast
  rw [hq]

end Cert.Msvq

end
-- ==== Proof.TabB.lean ====
/-
  The pooling and resizing tables the kernel's host code builds are the tables its body needs.
-/
module

public import proofs.«01_k».proof.Proof.TabA

@[expose] public section

set_option maxRecDepth 16384

noncomputable section

namespace Cert.Msvq

open Idealize.ShloMosaic

/-- An array of two axes with ones on the diagonal and zeros off it. -/
def IsEye {a : ℕ} (E : FVec Ideal (T2 a a) .f32) : Prop := ∀ i j, E (ix2 i j) = if i = j then 1 else 0

/-- A product of two indicators. -/
theorem both (P Q : Prop) [Decidable P] [Decidable Q] : (if P then (1 : EReal) else 0) * (if Q then 1 else 0) = if P ∧ Q then 1 else 0 := by
  by_cases hP : P <;> by_cases hQ : Q <;> simp [hP, hQ]

/-- A column of the batch as a column of one of its images. -/
theorem col_eq (b : Fin 8) (y x : Fin 32) : col b y x = at2 (by norm_num) b (px y x) := by
  apply Fin.ext
  show b.val * 1024 + y.val * 32 + x.val = b.val * 1024 + (y.val * 32 + x.val)
  ring

variable {p f m n s : ℕ}

/-- The pooling table of one image. -/
theorem isPool (h : p * f = 32) (hm : m = p * p) (E : FVec Ideal (T2 p p) .f32) (hE : IsEye E) (g1 g2 g3 h1 h2 h3 h4 h5) :
    IsPool h hm (kKron (r := 1024) (s := m) h1 h2 h3 h4 h5 (kRep (f := f) g1 g2 g3 E) (kRep (f := f) g1 g2 g3 E)) := by
  intro i' u j' v i j
  rw [kKron_apply h1 h2 h3 h4 h5 _ _ (by norm_num) hm, kRep_apply, kRep_apply, hE, hE, both]

/-- The pooling table of the batch. -/
theorem isPool8 (h : p * f = 32) (hm : m = p * p) (hn : n = 8 * m) (E : FVec Ideal (T2 8 8) .f32) (hE : IsEye E) (P : FVec Ideal (T2 1024 m) .f32) (hP : IsPool h hm P)
    (h1 h2 h3 h4 h5) : IsPool8 h hm hn (kKron (r := 8192) (s := n) h1 h2 h3 h4 h5 E P) := by
  intro b' i' u j' v b i j
  rw [col_eq, kKron_apply h1 h2 h3 h4 h5 _ _ (by norm_num) hn, hE, hP, both]

/-- The pooling table of an image of one cell is all ones. -/
theorem isPool_ones (P : FVec Ideal (T2 1024 1) .f32) (hP : ∀ j, P j = 1) : IsPool (p := 1) (f := 32) (m := 1) rfl rfl P := by
  intro i' u j' v i j
  rw [hP, if_pos ⟨Subsingleton.elim _ _, Subsingleton.elim _ _⟩]

/-- A product with an indicator before it. -/
theorem ind_mul (P : Prop) [Decidable P] (x : EReal) : (if P then (1 : EReal) else 0) * x = if P then x else 0 := by
  by_cases hP : P <;> simp [hP]

/-- A product with an indicator after it. -/
theorem mul_ind (P : Prop) [Decidable P] (x : EReal) : x * (if P then (1 : EReal) else 0) = if P then x else 0 := by
  by_cases hP : P <;> simp [hP]

/-- The table that spreads cell rows. -/
theorem isRowTable (hm : m = p * p) (hs : s = 32 * p) (a : Fin p → Fin 32 → EReal) (A : FVec Ideal (T2 32 p) .f32) (hA : ∀ y i, A (ix2 y i) = a i y)
    (E : FVec Ideal (T2 p p) .f32) (hE : IsEye E) (h1 h2 h3 h4 h5) (h6 : (T2 s m).Transposes [1, 0] (T2 m s)) :
    IsRowTable hm hs a (transpose (T2 m s) [1, 0] (kKron (r := s) (s := m) h1 h2 h3 h4 h5 A E) h6) := by
  intro i j y j'
  rw [swap_apply, kKron_apply h1 h2 h3 h4 h5 _ _ hs hm, hA, hE, mul_ind]
  simp only [eq_comm]

/-- The table that spreads cell columns. -/
theorem isColTable (hs : s = 32 * p) (a : Fin p → Fin 32 → EReal) (A : FVec Ideal (T2 32 p) .f32) (hA : ∀ y i, A (ix2 y i) = a i y)
    (E : FVec Ideal (T2 32 32) .f32) (hE : IsEye E) (h1 h2 h3 h4 h5) (h6 : (T2 1024 s).Transposes [1, 0] (T2 s 1024)) :
    IsColTable hs a (transpose (T2 s 1024) [1, 0] (kKron (r := 1024) (s := s) h1 h2 h3 h4 h5 E A) h6) := by
  intro y j y' x
  rw [swap_apply, kKron_apply h1 h2 h3 h4 h5 _ _ (by norm_num) hs, hA, hE, ind_mul]
  simp only [eq_comm]

/-- The table that spreads the single cell of each image. -/
theorem isSpread (a : Fin 1 → Fin 32 → EReal) (A : FVec Ideal (T2 32 1) .f32) (hA : ∀ y, A (ix2 y 0) = a 0 y)
    (E : FVec Ideal (T2 8 8) .f32) (hE : IsEye E) (h1 h2 h3 h4 h5) (h6 : (T2 1024 1).Transposes [1, 0] (T2 1 1024)) (g1 g2 g3 g4 g5) :
    IsSpread a (kKron (r := 8) (s := 8192) g1 g2 g3 g4 g5 E (transpose (T2 1 1024) [1, 0] (kKron (r := 1024) (s := 1) h1 h2 h3 h4 h5 A A) h6)) := by
  intro b b' y x
  have hb : (b : Fin 8) = at2 (a := 8) (b := 1) (by norm_num) b 0 := Fin.ext (by simp)
  have h0 : (0 : Fin 1) = at2 (a := 1) (b := 1) (by norm_num) 0 0 := rfl
  have e := kKron_apply g1 g2 g3 g4 g5 E (transpose (T2 1 1024) [1, 0] (kKron (r := 1024) (s := 1) h1 h2 h3 h4 h5 A A) h6) (by norm_num) (by norm_num) b 0 b' (px y x)
  rw [← hb, ← col_eq, swap_apply, h0, kKron_apply h1 h2 h3 h4 h5 _ _ (by norm_num) (by norm_num), hE, hA, hA, ind_mul] at e
  exact e

end Cert.Msvq

end
-- ==== Proof.TabC.lean ====
/-
  The kernel's host code: what its inputs hold when the launch reads them.
-/
module

public import proofs.«01_k».proof.Proof.TabB
public import proofs.«01_k».proof.Proof.IdealFrame
public import Idealize.ShloMosaic.Lib.StableHlo.RunRead

@[expose] public section

set_option maxRecDepth 16384
set_option maxHeartbeats 2000000

noncomputable section

namespace Cert.Msvq

open Idealize.ShloMosaic Idealize.ShloMosaic.TcCoe Cert.KernelIdeal Cert.KernelIdeal.Gen Idealize.ShloMosaic.StableHlo

variable (m : (b : Loc nD τ sig) → Buf (Elt Ideal) b) (c : Dev nD)

/-- The ones the first pooling table is made of. -/
abbrev hOnes : FVec Ideal (T2 1024 1) .f32 := broadcastInDim (T2 1024 1) ![] bcast_S_S1024x1 (constant T0 .f32 0x3F800000#32)

/-- The pooling table of one image into 2 by 2 cells. -/
abbrev hPool2 : FVec Ideal (T2 1024 4) .f32 := kKron (r := 1024) (s := 4) bcast_S32x2_S32x1x2x1_0_2 bcast_S32x2_S1x32x1x2_1_3 bcast_S32x1x2x1_S32x32x2x2_0_1_2_3 bcast_S1x32x1x2_S32x32x2x2_0_1_2_3 shapeCasts_S32x32x2x2_S1024x4 (kRep (f := 16) bcast_S2x2_S2x1x2_0_2 bcast_S2x1x2_S2x16x2_0_1_2 shapeCasts_S2x16x2_S32x2 (kEye (a := 2) bcast_S_S2x2)) (kRep (f := 16) bcast_S2x2_S2x1x2_0_2 bcast_S2x1x2_S2x16x2_0_1_2 shapeCasts_S2x16x2_S32x2 (kEye (a := 2) bcast_S_S2x2))

/-- The pooling table of one image into 4 by 4 cells. -/
abbrev hPool4 : FVec Ideal (T2 1024 16) .f32 := kKron (r := 1024) (s := 16) bcast_S32x4_S32x1x4x1_0_2 bcast_S32x4_S1x32x1x4_1_3 bcast_S32x1x4x1_S32x32x4x4_0_1_2_3 bcast_S1x32x1x4_S32x32x4x4_0_1_2_3 shapeCasts_S32x32x4x4_S1024x16 (kRep (f := 8) bcast_S4x4_S4x1x4_0_2 bcast_S4x1x4_S4x8x4_0_1_2 shapeCasts_S4x8x4_S32x4 (kEye (a := 4) bcast_S_S4x4)) (kRep (f := 8) bcast_S4x4_S4x1x4_0_2 bcast_S4x1x4_S4x8x4_0_1_2 shapeCasts_S4x8x4_S32x4 (kEye (a := 4) bcast_S_S4x4))

/-- The pooling table of one image into 8 by 8 cells. -/
abbrev hPool8 : FVec Ideal (T2 1024 64) .f32 := kKron (r := 1024) (s := 64) bcast_S32x8_S32x1x8x1_0_2 bcast_S32x8_S1x32x1x8_1_3 bcast_S32x1x8x1_S32x32x8x8_0_1_2_3 bcast_S1x32x1x8_S32x32x8x8_0_1_2_3 shapeCasts_S32x32x8x8_S1024x64 (kRep (f := 4) bcast_S8x8_S8x1x8_0_2 bcast_S8x1x8_S8x4x8_0_1_2 shapeCasts_S8x4x8_S32x8 (kEye (a := 8) bcast_S_S8x8)) (kRep (f := 4) bcast_S8x8_S8x1x8_0_2 bcast_S8x1x8_S8x4x8_0_1_2 shapeCasts_S8x4x8_S32x8 (kEye (a := 8) bcast_S_S8x8))

/-- The pooling table of one image into 16 by 16 cells. -/
abbrev hPool16 : FVec Ideal (T2 1024 256) .f32 := kKron (r := 1024) (s := 256) bcast_S32x16_S32x1x16x1_0_2 bcast_S32x16_S1x32x1x16_1_3 bcast_S32x1x16x1_S32x32x16x16_0_1_2_3 bcast_S1x32x1x16_S32x32x16x16_0_1_2_3 shapeCasts_S32x32x16x16_S1024x256 (kRep (f := 2) bcast_S16x16_S16x1x16_0_2 bcast_S16x1x16_S16x2x16_0_1_2 shapeCasts_S16x2x16_S32x16 (kEye (a := 16) bcast_S_S16x16)) (kRep (f := 2) bcast_S16x16_S16x1x16_0_2 bcast_S16x1x16_S16x2x16_0_1_2 shapeCasts_S16x2x16_S32x16 (kEye (a := 16) bcast_S_S16x16))

/-- The cubic weights of the five scales. -/
abbrev hRaw : FVec Ideal (T3 5 16 32) .f32 := kRaw bcast_S_S32 bcast_S32_S1x32_1 bcast_S5_S5x1_0 bcast_S1x32_S5x32_0_1 bcast_S5x1_S5x32_0_1 bcast_S_S5x32
  bcast_S5x32_S5x1x32_0_2 bcast_S16_S1x16x1_1 bcast_S5x1x32_S5x16x32_0_1_2 bcast_S1x16x1_S5x16x32_0_1_2 bcast_S_S5x16x32 (fun i => FloatOps.ofBits .f32 (lit0 (S5.rowMajor i)))

/-- The weights of the scale of 1 by 1 cells, sample by input. -/
abbrev hNorm1 : FVec Ideal (T2 32 1) .f32 := kNorm1 bcast_S_S1x32 reducesTo_S1x32_S32_d0 h_S_ bcast_S32_S1x32_1 transposes_S1x32_S32x1_1_0 (kPart (p := 1) 0 slices_S5x16x32_S1x1x32_0_0_0 shapeCasts_S1x1x32_S1x32 hRaw)

/-- The weights of the scale of 2 by 2 cells, sample by input. -/
abbrev hNorm2 : FVec Ideal (T2 32 2) .f32 := kNorm (p := 2) bcast_S_S1x32 reducesTo_S2x32_S32_d0 h_S_ bcast_S32_S1x32_1 bcast_S1x32_S2x32_0_1 transposes_S2x32_S32x2_1_0 (kPart (p := 2) 1 slices_S5x16x32_S1x2x32_1_0_0 shapeCasts_S1x2x32_S2x32 hRaw)

/-- The weights of the scale of 4 by 4 cells, sample by input. -/
abbrev hNorm4 : FVec Ideal (T2 32 4) .f32 := kNorm (p := 4) bcast_S_S1x32 reducesTo_S4x32_S32_d0 h_S_ bcast_S32_S1x32_1 bcast_S1x32_S4x32_0_1 transposes_S4x32_S32x4_1_0 (kPart (p := 4) 2 slices_S5x16x32_S1x4x32_2_0_0 shapeCasts_S1x4x32_S4x32 hRaw)

/-- The weights of the scale of 8 by 8 cells, sample by input. -/
abbrev hNorm8 : FVec Ideal (T2 32 8) .f32 := kNorm (p := 8) bcast_S_S1x32 reducesTo_S8x32_S32_d0 h_S_ bcast_S32_S1x32_1 bcast_S1x32_S8x32_0_1 transposes_S8x32_S32x8_1_0 (kPart (p := 8) 3 slices_S5x16x32_S1x8x32_3_0_0 shapeCasts_S1x8x32_S8x32 hRaw)

/-- The weights of the scale of 16 by 16 cells, sample by input. -/
abbrev hNorm16 : FVec Ideal (T2 32 16) .f32 := kNorm (p := 16) bcast_S_S1x32 reducesTo_S16x32_S32_d0 h_S_ bcast_S32_S1x32_1 bcast_S1x32_S16x32_0_1 transposes_S16x32_S32x16_1_0 (kPart (p := 16) 4 slices_S5x16x32_S1x16x32_4_0_0 shapeCasts_S1x16x32_S16x32 hRaw)

/-- The image, channel by channel. -/
theorem host_v1 : (V m c main_v1 : FVec Ideal (T2 32 8192) .f32) = kChannels transposes_S8x32x32x32_S32x8x32x32_1_0_2_3 shapeCasts_S32x8x32x32_S32x8192 (m ((c : Thread nD τ).loc main_arg0)) := by
  unfold_abbrev_sides
  after_reads_simp
  rfl

/-- The codes, transposed. -/
theorem host_v2 : (V m c main_v2 : FVec Ideal (T2 32 8192) .f32) = transpose (T2 32 8192) [1, 0] (m ((c : Thread nD τ).loc main_arg1)) transposes_S8192x32_S32x8192_1_0 := by
  unfold_abbrev_sides
  after_reads_simp

/-- Filter 0, tap by tap. -/
theorem host_v6 : (V m c main_v6 : FVec Ideal (T2 32 288) .bf16) = kFilter transposes_S32x32x3x3_S3x3x32x32_2_3_1_0 shapeCasts_S3x3x32x32_S288x32 transposes_S288x32_S32x288_1_0 (m ((c : Thread nD τ).loc main_arg2)) := by
  unfold_abbrev_sides
  after_reads_simp
  rfl

/-- Filter 1, tap by tap. -/
theorem host_v10 : (V m c main_v10 : FVec Ideal (T2 32 288) .bf16) = kFilter transposes_S32x32x3x3_S3x3x32x32_2_3_1_0 shapeCasts_S3x3x32x32_S288x32 transposes_S288x32_S32x288_1_0 (m ((c : Thread nD τ).loc main_arg3)) := by
  unfold_abbrev_sides
  after_reads_simp
  rfl

/-- Filter 2, tap by tap. -/
theorem host_v14 : (V m c main_v14 : FVec Ideal (T2 32 288) .bf16) = kFilter transposes_S32x32x3x3_S3x3x32x32_2_3_1_0 shapeCasts_S3x3x32x32_S288x32 transposes_S288x32_S32x288_1_0 (m ((c : Thread nD τ).loc main_arg4)) := by
  unfold_abbrev_sides
  after_reads_simp
  rfl

/-- Filter 3, tap by tap. -/
theorem host_v18 : (V m c main_v18 : FVec Ideal (T2 32 288) .bf16) = kFilter transposes_S32x32x3x3_S3x3x32x32_2_3_1_0 shapeCasts_S3x3x32x32_S288x32 transposes_S288x32_S32x288_1_0 (m ((c : Thread nD τ).loc main_arg5)) := by
  unfold_abbrev_sides
  after_reads_simp
  rfl

/-- Bias 0 as a column. -/
theorem host_v19 : (V m c main_v19 : FVec Ideal (T2 32 1) .f32) = shapeCast (T2 32 1) (m ((c : Thread nD τ).loc main_arg6)) shapeCasts_S32_S32x1 := by
  unfold_abbrev_sides
  after_reads_simp
  rfl

/-- Bias 1 as a column. -/
theorem host_v20 : (V m c main_v20 : FVec Ideal (T2 32 1) .f32) = shapeCast (T2 32 1) (m ((c : Thread nD τ).loc main_arg7)) shapeCasts_S32_S32x1 := by
  unfold_abbrev_sides
  after_reads_simp
  rfl

/-- Bias 2 as a column. -/
theorem host_v21 : (V m c main_v21 : FVec Ideal (T2 32 1) .f32) = shapeCast (T2 32 1) (m ((c : Thread nD τ).loc main_arg8)) shapeCasts_S32_S32x1 := by
  unfold_abbrev_sides
  after_reads_simp
  rfl

/-- Bias 3 as a column. -/
theorem host_v22 : (V m c main_v22 : FVec Ideal (T2 32 1) .f32) = shapeCast (T2 32 1) (m ((c : Thread nD τ).loc main_arg9)) shapeCasts_S32_S32x1 := by
  unfold_abbrev_sides
  after_reads_simp
  rfl

/-- The first pooling table. -/
theorem host_v54 : (V m c main_v54 : FVec Ideal (T2 8192 8) .f32) = kKron (r := 8192) (s := 8) bcast_S8x8_S8x1x8x1_0_2 bcast_S1024x1_S1x1024x1x1_1_3 bcast_S8x1x8x1_S8x1024x8x1_0_1_2_3 bcast_S1x1024x1x1_S8x1024x8x1_0_1_2_3 shapeCasts_S8x1024x8x1_S8192x8 (kEye (a := 8) bcast_S_S8x8) hOnes := by
  unfold_abbrev_sides
  after_reads_simp
  rfl

/-- The second pooling table. -/
theorem host_v59 : (V m c main_v59 : FVec Ideal (T2 8192 32) .f32) = kKron (r := 8192) (s := 32) bcast_S8x8_S8x1x8x1_0_2 bcast_S1024x4_S1x1024x1x4_1_3 bcast_S8x1x8x1_S8x1024x8x4_0_1_2_3 bcast_S1x1024x1x4_S8x1024x8x4_0_1_2_3 shapeCasts_S8x1024x8x4_S8192x32 (kEye (a := 8) bcast_S_S8x8) hPool2 := by
  unfold_abbrev_sides
  after_reads_simp
  rfl

/-- The pooling table into 4 by 4 cells. -/
theorem host_v63 : (V m c main_v63 : FVec Ideal (T2 1024 16) .f32) = hPool4 := by
  unfold_abbrev_sides
  after_reads_simp
  rfl

/-- The pooling table into 8 by 8 cells. -/
theorem host_v67 : (V m c main_v67 : FVec Ideal (T2 1024 64) .f32) = hPool8 := by
  unfold_abbrev_sides
  after_reads_simp
  rfl

/-- The pooling table into 16 by 16 cells. -/
theorem host_v71 : (V m c main_v71 : FVec Ideal (T2 1024 256) .f32) = hPool16 := by
  unfold_abbrev_sides
  after_reads_simp
  rfl

/-- The table that spreads the rows of 2 by 2 cells. -/
theorem host_v163 : (V m c main_v163 : FVec Ideal (T2 4 64) .f32) = transpose (T2 4 64) [1, 0] (kKron (r := 64) (s := 4) bcast_S32x2_S32x1x2x1_0_2 bcast_S2x2_S1x2x1x2_1_3 bcast_S32x1x2x1_S32x2x2x2_0_1_2_3 bcast_S1x2x1x2_S32x2x2x2_0_1_2_3 shapeCasts_S32x2x2x2_S64x4 hNorm2 (kEye (a := 2) bcast_S_S2x2)) transposes_S64x4_S4x64_1_0 := by
  unfold_abbrev_sides
  after_reads_simp
  rfl

/-- The table that spreads the rows of 4 by 4 cells. -/
theorem host_v167 : (V m c main_v167 : FVec Ideal (T2 16 128) .f32) = transpose (T2 16 128) [1, 0] (kKron (r := 128) (s := 16) bcast_S32x4_S32x1x4x1_0_2 bcast_S4x4_S1x4x1x4_1_3 bcast_S32x1x4x1_S32x4x4x4_0_1_2_3 bcast_S1x4x1x4_S32x4x4x4_0_1_2_3 shapeCasts_S32x4x4x4_S128x16 hNorm4 (kEye (a := 4) bcast_S_S4x4)) transposes_S128x16_S16x128_1_0 := by
  unfold_abbrev_sides
  after_reads_simp
  rfl

/-- The table that spreads the rows of 8 by 8 cells. -/
theorem host_v171 : (V m c main_v171 : FVec Ideal (T2 64 256) .f32) = transpose (T2 64 256) [1, 0] (kKron (r := 256) (s := 64) bcast_S32x8_S32x1x8x1_0_2 bcast_S8x8_S1x8x1x8_1_3 bcast_S32x1x8x1_S32x8x8x8_0_1_2_3 bcast_S1x8x1x8_S32x8x8x8_0_1_2_3 shapeCasts_S32x8x8x8_S256x64 hNorm8 (kEye (a := 8) bcast_S_S8x8)) transposes_S256x64_S64x256_1_0 := by
  unfold_abbrev_sides
  after_reads_simp
  rfl

/-- The table that spreads the rows of 16 by 16 cells. -/
theorem host_v175 : (V m c main_v175 : FVec Ideal (T2 256 512) .f32) = transpose (T2 256 512) [1, 0] (kKron (r := 512) (s := 256) bcast_S32x16_S32x1x16x1_0_2 bcast_S16x16_S1x16x1x16_1_3 bcast_S32x1x16x1_S32x16x16x16_0_1_2_3 bcast_S1x16x1x16_S32x16x16x16_0_1_2_3 shapeCasts_S32x16x16x16_S512x256 hNorm16 (kEye (a := 16) bcast_S_S16x16)) transposes_S512x256_S256x512_1_0 := by
  unfold_abbrev_sides
  after_reads_simp
  rfl

/-- The table that spreads the columns of 2 by 2 cells. -/
theorem host_v165 : (V m c main_v165 : FVec Ideal (T2 64 1024) .f32) = transpose (T2 64 1024) [1, 0] (kKron (r := 1024) (s := 64) bcast_S32x32_S32x1x32x1_0_2 bcast_S32x2_S1x32x1x2_1_3 bcast_S32x1x32x1_S32x32x32x2_0_1_2_3 bcast_S1x32x1x2_S32x32x32x2_0_1_2_3 shapeCasts_S32x32x32x2_S1024x64 (kEye (a := 32) bcast_S_S32x32) hNorm2) transposes_S1024x64_S64x1024_1_0 := by
  unfold_abbrev_sides
  after_reads_simp
  rfl

/-- The table that spreads the columns of 4 by 4 cells. -/
theorem host_v169 : (V m c main_v169 : FVec Ideal (T2 128 1024) .f32) = transpose (T2 128 1024) [1, 0] (kKron (r := 1024) (s := 128) bcast_S32x32_S32x1x32x1_0_2 bcast_S32x4_S1x32x1x4_1_3 bcast_S32x1x32x1_S32x32x32x4_0_1_2_3 bcast_S1x32x1x4_S32x32x32x4_0_1_2_3 shapeCasts_S32x32x32x4_S1024x128 (kEye (a := 32) bcast_S_S32x32) hNorm4) transposes_S1024x128_S128x1024_1_0 := by
  unfold_abbrev_sides
  after_reads_simp
  rfl

/-- The table that spreads the columns of 8 by 8 cells. -/
theorem host_v173 : (V m c main_v173 : FVec Ideal (T2 256 1024) .f32) = transpose (T2 256 1024) [1, 0] (kKron (r := 1024) (s := 256) bcast_S32x32_S32x1x32x1_0_2 bcast_S32x8_S1x32x1x8_1_3 bcast_S32x1x32x1_S32x32x32x8_0_1_2_3 bcast_S1x32x1x8_S32x32x32x8_0_1_2_3 shapeCasts_S32x32x32x8_S1024x256 (kEye (a := 32) bcast_S_S32x32) hNorm8) transposes_S1024x256_S256x1024_1_0 := by
  unfold_abbrev_sides
  after_reads_simp
  rfl

/-- The table that spreads the columns of 16 by 16 cells. -/
theorem host_v177 : (V m c main_v177 : FVec Ideal (T2 512 1024) .f32) = transpose (T2 512 1024) [1, 0] (kKron (r := 1024) (s := 512) bcast_S32x32_S32x1x32x1_0_2 bcast_S32x16_S1x32x1x16_1_3 bcast_S32x1x32x1_S32x32x32x16_0_1_2_3 bcast_S1x32x1x16_S32x32x32x16_0_1_2_3 shapeCasts_S32x32x32x16_S1024x512 (kEye (a := 32) bcast_S_S32x32) hNorm16) transposes_S1024x512_S512x1024_1_0 := by
  unfold_abbrev_sides
  after_reads_simp
  rfl

/-- The table that spreads the single cell of each image. -/
theorem host_v180 : (V m c main_v180 : FVec Ideal (T2 8 8192) .f32) = kKron (r := 8) (s := 8192) bcast_S8x8_S8x1x8x1_0_2 bcast_S1x1024_S1x1x1x1024_1_3 bcast_S8x1x8x1_S8x1x8x1024_0_1_2_3 bcast_S1x1x1x1024_S8x1x8x1024_0_1_2_3 shapeCasts_S8x1x8x1024_S8x8192 (kEye (a := 8) bcast_S_S8x8) (transpose (T2 1 1024) [1, 0] (kKron (r := 1024) (s := 1) bcast_S32x1_S32x1x1x1_0_2 bcast_S32x1_S1x32x1x1_1_3 bcast_S32x1x1x1_S32x32x1x1_0_1_2_3 bcast_S1x32x1x1_S32x32x1x1_0_1_2_3 shapeCasts_S32x32x1x1_S1024x1 hNorm1 hNorm1) transposes_S1024x1_S1x1024_1_0) := by
  unfold_abbrev_sides
  after_reads_simp
  rfl

end Cert.Msvq

end
-- ==== Proof.RefE.lean ====
/-
  The net of the ten arguments, and the reference's search at one scale.
-/
module

public import proofs.«01_k».proof.Proof.Chain
public import proofs.«01_k».proof.Proof.Gen.ReferenceIdeal.Read
public import proofs.«01_k».proof.Proof.Searches

@[expose] public section

set_option maxRecDepth 16384

noncomputable section

namespace Cert.Msvq

open Idealize.ShloMosaic
open Cert.ReferenceIdeal Cert.ReferenceIdeal.Gen

/-- The net that the ten arguments give. -/
def netOf (x0 : FVec Ideal (T4 8 32 32 32) .f32) (x1 : FVec Ideal (T2 8192 32) .f32) (x2 x3 x4 x5 : FVec Ideal (T4 32 32 3 3) .f32)
    (x6 x7 x8 x9 : FVec Ideal (T1 32) .f32) : Net where
  Z := img x0
  e := code x1
  w := ![fun o c ky kx => x2 (ix4 o c ky kx), fun o c ky kx => x3 (ix4 o c ky kx), fun o c ky kx => x4 (ix4 o c ky kx), fun o c ky kx => x5 (ix4 o c ky kx)]
  bi := ![fun o => x6 (ix1 o), fun o => x7 (ix1 o), fun o => x8 (ix1 o), fun o => x9 (ix1 o)]

/-- The facts the reference's filters cite. -/
theorem convFacts : ConvFacts where
  pd := pads_S8x32x32x32_S8x32x34x34_000_000_110_110
  hu := h_S_
  sx := by decide
  sw := by decide
  cw := shapeCasts_S32x32x1x1_S32x32
  tr := transposes_S8x32x32x32_S8x32x32x32_0_3_1_2
  b0 := bcast_S_S8x32x32x32
  b1 := bcast_S32_S1x32x1x1_1
  b2 := bcast_S1x32x1x1_S8x32x32x32_0_1_2_3

/-- The dimension numbers of a tap. -/
abbrev tapDims : DotDims (T4 8 32 32 32) (T2 32 32) (T4 8 32 32 32) := dot_S8x32x32x32_S32x32_S8x32x32x32_1_1_023_0_n_n

/-- They sum over the channels. -/
theorem tapReads : TapReads tapDims := by
  intro q a z b y x o; pointwise

variable {n p : ℕ}

/-- The search's words and the codes taken, from the rows of the cells `R`. -/
theorem ref_search (hn1 : n ≠ 1) (hn : n = 8 * p * p) (h1 h2 h3 h4 h5 h6 h7 h8 h9) (hu : 0 < T0.numel) (d : DotDims (T2 n 32) (T2 32 8192) (T2 n 8192))
    (hd : DotReads d) (k0 k1 k2 k3 k4 k5 wf k6 k7 s t)
    {r : FVec Ideal (T2 n 32) .f32} {e : FVec Ideal (T2 8192 32) .f32} {D : FVec Ideal (T2 n 8192) .f32} {I1 : IVec (T1 n) 32} {I3 : IVec (T3 8 p p) 32}
    {q : FVec Ideal (T4 8 p p 32) .f32} {q' : FVec Ideal (T4 8 32 p p) .f32} (R : Cells p)
    (hr : ∀ (a : Fin n) (b : Fin 8) (i j : Fin p) (_ : (a : ℕ) = (b * p + i) * p + j) (c : Fin 32), r (ix2 a c) = R b i j c)
    (hD : D = rDist h1 hu h2 h3 h4 h5 h6 h7 d h8 r e) (hI : I1 = rIdx h9 hu h2 h5 h8 D) (h3' : I3 = shapeCast (T3 8 p p) I1 s)
    (hq : q = rTake k0 k1 k2 k3 k4 k5 hu wf k6 k7 e I3) (hq' : q' = transpose (T4 8 32 p p) [0, 3, 1, 2] q t) :
    (∀ b i j, I3 (ix3 b i j) = BitVec.ofNat 32 (near (code e) (R b i j))) ∧ ∀ b c i j, q' (ix4 b c i j) = quant (code e) R b i j c := by
  have hi : ∀ b i j, I3 (ix3 b i j) = BitVec.ofNat 32 (near (code e) (R b i j)) := by
    intro b i j
    have hlt : ((b : ℕ) * p + i) * p + j < n := by
      have hb := b.2; have hi := i.2; have hj := j.2
      have h1 : (b : ℕ) * p + i + 1 ≤ 8 * p := by nlinarith
      have h2 : ((b : ℕ) * p + i + 1) * p ≤ 8 * p * p := Nat.mul_le_mul_right p h1
      rw [hn]; nlinarith
    rw [h3', reshape_idx s I1 ⟨_, hlt⟩ b i j rfl, hI]
    refine rIdx_apply hn1 _ _ _ _ _ D _ (R b i j) (code e) fun k => ?_
    rw [hD, rDist_apply hn1 _ _ _ _ _ _ _ _ _ _ hd]
    congr 1
    · funext l; exact hr _ b i j rfl l
    · funext l; unfold code; rw [dif_pos k.2]
  refine ⟨hi, fun b c i j => ?_⟩
  rw [hq', transpose_cells, hq, rTake_apply k0 k1 k2 k3 k4 k5 hu wf k6 k7 e I3 b i j c ⟨_, near_lt (code e) (R b i j)⟩ (hi b i j)]
  unfold quant code
  rw [dif_pos (near_lt _ _)]

end Cert.Msvq

end
-- ==== Proof.End5.lean ====
/-
  The launch's inputs are the images, codes, filters, biases and tables that the body's run needs.
-/
module

public import proofs.«01_k».proof.Proof.End1
public import proofs.«01_k».proof.Proof.End2
public import proofs.«01_k».proof.Proof.End3
public import proofs.«01_k».proof.Proof.TabC
public import proofs.«01_k».proof.Proof.RefE

@[expose] public section

set_option maxRecDepth 16384

noncomputable section

namespace Cert.Msvq

open Idealize.ShloMosaic Idealize.ShloMosaic.TcCoe Cert.KernelIdeal Cert.KernelIdeal.Gen

variable (m : (b : Loc nD τ sig) → Buf (Elt Ideal) b) (c : Dev nD)

/-- The net of the launch's arguments. -/
abbrev netAt : Net := netOf (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
  (m ((c : Thread nD τ).loc main_arg8)) (m ((c : Thread nD τ).loc main_arg9))

/-- The start of every load. -/
theorem zeros2 : (![0, 0] : Fin 2 → ℕ) = fun _ => 0 := by
  funext a; fin_cases a <;> rfl

/-- The small identity tables. -/
theorem isEye {a : ℕ} (h) (ha : a < 2 ^ 32) : IsEye (kEye (a := a) h) := fun i j => kEye_apply h ha i j

/-- A part of the cubic weights. -/
theorem raw_part {p : ℕ} (o : Fin 5) (hp : p ≤ 16) (h1 h2) (k : EReal) (hk : Ideal.ofBits .f32 (lit0 (S5.rowMajor (ix1 o))) = k) (i : Fin p) (y : Fin 32) :
    kPart (p := p) o h1 h2 hRaw (ix2 i y) = rawWeight k i y := by
  rw [kPart_apply o hp h1 h2 hRaw i y, hRaw, kRaw_apply, ← hk]
  rfl

/-- The weights of 2 by 2 cells. -/
theorem norm2 (y : Fin 32) (i : Fin 2) : hNorm2 (ix2 y i) = weight 2 (Ideal.ofBits .f32 0x3D800000#32) i y :=
  kNorm_apply (by norm_num) _ _ _ _ _ _ _ _ (raw_part (p := 2) 1 (by norm_num) _ _ _ rfl) y i

/-- The weights of 4 by 4 cells. -/
theorem norm4 (y : Fin 32) (i : Fin 4) : hNorm4 (ix2 y i) = weight 4 (Ideal.ofBits .f32 0x3E000000#32) i y :=
  kNorm_apply (by norm_num) _ _ _ _ _ _ _ _ (raw_part (p := 4) 2 (by norm_num) _ _ _ rfl) y i

/-- The weights of 8 by 8 cells. -/
theorem norm8 (y : Fin 32) (i : Fin 8) : hNorm8 (ix2 y i) = weight 8 (Ideal.ofBits .f32 0x3E800000#32) i y :=
  kNorm_apply (by norm_num) _ _ _ _ _ _ _ _ (raw_part (p := 8) 3 (by norm_num) _ _ _ rfl) y i

/-- The weights of 16 by 16 cells. -/
theorem norm16 (y : Fin 32) (i : Fin 16) : hNorm16 (ix2 y i) = weight 16 (Ideal.ofBits .f32 0x3F000000#32) i y :=
  kNorm_apply (by norm_num) _ _ _ _ _ _ _ _ (raw_part (p := 16) 4 (by norm_num) _ _ _ rfl) y i

/-- The weights of the single cell. -/
theorem norm1 (y : Fin 32) : hNorm1 (ix2 y 0) = weight 1 (Ideal.ofBits .f32 0x3D000000#32) 0 y :=
  kNorm1_apply _ _ _ _ _ _ _ (raw_part (p := 1) 0 (by norm_num) _ _ _ rfl) y

/-- Input 0 as loaded. -/
theorem loaded0 : (launchArgs m c).y0 = (V m c main_v1 : _) :=
  (Args.load_whole _ _ _ _ zeros2 _).trans (input0 m c)

/-- Input 3 as loaded. -/
theorem loaded3 : (launchArgs m c).y3 = (V m c main_v6 : _) :=
  (Args.load_whole _ _ _ _ zeros2 _).trans (input3 m c)

/-- Input 4 as loaded. -/
theorem loaded4 : (launchArgs m c).y4 = (V m c main_v10 : _) :=
  (Args.load_whole _ _ _ _ zeros2 _).trans (input4 m c)

/-- Input 5 as loaded. -/
theorem loaded5 : (launchArgs m c).y5 = (V m c main_v14 : _) :=
  (Args.load_whole _ _ _ _ zeros2 _).trans (input5 m c)

/-- Input 6 as loaded. -/
theorem loaded6 : (launchArgs m c).y6 = (V m c main_v18 : _) :=
  (Args.load_whole _ _ _ _ zeros2 _).trans (input6 m c)

/-- Input 7 as loaded. -/
theorem loaded7 : (launchArgs m c).y7 = (V m c main_v19 : _) :=
  (Args.load_whole _ _ _ _ zeros2 _).trans (input7 m c)

/-- Input 8 as loaded. -/
theorem loaded8 : (launchArgs m c).y8 = (V m c main_v20 : _) :=
  (Args.load_whole _ _ _ _ zeros2 _).trans (input8 m c)

/-- Input 9 as loaded. -/
theorem loaded9 : (launchArgs m c).y9 = (V m c main_v21 : _) :=
  (Args.load_whole _ _ _ _ zeros2 _).trans (input9 m c)

/-- Input 10 as loaded. -/
theorem loaded10 : (launchArgs m c).y10 = (V m c main_v22 : _) :=
  (Args.load_whole _ _ _ _ zeros2 _).trans (input10 m c)

/-- Input 11 as loaded. -/
theorem loaded11 : (launchArgs m c).y11 = (V m c main_v54 : _) :=
  (Args.load_whole _ _ _ _ zeros2 _).trans (input11 m c)

/-- Input 12 as loaded. -/
theorem loaded12 : (launchArgs m c).y12 = (V m c main_v59 : _) :=
  (Args.load_whole _ _ _ _ zeros2 _).trans (input12 m c)

/-- Input 13 as loaded. -/
theorem loaded13 : (launchArgs m c).y13 = (V m c main_v63 : _) :=
  (Args.load_whole _ _ _ _ zeros2 _).trans (input13 m c)

/-- Input 14 as loaded. -/
theorem loaded14 : (launchArgs m c).y14 = (V m c main_v67 : _) :=
  (Args.load_whole _ _ _ _ zeros2 _).trans (input14 m c)

/-- Input 15 as loaded. -/
theorem loaded15 : (launchArgs m c).y15 = (V m c main_v71 : _) :=
  (Args.load_whole _ _ _ _ zeros2 _).trans (input15 m c)

/-- Input 16 as loaded. -/
theorem loaded16 : (launchArgs m c).y16 = (V m c main_v163 : _) :=
  (Args.load_whole _ _ _ _ zeros2 _).trans (input16 m c)

/-- Input 17 as loaded. -/
theorem loaded17 : (launchArgs m c).y17 = (V m c main_v167 : _) :=
  (Args.load_whole _ _ _ _ zeros2 _).trans (input17 m c)

/-- Input 18 as loaded. -/
theorem loaded18 : (launchArgs m c).y18 = (V m c main_v171 : _) :=
  (Args.load_whole _ _ _ _ zeros2 _).trans (input18 m c)

/-- Input 19 as loaded. -/
theorem loaded19 : (launchArgs m c).y19 = (V m c main_v175 : _) :=
  (Args.load_whole _ _ _ _ zeros2 _).trans (input19 m c)

/-- Input 20 as loaded. -/
theorem loaded20 : (launchArgs m c).y20 = (V m c main_v165 : _) :=
  (Args.load_whole _ _ _ _ zeros2 _).trans (input20 m c)

/-- Input 21 as loaded. -/
theorem loaded21 : (launchArgs m c).y21 = (V m c main_v169 : _) :=
  (Args.load_whole _ _ _ _ zeros2 _).trans (input21 m c)

/-- Input 22 as loaded. -/
theorem loaded22 : (launchArgs m c).y22 = (V m c main_v173 : _) :=
  (Args.load_whole _ _ _ _ zeros2 _).trans (input22 m c)

/-- Input 23 as loaded. -/
theorem loaded23 : (launchArgs m c).y23 = (V m c main_v177 : _) :=
  (Args.load_whole _ _ _ _ zeros2 _).trans (input23 m c)

/-- Input 24 as loaded. -/
theorem loaded24 : (launchArgs m c).y24 = (V m c main_v180 : _) :=
  (Args.load_whole _ _ _ _ zeros2 _).trans (input24 m c)

/-- The launch's inputs, for real arguments. -/
theorem launch_ins (hN : (netAt m c).Real) : Ins (netAt m c) (launchArgs m c) where
  real := hN
  z := by rw [loaded0, host_v1]; exact kChannels_apply _ _ _
  e := by rw [input1, V_main_arg1]; rfl
  t := by
    intro l i
    rw [input1, input2, V_main_arg1, host_v2]
    exact swap_apply _ _ l i
  w0 := by intro o d ky kx; rw [loaded3, host_v6]; exact kFilter_apply _ _ _ _ o d ky kx
  w1 := by intro o d ky kx; rw [loaded4, host_v10]; exact kFilter_apply _ _ _ _ o d ky kx
  w2 := by intro o d ky kx; rw [loaded5, host_v14]; exact kFilter_apply _ _ _ _ o d ky kx
  w3 := by intro o d ky kx; rw [loaded6, host_v18]; exact kFilter_apply _ _ _ _ o d ky kx
  b0 := by intro o; rw [loaded7, host_v19]; exact column_apply _ _ o
  b1 := by intro o; rw [loaded8, host_v20]; exact column_apply _ _ o
  b2 := by intro o; rw [loaded9, host_v21]; exact column_apply _ _ o
  b3 := by intro o; rw [loaded10, host_v22]; exact column_apply _ _ o
  p1 := by rw [loaded11, host_v54]; exact isPool8 rfl rfl rfl _ (isEye _ (by norm_num)) _ (isPool_ones _ fun j => by show Ideal.ofBits .f32 0x3F800000#32 = 1; simp) _ _ _ _ _
  p2 := by rw [loaded12, host_v59]; exact isPool8 rfl rfl rfl _ (isEye _ (by norm_num)) _ (isPool rfl rfl _ (isEye _ (by norm_num)) _ _ _ _ _ _ _ _) _ _ _ _ _
  p4 := by rw [loaded13, host_v63]; exact isPool rfl rfl _ (isEye _ (by norm_num)) _ _ _ _ _ _ _ _
  p8 := by rw [loaded14, host_v67]; exact isPool rfl rfl _ (isEye _ (by norm_num)) _ _ _ _ _ _ _ _
  p16 := by rw [loaded15, host_v71]; exact isPool rfl rfl _ (isEye _ (by norm_num)) _ _ _ _ _ _ _ _
  u1 := by rw [loaded24, host_v180]; exact isSpread _ _ norm1 _ (isEye _ (by norm_num)) _ _ _ _ _ _ _ _ _ _ _
  a2 := by rw [loaded16, host_v163]; exact isRowTable rfl rfl _ _ norm2 _ (isEye _ (by norm_num)) _ _ _ _ _ _
  a4 := by rw [loaded17, host_v167]; exact isRowTable rfl rfl _ _ norm4 _ (isEye _ (by norm_num)) _ _ _ _ _ _
  a8 := by rw [loaded18, host_v171]; exact isRowTable rfl rfl _ _ norm8 _ (isEye _ (by norm_num)) _ _ _ _ _ _
  a16 := by rw [loaded19, host_v175]; exact isRowTable rfl rfl _ _ norm16 _ (isEye _ (by norm_num)) _ _ _ _ _ _
  c2 := by rw [loaded20, host_v165]; exact isColTable rfl _ _ norm2 _ (isEye _ (by norm_num)) _ _ _ _ _ _
  c4 := by rw [loaded21, host_v169]; exact isColTable rfl _ _ norm4 _ (isEye _ (by norm_num)) _ _ _ _ _ _
  c8 := by rw [loaded22, host_v173]; exact isColTable rfl _ _ norm8 _ (isEye _ (by norm_num)) _ _ _ _ _ _
  c16 := by rw [loaded23, host_v177]; exact isColTable rfl _ _ norm16 _ (isEye _ (by norm_num)) _ _ _ _ _ _

end Cert.Msvq

end
-- ==== Proof.Ref1.lean ====
/-
  The reference's scale 1, from the residual, the sum and the loss before it.
-/
module

public import proofs.«01_k».proof.Proof.RefE

@[expose] public section

set_option maxRecDepth 16384

noncomputable section

namespace Cert.Msvq

open Idealize.ShloMosaic
open Cert.ReferenceIdeal Cert.ReferenceIdeal.Gen Cert.ReferenceIdeal.Read

variable (x0 : FVec Ideal (T4 8 32 32 32) .f32) (x1 : FVec Ideal (T2 8192 32) .f32) (x2 x3 x4 x5 : FVec Ideal (T4 32 32 3 3) .f32)
  (x6 x7 x8 x9 : FVec Ideal (T1 32) .f32)

/-- Scale 1: the words of the cells, the image added, the residual, the sum and the loss. -/
theorem ref1
    (hR : img x0 = (netOf x0 x1 x2 x3 x4 x5 x6 x7 x8 x9).Z)
    (hH : img (val_main_v0 (F := Ideal)) = (fun _ _ _ _ => 0)) (hL : (val_main_cst_31 (F := Ideal)) ix0 = 0) :
    (∀ (b : Fin 8) (i j : Fin 1), (val_main_v30 (F := Ideal) x0 x1) (ix3 b i j) = BitVec.ofNat 32 (near (netOf x0 x1 x2 x3 x4 x5 x6 x7 x8 x9).e ((netOf x0 x1 x2 x3 x4 x5 x6 x7 x8 x9).c1 b i j)))
      ∧ img (val_main_v143 (F := Ideal) x0 x1 x2 x6) = (netOf x0 x1 x2 x3 x4 x5 x6 x7 x8 x9).h1 ∧ img (val_main_v144 (F := Ideal) x0 x1 x2 x6) = (netOf x0 x1 x2 x3 x4 x5 x6 x7 x8 x9).r1 ∧ (val_main_v156 (F := Ideal) x0 x1 x2 x6) ix0 = (netOf x0 x1 x2 x3 x4 x5 x6 x7 x8 x9).l1 := by
  have e1 : (val_main_v6 (F := Ideal) x0) = rRows (p := 1) (f := 32) (n := 8) shapeCasts_S8x32x32x32_S8x32x1x32x1x32 reducesTo_S8x32x1x32x1x32_S8x32x1x1_d3_5 h_S_ bcast_S_S8x32x1x1 transposes_S8x32x1x1_S8x1x1x32_0_2_3_1 shapeCasts_S8x1x1x32_S8x32 0x44800000#32 x0 := rfl
  have hrow : ∀ (a : Fin 8) (b : Fin 8) (i j : Fin 1) (ha : (a : ℕ) = (b * 1 + i) * 1 + j) (c : Fin 32), (val_main_v6 (F := Ideal) x0) (ix2 a c) = (netOf x0 x1 x2 x3 x4 x5 x6 x7 x8 x9).c1 b i j c := by
    intro a b i j ha c
    rw [e1, rRows_apply (p := 1) (f := 32) (n := 8) rfl _ _ _ _ _ _ _ _ a b i j ha c, hR]
    rfl
  have e2 : (val_main_v22 (F := Ideal) x0 x1) = rDist (n := 8) reducesTo_S8x32_S8_d1 h_S_ bcast_S8_S8x1_0 reducesTo_S8192x32_S8192_d1 bcast_S8192_S1x8192_1 bcast_S8x1_S8x8192_0_1 bcast_S1x8192_S8x8192_0_1 transposes_S8192x32_S32x8192_1_0 dot_S8x32_S32x8192_S8x8192_1_0_0_1_n_n bcast_S_S8x8192 (val_main_v6 (F := Ideal) x0) x1 := rfl
  have e3 : (val_main_v29 (F := Ideal) x0 x1) = rIdx (n := 8) reducesTo_S8x8192_S8_d1 h_S_ bcast_S8_S8x1_0 bcast_S8x1_S8x8192_0_1 bcast_S_S8x8192 (val_main_v22 (F := Ideal) x0 x1) := rfl
  have e4 : (val_main_v30 (F := Ideal) x0 x1) = shapeCast (T3 8 1 1) (val_main_v29 (F := Ideal) x0 x1) shapeCasts_S8_S8x1x1 := rfl
  have e5 : (val_main_v31 (F := Ideal) x0 x1) = rTake (p := 1) bcast_S_S8x1x1 bcast_S8x1x1_S8x1x1x1_0_1_2 bcast_S_S8x1x1x1 bcast_S1_S1x1x1x1_3 bcast_S1x1x1x1_S8x1x1x1_0_1_2_3 reducesTo_S8x1x1x1_S8x1x1_d3 h_S_ gather_S8192x32_S8x1x1x1_S8x1x1x32_3_0_n_n_0_3_132.wf bcast_S8x1x1_S8x1x1x32_0_1_2 bcast_S_S8x1x1x32 x1 (val_main_v30 (F := Ideal) x0 x1) := rfl
  have e6 : (val_main_v32 (F := Ideal) x0 x1) = transpose (T4 8 32 1 1) [0, 3, 1, 2] (val_main_v31 (F := Ideal) x0 x1) transposes_S8x1x1x32_S8x32x1x1_0_3_1_2 := rfl
  have hd : DotReads dot_S8x32_S32x8192_S8x8192_1_0_0_1_n_n := by intro l r c i j; pointwise
  obtain ⟨hI, hQ⟩ := ref_search (by norm_num) rfl _ _ _ _ _ _ _ _ _ _ _ hd _ _ _ _ _ _ _ _ _ _ _ _ hrow e2 e3 e4 e5 e6
  have e7 : (val_main_v75 (F := Ideal)) = rWeights1 bcast_S_S32 bcast_S32_S1x32_1 bcast_S1_S1x1_0 bcast_S1x1_S1x32_0_1 bcast_S_S1x32 reducesTo_S1x32_S32_d0 h_S_ 0x3D000000#32 := rfl
  have hw : ∀ (i : Fin 1) (y : Fin 32), (val_main_v75 (F := Ideal)) (ix2 i y) = weight 1 (Ideal.ofBits .f32 0x3D000000#32) i y := by
    intro i y
    obtain rfl : i = 0 := Subsingleton.elim _ _
    rw [e7]; exact rWeights1_apply ..
  have e8 : (val_main_v78 (F := Ideal) x0 x1) = rResize (p := 1) dot_S1x32_S8x32x1x1_S32x8x32x1_0_2_1_013_n_n transposes_S32x8x32x1_S8x32x32x1_1_2_0_3 dot_S8x32x32x1_S1x32_S8x32x32x32_3_0_012_1_n_n (val_main_v75 (F := Ideal)) (val_main_v32 (F := Ideal) x0 x1) := rfl
  have h1 : RowsReads dot_S1x32_S8x32x1x1_S32x8x32x1_0_2_1_013_n_n := by intro a q z y b c j; pointwise
  have h2 : ColsReads dot_S8x32x32x1_S1x32_S8x32x32x32_3_0_012_1_n_n := by intro q a z b c y x; pointwise
  have hh : img (val_main_v78 (F := Ideal) x0 x1) = resize (weight 1 (Ideal.ofBits .f32 0x3D000000#32)) (quant (netOf x0 x1 x2 x3 x4 x5 x6 x7 x8 x9).e (netOf x0 x1 x2 x3 x4 x5 x6 x7 x8 x9).c1) := by
    rw [e8]; exact rResize_apply _ _ _ h1 h2 _ _ _ _ hw hQ
  have e9 : (val_main_v142 (F := Ideal) x0 x1 x2 x6) = rPhi convFacts tapDims x2 x6 (val_main_v78 (F := Ideal) x0 x1) := rfl
  have hs : img (val_main_v142 (F := Ideal) x0 x1 x2 x6) = (netOf x0 x1 x2 x3 x4 x5 x6 x7 x8 x9).s1 := by
    rw [e9, rPhi_apply convFacts tapDims tapReads, hh]
    rfl
  have hz : img (val_main_v143 (F := Ideal) x0 x1 x2 x6) = (netOf x0 x1 x2 x3 x4 x5 x6 x7 x8 x9).h1 := by
    show plus (img (val_main_v0 (F := Ideal))) (img (val_main_v142 (F := Ideal) x0 x1 x2 x6)) = _
    rw [hH, hs]
    rfl
  have hr : img (val_main_v144 (F := Ideal) x0 x1 x2 x6) = (netOf x0 x1 x2 x3 x4 x5 x6 x7 x8 x9).r1 := by
    show minus (img x0) (img (val_main_v142 (F := Ideal) x0 x1 x2 x6)) = _
    rw [hR, hs]
    rfl
  have e10 : (val_main_v156 (F := Ideal) x0 x1 x2 x6) = rMore reducesTo_S8x32x32x32_S_d0_1_2_3 h_S_ (val_main_cst_31 (F := Ideal)) (val_main_v143 (F := Ideal) x0 x1 x2 x6) x0 := rfl
  have hl : (val_main_v156 (F := Ideal) x0 x1 x2 x6) ix0 = (netOf x0 x1 x2 x3 x4 x5 x6 x7 x8 x9).l1 := by
    rw [e10, rMore_apply, hL, hz]
    rfl
  exact ⟨hI, hz, hr, hl⟩

end Cert.Msvq

end
-- ==== Proof.Ref2.lean ====
/-
  The reference's scale 2, from the residual, the sum and the loss before it.
-/
module

public import proofs.«01_k».proof.Proof.RefE

@[expose] public section

set_option maxRecDepth 16384

noncomputable section

namespace Cert.Msvq

open Idealize.ShloMosaic
open Cert.ReferenceIdeal Cert.ReferenceIdeal.Gen Cert.ReferenceIdeal.Read

variable (x0 : FVec Ideal (T4 8 32 32 32) .f32) (x1 : FVec Ideal (T2 8192 32) .f32) (x2 x3 x4 x5 : FVec Ideal (T4 32 32 3 3) .f32)
  (x6 x7 x8 x9 : FVec Ideal (T1 32) .f32)

/-- Scale 2: the words of the cells, the image added, the residual, the sum and the loss. -/
theorem ref2
    (hR : img (val_main_v144 (F := Ideal) x0 x1 x2 x6) = (netOf x0 x1 x2 x3 x4 x5 x6 x7 x8 x9).r1)
    (hH : img (val_main_v143 (F := Ideal) x0 x1 x2 x6) = (netOf x0 x1 x2 x3 x4 x5 x6 x7 x8 x9).h1) (hL : (val_main_v156 (F := Ideal) x0 x1 x2 x6) ix0 = (netOf x0 x1 x2 x3 x4 x5 x6 x7 x8 x9).l1) :
    (∀ (b : Fin 8) (i j : Fin 2), (val_main_v186 (F := Ideal) x0 x1 x2 x6) (ix3 b i j) = BitVec.ofNat 32 (near (netOf x0 x1 x2 x3 x4 x5 x6 x7 x8 x9).e ((netOf x0 x1 x2 x3 x4 x5 x6 x7 x8 x9).c2 b i j)))
      ∧ img (val_main_v301 (F := Ideal) x0 x1 x2 x6) = (netOf x0 x1 x2 x3 x4 x5 x6 x7 x8 x9).h2 ∧ img (val_main_v302 (F := Ideal) x0 x1 x2 x6) = (netOf x0 x1 x2 x3 x4 x5 x6 x7 x8 x9).r2 ∧ (val_main_v314 (F := Ideal) x0 x1 x2 x6) ix0 = (netOf x0 x1 x2 x3 x4 x5 x6 x7 x8 x9).l2 := by
  have e1 : (val_main_v162 (F := Ideal) x0 x1 x2 x6) = rRows (p := 2) (f := 16) (n := 32) shapeCasts_S8x32x32x32_S8x32x2x16x2x16 reducesTo_S8x32x2x16x2x16_S8x32x2x2_d3_5 h_S_ bcast_S_S8x32x2x2 transposes_S8x32x2x2_S8x2x2x32_0_2_3_1 shapeCasts_S8x2x2x32_S32x32 0x43800000#32 (val_main_v144 (F := Ideal) x0 x1 x2 x6) := rfl
  have hrow : ∀ (a : Fin 32) (b : Fin 8) (i j : Fin 2) (ha : (a : ℕ) = (b * 2 + i) * 2 + j) (c : Fin 32), (val_main_v162 (F := Ideal) x0 x1 x2 x6) (ix2 a c) = (netOf x0 x1 x2 x3 x4 x5 x6 x7 x8 x9).c2 b i j c := by
    intro a b i j ha c
    rw [e1, rRows_apply (p := 2) (f := 16) (n := 32) rfl _ _ _ _ _ _ _ _ a b i j ha c, hR]
    rfl
  have e2 : (val_main_v178 (F := Ideal) x0 x1 x2 x6) = rDist (n := 32) reducesTo_S32x32_S32_d1 h_S_ bcast_S32_S32x1_0 reducesTo_S8192x32_S8192_d1 bcast_S8192_S1x8192_1 bcast_S32x1_S32x8192_0_1 bcast_S1x8192_S32x8192_0_1 transposes_S8192x32_S32x8192_1_0 dot_S32x32_S32x8192_S32x8192_1_0_0_1_n_n bcast_S_S32x8192 (val_main_v162 (F := Ideal) x0 x1 x2 x6) x1 := rfl
  have e3 : (val_main_v185 (F := Ideal) x0 x1 x2 x6) = rIdx (n := 32) reducesTo_S32x8192_S32_d1 h_S_ bcast_S32_S32x1_0 bcast_S32x1_S32x8192_0_1 bcast_S_S32x8192 (val_main_v178 (F := Ideal) x0 x1 x2 x6) := rfl
  have e4 : (val_main_v186 (F := Ideal) x0 x1 x2 x6) = shapeCast (T3 8 2 2) (val_main_v185 (F := Ideal) x0 x1 x2 x6) shapeCasts_S32_S8x2x2 := rfl
  have e5 : (val_main_v187 (F := Ideal) x0 x1 x2 x6) = rTake (p := 2) bcast_S_S8x2x2 bcast_S8x2x2_S8x2x2x1_0_1_2 bcast_S_S8x2x2x1 bcast_S1_S1x1x1x1_3 bcast_S1x1x1x1_S8x2x2x1_0_1_2_3 reducesTo_S8x2x2x1_S8x2x2_d3 h_S_ gather_S8192x32_S8x2x2x1_S8x2x2x32_3_0_n_n_0_3_132.wf bcast_S8x2x2_S8x2x2x32_0_1_2 bcast_S_S8x2x2x32 x1 (val_main_v186 (F := Ideal) x0 x1 x2 x6) := rfl
  have e6 : (val_main_v188 (F := Ideal) x0 x1 x2 x6) = transpose (T4 8 32 2 2) [0, 3, 1, 2] (val_main_v187 (F := Ideal) x0 x1 x2 x6) transposes_S8x2x2x32_S8x32x2x2_0_3_1_2 := rfl
  have hd : DotReads dot_S32x32_S32x8192_S32x8192_1_0_0_1_n_n := by intro l r c i j; pointwise
  obtain ⟨hI, hQ⟩ := ref_search (by norm_num) rfl _ _ _ _ _ _ _ _ _ _ _ hd _ _ _ _ _ _ _ _ _ _ _ _ hrow e2 e3 e4 e5 e6
  have e7 : (val_main_v233 (F := Ideal)) = rWeights (p := 2) bcast_S_S32 bcast_S32_S1x32_1 bcast_S1x32_S2x32_0_1 bcast_S2_S2x1_0 bcast_S2x1_S2x32_0_1 bcast_S_S2x32 bcast_S_S1x32 reducesTo_S2x32_S32_d0 h_S_ 0x3D800000#32 := rfl
  have hw : ∀ (i : Fin 2) (y : Fin 32), (val_main_v233 (F := Ideal)) (ix2 i y) = weight 2 (Ideal.ofBits .f32 0x3D800000#32) i y := by
    intro i y
    rw [e7]; exact rWeights_apply (by norm_num) ..
  have e8 : (val_main_v236 (F := Ideal) x0 x1 x2 x6) = rResize (p := 2) dot_S2x32_S8x32x2x2_S32x8x32x2_0_2_1_013_n_n transposes_S32x8x32x2_S8x32x32x2_1_2_0_3 dot_S8x32x32x2_S2x32_S8x32x32x32_3_0_012_1_n_n (val_main_v233 (F := Ideal)) (val_main_v188 (F := Ideal) x0 x1 x2 x6) := rfl
  have h1 : RowsReads dot_S2x32_S8x32x2x2_S32x8x32x2_0_2_1_013_n_n := by intro a q z y b c j; pointwise
  have h2 : ColsReads dot_S8x32x32x2_S2x32_S8x32x32x32_3_0_012_1_n_n := by intro q a z b c y x; pointwise
  have hh : img (val_main_v236 (F := Ideal) x0 x1 x2 x6) = resize (weight 2 (Ideal.ofBits .f32 0x3D800000#32)) (quant (netOf x0 x1 x2 x3 x4 x5 x6 x7 x8 x9).e (netOf x0 x1 x2 x3 x4 x5 x6 x7 x8 x9).c2) := by
    rw [e8]; exact rResize_apply _ _ _ h1 h2 _ _ _ _ hw hQ
  have e9 : (val_main_v300 (F := Ideal) x0 x1 x2 x6) = rPhi convFacts tapDims x2 x6 (val_main_v236 (F := Ideal) x0 x1 x2 x6) := rfl
  have hs : img (val_main_v300 (F := Ideal) x0 x1 x2 x6) = (netOf x0 x1 x2 x3 x4 x5 x6 x7 x8 x9).s2 := by
    rw [e9, rPhi_apply convFacts tapDims tapReads, hh]
    rfl
  have hz : img (val_main_v301 (F := Ideal) x0 x1 x2 x6) = (netOf x0 x1 x2 x3 x4 x5 x6 x7 x8 x9).h2 := by
    show plus (img (val_main_v143 (F := Ideal) x0 x1 x2 x6)) (img (val_main_v300 (F := Ideal) x0 x1 x2 x6)) = _
    rw [hH, hs]
    rfl
  have hr : img (val_main_v302 (F := Ideal) x0 x1 x2 x6) = (netOf x0 x1 x2 x3 x4 x5 x6 x7 x8 x9).r2 := by
    show minus (img (val_main_v144 (F := Ideal) x0 x1 x2 x6)) (img (val_main_v300 (F := Ideal) x0 x1 x2 x6)) = _
    rw [hR, hs]
    rfl
  have e10 : (val_main_v314 (F := Ideal) x0 x1 x2 x6) = rMore reducesTo_S8x32x32x32_S_d0_1_2_3 h_S_ (val_main_v156 (F := Ideal) x0 x1 x2 x6) (val_main_v301 (F := Ideal) x0 x1 x2 x6) x0 := rfl
  have hl : (val_main_v314 (F := Ideal) x0 x1 x2 x6) ix0 = (netOf x0 x1 x2 x3 x4 x5 x6 x7 x8 x9).l2 := by
    rw [e10, rMore_apply, hL, hz]
    rfl
  exact ⟨hI, hz, hr, hl⟩

end Cert.Msvq

end
-- ==== Proof.Ref3.lean ====
/-
  The reference's scale 3, from the residual, the sum and the loss before it.
-/
module

public import proofs.«01_k».proof.Proof.RefE

@[expose] public section

set_option maxRecDepth 16384

noncomputable section

namespace Cert.Msvq

open Idealize.ShloMosaic
open Cert.ReferenceIdeal Cert.ReferenceIdeal.Gen Cert.ReferenceIdeal.Read

variable (x0 : FVec Ideal (T4 8 32 32 32) .f32) (x1 : FVec Ideal (T2 8192 32) .f32) (x2 x3 x4 x5 : FVec Ideal (T4 32 32 3 3) .f32)
  (x6 x7 x8 x9 : FVec Ideal (T1 32) .f32)

/-- Scale 3: the words of the cells, the image added, the residual, the sum and the loss. -/
theorem ref3
    (hR : img (val_main_v302 (F := Ideal) x0 x1 x2 x6) = (netOf x0 x1 x2 x3 x4 x5 x6 x7 x8 x9).r2)
    (hH : img (val_main_v301 (F := Ideal) x0 x1 x2 x6) = (netOf x0 x1 x2 x3 x4 x5 x6 x7 x8 x9).h2) (hL : (val_main_v314 (F := Ideal) x0 x1 x2 x6) ix0 = (netOf x0 x1 x2 x3 x4 x5 x6 x7 x8 x9).l2) :
    (∀ (b : Fin 8) (i j : Fin 4), (val_main_v344 (F := Ideal) x0 x1 x2 x6) (ix3 b i j) = BitVec.ofNat 32 (near (netOf x0 x1 x2 x3 x4 x5 x6 x7 x8 x9).e ((netOf x0 x1 x2 x3 x4 x5 x6 x7 x8 x9).c3 b i j)))
      ∧ img (val_main_v459 (F := Ideal) x0 x1 x2 x3 x6 x7) = (netOf x0 x1 x2 x3 x4 x5 x6 x7 x8 x9).h3 ∧ img (val_main_v460 (F := Ideal) x0 x1 x2 x3 x6 x7) = (netOf x0 x1 x2 x3 x4 x5 x6 x7 x8 x9).r3 ∧ (val_main_v472 (F := Ideal) x0 x1 x2 x3 x6 x7) ix0 = (netOf x0 x1 x2 x3 x4 x5 x6 x7 x8 x9).l3 := by
  have e1 : (val_main_v320 (F := Ideal) x0 x1 x2 x6) = rRows (p := 4) (f := 8) (n := 128) shapeCasts_S8x32x32x32_S8x32x4x8x4x8 reducesTo_S8x32x4x8x4x8_S8x32x4x4_d3_5 h_S_ bcast_S_S8x32x4x4 transposes_S8x32x4x4_S8x4x4x32_0_2_3_1 shapeCasts_S8x4x4x32_S128x32 0x42800000#32 (val_main_v302 (F := Ideal) x0 x1 x2 x6) := rfl
  have hrow : ∀ (a : Fin 128) (b : Fin 8) (i j : Fin 4) (ha : (a : ℕ) = (b * 4 + i) * 4 + j) (c : Fin 32), (val_main_v320 (F := Ideal) x0 x1 x2 x6) (ix2 a c) = (netOf x0 x1 x2 x3 x4 x5 x6 x7 x8 x9).c3 b i j c := by
    intro a b i j ha c
    rw [e1, rRows_apply (p := 4) (f := 8) (n := 128) rfl _ _ _ _ _ _ _ _ a b i j ha c, hR]
    rfl
  have e2 : (val_main_v336 (F := Ideal) x0 x1 x2 x6) = rDist (n := 128) reducesTo_S128x32_S128_d1 h_S_ bcast_S128_S128x1_0 reducesTo_S8192x32_S8192_d1 bcast_S8192_S1x8192_1 bcast_S128x1_S128x8192_0_1 bcast_S1x8192_S128x8192_0_1 transposes_S8192x32_S32x8192_1_0 dot_S128x32_S32x8192_S128x8192_1_0_0_1_n_n bcast_S_S128x8192 (val_main_v320 (F := Ideal) x0 x1 x2 x6) x1 := rfl
  have e3 : (val_main_v343 (F := Ideal) x0 x1 x2 x6) = rIdx (n := 128) reducesTo_S128x8192_S128_d1 h_S_ bcast_S128_S128x1_0 bcast_S128x1_S128x8192_0_1 bcast_S_S128x8192 (val_main_v336 (F := Ideal) x0 x1 x2 x6) := rfl
  have e4 : (val_main_v344 (F := Ideal) x0 x1 x2 x6) = shapeCast (T3 8 4 4) (val_main_v343 (F := Ideal) x0 x1 x2 x6) shapeCasts_S128_S8x4x4 := rfl
  have e5 : (val_main_v345 (F := Ideal) x0 x1 x2 x6) = rTake (p := 4) bcast_S_S8x4x4 bcast_S8x4x4_S8x4x4x1_0_1_2 bcast_S_S8x4x4x1 bcast_S1_S1x1x1x1_3 bcast_S1x1x1x1_S8x4x4x1_0_1_2_3 reducesTo_S8x4x4x1_S8x4x4_d3 h_S_ gather_S8192x32_S8x4x4x1_S8x4x4x32_3_0_n_n_0_3_132.wf bcast_S8x4x4_S8x4x4x32_0_1_2 bcast_S_S8x4x4x32 x1 (val_main_v344 (F := Ideal) x0 x1 x2 x6) := rfl
  have e6 : (val_main_v346 (F := Ideal) x0 x1 x2 x6) = transpose (T4 8 32 4 4) [0, 3, 1, 2] (val_main_v345 (F := Ideal) x0 x1 x2 x6) transposes_S8x4x4x32_S8x32x4x4_0_3_1_2 := rfl
  have hd : DotReads dot_S128x32_S32x8192_S128x8192_1_0_0_1_n_n := by intro l r c i j; pointwise
  obtain ⟨hI, hQ⟩ := ref_search (by norm_num) rfl _ _ _ _ _ _ _ _ _ _ _ hd _ _ _ _ _ _ _ _ _ _ _ _ hrow e2 e3 e4 e5 e6
  have e7 : (val_main_v391 (F := Ideal)) = rWeights (p := 4) bcast_S_S32 bcast_S32_S1x32_1 bcast_S1x32_S4x32_0_1 bcast_S4_S4x1_0 bcast_S4x1_S4x32_0_1 bcast_S_S4x32 bcast_S_S1x32 reducesTo_S4x32_S32_d0 h_S_ 0x3E000000#32 := rfl
  have hw : ∀ (i : Fin 4) (y : Fin 32), (val_main_v391 (F := Ideal)) (ix2 i y) = weight 4 (Ideal.ofBits .f32 0x3E000000#32) i y := by
    intro i y
    rw [e7]; exact rWeights_apply (by norm_num) ..
  have e8 : (val_main_v394 (F := Ideal) x0 x1 x2 x6) = rResize (p := 4) dot_S4x32_S8x32x4x4_S32x8x32x4_0_2_1_013_n_n transposes_S32x8x32x4_S8x32x32x4_1_2_0_3 dot_S8x32x32x4_S4x32_S8x32x32x32_3_0_012_1_n_n (val_main_v391 (F := Ideal)) (val_main_v346 (F := Ideal) x0 x1 x2 x6) := rfl
  have h1 : RowsReads dot_S4x32_S8x32x4x4_S32x8x32x4_0_2_1_013_n_n := by intro a q z y b c j; pointwise
  have h2 : ColsReads dot_S8x32x32x4_S4x32_S8x32x32x32_3_0_012_1_n_n := by intro q a z b c y x; pointwise
  have hh : img (val_main_v394 (F := Ideal) x0 x1 x2 x6) = resize (weight 4 (Ideal.ofBits .f32 0x3E000000#32)) (quant (netOf x0 x1 x2 x3 x4 x5 x6 x7 x8 x9).e (netOf x0 x1 x2 x3 x4 x5 x6 x7 x8 x9).c3) := by
    rw [e8]; exact rResize_apply _ _ _ h1 h2 _ _ _ _ hw hQ
  have e9 : (val_main_v458 (F := Ideal) x0 x1 x2 x3 x6 x7) = rPhi convFacts tapDims x3 x7 (val_main_v394 (F := Ideal) x0 x1 x2 x6) := rfl
  have hs : img (val_main_v458 (F := Ideal) x0 x1 x2 x3 x6 x7) = (netOf x0 x1 x2 x3 x4 x5 x6 x7 x8 x9).s3 := by
    rw [e9, rPhi_apply convFacts tapDims tapReads, hh]
    rfl
  have hz : img (val_main_v459 (F := Ideal) x0 x1 x2 x3 x6 x7) = (netOf x0 x1 x2 x3 x4 x5 x6 x7 x8 x9).h3 := by
    show plus (img (val_main_v301 (F := Ideal) x0 x1 x2 x6)) (img (val_main_v458 (F := Ideal) x0 x1 x2 x3 x6 x7)) = _
    rw [hH, hs]
    rfl
  have hr : img (val_main_v460 (F := Ideal) x0 x1 x2 x3 x6 x7) = (netOf x0 x1 x2 x3 x4 x5 x6 x7 x8 x9).r3 := by
    show minus (img (val_main_v302 (F := Ideal) x0 x1 x2 x6)) (img (val_main_v458 (F := Ideal) x0 x1 x2 x3 x6 x7)) = _
    rw [hR, hs]
    rfl
  have e10 : (val_main_v472 (F := Ideal) x0 x1 x2 x3 x6 x7) = rMore reducesTo_S8x32x32x32_S_d0_1_2_3 h_S_ (val_main_v314 (F := Ideal) x0 x1 x2 x6) (val_main_v459 (F := Ideal) x0 x1 x2 x3 x6 x7) x0 := rfl
  have hl : (val_main_v472 (F := Ideal) x0 x1 x2 x3 x6 x7) ix0 = (netOf x0 x1 x2 x3 x4 x5 x6 x7 x8 x9).l3 := by
    rw [e10, rMore_apply, hL, hz]
    rfl
  exact ⟨hI, hz, hr, hl⟩

end Cert.Msvq

end
-- ==== Proof.Ref4.lean ====
/-
  The reference's scale 4, from the residual, the sum and the loss before it.
-/
module

public import proofs.«01_k».proof.Proof.RefE

@[expose] public section

set_option maxRecDepth 16384

noncomputable section

namespace Cert.Msvq

open Idealize.ShloMosaic
open Cert.ReferenceIdeal Cert.ReferenceIdeal.Gen Cert.ReferenceIdeal.Read

variable (x0 : FVec Ideal (T4 8 32 32 32) .f32) (x1 : FVec Ideal (T2 8192 32) .f32) (x2 x3 x4 x5 : FVec Ideal (T4 32 32 3 3) .f32)
  (x6 x7 x8 x9 : FVec Ideal (T1 32) .f32)

/-- Scale 4: the words of the cells, the image added, the residual, the sum and the loss. -/
theorem ref4
    (hR : img (val_main_v460 (F := Ideal) x0 x1 x2 x3 x6 x7) = (netOf x0 x1 x2 x3 x4 x5 x6 x7 x8 x9).r3)
    (hH : img (val_main_v459 (F := Ideal) x0 x1 x2 x3 x6 x7) = (netOf x0 x1 x2 x3 x4 x5 x6 x7 x8 x9).h3) (hL : (val_main_v472 (F := Ideal) x0 x1 x2 x3 x6 x7) ix0 = (netOf x0 x1 x2 x3 x4 x5 x6 x7 x8 x9).l3) :
    (∀ (b : Fin 8) (i j : Fin 8), (val_main_v502 (F := Ideal) x0 x1 x2 x3 x6 x7) (ix3 b i j) = BitVec.ofNat 32 (near (netOf x0 x1 x2 x3 x4 x5 x6 x7 x8 x9).e ((netOf x0 x1 x2 x3 x4 x5 x6 x7 x8 x9).c4 b i j)))
      ∧ img (val_main_v617 (F := Ideal) x0 x1 x2 x3 x4 x6 x7 x8) = (netOf x0 x1 x2 x3 x4 x5 x6 x7 x8 x9).h4 ∧ img (val_main_v618 (F := Ideal) x0 x1 x2 x3 x4 x6 x7 x8) = (netOf x0 x1 x2 x3 x4 x5 x6 x7 x8 x9).r4 ∧ (val_main_v630 (F := Ideal) x0 x1 x2 x3 x4 x6 x7 x8) ix0 = (netOf x0 x1 x2 x3 x4 x5 x6 x7 x8 x9).l4 := by
  have e1 : (val_main_v478 (F := Ideal) x0 x1 x2 x3 x6 x7) = rRows (p := 8) (f := 4) (n := 512) shapeCasts_S8x32x32x32_S8x32x8x4x8x4 reducesTo_S8x32x8x4x8x4_S8x32x8x8_d3_5 h_S_ bcast_S_S8x32x8x8 transposes_S8x32x8x8_S8x8x8x32_0_2_3_1 shapeCasts_S8x8x8x32_S512x32 0x41800000#32 (val_main_v460 (F := Ideal) x0 x1 x2 x3 x6 x7) := rfl
  have hrow : ∀ (a : Fin 512) (b : Fin 8) (i j : Fin 8) (ha : (a : ℕ) = (b * 8 + i) * 8 + j) (c : Fin 32), (val_main_v478 (F := Ideal) x0 x1 x2 x3 x6 x7) (ix2 a c) = (netOf x0 x1 x2 x3 x4 x5 x6 x7 x8 x9).c4 b i j c := by
    intro a b i j ha c
    rw [e1, rRows_apply (p := 8) (f := 4) (n := 512) rfl _ _ _ _ _ _ _ _ a b i j ha c, hR]
    rfl
  have e2 : (val_main_v494 (F := Ideal) x0 x1 x2 x3 x6 x7) = rDist (n := 512) reducesTo_S512x32_S512_d1 h_S_ bcast_S512_S512x1_0 reducesTo_S8192x32_S8192_d1 bcast_S8192_S1x8192_1 bcast_S512x1_S512x8192_0_1 bcast_S1x8192_S512x8192_0_1 transposes_S8192x32_S32x8192_1_0 dot_S512x32_S32x8192_S512x8192_1_0_0_1_n_n bcast_S_S512x8192 (val_main_v478 (F := Ideal) x0 x1 x2 x3 x6 x7) x1 := rfl
  have e3 : (val_main_v501 (F := Ideal) x0 x1 x2 x3 x6 x7) = rIdx (n := 512) reducesTo_S512x8192_S512_d1 h_S_ bcast_S512_S512x1_0 bcast_S512x1_S512x8192_0_1 bcast_S_S512x8192 (val_main_v494 (F := Ideal) x0 x1 x2 x3 x6 x7) := rfl
  have e4 : (val_main_v502 (F := Ideal) x0 x1 x2 x3 x6 x7) = shapeCast (T3 8 8 8) (val_main_v501 (F := Ideal) x0 x1 x2 x3 x6 x7) shapeCasts_S512_S8x8x8 := rfl
  have e5 : (val_main_v503 (F := Ideal) x0 x1 x2 x3 x6 x7) = rTake (p := 8) bcast_S_S8x8x8 bcast_S8x8x8_S8x8x8x1_0_1_2 bcast_S_S8x8x8x1 bcast_S1_S1x1x1x1_3 bcast_S1x1x1x1_S8x8x8x1_0_1_2_3 reducesTo_S8x8x8x1_S8x8x8_d3 h_S_ gather_S8192x32_S8x8x8x1_S8x8x8x32_3_0_n_n_0_3_132.wf bcast_S8x8x8_S8x8x8x32_0_1_2 bcast_S_S8x8x8x32 x1 (val_main_v502 (F := Ideal) x0 x1 x2 x3 x6 x7) := rfl
  have e6 : (val_main_v504 (F := Ideal) x0 x1 x2 x3 x6 x7) = transpose (T4 8 32 8 8) [0, 3, 1, 2] (val_main_v503 (F := Ideal) x0 x1 x2 x3 x6 x7) transposes_S8x8x8x32_S8x32x8x8_0_3_1_2 := rfl
  have hd : DotReads dot_S512x32_S32x8192_S512x8192_1_0_0_1_n_n := by intro l r c i j; pointwise
  obtain ⟨hI, hQ⟩ := ref_search (by norm_num) rfl _ _ _ _ _ _ _ _ _ _ _ hd _ _ _ _ _ _ _ _ _ _ _ _ hrow e2 e3 e4 e5 e6
  have e7 : (val_main_v549 (F := Ideal)) = rWeights (p := 8) bcast_S_S32 bcast_S32_S1x32_1 bcast_S1x32_S8x32_0_1 bcast_S8_S8x1_0 bcast_S8x1_S8x32_0_1 bcast_S_S8x32 bcast_S_S1x32 reducesTo_S8x32_S32_d0 h_S_ 0x3E800000#32 := rfl
  have hw : ∀ (i : Fin 8) (y : Fin 32), (val_main_v549 (F := Ideal)) (ix2 i y) = weight 8 (Ideal.ofBits .f32 0x3E800000#32) i y := by
    intro i y
    rw [e7]; exact rWeights_apply (by norm_num) ..
  have e8 : (val_main_v552 (F := Ideal) x0 x1 x2 x3 x6 x7) = rResize (p := 8) dot_S8x32_S8x32x8x8_S32x8x32x8_0_2_1_013_n_n transposes_S32x8x32x8_S8x32x32x8_1_2_0_3 dot_S8x32x32x8_S8x32_S8x32x32x32_3_0_012_1_n_n (val_main_v549 (F := Ideal)) (val_main_v504 (F := Ideal) x0 x1 x2 x3 x6 x7) := rfl
  have h1 : RowsReads dot_S8x32_S8x32x8x8_S32x8x32x8_0_2_1_013_n_n := by intro a q z y b c j; pointwise
  have h2 : ColsReads dot_S8x32x32x8_S8x32_S8x32x32x32_3_0_012_1_n_n := by intro q a z b c y x; pointwise
  have hh : img (val_main_v552 (F := Ideal) x0 x1 x2 x3 x6 x7) = resize (weight 8 (Ideal.ofBits .f32 0x3E800000#32)) (quant (netOf x0 x1 x2 x3 x4 x5 x6 x7 x8 x9).e (netOf x0 x1 x2 x3 x4 x5 x6 x7 x8 x9).c4) := by
    rw [e8]; exact rResize_apply _ _ _ h1 h2 _ _ _ _ hw hQ
  have e9 : (val_main_v616 (F := Ideal) x0 x1 x2 x3 x4 x6 x7 x8) = rPhi convFacts tapDims x4 x8 (val_main_v552 (F := Ideal) x0 x1 x2 x3 x6 x7) := rfl
  have hs : img (val_main_v616 (F := Ideal) x0 x1 x2 x3 x4 x6 x7 x8) = (netOf x0 x1 x2 x3 x4 x5 x6 x7 x8 x9).s4 := by
    rw [e9, rPhi_apply convFacts tapDims tapReads, hh]
    rfl
  have hz : img (val_main_v617 (F := Ideal) x0 x1 x2 x3 x4 x6 x7 x8) = (netOf x0 x1 x2 x3 x4 x5 x6 x7 x8 x9).h4 := by
    show plus (img (val_main_v459 (F := Ideal) x0 x1 x2 x3 x6 x7)) (img (val_main_v616 (F := Ideal) x0 x1 x2 x3 x4 x6 x7 x8)) = _
    rw [hH, hs]
    rfl
  have hr : img (val_main_v618 (F := Ideal) x0 x1 x2 x3 x4 x6 x7 x8) = (netOf x0 x1 x2 x3 x4 x5 x6 x7 x8 x9).r4 := by
    show minus (img (val_main_v460 (F := Ideal) x0 x1 x2 x3 x6 x7)) (img (val_main_v616 (F := Ideal) x0 x1 x2 x3 x4 x6 x7 x8)) = _
    rw [hR, hs]
    rfl
  have e10 : (val_main_v630 (F := Ideal) x0 x1 x2 x3 x4 x6 x7 x8) = rMore reducesTo_S8x32x32x32_S_d0_1_2_3 h_S_ (val_main_v472 (F := Ideal) x0 x1 x2 x3 x6 x7) (val_main_v617 (F := Ideal) x0 x1 x2 x3 x4 x6 x7 x8) x0 := rfl
  have hl : (val_main_v630 (F := Ideal) x0 x1 x2 x3 x4 x6 x7 x8) ix0 = (netOf x0 x1 x2 x3 x4 x5 x6 x7 x8 x9).l4 := by
    rw [e10, rMore_apply, hL, hz]
    rfl
  exact ⟨hI, hz, hr, hl⟩

end Cert.Msvq

end
-- ==== Proof.Ref5.lean ====
/-
  The reference's scale 5, from the residual, the sum and the loss before it.
-/
module

public import proofs.«01_k».proof.Proof.RefE

@[expose] public section

set_option maxRecDepth 16384

noncomputable section

namespace Cert.Msvq

open Idealize.ShloMosaic
open Cert.ReferenceIdeal Cert.ReferenceIdeal.Gen Cert.ReferenceIdeal.Read

variable (x0 : FVec Ideal (T4 8 32 32 32) .f32) (x1 : FVec Ideal (T2 8192 32) .f32) (x2 x3 x4 x5 : FVec Ideal (T4 32 32 3 3) .f32)
  (x6 x7 x8 x9 : FVec Ideal (T1 32) .f32)

/-- Scale 5: the words of the cells, the image added, the residual, the sum and the loss. -/
theorem ref5
    (hR : img (val_main_v618 (F := Ideal) x0 x1 x2 x3 x4 x6 x7 x8) = (netOf x0 x1 x2 x3 x4 x5 x6 x7 x8 x9).r4)
    (hH : img (val_main_v617 (F := Ideal) x0 x1 x2 x3 x4 x6 x7 x8) = (netOf x0 x1 x2 x3 x4 x5 x6 x7 x8 x9).h4) (hL : (val_main_v630 (F := Ideal) x0 x1 x2 x3 x4 x6 x7 x8) ix0 = (netOf x0 x1 x2 x3 x4 x5 x6 x7 x8 x9).l4) :
    (∀ (b : Fin 8) (i j : Fin 16), (val_main_v660 (F := Ideal) x0 x1 x2 x3 x4 x6 x7 x8) (ix3 b i j) = BitVec.ofNat 32 (near (netOf x0 x1 x2 x3 x4 x5 x6 x7 x8 x9).e ((netOf x0 x1 x2 x3 x4 x5 x6 x7 x8 x9).c5 b i j)))
      ∧ img (val_main_v775 (F := Ideal) x0 x1 x2 x3 x4 x5 x6 x7 x8 x9) = (netOf x0 x1 x2 x3 x4 x5 x6 x7 x8 x9).h5 ∧ img (val_main_v776 (F := Ideal) x0 x1 x2 x3 x4 x5 x6 x7 x8 x9) = (netOf x0 x1 x2 x3 x4 x5 x6 x7 x8 x9).r5 ∧ (val_main_v788 (F := Ideal) x0 x1 x2 x3 x4 x5 x6 x7 x8 x9) ix0 = (netOf x0 x1 x2 x3 x4 x5 x6 x7 x8 x9).l5 := by
  have e1 : (val_main_v636 (F := Ideal) x0 x1 x2 x3 x4 x6 x7 x8) = rRows (p := 16) (f := 2) (n := 2048) shapeCasts_S8x32x32x32_S8x32x16x2x16x2 reducesTo_S8x32x16x2x16x2_S8x32x16x16_d3_5 h_S_ bcast_S_S8x32x16x16 transposes_S8x32x16x16_S8x16x16x32_0_2_3_1 shapeCasts_S8x16x16x32_S2048x32 0x40800000#32 (val_main_v618 (F := Ideal) x0 x1 x2 x3 x4 x6 x7 x8) := rfl
  have hrow : ∀ (a : Fin 2048) (b : Fin 8) (i j : Fin 16) (ha : (a : ℕ) = (b * 16 + i) * 16 + j) (c : Fin 32), (val_main_v636 (F := Ideal) x0 x1 x2 x3 x4 x6 x7 x8) (ix2 a c) = (netOf x0 x1 x2 x3 x4 x5 x6 x7 x8 x9).c5 b i j c := by
    intro a b i j ha c
    rw [e1, rRows_apply (p := 16) (f := 2) (n := 2048) rfl _ _ _ _ _ _ _ _ a b i j ha c, hR]
    rfl
  have e2 : (val_main_v652 (F := Ideal) x0 x1 x2 x3 x4 x6 x7 x8) = rDist (n := 2048) reducesTo_S2048x32_S2048_d1 h_S_ bcast_S2048_S2048x1_0 reducesTo_S8192x32_S8192_d1 bcast_S8192_S1x8192_1 bcast_S2048x1_S2048x8192_0_1 bcast_S1x8192_S2048x8192_0_1 transposes_S8192x32_S32x8192_1_0 dot_S2048x32_S32x8192_S2048x8192_1_0_0_1_n_n bcast_S_S2048x8192 (val_main_v636 (F := Ideal) x0 x1 x2 x3 x4 x6 x7 x8) x1 := rfl
  have e3 : (val_main_v659 (F := Ideal) x0 x1 x2 x3 x4 x6 x7 x8) = rIdx (n := 2048) reducesTo_S2048x8192_S2048_d1 h_S_ bcast_S2048_S2048x1_0 bcast_S2048x1_S2048x8192_0_1 bcast_S_S2048x8192 (val_main_v652 (F := Ideal) x0 x1 x2 x3 x4 x6 x7 x8) := rfl
  have e4 : (val_main_v660 (F := Ideal) x0 x1 x2 x3 x4 x6 x7 x8) = shapeCast (T3 8 16 16) (val_main_v659 (F := Ideal) x0 x1 x2 x3 x4 x6 x7 x8) shapeCasts_S2048_S8x16x16 := rfl
  have e5 : (val_main_v661 (F := Ideal) x0 x1 x2 x3 x4 x6 x7 x8) = rTake (p := 16) bcast_S_S8x16x16 bcast_S8x16x16_S8x16x16x1_0_1_2 bcast_S_S8x16x16x1 bcast_S1_S1x1x1x1_3 bcast_S1x1x1x1_S8x16x16x1_0_1_2_3 reducesTo_S8x16x16x1_S8x16x16_d3 h_S_ gather_S8192x32_S8x16x16x1_S8x16x16x32_3_0_n_n_0_3_132.wf bcast_S8x16x16_S8x16x16x32_0_1_2 bcast_S_S8x16x16x32 x1 (val_main_v660 (F := Ideal) x0 x1 x2 x3 x4 x6 x7 x8) := rfl
  have e6 : (val_main_v662 (F := Ideal) x0 x1 x2 x3 x4 x6 x7 x8) = transpose (T4 8 32 16 16) [0, 3, 1, 2] (val_main_v661 (F := Ideal) x0 x1 x2 x3 x4 x6 x7 x8) transposes_S8x16x16x32_S8x32x16x16_0_3_1_2 := rfl
  have hd : DotReads dot_S2048x32_S32x8192_S2048x8192_1_0_0_1_n_n := by intro l r c i j; pointwise
  obtain ⟨hI, hQ⟩ := ref_search (by norm_num) rfl _ _ _ _ _ _ _ _ _ _ _ hd _ _ _ _ _ _ _ _ _ _ _ _ hrow e2 e3 e4 e5 e6
  have e7 : (val_main_v707 (F := Ideal)) = rWeights (p := 16) bcast_S_S32 bcast_S32_S1x32_1 bcast_S1x32_S16x32_0_1 bcast_S16_S16x1_0 bcast_S16x1_S16x32_0_1 bcast_S_S16x32 bcast_S_S1x32 reducesTo_S16x32_S32_d0 h_S_ 0x3F000000#32 := rfl
  have hw : ∀ (i : Fin 16) (y : Fin 32), (val_main_v707 (F := Ideal)) (ix2 i y) = weight 16 (Ideal.ofBits .f32 0x3F000000#32) i y := by
    intro i y
    rw [e7]; exact rWeights_apply (by norm_num) ..
  have e8 : (val_main_v710 (F := Ideal) x0 x1 x2 x3 x4 x6 x7 x8) = rResize (p := 16) dot_S16x32_S8x32x16x16_S32x8x32x16_0_2_1_013_n_n transposes_S32x8x32x16_S8x32x32x16_1_2_0_3 dot_S8x32x32x16_S16x32_S8x32x32x32_3_0_012_1_n_n (val_main_v707 (F := Ideal)) (val_main_v662 (F := Ideal) x0 x1 x2 x3 x4 x6 x7 x8) := rfl
  have h1 : RowsReads dot_S16x32_S8x32x16x16_S32x8x32x16_0_2_1_013_n_n := by intro a q z y b c j; pointwise
  have h2 : ColsReads dot_S8x32x32x16_S16x32_S8x32x32x32_3_0_012_1_n_n := by intro q a z b c y x; pointwise
  have hh : img (val_main_v710 (F := Ideal) x0 x1 x2 x3 x4 x6 x7 x8) = resize (weight 16 (Ideal.ofBits .f32 0x3F000000#32)) (quant (netOf x0 x1 x2 x3 x4 x5 x6 x7 x8 x9).e (netOf x0 x1 x2 x3 x4 x5 x6 x7 x8 x9).c5) := by
    rw [e8]; exact rResize_apply _ _ _ h1 h2 _ _ _ _ hw hQ
  have e9 : (val_main_v774 (F := Ideal) x0 x1 x2 x3 x4 x5 x6 x7 x8 x9) = rPhi convFacts tapDims x5 x9 (val_main_v710 (F := Ideal) x0 x1 x2 x3 x4 x6 x7 x8) := rfl
  have hs : img (val_main_v774 (F := Ideal) x0 x1 x2 x3 x4 x5 x6 x7 x8 x9) = (netOf x0 x1 x2 x3 x4 x5 x6 x7 x8 x9).s5 := by
    rw [e9, rPhi_apply convFacts tapDims tapReads, hh]
    rfl
  have hz : img (val_main_v775 (F := Ideal) x0 x1 x2 x3 x4 x5 x6 x7 x8 x9) = (netOf x0 x1 x2 x3 x4 x5 x6 x7 x8 x9).h5 := by
    show plus (img (val_main_v617 (F := Ideal) x0 x1 x2 x3 x4 x6 x7 x8)) (img (val_main_v774 (F := Ideal) x0 x1 x2 x3 x4 x5 x6 x7 x8 x9)) = _
    rw [hH, hs]
    rfl
  have hr : img (val_main_v776 (F := Ideal) x0 x1 x2 x3 x4 x5 x6 x7 x8 x9) = (netOf x0 x1 x2 x3 x4 x5 x6 x7 x8 x9).r5 := by
    show minus (img (val_main_v618 (F := Ideal) x0 x1 x2 x3 x4 x6 x7 x8)) (img (val_main_v774 (F := Ideal) x0 x1 x2 x3 x4 x5 x6 x7 x8 x9)) = _
    rw [hR, hs]
    rfl
  have e10 : (val_main_v788 (F := Ideal) x0 x1 x2 x3 x4 x5 x6 x7 x8 x9) = rMore reducesTo_S8x32x32x32_S_d0_1_2_3 h_S_ (val_main_v630 (F := Ideal) x0 x1 x2 x3 x4 x6 x7 x8) (val_main_v775 (F := Ideal) x0 x1 x2 x3 x4 x5 x6 x7 x8 x9) x0 := rfl
  have hl : (val_main_v788 (F := Ideal) x0 x1 x2 x3 x4 x5 x6 x7 x8 x9) ix0 = (netOf x0 x1 x2 x3 x4 x5 x6 x7 x8 x9).l5 := by
    rw [e10, rMore_apply, hL, hz]
    rfl
  exact ⟨hI, hz, hr, hl⟩

end Cert.Msvq

end
-- ==== Proof.Ref6.lean ====
/-
  The reference's scale 6, from the residual, the sum and the loss before it.
-/
module

public import proofs.«01_k».proof.Proof.RefE

@[expose] public section

set_option maxRecDepth 16384

noncomputable section

namespace Cert.Msvq

open Idealize.ShloMosaic
open Cert.ReferenceIdeal Cert.ReferenceIdeal.Gen Cert.ReferenceIdeal.Read

variable (x0 : FVec Ideal (T4 8 32 32 32) .f32) (x1 : FVec Ideal (T2 8192 32) .f32) (x2 x3 x4 x5 : FVec Ideal (T4 32 32 3 3) .f32)
  (x6 x7 x8 x9 : FVec Ideal (T1 32) .f32)

/-- Scale 6: the words of the cells, the image added, the residual, the sum and the loss. -/
theorem ref6
    (hR : img (val_main_v776 (F := Ideal) x0 x1 x2 x3 x4 x5 x6 x7 x8 x9) = (netOf x0 x1 x2 x3 x4 x5 x6 x7 x8 x9).r5)
    (hH : img (val_main_v775 (F := Ideal) x0 x1 x2 x3 x4 x5 x6 x7 x8 x9) = (netOf x0 x1 x2 x3 x4 x5 x6 x7 x8 x9).h5) (hL : (val_main_v788 (F := Ideal) x0 x1 x2 x3 x4 x5 x6 x7 x8 x9) ix0 = (netOf x0 x1 x2 x3 x4 x5 x6 x7 x8 x9).l5) :
    (∀ (b : Fin 8) (i j : Fin 32), (val_main_v814 (F := Ideal) x0 x1 x2 x3 x4 x5 x6 x7 x8 x9) (ix3 b i j) = BitVec.ofNat 32 (near (netOf x0 x1 x2 x3 x4 x5 x6 x7 x8 x9).e ((netOf x0 x1 x2 x3 x4 x5 x6 x7 x8 x9).c6 b i j)))
      ∧ img (val_main_v881 (F := Ideal) x0 x1 x2 x3 x4 x5 x6 x7 x8 x9) = (netOf x0 x1 x2 x3 x4 x5 x6 x7 x8 x9).h6 ∧ (val_main_v894 (F := Ideal) x0 x1 x2 x3 x4 x5 x6 x7 x8 x9) ix0 = more (netOf x0 x1 x2 x3 x4 x5 x6 x7 x8 x9).l5 (sq (netOf x0 x1 x2 x3 x4 x5 x6 x7 x8 x9).h6 (netOf x0 x1 x2 x3 x4 x5 x6 x7 x8 x9).Z) := by
  have e1 : (val_main_v790 (F := Ideal) x0 x1 x2 x3 x4 x5 x6 x7 x8 x9) = rRowsLast (n := 8192) transposes_S8x32x32x32_S8x32x32x32_0_2_3_1 shapeCasts_S8x32x32x32_S8192x32 (val_main_v776 (F := Ideal) x0 x1 x2 x3 x4 x5 x6 x7 x8 x9) := rfl
  have hrow : ∀ (a : Fin 8192) (b : Fin 8) (i j : Fin 32) (ha : (a : ℕ) = (b * 32 + i) * 32 + j) (c : Fin 32), (val_main_v790 (F := Ideal) x0 x1 x2 x3 x4 x5 x6 x7 x8 x9) (ix2 a c) = (netOf x0 x1 x2 x3 x4 x5 x6 x7 x8 x9).c6 b i j c := by
    intro a b i j ha c
    rw [e1, rRowsLast_apply (n := 8192) _ _ _ a b i j ha c, hR]
    rfl
  have e2 : (val_main_v806 (F := Ideal) x0 x1 x2 x3 x4 x5 x6 x7 x8 x9) = rDist (n := 8192) reducesTo_S8192x32_S8192_d1 h_S_ bcast_S8192_S8192x1_0 reducesTo_S8192x32_S8192_d1 bcast_S8192_S1x8192_1 bcast_S8192x1_S8192x8192_0_1 bcast_S1x8192_S8192x8192_0_1 transposes_S8192x32_S32x8192_1_0 dot_S8192x32_S32x8192_S8192x8192_1_0_0_1_n_n bcast_S_S8192x8192 (val_main_v790 (F := Ideal) x0 x1 x2 x3 x4 x5 x6 x7 x8 x9) x1 := rfl
  have e3 : (val_main_v813 (F := Ideal) x0 x1 x2 x3 x4 x5 x6 x7 x8 x9) = rIdx (n := 8192) reducesTo_S8192x8192_S8192_d1 h_S_ bcast_S8192_S8192x1_0 bcast_S8192x1_S8192x8192_0_1 bcast_S_S8192x8192 (val_main_v806 (F := Ideal) x0 x1 x2 x3 x4 x5 x6 x7 x8 x9) := rfl
  have e4 : (val_main_v814 (F := Ideal) x0 x1 x2 x3 x4 x5 x6 x7 x8 x9) = shapeCast (T3 8 32 32) (val_main_v813 (F := Ideal) x0 x1 x2 x3 x4 x5 x6 x7 x8 x9) shapeCasts_S8192_S8x32x32 := rfl
  have e5 : (val_main_v815 (F := Ideal) x0 x1 x2 x3 x4 x5 x6 x7 x8 x9) = rTake (p := 32) bcast_S_S8x32x32 bcast_S8x32x32_S8x32x32x1_0_1_2 bcast_S_S8x32x32x1 bcast_S1_S1x1x1x1_3 bcast_S1x1x1x1_S8x32x32x1_0_1_2_3 reducesTo_S8x32x32x1_S8x32x32_d3 h_S_ gather_S8192x32_S8x32x32x1_S8x32x32x32_3_0_n_n_0_3_132.wf bcast_S8x32x32_S8x32x32x32_0_1_2 bcast_S_S8x32x32x32 x1 (val_main_v814 (F := Ideal) x0 x1 x2 x3 x4 x5 x6 x7 x8 x9) := rfl
  have e6 : (val_main_v816 (F := Ideal) x0 x1 x2 x3 x4 x5 x6 x7 x8 x9) = transpose (T4 8 32 32 32) [0, 3, 1, 2] (val_main_v815 (F := Ideal) x0 x1 x2 x3 x4 x5 x6 x7 x8 x9) transposes_S8x32x32x32_S8x32x32x32_0_3_1_2 := rfl
  have hd : DotReads dot_S8192x32_S32x8192_S8192x8192_1_0_0_1_n_n := by intro l r c i j; pointwise
  obtain ⟨hI, hQ⟩ := ref_search (by norm_num) rfl _ _ _ _ _ _ _ _ _ _ _ hd _ _ _ _ _ _ _ _ _ _ _ _ hrow e2 e3 e4 e5 e6
  have hh : img (val_main_v816 (F := Ideal) x0 x1 x2 x3 x4 x5 x6 x7 x8 x9) = unwhole (quant (netOf x0 x1 x2 x3 x4 x5 x6 x7 x8 x9).e (netOf x0 x1 x2 x3 x4 x5 x6 x7 x8 x9).c6) := by
    funext b c y x; exact hQ b c y x
  have e9 : (val_main_v880 (F := Ideal) x0 x1 x2 x3 x4 x5 x6 x7 x8 x9) = rPhi convFacts tapDims x5 x9 (val_main_v816 (F := Ideal) x0 x1 x2 x3 x4 x5 x6 x7 x8 x9) := rfl
  have hs : img (val_main_v880 (F := Ideal) x0 x1 x2 x3 x4 x5 x6 x7 x8 x9) = (netOf x0 x1 x2 x3 x4 x5 x6 x7 x8 x9).s6 := by
    rw [e9, rPhi_apply convFacts tapDims tapReads, hh]
    rfl
  have hz : img (val_main_v881 (F := Ideal) x0 x1 x2 x3 x4 x5 x6 x7 x8 x9) = (netOf x0 x1 x2 x3 x4 x5 x6 x7 x8 x9).h6 := by
    show plus (img (val_main_v775 (F := Ideal) x0 x1 x2 x3 x4 x5 x6 x7 x8 x9)) (img (val_main_v880 (F := Ideal) x0 x1 x2 x3 x4 x5 x6 x7 x8 x9)) = _
    rw [hH, hs]
    rfl
  have e10 : (val_main_v894 (F := Ideal) x0 x1 x2 x3 x4 x5 x6 x7 x8 x9) = rMore reducesTo_S8x32x32x32_S_d0_1_2_3 h_S_ (val_main_v788 (F := Ideal) x0 x1 x2 x3 x4 x5 x6 x7 x8 x9) (val_main_v881 (F := Ideal) x0 x1 x2 x3 x4 x5 x6 x7 x8 x9) x0 := rfl
  have hl : (val_main_v894 (F := Ideal) x0 x1 x2 x3 x4 x5 x6 x7 x8 x9) ix0 = more (netOf x0 x1 x2 x3 x4 x5 x6 x7 x8 x9).l5 (sq (netOf x0 x1 x2 x3 x4 x5 x6 x7 x8 x9).h6 (netOf x0 x1 x2 x3 x4 x5 x6 x7 x8 x9).Z) := by
    rw [e10, rMore_apply, hL, hz]
    rfl
  exact ⟨hI, hz, hl⟩

end Cert.Msvq

end
-- ==== Proof.RefZ.lean ====
/-
  The reference's results, from the six scales.
-/
module

public import proofs.«01_k».proof.Proof.Ref1
public import proofs.«01_k».proof.Proof.Ref2
public import proofs.«01_k».proof.Proof.Ref3
public import proofs.«01_k».proof.Proof.Ref4
public import proofs.«01_k».proof.Proof.Ref5
public import proofs.«01_k».proof.Proof.Ref6
public import proofs.«01_k».proof.Proof.TabA
public import proofs.«01_k».proof.Proof.KernC

@[expose] public section

set_option maxRecDepth 16384

noncomputable section

namespace Cert.Msvq

open Idealize.ShloMosaic
open Cert.ReferenceIdeal Cert.ReferenceIdeal.Gen Cert.ReferenceIdeal.Read

variable (x0 : FVec Ideal (T4 8 32 32 32) .f32) (x1 : FVec Ideal (T2 8192 32) .f32) (x2 x3 x4 x5 : FVec Ideal (T4 32 32 3 3) .f32)
  (x6 x7 x8 x9 : FVec Ideal (T1 32) .f32)

/-- The reference's eight results as the net's. -/
theorem ref_net (hN : (netOf x0 x1 x2 x3 x4 x5 x6 x7 x8 x9).Real) :
    (∀ b i j, (val_main_v145 (F := Ideal) x0 x1) (ix2 (cel (p := 1) (m := 1) (n := 8) rfl rfl b i j) 0) = BitVec.ofNat 32 (near (netOf x0 x1 x2 x3 x4 x5 x6 x7 x8 x9).e ((netOf x0 x1 x2 x3 x4 x5 x6 x7 x8 x9).c1 b i j)))
    ∧     (∀ b i j, (val_main_v303 (F := Ideal) x0 x1 x2 x6) (ix2 (cel (p := 2) (m := 4) (n := 32) rfl rfl b i j) 0) = BitVec.ofNat 32 (near (netOf x0 x1 x2 x3 x4 x5 x6 x7 x8 x9).e ((netOf x0 x1 x2 x3 x4 x5 x6 x7 x8 x9).c2 b i j)))
    ∧     (∀ b i j, (val_main_v461 (F := Ideal) x0 x1 x2 x6) (ix2 (cel (p := 4) (m := 16) (n := 128) rfl rfl b i j) 0) = BitVec.ofNat 32 (near (netOf x0 x1 x2 x3 x4 x5 x6 x7 x8 x9).e ((netOf x0 x1 x2 x3 x4 x5 x6 x7 x8 x9).c3 b i j)))
    ∧     (∀ b i j, (val_main_v619 (F := Ideal) x0 x1 x2 x3 x6 x7) (ix2 (cel (p := 8) (m := 64) (n := 512) rfl rfl b i j) 0) = BitVec.ofNat 32 (near (netOf x0 x1 x2 x3 x4 x5 x6 x7 x8 x9).e ((netOf x0 x1 x2 x3 x4 x5 x6 x7 x8 x9).c4 b i j)))
    ∧     (∀ b i j, (val_main_v777 (F := Ideal) x0 x1 x2 x3 x4 x6 x7 x8) (ix2 (cel (p := 16) (m := 256) (n := 2048) rfl rfl b i j) 0) = BitVec.ofNat 32 (near (netOf x0 x1 x2 x3 x4 x5 x6 x7 x8 x9).e ((netOf x0 x1 x2 x3 x4 x5 x6 x7 x8 x9).c5 b i j)))
    ∧ (∀ b i j, (val_main_v883 (F := Ideal) x0 x1 x2 x3 x4 x5 x6 x7 x8 x9) (ix2 (col b i j) 0) = BitVec.ofNat 32 (near (netOf x0 x1 x2 x3 x4 x5 x6 x7 x8 x9).e ((netOf x0 x1 x2 x3 x4 x5 x6 x7 x8 x9).c6 b i j)))
    ∧ kimg (val_main_v899 (F := Ideal) x0 x1 x2 x3 x4 x5 x6 x7 x8 x9) = (netOf x0 x1 x2 x3 x4 x5 x6 x7 x8 x9).h6
    ∧ (val_main_v900 (F := Ideal) x0 x1 x2 x3 x4 x5 x6 x7 x8 x9) (ix2 0 0) = (netOf x0 x1 x2 x3 x4 x5 x6 x7 x8 x9).l6 := by
  have hz : img (val_main_v0 (F := Ideal)) = fun _ _ _ _ => 0 := by
    funext b c y x
    show Ideal.ofBits .f32 0x00000000#32 = 0
    simp
  have hl : (val_main_cst_31 (F := Ideal)) ix0 = 0 := by
    show Ideal.ofBits .f32 0x00000000#32 = 0
    simp
  obtain ⟨i1, h1, r1, l1⟩ := ref1 x0 x1 x2 x3 x4 x5 x6 x7 x8 x9 rfl hz hl
  obtain ⟨i2, h2, r2, l2⟩ := ref2 x0 x1 x2 x3 x4 x5 x6 x7 x8 x9 r1 h1 l1
  obtain ⟨i3, h3, r3, l3⟩ := ref3 x0 x1 x2 x3 x4 x5 x6 x7 x8 x9 r2 h2 l2
  obtain ⟨i4, h4, r4, l4⟩ := ref4 x0 x1 x2 x3 x4 x5 x6 x7 x8 x9 r3 h3 l3
  obtain ⟨i5, h5, r5, l5⟩ := ref5 x0 x1 x2 x3 x4 x5 x6 x7 x8 x9 r4 h4 l4
  obtain ⟨i6, h6, l6⟩ := ref6 x0 x1 x2 x3 x4 x5 x6 x7 x8 x9 r5 h5 l5
  refine ⟨?_, ?_, ?_, ?_, ?_, ?_, ?_, ?_⟩
  · intro b i j
    refine (reshape_out (n := 8) (p := 1) shapeCasts_S8x1x1_S8x1 (val_main_v30 (F := Ideal) x0 x1) _ b i j ?_).trans (i1 b i j)
    show (b : ℕ) * 1 + ((i : ℕ) * 1 + (j : ℕ)) = ((b : ℕ) * 1 + i) * 1 + j
    omega
  · intro b i j
    refine (reshape_out (n := 32) (p := 2) shapeCasts_S8x2x2_S32x1 (val_main_v186 (F := Ideal) x0 x1 x2 x6) _ b i j ?_).trans (i2 b i j)
    show (b : ℕ) * 4 + ((i : ℕ) * 2 + (j : ℕ)) = ((b : ℕ) * 2 + i) * 2 + j
    omega
  · intro b i j
    refine (reshape_out (n := 128) (p := 4) shapeCasts_S8x4x4_S128x1 (val_main_v344 (F := Ideal) x0 x1 x2 x6) _ b i j ?_).trans (i3 b i j)
    show (b : ℕ) * 16 + ((i : ℕ) * 4 + (j : ℕ)) = ((b : ℕ) * 4 + i) * 4 + j
    omega
  · intro b i j
    refine (reshape_out (n := 512) (p := 8) shapeCasts_S8x8x8_S512x1 (val_main_v502 (F := Ideal) x0 x1 x2 x3 x6 x7) _ b i j ?_).trans (i4 b i j)
    show (b : ℕ) * 64 + ((i : ℕ) * 8 + (j : ℕ)) = ((b : ℕ) * 8 + i) * 8 + j
    omega
  · intro b i j
    refine (reshape_out (n := 2048) (p := 16) shapeCasts_S8x16x16_S2048x1 (val_main_v660 (F := Ideal) x0 x1 x2 x3 x4 x6 x7 x8) _ b i j ?_).trans (i5 b i j)
    show (b : ℕ) * 256 + ((i : ℕ) * 16 + (j : ℕ)) = ((b : ℕ) * 16 + i) * 16 + j
    omega
  · intro b i j
    refine (reshape_out (n := 8192) (p := 32) shapeCasts_S8x32x32_S8192x1 (val_main_v814 (F := Ideal) x0 x1 x2 x3 x4 x5 x6 x7 x8 x9) _ b i j ?_).trans (i6 b i j)
    show (b : ℕ) * 1024 + (i : ℕ) * 32 + (j : ℕ) = ((b : ℕ) * 32 + i) * 32 + j
    omega
  · have e : (val_main_v899 (F := Ideal) x0 x1 x2 x3 x4 x5 x6 x7 x8 x9) = kChannels transposes_S8x32x32x32_S32x8x32x32_1_0_2_3 shapeCasts_S32x8x32x32_S32x8192 (val_main_v897 (F := Ideal) x0 x1 x2 x3 x4 x5 x6 x7 x8 x9) := rfl
    rw [e, kChannels_apply]
    funext b c y x
    show img (val_main_v881 (F := Ideal) x0 x1 x2 x3 x4 x5 x6 x7 x8 x9) b c y x - img x0 b c y x + img x0 b c y x = _
    rw [h6]
    exact Net.h6_back hN b c y x
  · have hr : Shape.reshapeEquiv shapeCasts_S_S1x1 (ix2 0 0) = ix0 := Subsingleton.elim _ _
    show Ideal.div ((val_main_v894 (F := Ideal) x0 x1 x2 x3 x4 x5 x6 x7 x8 x9) (Shape.reshapeEquiv shapeCasts_S_S1x1 (ix2 0 0))) (Ideal.ofBits .f32 0x40C00000#32) = _
    rw [hr, l6]
    rfl

end Cert.Msvq

end
-- ==== Proof.PreReal.lean ====
/-
  What the precondition says: every entry of every argument is a real number.
-/
module

public import proofs.«01_k».proof.Proof.RefE
public import proofs.«01_k».proof.Proof.Gen.Pre_finite
public import Idealize.ShloMosaic.Lib.ReduceAll

@[expose] public section

set_option maxRecDepth 16384

noncomputable section

namespace Cert.Msvq

open Idealize.ShloMosaic

/-- A number whose size is below the greatest is real. -/
theorem real_of_abs {x : EReal} (h : Ideal.cmp .olt (max x (-x)) (Ideal.ofBits .f32 0x7F800000#32) = 1#1) : IsR x := by
  rw [ofBits_top] at h
  have hlt : max x (-x) < ⊤ := by
    by_contra hn
    exact absurd h (by simp [Ideal.cmp, hn])
  induction x with
  | bot => simp at hlt
  | top => simp at hlt
  | coe r => exact ⟨r, rfl⟩

/-- Where the test of every entry's size holds, every entry is real. -/
theorem real_of_test {s : Shape} {axes : List (Fin s.rank)} (hb : T0.BroadcastsInDim s ![]) (hr : s.ReducesTo axes T0) (hu : 0 < T0.numel) (x : FVec Ideal s .f32)
    (h : Host.reduce IntOp.andi (cmpf .olt (Host.absf x) (broadcastInDim s ![] hb (constant T0 .f32 0x7F800000#32))) (constantI T0 1 1#1) hr hu ix0 = 1#1)
    (i : s.Idx) : IsR (x i) := by
  have e := Host.reduce_andi_all _ _ hr hu ix0 h i
  exact real_of_abs e

variable (x0 : FVec Ideal (T4 8 32 32 32) .f32) (x1 : FVec Ideal (T2 8192 32) .f32) (x2 x3 x4 x5 : FVec Ideal (T4 32 32 3 3) .f32)
  (x6 x7 x8 x9 : FVec Ideal (T1 32) .f32)

/-- Under the precondition the net is real. -/
theorem net_real (h : Cert.Pre_finite.fn (F := Ideal) x0 x1 x2 x3 x4 x5 x6 x7 x8 x9 = fun _ => 1#1) : (netOf x0 x1 x2 x3 x4 x5 x6 x7 x8 x9).Real := by
  have h := congrFun h ix0
  obtain ⟨h, h9⟩ := IntOp.andi_eq_one.mp h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  refine ⟨fun b c y x => real_of_test _ _ _ x0 h0 _, fun i l => ?_, fun j o c ky kx => ?_, fun j o => ?_⟩
  · show IsR (code x1 i l)
    unfold code
    split
    · exact real_of_test _ _ _ x1 h1 _
    · exact .zero
  · fin_cases j
    · exact real_of_test _ _ _ x2 h2 _
    · exact real_of_test _ _ _ x3 h3 _
    · exact real_of_test _ _ _ x4 h4 _
    · exact real_of_test _ _ _ x5 h5 _
  · fin_cases j
    · exact real_of_test _ _ _ x6 h6 _
    · exact real_of_test _ _ _ x7 h7 _
    · exact real_of_test _ _ _ x8 h8 _
    · exact real_of_test _ _ _ x9 h9 _

end Cert.Msvq

end
-- ==== Proof.End6.lean ====
/-
  The kernel's eight results and the reference's are the same arrays, on real arguments.
-/
module

public import proofs.«01_k».proof.Proof.End4
public import proofs.«01_k».proof.Proof.End5
public import proofs.«01_k».proof.Proof.Open7
public import proofs.«01_k».proof.Proof.RefZ
public import proofs.«01_k».proof.Proof.PreReal

@[expose] public section

set_option maxRecDepth 16384

noncomputable section

namespace Cert.Msvq

open Idealize.ShloMosaic Idealize.ShloMosaic.TcCoe Cert.KernelIdeal Cert.KernelIdeal.Gen Cert.KernelIdeal.Gen.kernelRun0_A
open Cert.ReferenceIdeal.Read

/-- Two images laid out channel by column are equal where their pixels are. -/
theorem kimg_inj {A B : FVec Ideal (T2 32 8192) .f32} (h : kimg A = kimg B) : A = B := by
  funext i
  obtain ⟨b, y, x, e⟩ := exists_col (i 1)
  have hi : i = ix2 (i 0) (col b y x) := by rw [← e]; exact eq_ix2 i
  rw [hi]
  exact congrFun (congrFun (congrFun (congrFun h b) (i 0)) y) x

/-- Every place is a row and a column. -/
theorem exists_at2 {a b n : ℕ} (h : n = a * b) (k : Fin n) : ∃ i j, k = at2 h i j := by
  have hb : 0 < b := by
    rcases Nat.eq_zero_or_pos b with e | e
    · subst e; have := k.2; omega
    · exact e
  exact ⟨⟨k / b, Nat.div_lt_of_lt_mul (k.2.trans_eq (h.trans (Nat.mul_comm a b)))⟩, ⟨k % b, Nat.mod_lt _ hb⟩,
    Fin.ext (by show (k : ℕ) = k / b * b + k % b; rw [Nat.mul_comm]; exact (Nat.div_add_mod _ _).symm)⟩

/-- Two columns of words are equal where their rows are. -/
theorem column_ext {n : ℕ} {A B : IVec (T2 n 1) 32} (h : ∀ a, A (ix2 a 0) = B (ix2 a 0)) : A = B := by
  funext i
  have hi : i = ix2 (i 0) 0 := (eq_ix2 i).trans (congrArg (ix2 (i 0)) (Subsingleton.elim (α := Fin 1) _ _))
  rw [hi]
  exact h (i 0)

/-- Two columns of words are equal where the cells' words are. -/
theorem cells_ext {p m n : ℕ} (hm : m = p * p) (hn : n = 8 * m) {A B : IVec (T2 n 1) 32} {V : Fin 8 → Fin p → Fin p → BitVec 32}
    (hA : ∀ b i j, A (ix2 (cel hm hn b i j) 0) = V b i j) (hB : ∀ b i j, B (ix2 (cel hm hn b i j) 0) = V b i j) : A = B := by
  refine column_ext fun a => ?_
  obtain ⟨b, k, rfl⟩ := exists_at2 hn a
  obtain ⟨i, j, rfl⟩ := exists_at2 hm k
  exact (hA b i j).trans (hB b i j).symm

/-- Two columns of words are equal where the pixels' words are. -/
theorem cols_ext {A B : IVec (T2 8192 1) 32} {V : Fin 8 → Fin 32 → Fin 32 → BitVec 32}
    (hA : ∀ b i j, A (ix2 (col b i j) 0) = V b i j) (hB : ∀ b i j, B (ix2 (col b i j) 0) = V b i j) : A = B := by
  refine column_ext fun a => ?_
  obtain ⟨b, i, j, rfl⟩ := exists_col a
  exact (hA b i j).trans (hB b i j).symm

/-- Two arrays of one entry are equal where the entry is. -/
theorem one_ext {A B : FVec Ideal (T2 1 1) .f32} (h : A (ix2 0 0) = B (ix2 0 0)) : A = B := by
  funext i
  have hi : i = ix2 0 0 := (eq_ix2 i).trans (congrArg₂ ix2 (Subsingleton.elim (α := Fin 1) _ _) (Subsingleton.elim (α := Fin 1) _ _))
  rw [hi]
  exact h

variable (m : (b : Loc nD τ sig) → Buf (Elt Ideal) b) (c : Dev nD)

/-- What the kernel's launch leaves in its eight results is what the reference computes from the same arguments. -/
theorem results (hN : (netAt m c).Real) :
    (dats m 0 c).arrAt 25 cfg0.N = (val_main_v899 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    ∧ (dats m 0 c).arrAt 26 cfg0.N = (val_main_v900 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    ∧ (dats m 0 c).arrAt 27 cfg0.N = (val_main_v145 (F := Ideal) (m ((c : Thread nD τ).loc main_arg0)) (m ((c : Thread nD τ).loc main_arg1)))
    ∧ (dats m 0 c).arrAt 28 cfg0.N = (val_main_v303 (F := Ideal) (m ((c : Thread nD τ).loc main_arg0)) (m ((c : Thread nD τ).loc main_arg1)) (m ((c : Thread nD τ).loc main_arg2)) (m ((c : Thread nD τ).loc main_arg6)))
    ∧ (dats m 0 c).arrAt 29 cfg0.N = (val_main_v461 (F := Ideal) (m ((c : Thread nD τ).loc main_arg0)) (m ((c : Thread nD τ).loc main_arg1)) (m ((c : Thread nD τ).loc main_arg2)) (m ((c : Thread nD τ).loc main_arg6)))
    ∧ (dats m 0 c).arrAt 30 cfg0.N = (val_main_v619 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)))
    ∧ (dats m 0 c).arrAt 31 cfg0.N = (val_main_v777 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)))
    ∧ (dats m 0 c).arrAt 32 cfg0.N = (val_main_v883 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  obtain ⟨k1, k2, k3, k4, k5, k6, kz, kl⟩ := body_net (launchArgs m c) (netAt m c) (launch_ins m c hN)
  obtain ⟨r1, r2, r3, r4, r5, r6, rz, rl⟩ := ref_net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) hN
  refine ⟨final25 m c _ ((left25 m c).trans (kimg_inj (kz.trans rz.symm))), final26 m c _ ((left26 m c).trans (one_ext (kl.trans rl.symm))),
    final27 m c _ ((left27 m c).trans (cells_ext rfl rfl k1 r1)),
    final28 m c _ ((left28 m c).trans (cells_ext rfl rfl k2 r2)),
    final29 m c _ ((left29 m c).trans (cells_ext rfl rfl k3 r3)),
    final30 m c _ ((left30 m c).trans (cells_ext rfl rfl k4 r4)),
    final31 m c _ ((left31 m c).trans (cells_ext rfl rfl k5 r5)),
    final32 m c _ ((left32 m c).trans (cols_ext k6 r6))⟩

end Cert.Msvq

end
-- ==== Proof.RefRun.lean ====
/-
  The reference's run: it ends with its eight results at the values its operations compute from the arguments.
-/
module

public import proofs.«01_k».proof.Proof.Gen.ReferenceIdeal.Run
public import proofs.«01_k».proof.Proof.Gen.ReferenceIdeal.Read

@[expose] public section

set_option maxRecDepth 16384

noncomputable section

namespace Cert.Msvq

open Idealize.ShloMosaic Idealize.SL.Sem Cert.ReferenceIdeal Cert.ReferenceIdeal.Read

/-- The reference runs, ends with these results and keeps its arguments. -/
theorem ref_run (m : (b : Loc nD τ sig) → Buf (Elt Ideal) b) (g : Dev nD → PrngReg) :
    θ_run (defs (F := Ideal)) (onTc (τ := τ) (main (F := Ideal))) ⟨m, fun _ => 0, g⟩ (fun r => ∀ c : Dev nD,
      r.2.mem ((c.tc : Thread nD τ).loc main_v899) = (val_main_v899 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_v900) = (val_main_v900 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_v145) = (val_main_v145 (F := Ideal) (m ((c.tc : Thread nD τ).loc main_arg0)) (m ((c.tc : Thread nD τ).loc main_arg1)))
      ∧ r.2.mem ((c.tc : Thread nD τ).loc main_v303) = (val_main_v303 (F := Ideal) (m ((c.tc : Thread nD τ).loc main_arg0)) (m ((c.tc : Thread nD τ).loc main_arg1)) (m ((c.tc : Thread nD τ).loc main_arg2)) (m ((c.tc : Thread nD τ).loc main_arg6)))
      ∧ r.2.mem ((c.tc : Thread nD τ).loc main_v461) = (val_main_v461 (F := Ideal) (m ((c.tc : Thread nD τ).loc main_arg0)) (m ((c.tc : Thread nD τ).loc main_arg1)) (m ((c.tc : Thread nD τ).loc main_arg2)) (m ((c.tc : Thread nD τ).loc main_arg6)))
      ∧ r.2.mem ((c.tc : Thread nD τ).loc main_v619) = (val_main_v619 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)))
      ∧ r.2.mem ((c.tc : Thread nD τ).loc main_v777) = (val_main_v777 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)))
      ∧ r.2.mem ((c.tc : Thread nD τ).loc main_v883) = (val_main_v883 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))
      ∧ r.2.mem ((c.tc : Thread nD τ).loc main_arg9) = (m ((c.tc : Thread nD τ).loc main_arg9))) := by
  refine (θ_run (defs (F := Ideal)) _ _).mono (fun r h c => ?_) (Cert.ReferenceIdeal.Value.run (F := Ideal) m g)
  obtain ⟨q0, q1, q2, q3, q4, q5, q6, q7, hk⟩ := h c
  rw [val_main_v899_eq] at q0
  rw [val_main_v900_eq] at q1
  rw [val_main_v145_eq] at q2
  rw [val_main_v303_eq] at q3
  rw [val_main_v461_eq] at q4
  rw [val_main_v619_eq] at q5
  rw [val_main_v777_eq] at q6
  rw [val_main_v883_eq] at q7
  exact ⟨q0, q1, q2, q3, q4, q5, q6, q7, hk⟩

end Cert.Msvq

end
-- ==== Proof.lean ====
/-
  The proof of `Cert.Claim`: the frames of the kernel, of its idealization and of the idealized reference, that the
  idealization keeps the kernel, and that on finite arguments the idealized kernel and reference end with equal results.
-/
module

public import proofs.«01_k».proof.Defs
public import proofs.«01_k».proof.Proof.KernelFrame
public import proofs.«01_k».proof.Proof.IdealFrame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.IdealValue
public import proofs.«01_k».proof.Proof.End6
public import proofs.«01_k».proof.Proof.RefRun
public import Idealize.ShloMosaic.Adequacy
public import Idealize.ShloMosaic.Init

@[expose] public section

noncomputable section

namespace Cert.Proof

open Idealize.ShloMosaic Idealize.SL.Sem

/-- The kernel runs from every start, leaves its arguments as they were and every counter at zero. -/
theorem frame_kernel : Cert.quiescent_Kernel (hKernel := Cert.Kernel.Gen.facts) := fun m ρ _ =>
  Cert.Kernel.Gen.frame m ρ

/-- The idealized kernel runs from every start, leaves its arguments as they were and every counter at zero. -/
theorem frame_ideal : Cert.quiescent_KernelIdeal (hKernelIdeal := Cert.KernelIdeal.Gen.facts) := fun m ρ _ =>
  Cert.KernelIdeal.Gen.frame m ρ

/-- The idealized reference is a straight line of host operations that declares no semaphore; its run keeps the arguments. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

/-- The one rewritten constant: the start value of each search, named as `⊤`. -/
theorem kept : Cert.preserves_Kernel_KernelIdeal :=
  IdealRules.named_const.statement Cert.KernelIdeal.κ "far" .f32 0x7149F2CA#32 ⊤ rfl

/-- On finite arguments the idealized kernel and the idealized reference both run and end with equal results. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => (Cert.ReferenceIdeal.Read.val_main_v899 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))),
    fun c => (Cert.ReferenceIdeal.Read.val_main_v900 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))),
    fun c => (Cert.ReferenceIdeal.Read.val_main_v145 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    fun c => (Cert.ReferenceIdeal.Read.val_main_v303 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6))),
    fun c => (Cert.ReferenceIdeal.Read.val_main_v461 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6))),
    fun c => (Cert.ReferenceIdeal.Read.val_main_v619 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))),
    fun c => (Cert.ReferenceIdeal.Read.val_main_v777 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))),
    fun c => (Cert.ReferenceIdeal.Read.val_main_v883 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))), ?_, ?_⟩
  · refine (θ_run Cert.KernelIdeal.defs _ _).mono (fun r h c => ?_) (Cert.KernelIdeal.Value.run_blocks m g)
    obtain ⟨q0, q1, q2, q3, q4, q5, q6, q7, hk⟩ := h c
    obtain ⟨e0, e1, e2, e3, e4, e5, e6, e7⟩ := Cert.Msvq.results m c (Cert.Msvq.net_real _ _ _ _ _ _ _ _ _ _ (hp c))
    exact ⟨q0.trans e0, q1.trans e1, q2.trans e2, q3.trans e3, q4.trans e4, q5.trans e5, q6.trans e6, q7.trans e7, hk⟩
  · refine (θ_run Cert.ReferenceIdeal.defs _ _).mono (fun r h c => ?_) (Cert.Msvq.ref_run m' g')
    obtain ⟨q0, q1, q2, q3, q4, q5, q6, q7, hk⟩ := h c
    obtain ⟨a0, a1, a2, a3, a4, a5, a6, a7, a8, a9⟩ := ha c
    beta_reduce
    rw [← a0, ← a1, ← a2, ← a3, ← a4, ← a5, ← a6, ← a7, ← a8, ← a9]
    exact ⟨q0, q1, q2, q3, q4, q5, q6, q7, hk⟩

/-- The claim: the frames, the idealization kept, and equal results on finite arguments. -/
theorem claim : Cert.Claim := ⟨Cert.Kernel.Gen.facts, Cert.KernelIdeal.Gen.facts, Cert.ReferenceIdeal.Gen.facts, Cert.Pre_finite.Gen.facts,
  frame_kernel, frame_ideal, fun m ρ _ => frame_ideal m ρ trivial, frame_reference, fun m ρ _ => frame_reference m ρ trivial, kept, equal⟩

end Cert.Proof

end
